-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_conv [hPre_finite_conv : Cert.Pre_finite_conv.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_conv.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_conv [hPre_finite_conv : Cert.Pre_finite_conv.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_conv.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite_qkv [hPre_finite_qkv : Cert.Pre_finite_qkv.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite_qkv.fn (F := Ideal) (m ((c.tc : Thread Cert.Kernel26Ideal.nD Cert.Kernel26Ideal.τ).loc Cert.Kernel26Ideal.main_arg0))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite_qkv [hPre_finite_qkv : Cert.Pre_finite_qkv.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite_qkv.fn (F := Ideal) (m ((c.tc : Thread Cert.Reference26Ideal.nD Cert.Reference26Ideal.τ).loc Cert.Reference26Ideal.main_arg0))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite_logs [hPre_finite_logs : Cert.Pre_finite_logs.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite_logs.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite_logs [hPre_finite_logs : Cert.Pre_finite_logs.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite_logs.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_conv [hKernel3Ideal : Cert.Kernel3Ideal.Facts] [hPre_finite_conv : Cert.Pre_finite_conv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_conv m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_conv [hReference3Ideal : Cert.Reference3Ideal.Facts] [hPre_finite_conv : Cert.Pre_finite_conv.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_conv m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Kernel26Ideal_pre_finite_qkv [hKernel26Ideal : Cert.Kernel26Ideal.Facts] [hPre_finite_qkv : Cert.Pre_finite_qkv.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite_qkv m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Reference26Ideal_pre_finite_qkv [hReference26Ideal : Cert.Reference26Ideal.Facts] [hPre_finite_qkv : Cert.Pre_finite_qkv.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite_qkv m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Kernel29Ideal_pre_finite_logs [hKernel29Ideal : Cert.Kernel29Ideal.Facts] [hPre_finite_logs : Cert.Pre_finite_logs.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite_logs m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Reference29Ideal_pre_finite_logs [hReference29Ideal : Cert.Reference29Ideal.Facts] [hPre_finite_logs : Cert.Pre_finite_logs.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite_logs m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_conv [hKernel3Ideal : Cert.Kernel3Ideal.Facts] [hReference3Ideal : Cert.Reference3Ideal.Facts] [hPre_finite_conv : Cert.Pre_finite_conv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_conv m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v36) = v0 c
          ∧ r.2.mem ((c.tc : Thread Cert.Reference22Ideal.nD Cert.Reference22Ideal.τ).loc Cert.Reference22Ideal.main_v37) = v1 c
          ∧ r.2.mem ((c.tc : Thread Cert.Reference22Ideal.nD Cert.Reference22Ideal.τ).loc Cert.Reference22Ideal.main_v38) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v13) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)) (v3 : (c : Dev Cert.Kernel25Ideal.nD) → Buf (Elt Ideal) ((c.tc : Thread Cert.Kernel25Ideal.nD Cert.Kernel25Ideal.τ).loc Cert.Kernel25Ideal.main_v1_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_v1_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v50) = v0 c
          ∧ r.2.mem ((c.tc : Thread Cert.Reference25Ideal.nD Cert.Reference25Ideal.τ).loc Cert.Reference25Ideal.main_v51) = v1 c
          ∧ r.2.mem ((c.tc : Thread Cert.Reference25Ideal.nD Cert.Reference25Ideal.τ).loc Cert.Reference25Ideal.main_v52) = v2 c
          ∧ r.2.mem ((c.tc : Thread Cert.Reference25Ideal.nD Cert.Reference25Ideal.τ).loc Cert.Reference25Ideal.main_v53) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal_pre_finite_qkv [hKernel26Ideal : Cert.Kernel26Ideal.Facts] [hReference26Ideal : Cert.Reference26Ideal.Facts] [hPre_finite_qkv : Cert.Pre_finite_qkv.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite_qkv m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v40) = v0 c
          ∧ r.2.mem ((c.tc : Thread Cert.Reference26Ideal.nD Cert.Reference26Ideal.τ).loc Cert.Reference26Ideal.main_v21) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_v6) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v9)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v9) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v35) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal_pre_finite_logs [hKernel29Ideal : Cert.Kernel29Ideal.Facts] [hReference29Ideal : Cert.Reference29Ideal.Facts] [hPre_finite_logs : Cert.Pre_finite_logs.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite_logs m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)) →
    ∃ (v0 : (c : Dev Cert.Kernel29Ideal.nD) → Buf (Elt Ideal) ((c.tc : Thread Cert.Kernel29Ideal.nD Cert.Kernel29Ideal.τ).loc Cert.Kernel29Ideal.main_v9_0)) (v1 : (c : Dev Cert.Kernel29Ideal.nD) → Buf (Elt Ideal) ((c.tc : Thread Cert.Kernel29Ideal.nD Cert.Kernel29Ideal.τ).loc Cert.Kernel29Ideal.main_v9_1)) (v2 : (c : Dev Cert.Kernel29Ideal.nD) → Buf (Elt Ideal) ((c.tc : Thread Cert.Kernel29Ideal.nD Cert.Kernel29Ideal.τ).loc Cert.Kernel29Ideal.main_v9_2)) (v3 : (c : Dev Cert.Kernel29Ideal.nD) → Buf (Elt Ideal) ((c.tc : Thread Cert.Kernel29Ideal.nD Cert.Kernel29Ideal.τ).loc Cert.Kernel29Ideal.main_v9_3)) (v4 : (c : Dev Cert.Kernel29Ideal.nD) → Buf (Elt Ideal) ((c.tc : Thread Cert.Kernel29Ideal.nD Cert.Kernel29Ideal.τ).loc Cert.Kernel29Ideal.main_v9_4)) (v5 : (c : Dev Cert.Kernel29Ideal.nD) → Buf (Elt Ideal) ((c.tc : Thread Cert.Kernel29Ideal.nD Cert.Kernel29Ideal.τ).loc Cert.Kernel29Ideal.main_v9_5)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v9_0) = v0 c
          ∧ r.2.mem ((c.tc : Thread Cert.Kernel29Ideal.nD Cert.Kernel29Ideal.τ).loc Cert.Kernel29Ideal.main_v9_1) = v1 c
          ∧ r.2.mem ((c.tc : Thread Cert.Kernel29Ideal.nD Cert.Kernel29Ideal.τ).loc Cert.Kernel29Ideal.main_v9_2) = v2 c
          ∧ r.2.mem ((c.tc : Thread Cert.Kernel29Ideal.nD Cert.Kernel29Ideal.τ).loc Cert.Kernel29Ideal.main_v9_3) = v3 c
          ∧ r.2.mem ((c.tc : Thread Cert.Kernel29Ideal.nD Cert.Kernel29Ideal.τ).loc Cert.Kernel29Ideal.main_v9_4) = v4 c
          ∧ r.2.mem ((c.tc : Thread Cert.Kernel29Ideal.nD Cert.Kernel29Ideal.τ).loc Cert.Kernel29Ideal.main_v9_5) = v5 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v124) = v0 c
          ∧ r.2.mem ((c.tc : Thread Cert.Reference29Ideal.nD Cert.Reference29Ideal.τ).loc Cert.Reference29Ideal.main_v125) = v1 c
          ∧ r.2.mem ((c.tc : Thread Cert.Reference29Ideal.nD Cert.Reference29Ideal.τ).loc Cert.Reference29Ideal.main_v126) = v2 c
          ∧ r.2.mem ((c.tc : Thread Cert.Reference29Ideal.nD Cert.Reference29Ideal.τ).loc Cert.Reference29Ideal.main_v117) = v3 c
          ∧ r.2.mem ((c.tc : Thread Cert.Reference29Ideal.nD Cert.Reference29Ideal.τ).loc Cert.Reference29Ideal.main_v120) = v4 c
          ∧ r.2.mem ((c.tc : Thread Cert.Reference29Ideal.nD Cert.Reference29Ideal.τ).loc Cert.Reference29Ideal.main_v123) = v5 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite_conv : Cert.Pre_finite_conv.Facts) (hPre_finite_qkv : Cert.Pre_finite_qkv.Facts) (hPre_finite_logs : Cert.Pre_finite_logs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite_conv (hKernel3Ideal := hKernel3Ideal) (hPre_finite_conv := hPre_finite_conv)
    ∧ quiescent_Reference3Ideal (hReference3Ideal := hReference3Ideal)
    ∧ quiescent_Reference3Ideal_pre_finite_conv (hReference3Ideal := hReference3Ideal) (hPre_finite_conv := hPre_finite_conv)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite_qkv (hKernel26Ideal := hKernel26Ideal) (hPre_finite_qkv := hPre_finite_qkv)
    ∧ quiescent_Reference26Ideal (hReference26Ideal := hReference26Ideal)
    ∧ quiescent_Reference26Ideal_pre_finite_qkv (hReference26Ideal := hReference26Ideal) (hPre_finite_qkv := hPre_finite_qkv)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite_logs (hKernel29Ideal := hKernel29Ideal) (hPre_finite_logs := hPre_finite_logs)
    ∧ quiescent_Reference29Ideal (hReference29Ideal := hReference29Ideal)
    ∧ quiescent_Reference29Ideal_pre_finite_logs (hReference29Ideal := hReference29Ideal) (hPre_finite_logs := hPre_finite_logs)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite_conv (hKernel3Ideal := hKernel3Ideal) (hReference3Ideal := hReference3Ideal) (hPre_finite_conv := hPre_finite_conv)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite_qkv (hKernel26Ideal := hKernel26Ideal) (hReference26Ideal := hReference26Ideal) (hPre_finite_qkv := hPre_finite_qkv)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite_logs (hKernel29Ideal := hKernel29Ideal) (hReference29Ideal := hReference29Ideal) (hPre_finite_logs := hPre_finite_logs)
-- ==== Pre_finite.lean ====
abbrev S4096x3072 : Shape := ⟨2, ![4096, 3072]⟩
abbrev S4096x2048 : Shape := ⟨2, ![4096, 2048]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x3072 .f32) (main_arg1 : FVec F S4096x2048 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite_conv.lean ====
abbrev S2x4096x5632 : Shape := ⟨3, ![2, 4096, 5632]⟩
abbrev S2x3x5632 : Shape := ⟨3, ![2, 3, 5632]⟩
abbrev S2x1x5632 : Shape := ⟨3, ![2, 1, 5632]⟩
abbrev S4096x5632 : Shape := ⟨2, ![4096, 5632]⟩
abbrev S_ : Shape := ⟨0, ![]⟩

class Facts : Prop where
  bcast_S_S2x4096x5632 : S_.BroadcastsInDim S2x4096x5632 (![] : Fin 0 → Fin S2x4096x5632.rank)
  reducesTo_S2x4096x5632_S_d0_1_2 : S2x4096x5632.ReducesTo [0, 1, 2] S_
  h_S_ : 0 < S_.numel
  bcast_S_S2x3x5632 : S_.BroadcastsInDim S2x3x5632 (![] : Fin 0 → Fin S2x3x5632.rank)
  reducesTo_S2x3x5632_S_d0_1_2 : S2x3x5632.ReducesTo [0, 1, 2] S_
  bcast_S_S2x1x5632 : S_.BroadcastsInDim S2x1x5632 (![] : Fin 0 → Fin S2x1x5632.rank)
  reducesTo_S2x1x5632_S_d0_1_2 : S2x1x5632.ReducesTo [0, 1, 2] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  main_v18

def fn {F : FTy → Type} [FloatOps F] (main_arg0 : FVec F S2x4096x5632 .f32) (main_arg1 : FVec F S2x3x5632 .f32) (main_arg2 : FVec F S2x1x5632 .f32) (main_arg3 : FVec F S4096x5632 .f32) : IVec S_ 1 :=
  let main_v0 : FVec F S2x4096x5632 .f32 := Host.absf main_arg0
  let main_cst : FVec F S_ .f32 := constant S_ .f32 0x7F800000#32
  let main_v1 : FVec F S2x4096x5632 .f32 := broadcastInDim S2x4096x5632 ![] bcast_S_S2x4096x5632 main_cst
  let main_v2 : IVec S2x4096x5632 1 := cmpf .olt main_v0 main_v1
  let main_c : IVec S_ 1 := constantI S_ 1 1#1
  let main_v3 : IVec S_ 1 := (fun x v => Host.reduce IntOp.andi x v reducesTo_S2x4096x5632_S_d0_1_2 h_S_) main_v2 main_c
  let main_v4 : FVec F S2x3x5632 .f32 := Host.absf main_arg1
  let main_cst_0 : FVec F S_ .f32 := constant S_ .f32 0x7F800000#32
  let main_v5 : FVec F S2x3x5632 .f32 := broadcastInDim S2x3x5632 ![] bcast_S_S2x3x5632 main_cst_0
  let main_v6 : IVec S2x3x5632 1 := cmpf .olt main_v4 main_v5
  let main_c_1 : IVec S_ 1 := constantI S_ 1 1#1
  let main_v7 : IVec S_ 1 := (fun x v => Host.reduce IntOp.andi x v reducesTo_S2x3x5632_S_d0_1_2 h_S_) main_v6 main_c_1
  let main_v8 : IVec S_ 1 := andi main_v3 main_v7
  let main_v9 : FVec F S2x1x5632 .f32 := Host.absf main_arg2
  let main_cst_2 : FVec F S_ .f32 := constant S_ .f32 0x7F800000#32
  let main_v10 : FVec F S2x1x5632 .f32 := broadcastInDim S2x1x5632 ![] bcast_S_S2x1x5632 main_cst_2
  let main_v11 : IVec S2x1x5632 1 := cmpf .olt main_v9 main_v10
  let main_c_3 : IVec S_ 1 := constantI S_ 1 1#1
  let main_v12 : IVec S_ 1 := (fun x v => Host.reduce IntOp.andi x v reducesTo_S2x1x5632_S_d0_1_2 h_S_) main_v11 main_c_3
  let main_v13 : IVec S_ 1 := andi main_v8 main_v12
  let main_v14 : FVec F S4096x5632 .f32 := Host.absf main_arg3
  let main_cst_4 : FVec F S_ .f32 := constant S_ .f32 0x7F800000#32
  let main_v15 : FVec F S4096x5632 .f32 := broadcastInDim S4096x5632 ![] bcast_S_S4096x5632 main_cst_4
  let main_v16 : IVec S4096x5632 1 := cmpf .olt main_v14 main_v15
  fn_part1 (F := F) main_v13 main_v16
-- ==== Pre_finite_logs.lean ====
abbrev S4096x3072 : Shape := ⟨2, ![4096, 3072]⟩
abbrev S4096x1024 : Shape := ⟨2, ![4096, 1024]⟩
abbrev S4096x8 : Shape := ⟨2, ![4096, 8]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel

variable [Facts]

def fn {F : FTy → Type} [FloatOps F] (main_arg0 : FVec F S4096x3072 .f32) (main_arg1 : FVec F S4096x1024 .f32) (main_arg2 : FVec F S4096x1024 .f32) (main_arg3 : FVec F S4096x1024 .f32) (main_arg4 : FVec F S4096x8 .f32) (main_arg5 : FVec F S4096x8 .f32) (main_arg6 : FVec F S4096x8 .f32) : IVec S_ 1 :=
  let main_v0 : FVec F S4096x8 .f32 := Host.absf main_arg4
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S4096x8 .f32 := Host.absf main_arg5
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x8 .f32 := Host.absf main_arg6
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  main_v13
-- ==== Pre_finite_qkv.lean ====
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x3072 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Kernel.lean ====
abbrev S4096x3072 : Shape := ⟨2, ![4096, 3072]⟩
abbrev S4096x2048 : Shape := ⟨2, ![4096, 2048]⟩
abbrev S4096x4x4x128 : Shape := ⟨4, ![4096, 4, 4, 128]⟩
abbrev S4096x512 : Shape := ⟨2, ![4096, 512]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4096x4x4 : Shape := ⟨3, ![4096, 4, 4]⟩
abbrev S4x128x4x4096 : Shape := ⟨4, ![4, 128, 4, 4096]⟩
abbrev S4096x4x4x1 : Shape := ⟨4, ![4096, 4, 4, 1]⟩
abbrev S1024x512 : Shape := ⟨2, ![1024, 512]⟩
abbrev S2048x128 : Shape := ⟨2, ![2048, 128]⟩
abbrev S4x1024x128 : Shape := ⟨3, ![4, 1024, 128]⟩
abbrev S1024x128 : Shape := ⟨2, ![1024, 128]⟩
abbrev S1024x2048 : Shape := ⟨2, ![1024, 2048]⟩
abbrev S16x2048 : Shape := ⟨2, ![16, 2048]⟩
abbrev S16x128 : Shape := ⟨2, ![16, 128]⟩
abbrev S1x1024x128 : Shape := ⟨3, ![1, 1024, 128]⟩

abbrev nBuf : Space → Nat
  | .hbm => 58
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x2048, .f32⟩
  | .hbm, ⟨3, _⟩ => ⟨S4096x4x4x128, .f32⟩
  | .hbm, ⟨4, _⟩ => ⟨S4096x512, .f32⟩
  | .hbm, ⟨5, _⟩ => ⟨S4096x4x128, .f32⟩
  | .hbm, ⟨6, _⟩ => ⟨S4096x512, .f32⟩
  | .hbm, ⟨7, _⟩ => ⟨S4096x4x128, .f32⟩
  | .hbm, ⟨8, _⟩ => ⟨S4x4096x4096x4, .f32⟩
  | .hbm, ⟨9, _⟩ => ⟨S4x4x4096x4096, .f32⟩
  | .hbm, ⟨10, _⟩ => ⟨S_, .f32⟩
  | .hbm, ⟨11, _⟩ => ⟨S4x4x4096x4096, .f32⟩
  | .hbm, ⟨12, _⟩ => ⟨S4x4x4096x4096, .f32⟩
  | .hbm, ⟨13, _⟩ => ⟨S_, .f32⟩
  | .hbm, ⟨14, _⟩ => ⟨S4x4x4096, .f32⟩
  | .hbm, ⟨15, _⟩ => ⟨S4x4x4096x1, .f32⟩
  | .hbm, ⟨16, _⟩ => ⟨S4x4x4096x4096, .f32⟩
  | .hbm, ⟨17, _⟩ => ⟨S4x4x4096x4096, .f32⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S4x4x4096, .f32⟩
  | .hbm, ⟨22, _⟩ => ⟨S4x4x4096, .f32⟩
  | .hbm, ⟨23, _⟩ => ⟨S4096x4x4, .f32⟩
  | .hbm, ⟨24, _⟩ => ⟨S4096x4x4x128, .f32⟩
  | .hbm, ⟨25, _⟩ => ⟨S4x4096x4096x4, .f32⟩
  | .hbm, ⟨26, _⟩ => ⟨S4x4x4096x4096, .f32⟩
  | .hbm, ⟨27, _⟩ => ⟨S_, .f32⟩
  | .hbm, ⟨28, _⟩ => ⟨S4x4x4096x4096, .f32⟩
  | .hbm, ⟨29, _⟩ => ⟨S4x4x4096x4096, .f32⟩
  | .hbm, ⟨30, _⟩ => ⟨S_, .f32⟩
  | .hbm, ⟨31, _⟩ => ⟨S4x4x4096, .f32⟩
  | .hbm, ⟨32, _⟩ => ⟨S_, .f32⟩
  | .hbm, ⟨33, _⟩ => ⟨S4x4x4096, .f32⟩
  | .hbm, ⟨34, _⟩ => ⟨S4x4x4096, .f32⟩
  | .hbm, ⟨35, _⟩ => ⟨S4x4x4096x1, .f32⟩
  | .hbm, ⟨36, _⟩ => ⟨S4x4x4096x4096, .f32⟩
  | .hbm, ⟨37, _⟩ => ⟨S4x4x4096x4096, .f32⟩
  | .hbm, ⟨38, _⟩ => ⟨S4x4x4096x4096, .f32⟩
  | .hbm, ⟨39, _⟩ => ⟨S_, .f32⟩
  | .hbm, ⟨40, _⟩ => ⟨S4x4x4096, .f32⟩
  | .hbm, ⟨41, _⟩ => ⟨S4x4x4096x1, .f32⟩
  | .hbm, ⟨42, _⟩ => ⟨S4x4x4096x4096, .f32⟩
  | .hbm, ⟨43, _⟩ => ⟨S4x4x4096x4096, .f32⟩
  | .hbm, ⟨44, _⟩ => ⟨S4x128x4x4096, .f32⟩
  | .hbm, ⟨45, _⟩ => ⟨S4096x4x4x128, .f32⟩
  | .hbm, ⟨46, _⟩ => ⟨S4096x4x4x128, .f32⟩
  | .hbm, ⟨47, _⟩ => ⟨S_, .f32⟩
  | .hbm, ⟨48, _⟩ => ⟨S4096x4x4, .f32⟩
  | .hbm, ⟨49, _⟩ => ⟨S4096x4x4x1, .f32⟩
  | .hbm, ⟨50, _⟩ => ⟨S4096x4x4x128, .f32⟩
  | .hbm, ⟨51, _⟩ => ⟨S4096x2048, .f32⟩
  | .hbm, ⟨52, _⟩ => ⟨S4096x4x4x1, .f32⟩
  | .hbm, ⟨53, _⟩ => ⟨S4096x4x4x128, .f32⟩
  | .hbm, ⟨54, _⟩ => ⟨S4096x2048, .f32⟩
  | .hbm, ⟨55, _⟩ => ⟨S4096x3072, .bf16⟩
  | .hbm, ⟨56, _⟩ => ⟨S4096x2048, .bf16⟩
  | .hbm, ⟨57, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S4x1024x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v3923 : BitVec 1 := Scalar.cmpi .eq arg2 c1_i32
  let v3924 : BitVec 32 := Scalar.extui v3923
  let c0_i32_1289 : BitVec 32 := 0#32
  let v3925 : BitVec 1 := Scalar.cmpi .ne v3924 c0_i32_1289
  v3925

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S4096x3072 : Shape := ⟨2, ![4096, 3072]⟩
abbrev S4096x2048 : Shape := ⟨2, ![4096, 2048]⟩
abbrev S4096x4x4x128 : Shape := ⟨4, ![4096, 4, 4, 128]⟩
abbrev S4096x512 : Shape := ⟨2, ![4096, 512]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x4096x4x128 : Shape := ⟨4, ![4, 4096, 4, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x2048, .f32⟩
  | .hbm, ⟨3, _⟩ => ⟨S4096x4x4x128, .f32⟩
  | .hbm, ⟨4, _⟩ => ⟨S4096x512, .f32⟩
  | .hbm, ⟨5, _⟩ => ⟨S4096x4x128, .f32⟩
  | .hbm, ⟨6, _⟩ => ⟨S4096x512, .f32⟩
  | .hbm, ⟨7, _⟩ => ⟨S4096x4x128, .f32⟩
  | .hbm, ⟨8, _⟩ => ⟨S4x4096x4096x4, .f32⟩
  | .hbm, ⟨9, _⟩ => ⟨S4x4x4096x4096, .f32⟩
  | .hbm, ⟨10, _⟩ => ⟨S_, .f32⟩
  | .hbm, ⟨11, _⟩ => ⟨S4x4x4096x4096, .f32⟩
  | .hbm, ⟨12, _⟩ => ⟨S4x4x4096x4096, .f32⟩
  | .hbm, ⟨13, _⟩ => ⟨S_, .f32⟩
  | .hbm, ⟨14, _⟩ => ⟨S4x4x4096, .f32⟩
  | .hbm, ⟨15, _⟩ => ⟨S4x4x4096x1, .f32⟩
  | .hbm, ⟨16, _⟩ => ⟨S4x4x4096x4096, .f32⟩
  | .hbm, ⟨17, _⟩ => ⟨S4x4x4096x4096, .i1⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S_, .f32⟩
  | .hbm, ⟨22, _⟩ => ⟨S4x4x4096, .f32⟩
  | .hbm, ⟨23, _⟩ => ⟨S4x4x4096, .f32⟩
  | .hbm, ⟨24, _⟩ => ⟨S_, .f32⟩
  | .hbm, ⟨25, _⟩ => ⟨S4x4x4096, .f32⟩
  | .hbm, ⟨26, _⟩ => ⟨S4x4x4096, .i1⟩
  | .hbm, ⟨27, _⟩ => ⟨S_, .f32⟩
  | .hbm, ⟨28, _⟩ => ⟨S4x4x4096, .f32⟩
  | .hbm, ⟨29, _⟩ => ⟨S4x4x4096, .i1⟩
  | .hbm, ⟨30, _⟩ => ⟨S_, .f32⟩
  | .hbm, ⟨31, _⟩ => ⟨S4x4x4096, .f32⟩
  | .hbm, ⟨32, _⟩ => ⟨S_, .f32⟩
  | .hbm, ⟨33, _⟩ => ⟨S4x4x4096, .f32⟩
  | .hbm, ⟨34, _⟩ => ⟨S_, .f32⟩
  | .hbm, ⟨35, _⟩ => ⟨S4x4x4096, .f32⟩
  | .hbm, ⟨36, _⟩ => ⟨S4x4x4096, .f32⟩
  | .hbm, ⟨37, _⟩ => ⟨S4x4x4096, .f32⟩
  | .hbm, ⟨38, _⟩ => ⟨S4x4x4096x1, .f32⟩
  | .hbm, ⟨39, _⟩ => ⟨S4x4x4096x4096, .f32⟩
  | .hbm, ⟨40, _⟩ => ⟨S4x4x4096x4096, .f32⟩
  | .hbm, ⟨41, _⟩ => ⟨S4x4x4096x4096, .f32⟩
  | .hbm, ⟨42, _⟩ => ⟨S_, .f32⟩
  | .hbm, ⟨43, _⟩ => ⟨S4x4x4096, .f32⟩
  | .hbm, ⟨44, _⟩ => ⟨S4x4x4096x1, .f32⟩
  | .hbm, ⟨45, _⟩ => ⟨S4x4x4096x4096, .f32⟩
  | .hbm, ⟨46, _⟩ => ⟨S4x4x4096x4096, .f32⟩
  | .hbm, ⟨47, _⟩ => ⟨S4x4x4096x1, .f32⟩
  | .hbm, ⟨48, _⟩ => ⟨S_, .f32⟩
  | .hbm, ⟨49, _⟩ => ⟨S4x4x4096x1, .f32⟩
  | .hbm, ⟨50, _⟩ => ⟨S4x4x4096x1, .f32⟩
  | .hbm, ⟨51, _⟩ => ⟨S4x128x4x4096, .f32⟩
  | .hbm, ⟨52, _⟩ => ⟨S4096x4x4x128, .f32⟩
  | .hbm, ⟨53, _⟩ => ⟨S4096x4x4x128, .f32⟩
  | .hbm, ⟨54, _⟩ => ⟨S4x128x4x4096, .f32⟩
  | .hbm, ⟨55, _⟩ => ⟨S4x4x4096x4096, .f32⟩
  | .hbm, ⟨56, _⟩ => ⟨S4x4x4096x4096, .f32⟩
  | .hbm, ⟨57, _⟩ => ⟨S4x4x4096x4096, .f32⟩
  | .hbm, ⟨58, _⟩ => ⟨S4x4x4096x4096, .f32⟩
  | .hbm, ⟨59, _⟩ => ⟨S_, .f32⟩
  | .hbm, ⟨60, _⟩ => ⟨S4x4x4096, .f32⟩
  | .hbm, ⟨61, _⟩ => ⟨S4x4x4096x1, .f32⟩
  | .hbm, ⟨62, _⟩ => ⟨S4x4x4096x1, .f32⟩
  | .hbm, ⟨63, _⟩ => ⟨S4x4x4096x4096, .f32⟩
  | .hbm, ⟨64, _⟩ => ⟨S4x4x4096x4096, .f32⟩
  | .hbm, ⟨65, _⟩ => ⟨S_, .f32⟩
  | .hbm, ⟨66, _⟩ => ⟨S4x4x4096, .f32⟩
  | .hbm, ⟨67, _⟩ => ⟨S4x4x4096x4096, .f32⟩
  | .hbm, ⟨68, _⟩ => ⟨S4x4x4096x4096, .f32⟩
  | .hbm, ⟨69, _⟩ => ⟨S4x4x4096x4096, .f32⟩
  | .hbm, ⟨70, _⟩ => ⟨S_, .f32⟩
  | .hbm, ⟨71, _⟩ => ⟨S4x4x4096x4096, .f32⟩
  | .hbm, ⟨72, _⟩ => ⟨S4x4x4096x4096, .f32⟩
  | .hbm, ⟨73, _⟩ => ⟨S4x4096x4096x4, .f32⟩
  | .hbm, ⟨74, _⟩ => ⟨S4x4096x4x128, .f32⟩
  | .hbm, ⟨75, _⟩ => ⟨S4096x4x4x128, .f32⟩
  | .hbm, ⟨76, _⟩ => ⟨S4096x2048, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel2.lean ====
abbrev S4096x3072 : Shape := ⟨2, ![4096, 3072]⟩
abbrev S4096x2048 : Shape := ⟨2, ![4096, 2048]⟩
abbrev S4096x4x4x128 : Shape := ⟨4, ![4096, 4, 4, 128]⟩
abbrev S4096x512 : Shape := ⟨2, ![4096, 512]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4096x4x4 : Shape := ⟨3, ![4096, 4, 4]⟩
abbrev S4x128x4x4096 : Shape := ⟨4, ![4, 128, 4, 4096]⟩
abbrev S4096x4x4x1 : Shape := ⟨4, ![4096, 4, 4, 1]⟩
abbrev S1024x512 : Shape := ⟨2, ![1024, 512]⟩
abbrev S1024x128 : Shape := ⟨2, ![1024, 128]⟩
abbrev S1024x1024 : Shape := ⟨2, ![1024, 1024]⟩
abbrev S16x1024 : Shape := ⟨2, ![16, 1024]⟩
abbrev S16x128 : Shape := ⟨2, ![16, 128]⟩

abbrev nBuf : Space → Nat
  | .hbm => 59
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x2048, .f32⟩
  | .hbm, ⟨3, _⟩ => ⟨S4096x4x4x128, .f32⟩
  | .hbm, ⟨4, _⟩ => ⟨S4096x512, .f32⟩
  | .hbm, ⟨5, _⟩ => ⟨S4096x4x128, .f32⟩
  | .hbm, ⟨6, _⟩ => ⟨S4096x512, .f32⟩
  | .hbm, ⟨7, _⟩ => ⟨S4096x4x128, .f32⟩
  | .hbm, ⟨8, _⟩ => ⟨S4x4096x4096x4, .f32⟩
  | .hbm, ⟨9, _⟩ => ⟨S4x4x4096x4096, .f32⟩
  | .hbm, ⟨10, _⟩ => ⟨S_, .f32⟩
  | .hbm, ⟨11, _⟩ => ⟨S4x4x4096x4096, .f32⟩
  | .hbm, ⟨12, _⟩ => ⟨S4x4x4096x4096, .f32⟩
  | .hbm, ⟨13, _⟩ => ⟨S_, .f32⟩
  | .hbm, ⟨14, _⟩ => ⟨S4x4x4096, .f32⟩
  | .hbm, ⟨15, _⟩ => ⟨S4x4x4096x1, .f32⟩
  | .hbm, ⟨16, _⟩ => ⟨S4x4x4096x4096, .f32⟩
  | .hbm, ⟨17, _⟩ => ⟨S4x4x4096x4096, .f32⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S4x4x4096, .f32⟩
  | .hbm, ⟨22, _⟩ => ⟨S4x4x4096, .f32⟩
  | .hbm, ⟨23, _⟩ => ⟨S4096x4x4, .f32⟩
  | .hbm, ⟨24, _⟩ => ⟨S4096x4x4x128, .f32⟩
  | .hbm, ⟨25, _⟩ => ⟨S4x4096x4096x4, .f32⟩
  | .hbm, ⟨26, _⟩ => ⟨S4x4x4096x4096, .f32⟩
  | .hbm, ⟨27, _⟩ => ⟨S_, .f32⟩
  | .hbm, ⟨28, _⟩ => ⟨S4x4x4096x4096, .f32⟩
  | .hbm, ⟨29, _⟩ => ⟨S4x4x4096x4096, .f32⟩
  | .hbm, ⟨30, _⟩ => ⟨S_, .f32⟩
  | .hbm, ⟨31, _⟩ => ⟨S4x4x4096, .f32⟩
  | .hbm, ⟨32, _⟩ => ⟨S_, .f32⟩
  | .hbm, ⟨33, _⟩ => ⟨S4x4x4096, .f32⟩
  | .hbm, ⟨34, _⟩ => ⟨S4x4x4096, .f32⟩
  | .hbm, ⟨35, _⟩ => ⟨S4x4x4096x1, .f32⟩
  | .hbm, ⟨36, _⟩ => ⟨S4x4x4096x4096, .f32⟩
  | .hbm, ⟨37, _⟩ => ⟨S4x4x4096x4096, .f32⟩
  | .hbm, ⟨38, _⟩ => ⟨S4x4x4096x4096, .f32⟩
  | .hbm, ⟨39, _⟩ => ⟨S_, .f32⟩
  | .hbm, ⟨40, _⟩ => ⟨S4x4x4096, .f32⟩
  | .hbm, ⟨41, _⟩ => ⟨S4x4x4096x1, .f32⟩
  | .hbm, ⟨42, _⟩ => ⟨S4x4x4096x4096, .f32⟩
  | .hbm, ⟨43, _⟩ => ⟨S4x4x4096x4096, .f32⟩
  | .hbm, ⟨44, _⟩ => ⟨S4x128x4x4096, .f32⟩
  | .hbm, ⟨45, _⟩ => ⟨S4096x4x4x128, .f32⟩
  | .hbm, ⟨46, _⟩ => ⟨S4096x4x4x128, .f32⟩
  | .hbm, ⟨47, _⟩ => ⟨S_, .f32⟩
  | .hbm, ⟨48, _⟩ => ⟨S4096x4x4, .f32⟩
  | .hbm, ⟨49, _⟩ => ⟨S4096x4x4x1, .f32⟩
  | .hbm, ⟨50, _⟩ => ⟨S4096x4x4x128, .f32⟩
  | .hbm, ⟨51, _⟩ => ⟨S4096x2048, .f32⟩
  | .hbm, ⟨52, _⟩ => ⟨S4096x4x4x1, .f32⟩
  | .hbm, ⟨53, _⟩ => ⟨S4096x4x4x128, .f32⟩
  | .hbm, ⟨54, _⟩ => ⟨S4096x2048, .f32⟩
  | .hbm, ⟨55, _⟩ => ⟨S4096x3072, .bf16⟩
  | .hbm, ⟨56, _⟩ => ⟨S4096x2048, .bf16⟩
  | .hbm, ⟨57, _⟩ => ⟨S4096x512, .f32⟩
  | .hbm, ⟨58, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47_0 : Ref sig .tc := ⟨.hbm, 57, rfl⟩
abbrev main_v47_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v4211 : BitVec 1 := Scalar.cmpi .eq arg2 c3_i32
  let v4212 : BitVec 32 := Scalar.extui v4211
  let c0_i32_1312 : BitVec 32 := 0#32
  let v4213 : BitVec 1 := Scalar.cmpi .ne v4212 c0_i32_1312
  v4213

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S4096x3072 : Shape := ⟨2, ![4096, 3072]⟩
abbrev S4096x2048 : Shape := ⟨2, ![4096, 2048]⟩
abbrev S4096x4x4x128 : Shape := ⟨4, ![4096, 4, 4, 128]⟩
abbrev S4096x512 : Shape := ⟨2, ![4096, 512]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x128x4096 : Shape := ⟨3, ![4, 128, 4096]⟩
abbrev S4x4096x128 : Shape := ⟨3, ![4, 4096, 128]⟩

abbrev nBuf : Space → Nat
  | .hbm => 80
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x2048, .f32⟩
  | .hbm, ⟨3, _⟩ => ⟨S4096x4x4x128, .f32⟩
  | .hbm, ⟨4, _⟩ => ⟨S4096x512, .f32⟩
  | .hbm, ⟨5, _⟩ => ⟨S4096x4x128, .f32⟩
  | .hbm, ⟨6, _⟩ => ⟨S4096x512, .f32⟩
  | .hbm, ⟨7, _⟩ => ⟨S4096x4x128, .f32⟩
  | .hbm, ⟨8, _⟩ => ⟨S4x4096x4096x4, .f32⟩
  | .hbm, ⟨9, _⟩ => ⟨S4x4x4096x4096, .f32⟩
  | .hbm, ⟨10, _⟩ => ⟨S_, .f32⟩
  | .hbm, ⟨11, _⟩ => ⟨S4x4x4096x4096, .f32⟩
  | .hbm, ⟨12, _⟩ => ⟨S4x4x4096x4096, .f32⟩
  | .hbm, ⟨13, _⟩ => ⟨S_, .f32⟩
  | .hbm, ⟨14, _⟩ => ⟨S4x4x4096, .f32⟩
  | .hbm, ⟨15, _⟩ => ⟨S4x4x4096x1, .f32⟩
  | .hbm, ⟨16, _⟩ => ⟨S4x4x4096x4096, .f32⟩
  | .hbm, ⟨17, _⟩ => ⟨S4x4x4096x4096, .i1⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S_, .f32⟩
  | .hbm, ⟨22, _⟩ => ⟨S4x4x4096, .f32⟩
  | .hbm, ⟨23, _⟩ => ⟨S4x4x4096, .f32⟩
  | .hbm, ⟨24, _⟩ => ⟨S_, .f32⟩
  | .hbm, ⟨25, _⟩ => ⟨S4x4x4096, .f32⟩
  | .hbm, ⟨26, _⟩ => ⟨S4x4x4096, .i1⟩
  | .hbm, ⟨27, _⟩ => ⟨S_, .f32⟩
  | .hbm, ⟨28, _⟩ => ⟨S4x4x4096, .f32⟩
  | .hbm, ⟨29, _⟩ => ⟨S4x4x4096, .i1⟩
  | .hbm, ⟨30, _⟩ => ⟨S_, .f32⟩
  | .hbm, ⟨31, _⟩ => ⟨S4x4x4096, .f32⟩
  | .hbm, ⟨32, _⟩ => ⟨S_, .f32⟩
  | .hbm, ⟨33, _⟩ => ⟨S4x4x4096, .f32⟩
  | .hbm, ⟨34, _⟩ => ⟨S_, .f32⟩
  | .hbm, ⟨35, _⟩ => ⟨S4x4x4096, .f32⟩
  | .hbm, ⟨36, _⟩ => ⟨S4x4x4096, .f32⟩
  | .hbm, ⟨37, _⟩ => ⟨S4x4x4096, .f32⟩
  | .hbm, ⟨38, _⟩ => ⟨S4x4x4096x1, .f32⟩
  | .hbm, ⟨39, _⟩ => ⟨S4x4x4096x4096, .f32⟩
  | .hbm, ⟨40, _⟩ => ⟨S4x4x4096x4096, .f32⟩
  | .hbm, ⟨41, _⟩ => ⟨S4x4x4096x4096, .f32⟩
  | .hbm, ⟨42, _⟩ => ⟨S_, .f32⟩
  | .hbm, ⟨43, _⟩ => ⟨S4x4x4096, .f32⟩
  | .hbm, ⟨44, _⟩ => ⟨S4x4x4096x1, .f32⟩
  | .hbm, ⟨45, _⟩ => ⟨S4x4x4096x4096, .f32⟩
  | .hbm, ⟨46, _⟩ => ⟨S4x4x4096x4096, .f32⟩
  | .hbm, ⟨47, _⟩ => ⟨S4x4x4096x1, .f32⟩
  | .hbm, ⟨48, _⟩ => ⟨S_, .f32⟩
  | .hbm, ⟨49, _⟩ => ⟨S4x4x4096x1, .f32⟩
  | .hbm, ⟨50, _⟩ => ⟨S4x4x4096x1, .f32⟩
  | .hbm, ⟨51, _⟩ => ⟨S4x128x4x4096, .f32⟩
  | .hbm, ⟨52, _⟩ => ⟨S4096x4x4x128, .f32⟩
  | .hbm, ⟨53, _⟩ => ⟨S4096x4x4x128, .f32⟩
  | .hbm, ⟨54, _⟩ => ⟨S4x128x4x4096, .f32⟩
  | .hbm, ⟨55, _⟩ => ⟨S4x4x4096x4096, .f32⟩
  | .hbm, ⟨56, _⟩ => ⟨S4x128x4096, .f32⟩
  | .hbm, ⟨57, _⟩ => ⟨S4096x4x128, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S_, .f32⟩
  | .hbm, ⟨62, _⟩ => ⟨S4x4x4096, .f32⟩
  | .hbm, ⟨63, _⟩ => ⟨S4x4x4096x1, .f32⟩
  | .hbm, ⟨64, _⟩ => ⟨S4x4x4096x1, .f32⟩
  | .hbm, ⟨65, _⟩ => ⟨S4x4x4096x4096, .f32⟩
  | .hbm, ⟨66, _⟩ => ⟨S4x4x4096x4096, .f32⟩
  | .hbm, ⟨67, _⟩ => ⟨S_, .f32⟩
  | .hbm, ⟨68, _⟩ => ⟨S4x4x4096, .f32⟩
  | .hbm, ⟨69, _⟩ => ⟨S4x4x4096x4096, .f32⟩
  | .hbm, ⟨70, _⟩ => ⟨S4x4x4096x4096, .f32⟩
  | .hbm, ⟨71, _⟩ => ⟨S4x4x4096x4096, .f32⟩
  | .hbm, ⟨72, _⟩ => ⟨S_, .f32⟩
  | .hbm, ⟨73, _⟩ => ⟨S4x4x4096x4096, .f32⟩
  | .hbm, ⟨74, _⟩ => ⟨S4x4x4096x4096, .f32⟩
  | .hbm, ⟨75, _⟩ => ⟨S4x4096x4096x4, .f32⟩
  | .hbm, ⟨76, _⟩ => ⟨S4x4096x128, .f32⟩
  | .hbm, ⟨77, _⟩ => ⟨S4096x4x128, .f32⟩
  | .hbm, ⟨78, _⟩ => ⟨S4096x512, .f32⟩
  | .hbm, ⟨79, _⟩ => ⟨S4096x512, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_11 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel3.lean ====
abbrev S2x4096x5632 : Shape := ⟨3, ![2, 4096, 5632]⟩
abbrev S2x3x5632 : Shape := ⟨3, ![2, 3, 5632]⟩
abbrev S2x1x5632 : Shape := ⟨3, ![2, 1, 5632]⟩
abbrev S4096x5632 : Shape := ⟨2, ![4096, 5632]⟩
abbrev S2x8x5632 : Shape := ⟨3, ![2, 8, 5632]⟩
abbrev S2x4096x128 : Shape := ⟨3, ![2, 4096, 128]⟩
abbrev S2x3x128 : Shape := ⟨3, ![2, 3, 128]⟩
abbrev S2x1x128 : Shape := ⟨3, ![2, 1, 128]⟩
abbrev S4096x128 : Shape := ⟨2, ![4096, 128]⟩
abbrev S2x8x128 : Shape := ⟨3, ![2, 8, 128]⟩
abbrev S1x4096x128 : Shape := ⟨3, ![1, 4096, 128]⟩
abbrev S1x1x128 : Shape := ⟨3, ![1, 1, 128]⟩
abbrev S1x128 : Shape := ⟨2, ![1, 128]⟩
abbrev S1x3x128 : Shape := ⟨3, ![1, 3, 128]⟩
abbrev S3x128 : Shape := ⟨2, ![3, 128]⟩
abbrev S128 : Shape := ⟨1, ![128]⟩
abbrev S4x128 : Shape := ⟨2, ![4, 128]⟩
abbrev S1x4x128 : Shape := ⟨3, ![1, 4, 128]⟩

abbrev nBuf : Space → Nat
  | .hbm => 6
  | .vmem => 12
  | .smem => 0
  | _ => 0

abbrev bufTy : (tb : Table) → Fin (tcTables nBuf tb) → BufTy
  | .hbm, ⟨0, _⟩ => ⟨S2x4096x5632, .f32⟩
  | .hbm, ⟨1, _⟩ => ⟨S2x3x5632, .f32⟩
  | .hbm, ⟨2, _⟩ => ⟨S2x1x5632, .f32⟩
  | .hbm, ⟨3, _⟩ => ⟨S4096x5632, .f32⟩
  | .hbm, ⟨4, _⟩ => ⟨S2x4096x5632, .bf16⟩
  | .hbm, ⟨5, _⟩ => ⟨S2x8x5632, .f32⟩
  | .local _ .vmem, ⟨0, _⟩ => ⟨S2x4096x128, .f32⟩
  | .local _ .vmem, ⟨1, _⟩ => ⟨S2x4096x128, .f32⟩
  | .local _ .vmem, ⟨2, _⟩ => ⟨S2x3x128, .f32⟩
  | .local _ .vmem, ⟨3, _⟩ => ⟨S2x3x128, .f32⟩
  | .local _ .vmem, ⟨4, _⟩ => ⟨S2x1x128, .f32⟩
  | .local _ .vmem, ⟨5, _⟩ => ⟨S2x1x128, .f32⟩
  | .local _ .vmem, ⟨6, _⟩ => ⟨S4096x128, .f32⟩
  | .local _ .vmem, ⟨7, _⟩ => ⟨S4096x128, .f32⟩
  | .local _ .vmem, ⟨8, _⟩ => ⟨S2x4096x128, .bf16⟩
  | .local _ .vmem, ⟨9, _⟩ => ⟨S2x4096x128, .bf16⟩
  | .local _ .vmem, ⟨10, _⟩ => ⟨S2x8x128, .f32⟩
  | .local _ .vmem, ⟨11, _⟩ => ⟨S2x8x128, .f32⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![44], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x4096x5632 : Shape := ⟨3, ![2, 4096, 5632]⟩
abbrev S2x3x5632 : Shape := ⟨3, ![2, 3, 5632]⟩
abbrev S2x1x5632 : Shape := ⟨3, ![2, 1, 5632]⟩
abbrev S4096x5632 : Shape := ⟨2, ![4096, 5632]⟩
abbrev S_ : Shape := ⟨0, ![]⟩
abbrev S2x4095x5632 : Shape := ⟨3, ![2, 4095, 5632]⟩
abbrev S1x4096x5632 : Shape := ⟨3, ![1, 4096, 5632]⟩
abbrev S2x5632 : Shape := ⟨2, ![2, 5632]⟩
abbrev S2x4x5632 : Shape := ⟨3, ![2, 4, 5632]⟩
abbrev S2x8x5632 : Shape := ⟨3, ![2, 8, 5632]⟩

abbrev nBuf : Space → Nat
  | .hbm => 101
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S2x3x5632, .f32⟩
  | .hbm, ⟨2, _⟩ => ⟨S2x1x5632, .f32⟩
  | .hbm, ⟨3, _⟩ => ⟨S4096x5632, .f32⟩
  | .hbm, ⟨4, _⟩ => ⟨S_, .f32⟩
  | .hbm, ⟨5, _⟩ => ⟨S2x1x5632, .f32⟩
  | .hbm, ⟨6, _⟩ => ⟨S2x4095x5632, .f32⟩
  | .hbm, ⟨7, _⟩ => ⟨S2x4096x5632, .f32⟩
  | .hbm, ⟨8, _⟩ => ⟨S_, .f32⟩
  | .hbm, ⟨9, _⟩ => ⟨S2x1x5632, .f32⟩
  | .hbm, ⟨10, _⟩ => ⟨S2x4095x5632, .f32⟩
  | .hbm, ⟨11, _⟩ => ⟨S2x4096x5632, .f32⟩
  | .hbm, ⟨12, _⟩ => ⟨S_, .f32⟩
  | .hbm, ⟨13, _⟩ => ⟨S2x1x5632, .f32⟩
  | .hbm, ⟨14, _⟩ => ⟨S2x1x5632, .f32⟩
  | .hbm, ⟨15, _⟩ => ⟨S2x4096x5632, .f32⟩
  | .hbm, ⟨16, _⟩ => ⟨S2x4096x5632, .f32⟩
  | .hbm, ⟨17, _⟩ => ⟨S2x1x5632, .f32⟩
  | .hbm, ⟨18, _⟩ => ⟨S2x4096x5632, .f32⟩
  | .hbm, ⟨19, _⟩ => ⟨S2x4096x5632, .f32⟩
  | .hbm, ⟨20, _⟩ => ⟨S2x4096x5632, .f32⟩
  | .hbm, ⟨21, _⟩ => ⟨S2x1x5632, .f32⟩
  | .hbm, ⟨22, _⟩ => ⟨S2x4096x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S1x4096x5632, .f32⟩
  | .hbm, ⟨28, _⟩ => ⟨S4096x5632, .f32⟩
  | .hbm, ⟨29, _⟩ => ⟨S1x4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S1x4096x5632, .f32⟩
  | .hbm, ⟨52, _⟩ => ⟨S_, .f32⟩
  | .hbm, ⟨53, _⟩ => ⟨S2x4096x5632, .f32⟩
  | .hbm, ⟨54, _⟩ => ⟨S1x4096x5632, .f32⟩
  | .hbm, ⟨55, _⟩ => ⟨S_, .f32⟩
  | .hbm, ⟨56, _⟩ => ⟨S2x4096x5632, .f32⟩
  | .hbm, ⟨57, _⟩ => ⟨S2x4096x5632, .f32⟩
  | .hbm, ⟨58, _⟩ => ⟨S_, .f32⟩
  | .hbm, ⟨59, _⟩ => ⟨S2x5632, .f32⟩
  | .hbm, ⟨60, _⟩ => ⟨S2x1x5632, .f32⟩
  | .hbm, ⟨61, _⟩ => ⟨S2x4096x5632, .f32⟩
  | .hbm, ⟨62, _⟩ => ⟨S2x4096x5632, .f32⟩
  | .hbm, ⟨63, _⟩ => ⟨S2x4096x5632, .f32⟩
  | .hbm, ⟨64, _⟩ => ⟨S_, .f32⟩
  | .hbm, ⟨65, _⟩ => ⟨S2x5632, .f32⟩
  | .hbm, ⟨66, _⟩ => ⟨S2x1x5632, .f32⟩
  | .hbm, ⟨67, _⟩ => ⟨S_, .f32⟩
  | .hbm, ⟨68, _⟩ => ⟨S2x3x5632, .f32⟩
  | .hbm, ⟨69, _⟩ => ⟨S2x4096x5632, .f32⟩
  | .hbm, ⟨70, _⟩ => ⟨S2x4096x5632, .f32⟩
  | .hbm, ⟨71, _⟩ => ⟨S2x4096x5632, .f32⟩
  | .hbm, ⟨72, _⟩ => ⟨S_, .f32⟩
  | .hbm, ⟨73, _⟩ => ⟨S2x5632, .f32⟩
  | .hbm, ⟨74, _⟩ => ⟨S2x1x5632, .f32⟩
  | .hbm, ⟨75, _⟩ => ⟨S_, .f32⟩
  | .hbm, ⟨76, _⟩ => ⟨S2x3x5632, .f32⟩
  | .hbm, ⟨77, _⟩ => ⟨S2x3x5632, .f32⟩
  | .hbm, ⟨78, _⟩ => ⟨S2x4096x5632, .f32⟩
  | .hbm, ⟨79, _⟩ => ⟨S2x4096x5632, .f32⟩
  | .hbm, ⟨80, _⟩ => ⟨S2x4096x5632, .f32⟩
  | .hbm, ⟨81, _⟩ => ⟨S_, .f32⟩
  | .hbm, ⟨82, _⟩ => ⟨S2x5632, .f32⟩
  | .hbm, ⟨83, _⟩ => ⟨S2x1x5632, .f32⟩
  | .hbm, ⟨84, _⟩ => ⟨S_, .f32⟩
  | .hbm, ⟨85, _⟩ => ⟨S2x3x5632, .f32⟩
  | .hbm, ⟨86, _⟩ => ⟨S2x3x5632, .f32⟩
  | .hbm, ⟨87, _⟩ => ⟨S2x4095x5632, .f32⟩
  | .hbm, ⟨88, _⟩ => ⟨S2x1x5632, .f32⟩
  | .hbm, ⟨89, _⟩ => ⟨S_, .f32⟩
  | .hbm, ⟨90, _⟩ => ⟨S2x4096x5632, .f32⟩
  | .hbm, ⟨91, _⟩ => ⟨S2x4096x5632, .f32⟩
  | .hbm, ⟨92, _⟩ => ⟨S2x1x5632, .f32⟩
  | .hbm, ⟨93, _⟩ => ⟨S2x4095x5632, .f32⟩
  | .hbm, ⟨94, _⟩ => ⟨S_, .f32⟩
  | .hbm, ⟨95, _⟩ => ⟨S2x4096x5632, .f32⟩
  | .hbm, ⟨96, _⟩ => ⟨S2x4096x5632, .f32⟩
  | .hbm, ⟨97, _⟩ => ⟨S2x4096x5632, .bf16⟩
  | .hbm, ⟨98, _⟩ => ⟨S_, .f32⟩
  | .hbm, ⟨99, _⟩ => ⟨S2x4x5632, .f32⟩
  | .hbm, ⟨100, _⟩ => ⟨S2x8x5632, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v24_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v24_1 : Ref sig .tc := ⟨.hbm, 42, rfl⟩
abbrev main_v24_0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Kernel4.lean ====
abbrev S5632x2048 : Shape := ⟨2, ![5632, 2048]⟩
abbrev S4096x2048 : Shape := ⟨2, ![4096, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S4096x2048, .bf16⟩
  | .hbm, ⟨3, _⟩ => ⟨S5632x2048, .bf16⟩
  | .hbm, ⟨4, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x11264 : Shape := ⟨2, ![2048, 11264]⟩
abbrev S4096x11264 : Shape := ⟨2, ![4096, 11264]⟩
abbrev S2048x8x1408 : Shape := ⟨3, ![2048, 8, 1408]⟩
abbrev S8x2048x1408 : Shape := ⟨3, ![8, 2048, 1408]⟩
abbrev S4096x2x5632 : Shape := ⟨3, ![4096, 2, 5632]⟩
abbrev S2x4096x5632 : Shape := ⟨3, ![2, 4096, 5632]⟩
abbrev S4096x2048 : Shape := ⟨2, ![4096, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 9
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x11264, .bf16⟩
  | .hbm, ⟨6, _⟩ => ⟨S4096x2x5632, .bf16⟩
  | .hbm, ⟨7, _⟩ => ⟨S2x4096x5632, .bf16⟩
  | .hbm, ⟨8, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x2048 : Shape := ⟨2, ![4096, 2048]⟩
abbrev S4096x11264 : Shape := ⟨2, ![4096, 11264]⟩
abbrev S4096x2x5632 : Shape := ⟨3, ![4096, 2, 5632]⟩
abbrev S2x4096x5632 : Shape := ⟨3, ![2, 4096, 5632]⟩
abbrev S8x2048x1408 : Shape := ⟨3, ![8, 2048, 1408]⟩
abbrev S1024x2048 : Shape := ⟨2, ![1024, 2048]⟩
abbrev S1x1024x1408 : Shape := ⟨3, ![1, 1024, 1408]⟩
abbrev S1x2048x1408 : Shape := ⟨3, ![1, 2048, 1408]⟩
abbrev S2048x1408 : Shape := ⟨2, ![2048, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S4096x11264, .bf16⟩
  | .hbm, ⟨3, _⟩ => ⟨S4096x2x5632, .bf16⟩
  | .hbm, ⟨4, _⟩ => ⟨S2x4096x5632, .bf16⟩
  | .hbm, ⟨5, _⟩ => ⟨S4096x2048, .bf16⟩
  | .hbm, ⟨6, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S11264x2048, .f32⟩
  | .hbm, ⟨6, _⟩ => ⟨S2048x11264, .f32⟩
  | .hbm, ⟨7, _⟩ => ⟨S2048x11264, .bf16⟩
  | .hbm, ⟨8, _⟩ => ⟨S2048x8x1408, .bf16⟩
  | .hbm, ⟨9, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x2048, .bf16⟩
  | .hbm, ⟨6, _⟩ => ⟨S2x4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x2x5632, .f32⟩
  | .hbm, ⟨4, _⟩ => ⟨S2x4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S2048x9216 : Shape := ⟨2, ![2048, 9216]⟩
abbrev S4096x9216 : Shape := ⟨2, ![4096, 9216]⟩
abbrev S2048x8x1152 : Shape := ⟨3, ![2048, 8, 1152]⟩
abbrev S8x2048x1152 : Shape := ⟨3, ![8, 2048, 1152]⟩
abbrev S4096x2048 : Shape := ⟨2, ![4096, 2048]⟩
abbrev S1024x1152 : Shape := ⟨2, ![1024, 1152]⟩
abbrev S1x2048x1152 : Shape := ⟨3, ![1, 2048, 1152]⟩
abbrev S1024x2048 : Shape := ⟨2, ![1024, 2048]⟩
abbrev S2048x1152 : Shape := ⟨2, ![2048, 1152]⟩

abbrev nBuf : Space → Nat
  | .hbm => 7
  | .vmem => 7
  | .smem => 0
  | _ => 0

abbrev bufTy : (tb : Table) → Fin (tcTables nBuf tb) → BufTy
  | .hbm, ⟨0, _⟩ => ⟨S2048x9216, .f32⟩
  | .hbm, ⟨1, _⟩ => ⟨S4096x9216, .f32⟩
  | .hbm, ⟨2, _⟩ => ⟨S2048x9216, .bf16⟩
  | .hbm, ⟨3, _⟩ => ⟨S2048x8x1152, .bf16⟩
  | .hbm, ⟨4, _⟩ => ⟨S8x2048x1152, .bf16⟩
  | .hbm, ⟨5, _⟩ => ⟨S4096x9216, .bf16⟩
  | .hbm, ⟨6, _⟩ => ⟨S4096x2048, .f32⟩
  | .local _ .vmem, ⟨0, _⟩ => ⟨S1024x1152, .bf16⟩
  | .local _ .vmem, ⟨1, _⟩ => ⟨S1024x1152, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x9216 : Shape := ⟨2, ![2048, 9216]⟩
abbrev S4096x9216 : Shape := ⟨2, ![4096, 9216]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S4096x9216, .f32⟩
  | .hbm, ⟨2, _⟩ => ⟨S_, .f32⟩
  | .hbm, ⟨3, _⟩ => ⟨S4096x2048, .f32⟩
  | .hbm, ⟨4, _⟩ => ⟨S4096x9216, .f32⟩
  | .hbm, ⟨5, _⟩ => ⟨S4096x2048, .f32⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x2048 : Shape := ⟨2, ![4096, 2048]⟩
abbrev S4096x9216 : Shape := ⟨2, ![4096, 9216]⟩
abbrev S8x2048x1152 : Shape := ⟨3, ![8, 2048, 1152]⟩
abbrev S1024x2048 : Shape := ⟨2, ![1024, 2048]⟩
abbrev S1024x1152 : Shape := ⟨2, ![1024, 1152]⟩
abbrev S1x2048x1152 : Shape := ⟨3, ![1, 2048, 1152]⟩
abbrev S2048x1152 : Shape := ⟨2, ![2048, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x9216, .f32⟩
  | .hbm, ⟨2, _⟩ => ⟨S4096x2048, .bf16⟩
  | .hbm, ⟨3, _⟩ => ⟨S4096x9216, .bf16⟩
  | .hbm, ⟨4, _⟩ => ⟨S8x2048x1152, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1152, .bf16⟩
  | .local _ .vmem, ⟨3, _⟩ => ⟨S1024x1152, .bf16⟩
  | .local _ .vmem, ⟨4, _⟩ => ⟨S1x2048x1152, .bf16⟩
  | .local _ .vmem, ⟨5, _⟩ => ⟨S1x2048x1152, .bf16⟩
  | .local _ .vmem, ⟨6, _⟩ => ⟨S2048x1152, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4096x9216 : Shape := ⟨2, ![4096, 9216]⟩
abbrev S_ : Shape := ⟨0, ![]⟩
abbrev S2048x9216 : Shape := ⟨2, ![2048, 9216]⟩
abbrev S9216x2048 : Shape := ⟨2, ![9216, 2048]⟩
abbrev S2048x8x1152 : Shape := ⟨3, ![2048, 8, 1152]⟩
abbrev S8x2048x1152 : Shape := ⟨3, ![8, 2048, 1152]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x9216, .f32⟩
  | .hbm, ⟨2, _⟩ => ⟨S_, .f32⟩
  | .hbm, ⟨3, _⟩ => ⟨S2048x9216, .f32⟩
  | .hbm, ⟨4, _⟩ => ⟨S4096x9216, .f32⟩
  | .hbm, ⟨5, _⟩ => ⟨S9216x2048, .f32⟩
  | .hbm, ⟨6, _⟩ => ⟨S2048x9216, .f32⟩
  | .hbm, ⟨7, _⟩ => ⟨S2048x9216, .bf16⟩
  | .hbm, ⟨8, _⟩ => ⟨S2048x8x1152, .bf16⟩
  | .hbm, ⟨9, _⟩ => ⟨S8x2048x1152, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S2048x9216 : Shape := ⟨2, ![2048, 9216]⟩
abbrev S2048x8x1152 : Shape := ⟨3, ![2048, 8, 1152]⟩
abbrev S8x2048x1152 : Shape := ⟨3, ![8, 2048, 1152]⟩
abbrev S4096x9216 : Shape := ⟨2, ![4096, 9216]⟩
abbrev S1024x2048 : Shape := ⟨2, ![1024, 2048]⟩
abbrev S1x2048x1152 : Shape := ⟨3, ![1, 2048, 1152]⟩
abbrev S1024x1152 : Shape := ⟨2, ![1024, 1152]⟩
abbrev S2048x1152 : Shape := ⟨2, ![2048, 1152]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S2048x9216, .bf16⟩
  | .hbm, ⟨3, _⟩ => ⟨S2048x8x1152, .bf16⟩
  | .hbm, ⟨4, _⟩ => ⟨S8x2048x1152, .bf16⟩
  | .hbm, ⟨5, _⟩ => ⟨S4096x2048, .bf16⟩
  | .hbm, ⟨6, _⟩ => ⟨S4096x9216, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S1024x1152, .bf16⟩
  | .local _ .vmem, ⟨5, _⟩ => ⟨S1024x1152, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x9216 : Shape := ⟨2, ![2048, 9216]⟩
abbrev S4096x9216 : Shape := ⟨2, ![4096, 9216]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x9216, .f32⟩
  | .hbm, ⟨3, _⟩ => ⟨S4096x9216, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S3072x2048 : Shape := ⟨2, ![3072, 2048]⟩
abbrev S4096x2048 : Shape := ⟨2, ![4096, 2048]⟩
abbrev S4096x3072 : Shape := ⟨2, ![4096, 3072]⟩
abbrev S1024x2048 : Shape := ⟨2, ![1024, 2048]⟩
abbrev S1536x2048 : Shape := ⟨2, ![1536, 2048]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S3072x2048, .f32⟩
  | .hbm, ⟨1, _⟩ => ⟨S4096x2048, .f32⟩
  | .hbm, ⟨2, _⟩ => ⟨S4096x2048, .bf16⟩
  | .hbm, ⟨3, _⟩ => ⟨S3072x2048, .bf16⟩
  | .hbm, ⟨4, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1024x1536, .f32⟩
  | .local _ .vmem, ⟨5, _⟩ => ⟨S1024x1536, .f32⟩
  | _, _ => ⟨S3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S3072x2048 : Shape := ⟨2, ![3072, 2048]⟩
abbrev S4096x2048 : Shape := ⟨2, ![4096, 2048]⟩
abbrev S_ : Shape := ⟨0, ![]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S3072x2048, .f32⟩
  | .hbm, ⟨1, _⟩ => ⟨S4096x2048, .f32⟩
  | .hbm, ⟨2, _⟩ => ⟨S_, .f32⟩
  | .hbm, ⟨3, _⟩ => ⟨S4096x3072, .f32⟩
  | .hbm, ⟨4, _⟩ => ⟨S4096x2048, .f32⟩
  | .hbm, ⟨5, _⟩ => ⟨S4096x3072, .f32⟩
  | _, _ => ⟨S3072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S4096x3072 : Shape := ⟨2, ![4096, 3072]⟩
abbrev S4096x2048 : Shape := ⟨2, ![4096, 2048]⟩
abbrev S3072x2048 : Shape := ⟨2, ![3072, 2048]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x3072, .bf16⟩
  | .hbm, ⟨3, _⟩ => ⟨S4096x2048, .bf16⟩
  | .hbm, ⟨4, _⟩ => ⟨S3072x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x3072 : Shape := ⟨2, ![4096, 3072]⟩
abbrev S4096x2048 : Shape := ⟨2, ![4096, 2048]⟩
abbrev S_ : Shape := ⟨0, ![]⟩
abbrev S3072x2048 : Shape := ⟨2, ![3072, 2048]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S_, .f32⟩
  | .hbm, ⟨3, _⟩ => ⟨S3072x2048, .f32⟩
  | .hbm, ⟨4, _⟩ => ⟨S4096x2048, .f32⟩
  | .hbm, ⟨5, _⟩ => ⟨S2048x3072, .f32⟩
  | .hbm, ⟨6, _⟩ => ⟨S3072x2048, .f32⟩
  | .hbm, ⟨7, _⟩ => ⟨S3072x2048, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x3072 : Shape := ⟨2, ![4096, 3072]⟩
abbrev S3072x2048 : Shape := ⟨2, ![3072, 2048]⟩
abbrev S4096x2048 : Shape := ⟨2, ![4096, 2048]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S3072x2048, .f32⟩
  | .hbm, ⟨2, _⟩ => ⟨S4096x2048, .f32⟩
  | .hbm, ⟨3, _⟩ => ⟨S4096x3072, .bf16⟩
  | .hbm, ⟨4, _⟩ => ⟨S3072x2048, .bf16⟩
  | .hbm, ⟨5, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x3072 : Shape := ⟨2, ![4096, 3072]⟩
abbrev S3072x2048 : Shape := ⟨2, ![3072, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S2048x3072 : Shape := ⟨2, ![2048, 3072]⟩
abbrev S4096x3072 : Shape := ⟨2, ![4096, 3072]⟩
abbrev S2048x8x384 : Shape := ⟨3, ![2048, 8, 384]⟩
abbrev S8x2048x384 : Shape := ⟨3, ![8, 2048, 384]⟩
abbrev S4096x2048 : Shape := ⟨2, ![4096, 2048]⟩
abbrev S1024x384 : Shape := ⟨2, ![1024, 384]⟩
abbrev S1x2048x384 : Shape := ⟨3, ![1, 2048, 384]⟩
abbrev S1024x2048 : Shape := ⟨2, ![1024, 2048]⟩
abbrev S2048x384 : Shape := ⟨2, ![2048, 384]⟩

abbrev nBuf : Space → Nat
  | .hbm => 7
  | .vmem => 7
  | .smem => 0
  | _ => 0

abbrev bufTy : (tb : Table) → Fin (tcTables nBuf tb) → BufTy
  | .hbm, ⟨0, _⟩ => ⟨S2048x3072, .f32⟩
  | .hbm, ⟨1, _⟩ => ⟨S4096x3072, .f32⟩
  | .hbm, ⟨2, _⟩ => ⟨S2048x3072, .bf16⟩
  | .hbm, ⟨3, _⟩ => ⟨S2048x8x384, .bf16⟩
  | .hbm, ⟨4, _⟩ => ⟨S8x2048x384, .bf16⟩
  | .hbm, ⟨5, _⟩ => ⟨S4096x3072, .bf16⟩
  | .hbm, ⟨6, _⟩ => ⟨S4096x2048, .f32⟩
  | .local _ .vmem, ⟨0, _⟩ => ⟨S1024x384, .bf16⟩
  | .local _ .vmem, ⟨1, _⟩ => ⟨S1024x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x3072 : Shape := ⟨2, ![2048, 3072]⟩
abbrev S4096x3072 : Shape := ⟨2, ![4096, 3072]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S4096x3072, .f32⟩
  | .hbm, ⟨2, _⟩ => ⟨S_, .f32⟩
  | .hbm, ⟨3, _⟩ => ⟨S4096x2048, .f32⟩
  | .hbm, ⟨4, _⟩ => ⟨S4096x3072, .f32⟩
  | .hbm, ⟨5, _⟩ => ⟨S4096x2048, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4096x2048 : Shape := ⟨2, ![4096, 2048]⟩
abbrev S4096x3072 : Shape := ⟨2, ![4096, 3072]⟩
abbrev S8x2048x384 : Shape := ⟨3, ![8, 2048, 384]⟩
abbrev S1024x2048 : Shape := ⟨2, ![1024, 2048]⟩
abbrev S1024x384 : Shape := ⟨2, ![1024, 384]⟩
abbrev S1x2048x384 : Shape := ⟨3, ![1, 2048, 384]⟩
abbrev S2048x384 : Shape := ⟨2, ![2048, 384]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S4096x2048, .bf16⟩
  | .hbm, ⟨3, _⟩ => ⟨S4096x3072, .bf16⟩
  | .hbm, ⟨4, _⟩ => ⟨S8x2048x384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x384, .bf16⟩
  | .local _ .vmem, ⟨3, _⟩ => ⟨S1024x384, .bf16⟩
  | .local _ .vmem, ⟨4, _⟩ => ⟨S1x2048x384, .bf16⟩
  | .local _ .vmem, ⟨5, _⟩ => ⟨S1x2048x384, .bf16⟩
  | .local _ .vmem, ⟨6, _⟩ => ⟨S2048x384, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩
abbrev S2048x8x384 : Shape := ⟨3, ![2048, 8, 384]⟩
abbrev S8x2048x384 : Shape := ⟨3, ![8, 2048, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S_, .f32⟩
  | .hbm, ⟨3, _⟩ => ⟨S2048x3072, .f32⟩
  | .hbm, ⟨4, _⟩ => ⟨S4096x3072, .f32⟩
  | .hbm, ⟨5, _⟩ => ⟨S3072x2048, .f32⟩
  | .hbm, ⟨6, _⟩ => ⟨S2048x3072, .f32⟩
  | .hbm, ⟨7, _⟩ => ⟨S2048x3072, .bf16⟩
  | .hbm, ⟨8, _⟩ => ⟨S2048x8x384, .bf16⟩
  | .hbm, ⟨9, _⟩ => ⟨S8x2048x384, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x2048 : Shape := ⟨2, ![4096, 2048]⟩
abbrev S2048x3072 : Shape := ⟨2, ![2048, 3072]⟩
abbrev S2048x8x384 : Shape := ⟨3, ![2048, 8, 384]⟩
abbrev S8x2048x384 : Shape := ⟨3, ![8, 2048, 384]⟩
abbrev S4096x3072 : Shape := ⟨2, ![4096, 3072]⟩
abbrev S1024x2048 : Shape := ⟨2, ![1024, 2048]⟩
abbrev S1x2048x384 : Shape := ⟨3, ![1, 2048, 384]⟩
abbrev S1024x384 : Shape := ⟨2, ![1024, 384]⟩
abbrev S2048x384 : Shape := ⟨2, ![2048, 384]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S2048x3072, .bf16⟩
  | .hbm, ⟨3, _⟩ => ⟨S2048x8x384, .bf16⟩
  | .hbm, ⟨4, _⟩ => ⟨S8x2048x384, .bf16⟩
  | .hbm, ⟨5, _⟩ => ⟨S4096x2048, .bf16⟩
  | .hbm, ⟨6, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x384, .bf16⟩
  | .local _ .vmem, ⟨3, _⟩ => ⟨S1x2048x384, .bf16⟩
  | .local _ .vmem, ⟨4, _⟩ => ⟨S1024x384, .f32⟩
  | .local _ .vmem, ⟨5, _⟩ => ⟨S1024x384, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S2048x2048 : Shape := ⟨2, ![2048, 2048]⟩
abbrev S4096x2048 : Shape := ⟨2, ![4096, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel22.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference22Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel23.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel24.lean ====
abbrev S2x4096x5632 : Shape := ⟨3, ![2, 4096, 5632]⟩
abbrev S2x3x5632 : Shape := ⟨3, ![2, 3, 5632]⟩
abbrev S2x1x5632 : Shape := ⟨3, ![2, 1, 5632]⟩
abbrev S4096x5632 : Shape := ⟨2, ![4096, 5632]⟩
abbrev S2x4096x128 : Shape := ⟨3, ![2, 4096, 128]⟩
abbrev S2x3x128 : Shape := ⟨3, ![2, 3, 128]⟩
abbrev S2x1x128 : Shape := ⟨3, ![2, 1, 128]⟩
abbrev S4096x128 : Shape := ⟨2, ![4096, 128]⟩
abbrev S1x4096x128 : Shape := ⟨3, ![1, 4096, 128]⟩
abbrev S1x1x128 : Shape := ⟨3, ![1, 1, 128]⟩
abbrev S1x128 : Shape := ⟨2, ![1, 128]⟩
abbrev S1x3x128 : Shape := ⟨3, ![1, 3, 128]⟩
abbrev S3x128 : Shape := ⟨2, ![3, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x5632, .f32⟩
  | .hbm, ⟨1, _⟩ => ⟨S2x3x5632, .f32⟩
  | .hbm, ⟨2, _⟩ => ⟨S2x1x5632, .f32⟩
  | .hbm, ⟨3, _⟩ => ⟨S4096x5632, .bf16⟩
  | .local _ .vmem, ⟨0, _⟩ => ⟨S2x4096x128, .f32⟩
  | .local _ .vmem, ⟨1, _⟩ => ⟨S2x4096x128, .f32⟩
  | .local _ .vmem, ⟨2, _⟩ => ⟨S2x3x128, .f32⟩
  | .local _ .vmem, ⟨3, _⟩ => ⟨S2x3x128, .f32⟩
  | .local _ .vmem, ⟨4, _⟩ => ⟨S2x1x128, .f32⟩
  | .local _ .vmem, ⟨5, _⟩ => ⟨S2x1x128, .f32⟩
  | .local _ .vmem, ⟨6, _⟩ => ⟨S4096x128, .bf16⟩
  | .local _ .vmem, ⟨7, _⟩ => ⟨S4096x128, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![44], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S2x4096x5632 : Shape := ⟨3, ![2, 4096, 5632]⟩
abbrev S2x3x5632 : Shape := ⟨3, ![2, 3, 5632]⟩
abbrev S2x1x5632 : Shape := ⟨3, ![2, 1, 5632]⟩
abbrev S_ : Shape := ⟨0, ![]⟩
abbrev S2x4095x5632 : Shape := ⟨3, ![2, 4095, 5632]⟩
abbrev S1x4096x5632 : Shape := ⟨3, ![1, 4096, 5632]⟩
abbrev S4096x5632 : Shape := ⟨2, ![4096, 5632]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S2x3x5632, .f32⟩
  | .hbm, ⟨2, _⟩ => ⟨S2x1x5632, .f32⟩
  | .hbm, ⟨3, _⟩ => ⟨S_, .f32⟩
  | .hbm, ⟨4, _⟩ => ⟨S2x1x5632, .f32⟩
  | .hbm, ⟨5, _⟩ => ⟨S2x4095x5632, .f32⟩
  | .hbm, ⟨6, _⟩ => ⟨S2x4096x5632, .f32⟩
  | .hbm, ⟨7, _⟩ => ⟨S2x4095x5632, .f32⟩
  | .hbm, ⟨8, _⟩ => ⟨S2x4096x5632, .f32⟩
  | .hbm, ⟨9, _⟩ => ⟨S2x1x5632, .f32⟩
  | .hbm, ⟨10, _⟩ => ⟨S2x4096x5632, .f32⟩
  | .hbm, ⟨11, _⟩ => ⟨S2x4096x5632, .f32⟩
  | .hbm, ⟨12, _⟩ => ⟨S2x1x5632, .f32⟩
  | .hbm, ⟨13, _⟩ => ⟨S2x4096x5632, .f32⟩
  | .hbm, ⟨14, _⟩ => ⟨S2x4096x5632, .f32⟩
  | .hbm, ⟨15, _⟩ => ⟨S2x4096x5632, .f32⟩
  | .hbm, ⟨16, _⟩ => ⟨S2x1x5632, .f32⟩
  | .hbm, ⟨17, _⟩ => ⟨S2x4096x5632, .f32⟩
  | .hbm, ⟨18, _⟩ => ⟨S2x4096x5632, .f32⟩
  | .hbm, ⟨19, _⟩ => ⟨S2x4096x5632, .f32⟩
  | .hbm, ⟨20, _⟩ => ⟨S2x4096x5632, .f32⟩
  | .hbm, ⟨21, _⟩ => ⟨S2x4096x5632, .f32⟩
  | .hbm, ⟨22, _⟩ => ⟨S1x4096x5632, .f32⟩
  | .hbm, ⟨23, _⟩ => ⟨S4096x5632, .f32⟩
  | .hbm, ⟨24, _⟩ => ⟨S1x4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S_, .f32⟩
  | .hbm, ⟨29, _⟩ => ⟨S4096x5632, .f32⟩
  | .hbm, ⟨30, _⟩ => ⟨S4096x5632, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .bf16⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel25.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x2048, .f32⟩
  | .hbm, ⟨73, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel26.lean ====
abbrev S4096x3072 : Shape := ⟨2, ![4096, 3072]⟩
abbrev S4096x2048 : Shape := ⟨2, ![4096, 2048]⟩
abbrev S1024x512 : Shape := ⟨2, ![1024, 512]⟩
abbrev S2048x128 : Shape := ⟨2, ![2048, 128]⟩
abbrev S4x1024x128 : Shape := ⟨3, ![4, 1024, 128]⟩
abbrev S2048x256 : Shape := ⟨2, ![2048, 256]⟩
abbrev S1024x128 : Shape := ⟨2, ![1024, 128]⟩
abbrev S1024x2048 : Shape := ⟨2, ![1024, 2048]⟩
abbrev S16x2048 : Shape := ⟨2, ![16, 2048]⟩
abbrev S1x16x128 : Shape := ⟨3, ![1, 16, 128]⟩
abbrev S16x128 : Shape := ⟨2, ![16, 128]⟩
abbrev S16 : Shape := ⟨1, ![16]⟩
abbrev S16x1 : Shape := ⟨2, ![16, 1]⟩
abbrev S1024x256 : Shape := ⟨2, ![1024, 256]⟩
abbrev S1x1024x128 : Shape := ⟨3, ![1, 1024, 128]⟩

abbrev nBuf : Space → Nat
  | .hbm => 4
  | .vmem => 13
  | .smem => 0
  | _ => 0

abbrev bufTy : (tb : Table) → Fin (tcTables nBuf tb) → BufTy
  | .hbm, ⟨0, _⟩ => ⟨S4096x3072, .f32⟩
  | .hbm, ⟨1, _⟩ => ⟨S4096x3072, .bf16⟩
  | .hbm, ⟨2, _⟩ => ⟨S4096x2048, .bf16⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S4x1024x128, .f32⟩
  | .local _ .vmem, ⟨11, _⟩ => ⟨S4x1024x128, .f32⟩
  | .local _ .vmem, ⟨12, _⟩ => ⟨S4x1024x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference26Ideal.lean ====
abbrev S4096x3072 : Shape := ⟨2, ![4096, 3072]⟩
abbrev S4096x2048 : Shape := ⟨2, ![4096, 2048]⟩
abbrev S4096x4x4x128 : Shape := ⟨4, ![4096, 4, 4, 128]⟩
abbrev S4096x512 : Shape := ⟨2, ![4096, 512]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4096x4x4 : Shape := ⟨3, ![4096, 4, 4]⟩
abbrev S4096x4x4x1 : Shape := ⟨4, ![4096, 4, 4, 1]⟩
abbrev S4x128x4x4096 : Shape := ⟨4, ![4, 128, 4, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x4x4x128, .f32⟩
  | .hbm, ⟨3, _⟩ => ⟨S4096x512, .f32⟩
  | .hbm, ⟨4, _⟩ => ⟨S4096x4x128, .f32⟩
  | .hbm, ⟨5, _⟩ => ⟨S4096x512, .f32⟩
  | .hbm, ⟨6, _⟩ => ⟨S4096x4x128, .f32⟩
  | .hbm, ⟨7, _⟩ => ⟨S4x4096x4096x4, .f32⟩
  | .hbm, ⟨8, _⟩ => ⟨S4x4x4096x4096, .f32⟩
  | .hbm, ⟨9, _⟩ => ⟨S_, .f32⟩
  | .hbm, ⟨10, _⟩ => ⟨S4x4x4096x4096, .f32⟩
  | .hbm, ⟨11, _⟩ => ⟨S4x4x4096x4096, .f32⟩
  | .hbm, ⟨12, _⟩ => ⟨S_, .f32⟩
  | .hbm, ⟨13, _⟩ => ⟨S4x4x4096, .f32⟩
  | .hbm, ⟨14, _⟩ => ⟨S4x4x4096x1, .f32⟩
  | .hbm, ⟨15, _⟩ => ⟨S4x4x4096x4096, .f32⟩
  | .hbm, ⟨16, _⟩ => ⟨S4x4x4096x4096, .f32⟩
  | .hbm, ⟨17, _⟩ => ⟨S4x4x4096x4096, .f32⟩
  | .hbm, ⟨18, _⟩ => ⟨S_, .f32⟩
  | .hbm, ⟨19, _⟩ => ⟨S4x4x4096, .f32⟩
  | .hbm, ⟨20, _⟩ => ⟨S4x4x4096, .f32⟩
  | .hbm, ⟨21, _⟩ => ⟨S4x4x4096, .f32⟩
  | .hbm, ⟨22, _⟩ => ⟨S4096x4x4, .f32⟩
  | .hbm, ⟨23, _⟩ => ⟨S4096x4x4x1, .f32⟩
  | .hbm, ⟨24, _⟩ => ⟨S4096x4x4x128, .f32⟩
  | .hbm, ⟨25, _⟩ => ⟨S4096x2048, .f32⟩
  | .hbm, ⟨26, _⟩ => ⟨S4x4096x4096x4, .f32⟩
  | .hbm, ⟨27, _⟩ => ⟨S4x4x4096x4096, .f32⟩
  | .hbm, ⟨28, _⟩ => ⟨S_, .f32⟩
  | .hbm, ⟨29, _⟩ => ⟨S4x4x4096x4096, .f32⟩
  | .hbm, ⟨30, _⟩ => ⟨S4x4x4096x4096, .f32⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S4x4x4096, .f32⟩
  | .hbm, ⟨36, _⟩ => ⟨S4x4x4096x1, .f32⟩
  | .hbm, ⟨37, _⟩ => ⟨S4x4x4096x4096, .f32⟩
  | .hbm, ⟨38, _⟩ => ⟨S4x4x4096x4096, .f32⟩
  | .hbm, ⟨39, _⟩ => ⟨S4x4x4096x4096, .f32⟩
  | .hbm, ⟨40, _⟩ => ⟨S_, .f32⟩
  | .hbm, ⟨41, _⟩ => ⟨S4x4x4096, .f32⟩
  | .hbm, ⟨42, _⟩ => ⟨S4x4x4096x1, .f32⟩
  | .hbm, ⟨43, _⟩ => ⟨S4x4x4096x4096, .f32⟩
  | .hbm, ⟨44, _⟩ => ⟨S4x4x4096x4096, .f32⟩
  | .hbm, ⟨45, _⟩ => ⟨S4x128x4x4096, .f32⟩
  | .hbm, ⟨46, _⟩ => ⟨S4096x4x4x128, .f32⟩
  | .hbm, ⟨47, _⟩ => ⟨S4096x2048, .f32⟩
  | .hbm, ⟨48, _⟩ => ⟨S4096x2048, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_2 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_5 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== Kernel27.lean ====
abbrev S4096x2048 : Shape := ⟨2, ![4096, 2048]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S4096x2048 : Shape := ⟨2, ![4096, 2048]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x16x128, .f32⟩
  | .hbm, ⟨4, _⟩ => ⟨S_, .f32⟩
  | .hbm, ⟨5, _⟩ => ⟨S4096x16, .f32⟩
  | .hbm, ⟨6, _⟩ => ⟨S4096x16x1, .f32⟩
  | .hbm, ⟨7, _⟩ => ⟨S4096x16x128, .f32⟩
  | .hbm, ⟨8, _⟩ => ⟨S4096x2048, .f32⟩
  | .hbm, ⟨9, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel28.lean ====
abbrev S4096x1024 : Shape := ⟨2, ![4096, 1024]⟩
abbrev S4096x8 : Shape := ⟨2, ![4096, 8]⟩
abbrev S4096x8x1 : Shape := ⟨3, ![4096, 8, 1]⟩
abbrev S4096x8x128 : Shape := ⟨3, ![4096, 8, 128]⟩
abbrev S4096x3072 : Shape := ⟨2, ![4096, 3072]⟩
abbrev S256x1024 : Shape := ⟨2, ![256, 1024]⟩
abbrev S256x3072 : Shape := ⟨2, ![256, 3072]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S4096x8x1, .f32⟩
  | .hbm, ⟨7, _⟩ => ⟨S4096x8x128, .f32⟩
  | .hbm, ⟨8, _⟩ => ⟨S4096x1024, .f32⟩
  | .hbm, ⟨9, _⟩ => ⟨S4096x8x1, .f32⟩
  | .hbm, ⟨10, _⟩ => ⟨S4096x8x128, .f32⟩
  | .hbm, ⟨11, _⟩ => ⟨S4096x1024, .f32⟩
  | .hbm, ⟨12, _⟩ => ⟨S4096x8x1, .f32⟩
  | .hbm, ⟨13, _⟩ => ⟨S4096x8x128, .f32⟩
  | .hbm, ⟨14, _⟩ => ⟨S4096x1024, .f32⟩
  | .hbm, ⟨15, _⟩ => ⟨S4096x3072, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x3072, .bf16⟩
  | .local _ .vmem, ⟨13, _⟩ => ⟨S256x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S4096x1024 : Shape := ⟨2, ![4096, 1024]⟩
abbrev S4096x8 : Shape := ⟨2, ![4096, 8]⟩
abbrev S1x4096x8 : Shape := ⟨3, ![1, 4096, 8]⟩
abbrev S3x4096x8 : Shape := ⟨3, ![3, 4096, 8]⟩
abbrev S_ : Shape := ⟨0, ![]⟩
abbrev S4096x8x128 : Shape := ⟨3, ![4096, 8, 128]⟩
abbrev S4096x8x1 : Shape := ⟨3, ![4096, 8, 1]⟩
abbrev S4096x24x128 : Shape := ⟨3, ![4096, 24, 128]⟩
abbrev S4096x3072 : Shape := ⟨2, ![4096, 3072]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S1x4096x8, .f32⟩
  | .hbm, ⟨7, _⟩ => ⟨S1x4096x8, .f32⟩
  | .hbm, ⟨8, _⟩ => ⟨S1x4096x8, .f32⟩
  | .hbm, ⟨9, _⟩ => ⟨S3x4096x8, .f32⟩
  | .hbm, ⟨10, _⟩ => ⟨S_, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S1x4096x8, .f32⟩
  | .hbm, ⟨16, _⟩ => ⟨S3x4096x8, .f32⟩
  | .hbm, ⟨17, _⟩ => ⟨S3x4096x8, .f32⟩
  | .hbm, ⟨18, _⟩ => ⟨S3x4096x8, .f32⟩
  | .hbm, ⟨19, _⟩ => ⟨S_, .f32⟩
  | .hbm, ⟨20, _⟩ => ⟨S4096x8, .f32⟩
  | .hbm, ⟨21, _⟩ => ⟨S1x4096x8, .f32⟩
  | .hbm, ⟨22, _⟩ => ⟨S3x4096x8, .f32⟩
  | .hbm, ⟨23, _⟩ => ⟨S3x4096x8, .f32⟩
  | .hbm, ⟨24, _⟩ => ⟨S4096x8x128, .f32⟩
  | .hbm, ⟨25, _⟩ => ⟨S4096x8x128, .f32⟩
  | .hbm, ⟨26, _⟩ => ⟨S4096x8x128, .f32⟩
  | .hbm, ⟨27, _⟩ => ⟨S1x4096x8, .f32⟩
  | .hbm, ⟨28, _⟩ => ⟨S4096x8, .f32⟩
  | .hbm, ⟨29, _⟩ => ⟨S4096x8x1, .f32⟩
  | .hbm, ⟨30, _⟩ => ⟨S4096x8x128, .f32⟩
  | .hbm, ⟨31, _⟩ => ⟨S4096x8x128, .f32⟩
  | .hbm, ⟨32, _⟩ => ⟨S1x4096x8, .f32⟩
  | .hbm, ⟨33, _⟩ => ⟨S4096x8, .f32⟩
  | .hbm, ⟨34, _⟩ => ⟨S4096x8x1, .f32⟩
  | .hbm, ⟨35, _⟩ => ⟨S4096x8x128, .f32⟩
  | .hbm, ⟨36, _⟩ => ⟨S4096x8x128, .f32⟩
  | .hbm, ⟨37, _⟩ => ⟨S1x4096x8, .f32⟩
  | .hbm, ⟨38, _⟩ => ⟨S4096x8, .f32⟩
  | .hbm, ⟨39, _⟩ => ⟨S4096x8x1, .f32⟩
  | .hbm, ⟨40, _⟩ => ⟨S4096x8x128, .f32⟩
  | .hbm, ⟨41, _⟩ => ⟨S4096x8x128, .f32⟩
  | .hbm, ⟨42, _⟩ => ⟨S4096x24x128, .f32⟩
  | .hbm, ⟨43, _⟩ => ⟨S4096x3072, .f32⟩
  | .hbm, ⟨44, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel29.lean ====
abbrev S4096x3072 : Shape := ⟨2, ![4096, 3072]⟩
abbrev S4096x1024 : Shape := ⟨2, ![4096, 1024]⟩
abbrev S4096x8 : Shape := ⟨2, ![4096, 8]⟩
abbrev S4096x8x1 : Shape := ⟨3, ![4096, 8, 1]⟩
abbrev S4096x8x128 : Shape := ⟨3, ![4096, 8, 128]⟩
abbrev S256x3072 : Shape := ⟨2, ![256, 3072]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 22
  | .vmem => 26
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S4096x8x1, .f32⟩
  | .hbm, ⟨8, _⟩ => ⟨S4096x8x128, .f32⟩
  | .hbm, ⟨9, _⟩ => ⟨S4096x1024, .f32⟩
  | .hbm, ⟨10, _⟩ => ⟨S4096x8x1, .f32⟩
  | .hbm, ⟨11, _⟩ => ⟨S4096x8x128, .f32⟩
  | .hbm, ⟨12, _⟩ => ⟨S4096x1024, .f32⟩
  | .hbm, ⟨13, _⟩ => ⟨S4096x8x1, .f32⟩
  | .hbm, ⟨14, _⟩ => ⟨S4096x8x128, .f32⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x1024, .f32⟩
  | .hbm, ⟨21, _⟩ => ⟨S4096x1024, .f32⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference29Ideal.lean ====
abbrev S4096x3072 : Shape := ⟨2, ![4096, 3072]⟩
abbrev S4096x1024 : Shape := ⟨2, ![4096, 1024]⟩
abbrev S4096x8 : Shape := ⟨2, ![4096, 8]⟩
abbrev S1x4096x8 : Shape := ⟨3, ![1, 4096, 8]⟩
abbrev S3x4096x8 : Shape := ⟨3, ![3, 4096, 8]⟩
abbrev S_ : Shape := ⟨0, ![]⟩
abbrev S4096x8x128 : Shape := ⟨3, ![4096, 8, 128]⟩
abbrev S4096x8x1 : Shape := ⟨3, ![4096, 8, 1]⟩
abbrev S4096x24x128 : Shape := ⟨3, ![4096, 24, 128]⟩

abbrev nBuf : Space → Nat
  | .hbm => 158
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x8, .f32⟩
  | 5 => ⟨S4096x8, .f32⟩
  | 6 => ⟨S4096x8, .f32⟩
  | 7 => ⟨S1x4096x8, .f32⟩
  | 8 => ⟨S1x4096x8, .f32⟩
  | 9 => ⟨S1x4096x8, .f32⟩
  | 10 => ⟨S3x4096x8, .f32⟩
  | 11 => ⟨S_, .f32⟩
  | 12 => ⟨S4096x8, .f32⟩
  | 13 => ⟨S1x4096x8, .f32⟩
  | 14 => ⟨S3x4096x8, .f32⟩
  | 15 => ⟨S3x4096x8, .i1⟩
  | 16 => ⟨S3x4096x8, .f32⟩
  | 17 => ⟨S_, .f32⟩
  | 18 => ⟨S4096x8, .f32⟩
  | 19 => ⟨S_, .f32⟩
  | 20 => ⟨S4096x8, .f32⟩
  | 21 => ⟨S4096x8, .f32⟩
  | 22 => ⟨S_, .f32⟩
  | 23 => ⟨S4096x8, .f32⟩
  | 24 => ⟨S4096x8, .i1⟩
  | 25 => ⟨S_, .f32⟩
  | 26 => ⟨S4096x8, .f32⟩
  | 27 => ⟨S4096x8, .i1⟩
  | 28 => ⟨S_, .f32⟩
  | 29 => ⟨S4096x8, .f32⟩
  | 30 => ⟨S_, .f32⟩
  | 31 => ⟨S4096x8, .f32⟩
  | 32 => ⟨S_, .f32⟩
  | 33 => ⟨S4096x8, .f32⟩
  | 34 => ⟨S4096x8, .f32⟩
  | 35 => ⟨S4096x8, .f32⟩
  | 36 => ⟨S1x4096x8, .f32⟩
  | 37 => ⟨S3x4096x8, .f32⟩
  | 38 => ⟨S3x4096x8, .f32⟩
  | 39 => ⟨S3x4096x8, .f32⟩
  | 40 => ⟨S_, .f32⟩
  | 41 => ⟨S4096x8, .f32⟩
  | 42 => ⟨S1x4096x8, .f32⟩
  | 43 => ⟨S3x4096x8, .f32⟩
  | 44 => ⟨S3x4096x8, .f32⟩
  | 45 => ⟨S1x4096x8, .f32⟩
  | 46 => ⟨S_, .f32⟩
  | 47 => ⟨S1x4096x8, .f32⟩
  | 48 => ⟨S1x4096x8, .f32⟩
  | 49 => ⟨S4096x8x128, .f32⟩
  | 50 => ⟨S4096x8x128, .f32⟩
  | 51 => ⟨S4096x8x128, .f32⟩
  | 52 => ⟨S1x4096x8, .f32⟩
  | 53 => ⟨S4096x8, .f32⟩
  | 54 => ⟨S4096x8x1, .f32⟩
  | 55 => ⟨S4096x8x128, .f32⟩
  | 56 => ⟨S4096x8x128, .f32⟩
  | 57 => ⟨S1x4096x8, .f32⟩
  | 58 => ⟨S4096x8, .f32⟩
  | 59 => ⟨S4096x8x1, .f32⟩
  | 60 => ⟨S4096x8x128, .f32⟩
  | 61 => ⟨S4096x8x128, .f32⟩
  | 62 => ⟨S1x4096x8, .f32⟩
  | 63 => ⟨S4096x8, .f32⟩
  | 64 => ⟨S4096x8x1, .f32⟩
  | 65 => ⟨S4096x8x128, .f32⟩
  | 66 => ⟨S4096x8x128, .f32⟩
  | 67 => ⟨S4096x24x128, .f32⟩
  | 68 => ⟨S4096x3072, .f32⟩
  | 69 => ⟨S4096x24x128, .f32⟩
  | 70 => ⟨S4096x8x128, .f32⟩
  | 71 => ⟨S4096x8x128, .f32⟩
  | 72 => ⟨S4096x8x128, .f32⟩
  | 73 => ⟨S4096x8x128, .f32⟩
  | 74 => ⟨S4096x8x128, .f32⟩
  | 75 => ⟨S4096x8x128, .f32⟩
  | 76 => ⟨S_, .f32⟩
  | 77 => ⟨S4096x8, .f32⟩
  | 78 => ⟨S4096x8x1, .f32⟩
  | 79 => ⟨S_, .f32⟩
  | 80 => ⟨S4096x8, .f32⟩
  | 81 => ⟨S1x4096x8, .f32⟩
  | 82 => ⟨S_, .f32⟩
  | 83 => ⟨S3x4096x8, .f32⟩
  | 84 => ⟨S4096x8x128, .f32⟩
  | 85 => ⟨S4096x8x128, .f32⟩
  | 86 => ⟨S4096x8x128, .f32⟩
  | 87 => ⟨S_, .f32⟩
  | 88 => ⟨S4096x8, .f32⟩
  | 89 => ⟨S4096x8x1, .f32⟩
  | 90 => ⟨S_, .f32⟩
  | 91 => ⟨S4096x8, .f32⟩
  | 92 => ⟨S1x4096x8, .f32⟩
  | 93 => ⟨S_, .f32⟩
  | 94 => ⟨S3x4096x8, .f32⟩
  | 95 => ⟨S3x4096x8, .f32⟩
  | 96 => ⟨S4096x8x128, .f32⟩
  | 97 => ⟨S4096x8x128, .f32⟩
  | 98 => ⟨S4096x8x128, .f32⟩
  | 99 => ⟨S_, .f32⟩
  | 100 => ⟨S4096x8, .f32⟩
  | 101 => ⟨S4096x8x1, .f32⟩
  | 102 => ⟨S_, .f32⟩
  | 103 => ⟨S4096x8, .f32⟩
  | 104 => ⟨S1x4096x8, .f32⟩
  | 105 => ⟨S_, .f32⟩
  | 106 => ⟨S3x4096x8, .f32⟩
  | 107 => ⟨S3x4096x8, .f32⟩
  | 108 => ⟨S4096x1024, .f32⟩
  | 109 => ⟨S4096x1024, .f32⟩
  | 110 => ⟨S4096x1024, .f32⟩
  | 111 => ⟨S3x4096x8, .f32⟩
  | 112 => ⟨S3x4096x8, .f32⟩
  | 113 => ⟨S3x4096x8, .f32⟩
  | 114 => ⟨S_, .f32⟩
  | 115 => ⟨S4096x8, .f32⟩
  | 116 => ⟨S1x4096x8, .f32⟩
  | 117 => ⟨S1x4096x8, .f32⟩
  | 118 => ⟨S3x4096x8, .f32⟩
  | 119 => ⟨S3x4096x8, .f32⟩
  | 120 => ⟨S_, .f32⟩
  | 121 => ⟨S4096x8, .f32⟩
  | 122 => ⟨S3x4096x8, .f32⟩
  | 123 => ⟨S3x4096x8, .f32⟩
  | 124 => ⟨S3x4096x8, .f32⟩
  | 125 => ⟨S1x4096x8, .f32⟩
  | 126 => ⟨S4096x8, .f32⟩
  | 127 => ⟨S1x4096x8, .f32⟩
  | _ => ⟨S4096x3072, .f32⟩

abbrev hbmTy0_1 (i : Nat) : BufTy := match i % 128 with
  | 0 => ⟨S4096x8, .f32⟩
  | 1 => ⟨S1x4096x8, .f32⟩
  | 2 => ⟨S4096x8, .f32⟩
  | 3 => ⟨S4096x1024, .f32⟩
  | 4 => ⟨S4096x8x128, .f32⟩
  | 5 => ⟨S_, .f32⟩
  | 6 => ⟨S4096x8, .f32⟩
  | 7 => ⟨S4096x8, .f32⟩
  | 8 => ⟨S4096x1024, .f32⟩
  | 9 => ⟨S4096x8x128, .f32⟩
  | 10 => ⟨S_, .f32⟩
  | 11 => ⟨S4096x8, .f32⟩
  | 12 => ⟨S4096x8, .f32⟩
  | 13 => ⟨S4096x1024, .f32⟩
  | 14 => ⟨S4096x8x128, .f32⟩
  | 15 => ⟨S_, .f32⟩
  | 16 => ⟨S4096x8, .f32⟩
  | 17 => ⟨S4096x8, .f32⟩
  | 18 => ⟨S4096x8x1, .f32⟩
  | 19 => ⟨S4096x8x128, .f32⟩
  | 20 => ⟨S4096x1024, .f32⟩
  | 21 => ⟨S4096x8x1, .f32⟩
  | 22 => ⟨S4096x8x128, .f32⟩
  | 23 => ⟨S4096x1024, .f32⟩
  | 24 => ⟨S4096x8x1, .f32⟩
  | 25 => ⟨S4096x8x128, .f32⟩
  | 26 => ⟨S4096x1024, .f32⟩
  | 27 => ⟨S4096x1024, .bf16⟩
  | 28 => ⟨S4096x1024, .bf16⟩
  | 29 => ⟨S4096x1024, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_19 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_20 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_21 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_22 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩

abbrev nD : Nat := 1
abbrev τ : Topo := Topo.v7x

variable {F : FTy → Type} [FloatOps F]
-- ==== Proof.Finite.lean ====
module

public import Idealize.ShloMosaic.Lib.ReduceAll
public import Idealize.ShloMosaic.Lib.Pipeline.ValueKit
public import Idealize.ShloMosaic.Lib.Pointwise

/-! Values that are real numbers, and how the precondition "every entry's magnitude is below infinity" gives them. -/

@[expose] public section

noncomputable section

namespace Cert.Finite

open Idealize.ShloMosaic

/-- A value that is a real number. -/
def IsReal (x : EReal) : Prop := ∃ y : ℝ, x = (y : EReal)

theorem isReal_of_abs_lt {x : EReal} (h : max x (-x) < ⊤) : IsReal x := by
  induction x with
  | bot => simp at h
  | top => simp at h
  | coe y => exact ⟨y, rfl⟩

theorem IsReal.add {x y : EReal} (hx : IsReal x) (hy : IsReal y) : IsReal (x + y) := by
  obtain ⟨a, rfl⟩ := hx; obtain ⟨b, rfl⟩ := hy; exact ⟨a + b, by simp⟩

theorem IsReal.mul {x y : EReal} (hx : IsReal x) (hy : IsReal y) : IsReal (x * y) := by
  obtain ⟨a, rfl⟩ := hx; obtain ⟨b, rfl⟩ := hy; exact ⟨a * b, by simp⟩

theorem isReal_zero : IsReal 0 := ⟨0, by simp⟩

/-- The literal that the precondition compares with is infinity. -/
theorem inf_eq : Ideal.ofBits .f32 0x7F800000#32 = ⊤ := by simp [Ideal.ofBits, Ideal.ieee]

/-- An array of which "the magnitude is below infinity" holds everywhere has real entries. -/
theorem all_real {s t u : Shape} {axes : List (Fin s.rank)} [Subsingleton t.Idx] (x b : FVec Ideal s .f32)
    (init : u.Idx → BitVec 1) (h : s.ReducesTo axes t) (hu : 0 < u.numel) (j : t.Idx)
    (hb : ∀ i, b i = Ideal.ofBits .f32 0x7F800000#32)
    (e : Host.reduce IntOp.andi (cmpf .olt (Host.absf x) b) init h hu j = 1#1) (i : s.Idx) : IsReal (x i) := by
  have h1 : BitVec.ofBool (decide (max (x i : EReal) (-(x i : EReal)) < b i)) = 1#1 :=
    Host.reduce_andi_all _ _ h hu j e i
  rw [hb, inf_eq] at h1
  refine isReal_of_abs_lt ?_
  by_contra hc
  simp [hc] at h1

end Cert.Finite

end
-- ==== Proof.AttnSpec.lean ====
module

public import proofs.«01_k».proof.Proof.Finite
public import Idealize.ShloMosaic.Lib.IdealHost

/-! The gradient of grouped attention as formulas over the packed projection `X` (queries, then keys, then values, by
head) and the cotangent `Y`, and the one identity on which the kernel rests: with the log-sum `lse` and the row sums
`do . o` saved, `exp (z - lse) (dp - do . o)` is the derivative of the softmax. -/

@[expose] public section

noncomputable section

namespace Cert.Attn

open Idealize.ShloMosaic Cert.Finite
open scoped BigOperators

/-- Lane `d` of head `g` of group `b` among the queries, of group `b` among the keys and among the values. -/
def qi (b g : Fin 4) (d : Fin 128) : Fin 3072 := ⟨b.val * 512 + g.val * 128 + d.val, by omega⟩
def ki (b : Fin 4) (d : Fin 128) : Fin 3072 := ⟨2048 + (b.val * 128 + d.val), by omega⟩
def vi (b : Fin 4) (d : Fin 128) : Fin 3072 := ⟨2560 + (b.val * 128 + d.val), by omega⟩
def oi (b g : Fin 4) (d : Fin 128) : Fin 2048 := ⟨b.val * 512 + g.val * 128 + d.val, by omega⟩

variable (X : Fin 4096 → Fin 3072 → EReal) (Y : Fin 4096 → Fin 2048 → EReal)

/-- The literal by which the logits are scaled. -/
def c0 : EReal := Ideal.ofBits .f32 0x3DB504F3#32

def Z (b g : Fin 4) (i j : Fin 4096) : EReal := (∑ d : Fin 128, X j (ki b d) * X i (qi b g d)) * c0
def MX (b g : Fin 4) (i : Fin 4096) : EReal :=
  Finset.fold max (Ideal.ofBits .f32 0xFF800000#32) (fun j => Z X b g i j) Finset.univ
def E (b g : Fin 4) (i j : Fin 4096) : EReal := Ideal.exp (Z X b g i j - MX X b g i)
def L (b g : Fin 4) (i : Fin 4096) : EReal := ∑ j : Fin 4096, E X b g i j
def LSE (b g : Fin 4) (i : Fin 4096) : EReal := MX X b g i + Ideal.log (L X b g i)
def O (b g : Fin 4) (i : Fin 4096) (d : Fin 128) : EReal := ∑ j : Fin 4096, X j (vi b d) * Ideal.div (E X b g i j) (L X b g i)
def DEL (b g : Fin 4) (i : Fin 4096) : EReal := ∑ d : Fin 128, Y i (oi b g d) * O X b g i d
def DP (b g : Fin 4) (i j : Fin 4096) : EReal := ∑ d : Fin 128, Y i (oi b g d) * X j (vi b d)
/-- The probability and the derivative as the kernel forms them. -/
def PK (b g : Fin 4) (i j : Fin 4096) : EReal := Ideal.exp (Z X b g i j - LSE X b g i)
def DS (b g : Fin 4) (i j : Fin 4096) : EReal := PK X b g i j * (DP X Y b g i j - DEL X Y b g i)
/-- The derivative of the logits as the reference forms it. -/
def G (b g : Fin 4) (i j : Fin 4096) : EReal :=
  (Ideal.div (DP X Y b g i j) (L X b g i)
    + -(∑ j' : Fin 4096, DP X Y b g i j' * Ideal.div (Ideal.ofBits .f32 0x3F800000#32) (L X b g i * L X b g i) * E X b g i j')) * E X b g i j

/-! ### Reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem one_eq : Ideal.ofBits .f32 0x3F800000#32 = ((1 : ℝ) : EReal) := by
  rw [Ideal.ofBits_one_f32]; rfl

theorem isReal_c0 : IsReal c0 := by
  unfold c0
  simp [Ideal.ofBits, Ideal.ieee]
  exact IsReal.mul ⟨_, rfl⟩ ⟨_, rfl⟩

theorem bot_eq : Ideal.ofBits .f32 0xFF800000#32 = ⊥ := by simp [Ideal.ofBits, Ideal.ieee]

/-- The largest of finitely many reals is real. -/
theorem isReal_max {n : ℕ} (f : Fin (n + 1) → EReal) (h : ∀ j, IsReal (f j)) :
    IsReal (Finset.fold max (⊥ : EReal) f Finset.univ) := by
  have key : ∀ s : Finset (Fin (n + 1)), s.Nonempty → IsReal (Finset.fold max (⊥ : EReal) f s) := by
    intro s hs
    induction hs using Finset.Nonempty.cons_induction with
    | singleton a => simpa using h a
    | cons a s ha hs ih =>
      rw [Finset.fold_cons]
      rcases max_choice (f a) (Finset.fold max ⊥ f s) with e | e <;> rw [e]
      · exact h a
      · exact ih
  exact key _ Finset.univ_nonempty

theorem div_real (x : ℝ) {y : ℝ} (h : y ≠ 0) : Ideal.div (x : EReal) (y : EReal) = ((x / y : ℝ) : EReal) := by
  rw [Ideal.div_coe h, ← EReal.coe_mul, mul_one_div]

theorem max_bot (b g : Fin 4) (i : Fin 4096) : max (Ideal.ofBits .f32 0xFF800000#32) (MX X b g i) = MX X b g i := by
  rw [bot_eq]; exact max_eq_right bot_le

/-- One row of the softmax over the reals: the logits `z`, the greatest of them `M`. -/
structure Row where
  z : Fin 4096 → ℝ
  M : ℝ

namespace Row
variable (R : Row)

def e (j : Fin 4096) : ℝ := Real.exp (R.z j - R.M)
def l : ℝ := ∑ j, R.e j

theorem l_pos : 0 < R.l := Finset.sum_pos (fun j _ => Real.exp_pos _) Finset.univ_nonempty

/-- `exp (z - (M + log l)) = exp (z - M) / l`. -/
theorem exp_sub_lse (j : Fin 4096) : Real.exp (R.z j - (R.M + Real.log R.l)) = R.e j / R.l := by
  rw [← sub_sub, Real.exp_sub, Real.exp_log R.l_pos, e]

/-- The two forms of the softmax's derivative. -/
theorem ds_eq (dp : Fin 4096 → ℝ) (j : Fin 4096) : R.e j / R.l * (dp j - ∑ j', dp j' * (R.e j' / R.l))
    = (dp j / R.l + -(∑ j', dp j' * (1 / (R.l * R.l)) * R.e j')) * R.e j := by
  have hl : R.l ≠ 0 := R.l_pos.ne'
  have e1 : ∑ j', dp j' * (1 / (R.l * R.l)) * R.e j' = (∑ j', dp j' * (R.e j' / R.l)) / R.l := by
    rw [Finset.sum_div]; exact Finset.sum_congr rfl fun j' _ => by field_simp
  rw [e1]; field_simp; ring

end Row

/-! ### The formulas at real entries -/

section
variable {X Y} {x : Fin 4096 → Fin 3072 → ℝ} {y : Fin 4096 → Fin 2048 → ℝ} (hX : ∀ i j, X i j = (x i j : EReal))
  (hY : ∀ i j, Y i j = (y i j : EReal))
include hX

theorem isReal_Z (b g : Fin 4) (i j : Fin 4096) : IsReal (Z X b g i j) :=
  IsReal.mul (isReal_sum _ _ fun d => IsReal.mul ⟨_, hX _ _⟩ ⟨_, hX _ _⟩) isReal_c0

theorem isReal_MX (b g : Fin 4) (i : Fin 4096) : IsReal (MX X b g i) := by
  rw [MX, bot_eq]; exact isReal_max _ fun j => isReal_Z hX b g i j

/-- The row of head `g` of group `b` at query `i`. -/
theorem exists_row (b g : Fin 4) (i : Fin 4096) : ∃ R : Row, (∀ j, Z X b g i j = (R.z j : EReal)) ∧ MX X b g i = (R.M : EReal)
    ∧ (∀ j, E X b g i j = (R.e j : EReal)) ∧ L X b g i = (R.l : EReal) ∧ (∀ j, PK X b g i j = ((R.e j / R.l : ℝ) : EReal)) := by
  choose z hz using fun j => isReal_Z hX b g i j
  obtain ⟨M, hM⟩ := isReal_MX hX b g i
  have hE : ∀ j, E X b g i j = (((⟨z, M⟩ : Row).e j : ℝ) : EReal) := fun j => by
    rw [E, hz, hM, ← EReal.coe_sub, Ideal.exp_coe]; rfl
  have hL : L X b g i = (((⟨z, M⟩ : Row).l : ℝ) : EReal) := by
    rw [L, Row.l, coe_sum]; exact Finset.sum_congr rfl fun j _ => hE j
  refine ⟨⟨z, M⟩, hz, hM, hE, hL, fun j => ?_⟩
  rw [PK, LSE, hL, Ideal.log_coe, if_neg (not_le.2 (Row.l_pos _)), hz, hM, ← EReal.coe_add, ← EReal.coe_sub, Ideal.exp_coe, ← Row.exp_sub_lse]

include hY

theorem DP_real (b g : Fin 4) (i j : Fin 4096) : DP X Y b g i j = ((∑ d : Fin 128, y i (oi b g d) * x j (vi b d) : ℝ) : EReal) := by
  rw [DP, coe_sum]; exact Finset.sum_congr rfl fun d _ => by rw [hX, hY, EReal.coe_mul]

/-- The kernel's derivative is the reference's, and both are real. -/
theorem DS_eq_G (b g : Fin 4) (i j : Fin 4096) : DS X Y b g i j = G X Y b g i j ∧ IsReal (G X Y b g i j) := by
  obtain ⟨R, hz, hM, hE, hL, hP⟩ := exists_row hX b g i
  have hl : R.l ≠ 0 := R.l_pos.ne'
  set dp : Fin 4096 → ℝ := fun j => ∑ d : Fin 128, y i (oi b g d) * x j (vi b d) with hdp
  have hDP : ∀ j, DP X Y b g i j = (dp j : EReal) := DP_real hX hY b g i
  have hO : ∀ d, O X b g i d = ((∑ j, x j (vi b d) * (R.e j / R.l) : ℝ) : EReal) := fun d => by
    rw [O, coe_sum]; exact Finset.sum_congr rfl fun j _ => by rw [hX, hE, hL, div_real _ hl, EReal.coe_mul]
  have hDEL : DEL X Y b g i = ((∑ j, dp j * (R.e j / R.l) : ℝ) : EReal) := by
    have e : (∑ j, dp j * (R.e j / R.l)) = ∑ d : Fin 128, y i (oi b g d) * ∑ j, x j (vi b d) * (R.e j / R.l) := by
      simp only [hdp, Finset.sum_mul, Finset.mul_sum]
      rw [Finset.sum_comm]
      exact Finset.sum_congr rfl fun d _ => Finset.sum_congr rfl fun j _ => by ring
    rw [e, DEL, coe_sum]
    exact Finset.sum_congr rfl fun d _ => by rw [hY, hO, EReal.coe_mul]
  have hG : G X Y b g i j = (((dp j / R.l + -(∑ j', dp j' * (1 / (R.l * R.l)) * R.e j')) * R.e j : ℝ) : EReal) := by
    have e : ∀ j', DP X Y b g i j' * Ideal.div (Ideal.ofBits .f32 0x3F800000#32) (L X b g i * L X b g i) * E X b g i j'
        = ((dp j' * (1 / (R.l * R.l)) * R.e j' : ℝ) : EReal) := fun j' => by
      rw [hDP, hL, hE, one_eq, ← EReal.coe_mul, div_real _ (mul_ne_zero hl hl), ← EReal.coe_mul, ← EReal.coe_mul]
    rw [G, Finset.sum_congr rfl fun j' _ => e j', ← coe_sum, hDP, hL, hE, div_real _ hl, ← EReal.coe_neg, ← EReal.coe_add, ← EReal.coe_mul]
  refine ⟨?_, ⟨_, hG⟩⟩
  rw [hG, ← Row.ds_eq, DS, hP, hDP, hDEL, ← EReal.coe_sub, ← EReal.coe_mul]

omit hY
/-- The kernel's probability is the softmax. -/
theorem PK_eq (b g : Fin 4) (i j : Fin 4096) : PK X b g i j = Ideal.div (E X b g i j) (L X b g i) ∧ IsReal (PK X b g i j) := by
  obtain ⟨R, hz, hM, hE, hL, hP⟩ := exists_row hX b g i
  exact ⟨by rw [hP, hE, hL, div_real _ R.l_pos.ne'], ⟨_, hP j⟩⟩

end

end Cert.Attn

end
-- ==== Proof.DqHost.lean ====
module

public import proofs.«01_k».proof.Proof.Gen.KernelIdeal.Value
public import proofs.«01_k».proof.Proof.AttnSpec
public import Idealize.ShloMosaic.Lib.Pipeline.ValueKit
public import Idealize.ShloMosaic.Lib.Pointwise

/-! The arrays the host prepares for the kernel: the logits, their maximum, the sum of exponentials, the attention output, and from these the log-sum and the row sums `do . o`. -/

@[expose] public section

set_option maxRecDepth 16384

noncomputable section

namespace Cert.KernelIdeal.Dq

open Cert.KernelIdeal Cert.KernelIdeal.Gen Idealize.ShloMosaic Idealize.ShloMosaic.TcCoe Idealize.SL.Sem

variable (x : FVec Ideal S4096x3072 .f32) (y : FVec Ideal S4096x2048 .f32)

def hq : FVec Ideal S4096x4x4x128 .f32 := shapeCast S4096x4x4x128 (extractStridedSlice S4096x2048 ![0, 0] x slices_S4096x3072_S4096x2048_0_0) shapeCasts_S4096x2048_S4096x4x4x128
def hk : FVec Ideal S4096x4x128 .f32 := shapeCast S4096x4x128 (extractStridedSlice S4096x512 ![0, 2048] x slices_S4096x3072_S4096x512_0_2048) shapeCasts_S4096x512_S4096x4x128
def hv : FVec Ideal S4096x4x128 .f32 := shapeCast S4096x4x128 (extractStridedSlice S4096x512 ![0, 2560] x slices_S4096x3072_S4096x512_0_2560) shapeCasts_S4096x512_S4096x4x128
/-- The scaled logits. -/
def hz : FVec Ideal S4x4x4096x4096 .f32 :=
  mulf (transpose S4x4x4096x4096 [0, 3, 2, 1] (Host.dotGeneral dot_S4096x4x128_S4096x4x4x128_S4x4096x4096x4_2_3_0_02_1_1 none (hk x) (hq x) : FVec Ideal S4x4096x4096x4 .f32) transposes_S4x4096x4096x4_S4x4x4096x4096_0_3_2_1)
    (broadcastInDim S4x4x4096x4096 ![] bcast_S_S4x4x4096x4096 (constant S_ .f32 0x3DB504F3#32))
def hmax : FVec Ideal S4x4x4096 .f32 := Host.reduce FloatOps.maximumf (hz x) (constant S_ .f32 0xFF800000#32) reducesTo_S4x4x4096x4096_S4x4x4096_d3 h_S_
def bc (M : FVec Ideal S4x4x4096 .f32) : FVec Ideal S4x4x4096x4096 .f32 :=
  broadcastInDim S4x4x4096x4096 ![0, 1, 2, 3] bcast_S4x4x4096x1_S4x4x4096x4096_0_1_2_3 (broadcastInDim S4x4x4096x1 ![0, 1, 2] bcast_S4x4x4096_S4x4x4096x1_0_1_2 M)
def hexp (M : FVec Ideal S4x4x4096 .f32) : FVec Ideal S4x4x4096x4096 .f32 := Host.exp (subf (hz x) (bc M))
def hsum (M : FVec Ideal S4x4x4096 .f32) : FVec Ideal S4x4x4096 .f32 :=
  Host.reduceAdd (hexp x M) (constant S_ .f32 0x00000000#32) reducesTo_S4x4x4096x4096_S4x4x4096_d3 h_S_
def hwide (L : FVec Ideal S4096x4x4 .f32) : FVec Ideal S4096x2048 .f32 :=
  shapeCast S4096x2048 (broadcastInDim S4096x4x4x128 ![0, 1, 2, 3] bcast_S4096x4x4x1_S4096x4x4x128_0_1_2_3
    (broadcastInDim S4096x4x4x1 ![0, 1, 2] bcast_S4096x4x4_S4096x4x4x1_0_1_2 L)) shapeCasts_S4096x4x4x128_S4096x2048
def hlse : FVec Ideal S4096x4x4 .f32 :=
  transpose S4096x4x4 [2, 0, 1] (addf (hmax x) (Host.log (hsum x (hmax x)))) transposes_S4x4x4096_S4096x4x4_2_0_1
def hmax' : FVec Ideal S4x4x4096 .f32 :=
  maximumf (broadcastInDim S4x4x4096 ![] bcast_S_S4x4x4096 (constant S_ .f32 0xFF800000#32)) (hmax x)
def hprob : FVec Ideal S4x4x4096x4096 .f32 := Host.divf (hexp x (hmax' x)) (bc (hsum x (hmax' x)))
def hout : FVec Ideal S4096x4x4x128 .f32 :=
  transpose S4096x4x4x128 [3, 0, 2, 1] (Host.dotGeneral dot_S4096x4x128_S4x4x4096x4096_S4x128x4x4096_0_3_2_12_1_0 none (hv x) (hprob x) : FVec Ideal S4x128x4x4096 .f32) transposes_S4x128x4x4096_S4096x4x4x128_3_0_2_1
def hdelta : FVec Ideal S4096x4x4 .f32 :=
  Host.reduceAdd (mulf (shapeCast S4096x4x4x128 y shapeCasts_S4096x2048_S4096x4x4x128) (hout x)) (constant S_ .f32 0x00000000#32) reducesTo_S4096x4x4x128_S4096x4x4_d3 h_S_

variable (m : (ℓ : Loc nD τ sig) → Buf (Elt Ideal) ℓ) (c : Dev nD)

theorem V45 : V m c main_v45 = m ((c : Thread nD τ).loc main_arg0) := by entry_read; rfl
theorem V46 : V m c main_v46 = m ((c : Thread nD τ).loc main_arg1) := by entry_read; rfl
theorem V41 : V m c main_v41 = hwide (hlse (m ((c : Thread nD τ).loc main_arg0))) := by entry_read; rfl
theorem V44 : V m c main_v44 = hwide (hdelta (m ((c : Thread nD τ).loc main_arg0)) (m ((c : Thread nD τ).loc main_arg1))) := by entry_read; rfl

/-- The packed projection and the cotangent by row and lane. -/
abbrev XM : Fin 4096 → Fin 3072 → EReal := fun i j => x (ix2 i j)
abbrev YM : Fin 4096 → Fin 2048 → EReal := fun i j => y (ix2 i j)

open Cert.Attn

theorem hz_at (b g : Fin 4) (i j : Fin 4096) : hz x (ix4 b g i j) = Z (XM x) b g i j := by
  pointwise [hz, hk, hq]
  rfl
theorem hmax_at (b g : Fin 4) (i : Fin 4096) : hmax x (ix3 b g i) = MX (XM x) b g i := by
  pointwise [hmax]
  exact congrArg (fun f => Finset.fold max _ f Finset.univ) (funext fun j => hz_at x b g i j)
theorem above_bot_at (M : FVec Ideal S4x4x4096 .f32) (b g : Fin 4) (i : Fin 4096) :
    maximumf (broadcastInDim S4x4x4096 ![] bcast_S_S4x4x4096 (constant S_ .f32 0xFF800000#32)) M (ix3 b g i)
      = max (Ideal.ofBits .f32 0xFF800000#32) (M (ix3 b g i)) := by
  pointwise
theorem hmax'_at (b g : Fin 4) (i : Fin 4096) : hmax' x (ix3 b g i) = MX (XM x) b g i :=
  (above_bot_at (hmax x) b g i).trans (by rw [hmax_at]; exact max_bot _ b g i)
theorem hwide_at (L : FVec Ideal S4096x4x4 .f32) (i : Fin 4096) (b g : Fin 4) (d : Fin 128) : hwide L (ix2 i (oi b g d)) = L (ix3 i b g) := by
  pointwise [hwide]
  have e1 : (oi b g d).val / 512 = b.val := by simp only [oi]; omega
  have e2 : (oi b g d).val / 128 % 4 = g.val := by simp only [oi]; omega
  exact congrArg₂ (fun b g => L (ix3 i b g)) (Fin.ext e1) (Fin.ext e2)
theorem hexp_at (M : FVec Ideal S4x4x4096 .f32) (hM : ∀ b g i, M (ix3 b g i) = MX (XM x) b g i) (b g : Fin 4) (i j : Fin 4096) :
    hexp x M (ix4 b g i j) = E (XM x) b g i j := by
  have e := hz_at x b g i j
  pointwise [hexp, bc]
  rw [e, hM]; rfl
theorem hsum_at (M : FVec Ideal S4x4x4096 .f32) (hM : ∀ b g i, M (ix3 b g i) = MX (XM x) b g i) (b g : Fin 4) (i : Fin 4096) :
    hsum x M (ix3 b g i) = L (XM x) b g i := by
  pointwise [hsum]
  exact Finset.sum_congr rfl fun j _ => hexp_at x M hM b g i j
theorem lse_form_at (M S : FVec Ideal S4x4x4096 .f32) (b g : Fin 4) (i : Fin 4096) :
    (transpose S4096x4x4 [2, 0, 1] (addf M (Host.log S)) transposes_S4x4x4096_S4096x4x4_2_0_1 : FVec Ideal S4096x4x4 .f32) (ix3 i b g)
      = M (ix3 b g i) + Ideal.log (S (ix3 b g i)) := by
  pointwise
theorem hlse_at (b g : Fin 4) (i : Fin 4096) : hlse x (ix3 i b g) = LSE (XM x) b g i :=
  (lse_form_at (hmax x) (hsum x (hmax x)) b g i).trans (by rw [hmax_at, hsum_at x (hmax x) (hmax_at x)]; rfl)
theorem hprob_at (b g : Fin 4) (i j : Fin 4096) : hprob x (ix4 b g i j) = Ideal.div (E (XM x) b g i j) (L (XM x) b g i) := by
  have e := hsum_at x (hmax' x) (hmax'_at x) b g i
  have e' := hexp_at x (hmax' x) (hmax'_at x) b g i j
  pointwise [hprob, bc]
  rw [e, e']
theorem hout_at (b g : Fin 4) (i : Fin 4096) (d : Fin 128) : hout x (ix4 i b g d) = O (XM x) b g i d := by
  pointwise [hout, hv]
  exact Finset.sum_congr rfl fun j _ => congrArg (_ * ·) (hprob_at x b g i j)
theorem hdelta_at (b g : Fin 4) (i : Fin 4096) : hdelta x y (ix3 i b g) = DEL (XM x) (YM y) b g i := by
  pointwise [hdelta]
  exact Finset.sum_congr rfl fun d _ => congrArg (_ * ·) (hout_at x b g i d)

end Cert.KernelIdeal.Dq

end
-- ==== Proof.DqTile.lean ====
module

public import proofs.«01_k».proof.Proof.Gen.KernelIdeal.Value
public import Idealize.ShloMosaic.Lib.Pipeline.ValueKit
public import Idealize.ShloMosaic.Lib.Pointwise

/-! One grid point of the attention gradient's kernel for the queries: the matrix `ds` of a head, formed in pieces of
sixteen rows, and what the point adds to the head's accumulator. -/

@[expose] public section

set_option maxRecDepth 16384

noncomputable section

namespace Cert.KernelIdeal.Dq

open Cert.KernelIdeal Cert.KernelIdeal.Gen Idealize.ShloMosaic Idealize.ShloMosaic.TcCoe Idealize.SL.Sem

/-- A row's value, held in 128 equal lanes, laid along 2048 lanes. -/
def wide (L : Vec Ideal S16x128 .f32) : FVec Ideal S16x2048 .f32 :=
  let v : FVec Ideal S16x128 .f32 := shapeCast S16x128 L shapeCasts_S16x128_S16x128
  concatenate S16x2048 1 [⟨S16x128, v⟩, ⟨S16x128, v⟩, ⟨S16x128, v⟩, ⟨S16x128, v⟩, ⟨S16x128, v⟩, ⟨S16x128, v⟩, ⟨S16x128, v⟩,
    ⟨S16x128, v⟩, ⟨S16x128, v⟩, ⟨S16x128, v⟩, ⟨S16x128, v⟩, ⟨S16x128, v⟩, ⟨S16x128, v⟩, ⟨S16x128, v⟩, ⟨S16x128, v⟩, ⟨S16x128, v⟩]
    concatenates_S16x128_S16x128_S16x128_S16x128_S16x128_S16x128_S16x128_S16x128_S16x128_S16x128_S16x128_S16x128_S16x128_S16x128_S16x128_S16x128_S16x2048_d1

theorem slices_piece (n : Fin 64) : S1024x2048.Slices ![16 * n.val, 0] S16x2048 :=
  ⟨rfl, fun a => by fin_cases a <;> simp [S16x2048, S1024x2048] <;> omega⟩

theorem inb_row (n : Fin 64) (h : Fin 4) : ∀ a, (![16 * n.val, 128 * h.val] : Fin 2 → Nat) a + S16x128.size a ≤ S1024x512.size a :=
  fun a => by fin_cases a <;> simp [S16x128, S1024x512] <;> omega

theorem inb_head (h : Fin 4) : ∀ a, (![0, 128 * h.val] : Fin 2 → Nat) a + S1024x128.size a ≤ S1024x512.size a :=
  fun a => by fin_cases a <;> simp [S1024x128, S1024x512] <;> omega

/-- Rows `16 n … 16 n + 15` of `ds = p (dp - dlt)`, `p = exp (s scale - lse)`. -/
def piece (s dp : FVec Ideal S1024x2048 .f32) (L D : Vec Ideal S16x128 .f32) (n : Fin 64) : FVec Ideal S16x2048 .bf16 :=
  truncf .bf16 (mulf (exp (subf (mulf (extractStridedSlice S16x2048 ![16 * n.val, 0] s (slices_piece n))
    (broadcast S16x2048 (Scalar.ofBits .f32 0x3DB504F3#32))) (wide L)))
    (subf (extractStridedSlice S16x2048 ![16 * n.val, 0] dp (slices_piece n)) (wide D))) bitsLt_bf16_f32

variable (x0 : Vec Ideal S1024x512 .bf16) (x1 x2 : Vec Ideal S2048x128 .bf16) (x3 : Vec Ideal S1024x512 .bf16)
  (x4 x5 : Vec Ideal S1024x512 .f32)

/-- The pieces of head `h`. -/
def pieces (h : Fin 4) (n : Fin 64) : FVec Ideal S16x2048 .bf16 :=
  piece (k0_pay7 (View.ld x0 (Rect.unit ![0, 128 * h.val] ![1024, 128] (inb_head h))) x1)
    (k0_pay8 (View.ld x3 (Rect.unit ![0, 128 * h.val] ![1024, 128] (inb_head h))) x2)
    (View.ld x4 (Rect.unit ![16 * n.val, 128 * h.val] ![16, 128] (inb_row n h)))
    (View.ld x5 (Rect.unit ![16 * n.val, 128 * h.val] ![16, 128] (inb_row n h))) n

theorem concatenates_pieces (f : Fin 64 → FVec Ideal S16x2048 .bf16) :
    Shape.Concatenates ((List.ofFn fun n : Fin 64 => (⟨S16x2048, f n⟩ : (s : Shape) × FVec Ideal s .bf16)).map (·.1)) S1024x2048 0 := by
  have e : (List.ofFn fun n : Fin 64 => (⟨S16x2048, f n⟩ : (s : Shape) × FVec Ideal s .bf16)).map (·.1) = List.replicate 64 S16x2048 := by
    rw [List.map_ofFn]; exact List.ofFn_const _ _
  rw [e]; decide +kernel

/-- The matrix `ds` of head `h`. -/
def dsMat (h : Fin 4) : FVec Ideal S1024x2048 .bf16 :=
  concatenate S1024x2048 0 (List.ofFn fun n : Fin 64 => (⟨S16x2048, pieces x0 x1 x2 x3 x4 x5 h n⟩ : (s : Shape) × FVec Ideal s .bf16))
    (concatenates_pieces _)

/-- What the point leaves in head `h`'s accumulator over `acc`: `acc + ds k`. -/
def upd (h : Fin 4) (acc : Vec Ideal S1x1024x128 .f32) : FVec Ideal S1x1024x128 .f32 :=
  k0_pay1 (dsMat x0 x1 x2 x3 x4 x5 h) (k0_pay356 acc) (k0_pay357 x1) (constant S1024x128 .f32 0x00000000#32)

/-- Head `h`'s rows of the accumulator. -/
theorem inb_acc (h : Fin 4) : ∀ a, (![h.val, 0, 0] : Fin 3 → Nat) a + S1x1024x128.size a ≤ S4x1024x128.size a :=
  fun a => by fin_cases a <;> simp [S1x1024x128, S4x1024x128] <;> omega

abbrev accRect (h : Fin 4) : Rect S4x1024x128 := Rect.unit ![h.val, 0, 0] S1x1024x128.size (inb_acc h)

/-- The pieces written on the accumulator at a point that begins the sum: the zero block, then the heads in order, each
read, added to, and stored. -/
def listA (v : View sig .tc .vmem S4x1024x128 .f32) : Nat → List (View.Piece (Elt Ideal) S4x1024x128 .f32)
  | 0 => [⟨Rect.unit ![0, 0, 0] S4x1024x128.size inb_S4x1024x128_S4x1024x128_0_0_0, k0_pay6 (F := Ideal)⟩]
  | n + 1 => if hn : n < 4 then
      ⟨accRect ⟨n, hn⟩, upd x0 x1 x2 x3 x4 x5 ⟨n, hn⟩ (v.readCov (listA v n) (accRect ⟨n, hn⟩).toLoadRect)⟩ :: listA v n
    else listA v n

/-- The pieces written on the accumulator at a point that goes on with the sum `u`. -/
def listB (u : Vec Ideal S4x1024x128 .f32) : List (View.Piece (Elt Ideal) S4x1024x128 .f32) :=
  [⟨accRect 3, upd x0 x1 x2 x3 x4 x5 3 (View.ld u (accRect 3))⟩, ⟨accRect 2, upd x0 x1 x2 x3 x4 x5 2 (View.ld u (accRect 2))⟩,
    ⟨accRect 1, upd x0 x1 x2 x3 x4 x5 1 (View.ld u (accRect 1))⟩, ⟨accRect 0, upd x0 x1 x2 x3 x4 x5 0 (View.ld u (accRect 0))⟩]

/-- What that point writes of head `h`: the finished sum, scaled. -/
def outPiece (v : View sig .tc .vmem S4x1024x128 .f32) (u : Vec Ideal S4x1024x128 .f32) (h : Fin 4) :
    View.Piece (Elt Ideal) S1024x512 .f32 :=
  ⟨Rect.unit ![0, 128 * h.val] ![1024, 128] (inb_head h),
    k0_pay2 (v.readCov (listB x0 x1 x2 x3 x4 x5 u) (accRect h).toLoadRect)⟩

end Cert.KernelIdeal.Dq

end
-- ==== Proof.DqAt.lean ====
module

public import proofs.«01_k».proof.Proof.DqTile
public import Idealize.ShloMosaic.Lib.Pipeline.ValueKit
public import Idealize.ShloMosaic.Lib.Pointwise

/-! The pieces of `ds`, the matrix and the accumulated product read at an entry. -/

@[expose] public section

set_option maxRecDepth 16384

noncomputable section

namespace Cert.KernelIdeal.Dq

open Cert.KernelIdeal Cert.KernelIdeal.Gen Idealize.ShloMosaic Idealize.ShloMosaic.TcCoe Idealize.SL.Sem

/-- A column's lane. -/
def lane (j : Fin 2048) : Fin 128 := ⟨j.val % 128, Nat.mod_lt _ (by norm_num)⟩

theorem wide_at (L : Vec Ideal S16x128 .f32) (r : Fin 16) (j : Fin 2048) : wide L (ix2 r j) = L (ix2 r (lane j)) := by
  have e : wide L (ix2 r j) = (shapeCast S16x128 L shapeCasts_S16x128_S16x128 : FVec Ideal S16x128 .f32) (ix2 r (lane j)) := by
    refine concatenate_ofFn_apply (N := 16) (t := S16x2048) (s₁ := S16x128) 1
      (fun _ => (shapeCast S16x128 L shapeCasts_S16x128_S16x128 : FVec Ideal S16x128 .f32))
      concatenates_S16x128_S16x128_S16x128_S16x128_S16x128_S16x128_S16x128_S16x128_S16x128_S16x128_S16x128_S16x128_S16x128_S16x128_S16x128_S16x128_S16x2048_d1 rfl 128 rfl (ix2 r j)
      ⟨j.val / 128, by omega⟩ rfl (ix2 r (lane j)) rfl ?_
    intro b hb; fin_cases b
    · rfl
    · exact absurd rfl hb
  rw [e]; pointwise

/-- Row `16 n + r`. -/
def rowOf (n : Fin 64) (r : Fin 16) : Fin 1024 := ⟨16 * n.val + r.val, by omega⟩

theorem piece_at (s dp : FVec Ideal S1024x2048 .f32) (L D : Vec Ideal S16x128 .f32) (n : Fin 64) (r : Fin 16) (j : Fin 2048) :
    piece s dp L D n (ix2 r j) = Ideal.exp (s (ix2 (rowOf n r) j) * Ideal.ofBits .f32 0x3DB504F3#32 - L (ix2 r (lane j)))
      * (dp (ix2 (rowOf n r) j) - D (ix2 r (lane j))) := by
  have hs (X : FVec Ideal S1024x2048 .f32) : extractStridedSlice S16x2048 ![16 * n.val, 0] X (slices_piece n) (ix2 r j)
      = X (ix2 (rowOf n r) j) := congrArg X (funext fun a => Fin.ext (by fin_cases a <;> simp [rowOf, ix2]))
  rw [← wide_at L, ← wide_at D, ← hs s, ← hs dp]
  rfl

variable (x0 : Vec Ideal S1024x512 .bf16) (x1 x2 : Vec Ideal S2048x128 .bf16) (x3 : Vec Ideal S1024x512 .bf16)
  (x4 x5 : Vec Ideal S1024x512 .f32)

/-- Lane `d` of head `h`. -/
def headLane (h : Fin 4) (d : Fin 128) : Fin 512 := ⟨128 * h.val + d.val, by omega⟩

theorem ld_head {e : EltTy} (X : Vec Ideal S1024x512 e) (h : Fin 4) (r : Fin 1024) (d : Fin 128) :
    View.ld X (Rect.unit ![0, 128 * h.val] ![1024, 128] (inb_head h)) (ix2 r d) = X (ix2 r (headLane h d)) :=
  View.ld_unit_apply_of X _ _ _ _ _ fun a => by fin_cases a <;> simp [headLane, ix2]

theorem ld_row {e : EltTy} (X : Vec Ideal S1024x512 e) (n : Fin 64) (h : Fin 4) (r : Fin 16) (d : Fin 128) :
    View.ld X (Rect.unit ![16 * n.val, 128 * h.val] ![16, 128] (inb_row n h)) (ix2 r d) = X (ix2 (rowOf n r) (headLane h d)) :=
  View.ld_unit_apply_of X _ _ _ _ _ fun a => by fin_cases a <;> simp [headLane, rowOf, ix2]

/-- The product of a head's rows with the rows of the keys. -/
def nt (q : Vec Ideal S1024x512 .bf16) (k : Vec Ideal S2048x128 .bf16) (h : Fin 4) (r : Fin 1024) (j : Fin 2048) : EReal :=
  ∑ d : Fin 128, q (ix2 r (headLane h d)) * k (ix2 j d)

/-- The entry of `ds`. -/
def dsAt (h : Fin 4) (r : Fin 1024) (j : Fin 2048) : EReal :=
  Ideal.exp (nt x0 x1 h r j * Ideal.ofBits .f32 0x3DB504F3#32 - x4 (ix2 r (headLane h (lane j))))
    * (nt x3 x2 h r j - x5 (ix2 r (headLane h (lane j))))

theorem pay7_at (q : Vec Ideal S1024x128 .bf16) (k : Vec Ideal S2048x128 .bf16) (r : Fin 1024) (j : Fin 2048) :
    k0_pay7 q k (ix2 r j) = ∑ d : Fin 128, q (ix2 r d) * k (ix2 j d) := by
  pointwise [k0_pay7]

theorem pay8_at (q : Vec Ideal S1024x128 .bf16) (k : Vec Ideal S2048x128 .bf16) (r : Fin 1024) (j : Fin 2048) :
    k0_pay8 q k (ix2 r j) = ∑ d : Fin 128, q (ix2 r d) * k (ix2 j d) := by
  pointwise [k0_pay8]

theorem pieces_at (h : Fin 4) (n : Fin 64) (r : Fin 16) (j : Fin 2048) :
    pieces x0 x1 x2 x3 x4 x5 h n (ix2 r j) = dsAt x0 x1 x2 x3 x4 x5 h (rowOf n r) j := by
  have e7 : k0_pay7 (View.ld x0 (Rect.unit ![0, 128 * h.val] ![1024, 128] (inb_head h))) x1 (ix2 (rowOf n r) j) = nt x0 x1 h (rowOf n r) j :=
    (pay7_at _ _ _ _).trans (Finset.sum_congr rfl fun d _ => congrArg (· * _) (ld_head x0 h _ d))
  have e8 : k0_pay8 (View.ld x3 (Rect.unit ![0, 128 * h.val] ![1024, 128] (inb_head h))) x2 (ix2 (rowOf n r) j) = nt x3 x2 h (rowOf n r) j :=
    (pay8_at _ _ _ _).trans (Finset.sum_congr rfl fun d _ => congrArg (· * _) (ld_head x3 h _ d))
  have e4 := ld_row x4 n h r (lane j)
  have e5 := ld_row x5 n h r (lane j)
  refine (piece_at _ _ _ _ _ _ _).trans ?_
  rw [e7, e8, dsAt]
  exact congrArg₂ (fun a b => Ideal.exp (_ - a) * (_ - b)) e4 e5

theorem dsMat_at (h : Fin 4) (r : Fin 1024) (j : Fin 2048) :
    dsMat x0 x1 x2 x3 x4 x5 h (ix2 r j) = dsAt x0 x1 x2 x3 x4 x5 h r j := by
  have e := concatenate_ofFn_apply (N := 64) (t := S1024x2048) (s₁ := S16x2048) 0
    (fun n => pieces x0 x1 x2 x3 x4 x5 h n) (concatenates_pieces _) rfl 16 rfl (ix2 r j)
    ⟨r.val / 16, by omega⟩ rfl (ix2 ⟨r.val % 16, Nat.mod_lt _ (by norm_num)⟩ j) rfl
    (fun b hb => by
      fin_cases b
      · exact absurd rfl hb
      · rfl)
  refine e.trans ?_
  rw [pieces_at]
  exact congrArg (fun r => dsAt x0 x1 x2 x3 x4 x5 h r j) (Fin.ext (Nat.div_add_mod r.val 16))

theorem upd_at (h : Fin 4) (acc : Vec Ideal S1x1024x128 .f32) (r : Fin 1024) (d : Fin 128) :
    upd x0 x1 x2 x3 x4 x5 h acc (ix3 0 r d)
      = acc (ix3 0 r d) + ∑ j : Fin 2048, dsAt x0 x1 x2 x3 x4 x5 h r j * x1 (ix2 j d) := by
  have e : ∀ M : FVec Ideal S1024x2048 .bf16, k0_pay1 M (k0_pay356 acc) (k0_pay357 x1) (constant S1024x128 .f32 0x00000000#32) (ix3 0 r d)
      = acc (ix3 0 r d) + ∑ j : Fin 2048, M (ix2 r j) * x1 (ix2 j d) := by
    intro M
    pointwise [k0_pay1, k0_pay356, k0_pay357]
  rw [upd, e]
  exact congrArg _ (Finset.sum_congr rfl fun j _ => by rw [dsMat_at])

end Cert.KernelIdeal.Dq

end
-- ==== Proof.DqAcc.lean ====
module

public import proofs.«01_k».proof.Proof.DqAt
public import Idealize.ShloMosaic.Lib.Pipeline.ValueKit
public import Idealize.ShloMosaic.Lib.Pointwise

/-! The accumulator read back: what a point leaves of the sum, and what the last point writes. -/

@[expose] public section

set_option maxRecDepth 16384

noncomputable section

namespace Cert.KernelIdeal.Dq

open Cert.KernelIdeal Cert.KernelIdeal.Gen Idealize.ShloMosaic Idealize.ShloMosaic.TcCoe Idealize.SL.Sem

variable (x0 : Vec Ideal S1024x512 .bf16) (x1 x2 : Vec Ideal S2048x128 .bf16) (x3 : Vec Ideal S1024x512 .bf16)
  (x4 x5 : Vec Ideal S1024x512 .f32)

/-- One point's part of the gradient: `ds k`. -/
def part (h : Fin 4) (r : Fin 1024) (d : Fin 128) : EReal := ∑ j : Fin 2048, dsAt x0 x1 x2 x3 x4 x5 h r j * x1 (ix2 j d)

theorem acc_emb (h : Fin 4) (r : Fin 1024) (d : Fin 128) : (accRect h).emb (ix3 0 r d) = ix3 h r d := by
  funext a; apply Fin.ext; rw [Rect.emb_apply]; fin_cases a <;> simp [ix3]

theorem acc_not_mem {h h' : Fin 4} (hh : h ≠ h') (r : Fin 1024) (d : Fin 128) : (ix3 h r d : S4x1024x128.Idx) ∉ (accRect h').set := by
  rw [Rect.mem_set_unit]; intro H
  have := H 0
  simp [ix3, S1x1024x128] at this
  exact hh (Fin.ext (by omega))

theorem whole_emb (h : Fin 4) (r : Fin 1024) (d : Fin 128) :
    (Rect.unit ![0, 0, 0] S4x1024x128.size inb_S4x1024x128_S4x1024x128_0_0_0).emb (ix3 h r d) = ix3 h r d := by
  funext a; apply Fin.ext; rw [Rect.emb_apply]; fin_cases a <;> simp [ix3]

/-- Four pieces read back where one of them, and no other, holds the entry. -/
theorem canon_four {S : Shape} {e : EltTy} (R : Fin 4 → Rect S) (P : (k : Fin 4) → (R k).shape.Idx → Elt Ideal e) (k : Fin 4)
    (x : (R k).shape.Idx) (hd : ∀ k', k ≠ k' → (R k).emb x ∉ (R k').set) :
    View.canon [(⟨R 3, P 3⟩ : View.Piece (Elt Ideal) S e), ⟨R 2, P 2⟩, ⟨R 1, P 1⟩, ⟨R 0, P 0⟩] ((R k).emb x) = P k x := by
  refine View.canon_eq_of_allAt _ _ _ ⟨⟨R k, P k⟩, ?_, ?_⟩ ?_
  · fin_cases k <;> simp
  · exact (Rect.map_emb_univ (R k)) ▸ Finset.mem_map_of_mem _ (Finset.mem_univ x)
  · intro p hp
    obtain ⟨k', rfl⟩ : ∃ k', p = ⟨R k', P k'⟩ := by
      simp only [List.mem_cons, List.not_mem_nil, or_false] at hp
      rcases hp with h | h | h | h
      exacts [⟨3, h⟩, ⟨2, h⟩, ⟨1, h⟩, ⟨0, h⟩]
    intro x' hx'
    by_cases hk : k = k'
    · subst hk
      rw [(R k).emb.injective hx']
    · refine absurd ?_ (hd k' hk)
      rw [← hx']
      exact (Rect.map_emb_univ (R k')) ▸ Finset.mem_map_of_mem _ (Finset.mem_univ x')

theorem canon_listA (v : View sig .tc .vmem S4x1024x128 .f32) (h : Fin 4) (r : Fin 1024) (d : Fin 128) : ∀ n : Nat, n ≤ 4 →
    View.canon (listA x0 x1 x2 x3 x4 x5 v n) (ix3 h r d) = if h.val < n then part x0 x1 x2 x3 x4 x5 h r d else 0
  | 0, _ => by
    rw [if_neg (by omega), listA, ← whole_emb, View.canon_cons_emb]
    pointwise [k0_pay6]
  | n + 1, hn => by
    have IH := canon_listA v h r d n (by omega)
    rw [listA, dif_pos (by omega : n < 4)]
    by_cases e : h.val = n
    · subst e
      rw [← acc_emb h r d, View.canon_cons_emb, if_pos (by omega)]
      refine (upd_at _ _ _ _ _ _ _ _ _ _).trans ?_
      rw [View.readCov_eq_canon']
      have IH' : View.canon (listA x0 x1 x2 x3 x4 x5 v h.val) ((accRect h).emb (ix3 0 r d)) = 0 := by
        rw [acc_emb, IH, if_neg (by omega)]
      exact (congrArg (· + _) IH').trans (zero_add _)
    · rw [View.canon_cons_of_not_mem, IH]
      · by_cases q : h.val < n
        · rw [if_pos q, if_pos (by omega)]
        · rw [if_neg q, if_neg (by omega)]
      · exact acc_not_mem (fun E => e (by rw [E])) r d

theorem canon_listB (u : Vec Ideal S4x1024x128 .f32) (h : Fin 4) (r : Fin 1024) (d : Fin 128) :
    View.canon (listB x0 x1 x2 x3 x4 x5 u) (ix3 h r d) = u (ix3 h r d) + part x0 x1 x2 x3 x4 x5 h r d := by
  have e := canon_four (e := .f32) accRect (fun h => upd x0 x1 x2 x3 x4 x5 h (View.ld u (accRect h))) h (ix3 0 r d)
    (fun k hk => by rw [acc_emb]; exact acc_not_mem hk r d)
  rw [acc_emb] at e
  refine e.trans ?_
  rw [upd_at, part]
  exact congrArg (· + _) (congrArg u (acc_emb h r d))

theorem pay2_at (w : Vec Ideal S1x1024x128 .f32) (r : Fin 1024) (d : Fin 128) :
    k0_pay2 w (ix2 r d) = w (ix3 0 r d) * Ideal.ofBits .f32 0x3DB504F3#32 := by
  pointwise [k0_pay2]

theorem head_emb (h : Fin 4) (r : Fin 1024) (d : Fin 128) :
    (Rect.unit ![0, 128 * h.val] ![1024, 128] (inb_head h)).emb (ix2 r d) = ix2 r (headLane h d) := by
  funext a; apply Fin.ext; rw [Rect.emb_apply]; fin_cases a <;> simp [ix2, headLane]

theorem head_not_mem {h h' : Fin 4} (hh : h ≠ h') (r : Fin 1024) (d : Fin 128) :
    (ix2 r (headLane h d) : S1024x512.Idx) ∉ (Rect.unit (s := S1024x512) ![0, 128 * h'.val] ![1024, 128] (inb_head h')).set := by
  rw [Rect.mem_set_unit]; intro H
  have := H 1
  simp [ix2, headLane] at this
  exact hh (Fin.ext (by omega))

/-- What the last point writes, at a head's entry: the carried sum and its own part, scaled. -/
theorem canon_out (v : View sig .tc .vmem S4x1024x128 .f32) (u : Vec Ideal S4x1024x128 .f32) (h : Fin 4) (r : Fin 1024) (d : Fin 128) :
    View.canon [outPiece x0 x1 x2 x3 x4 x5 v u 3, outPiece x0 x1 x2 x3 x4 x5 v u 2, outPiece x0 x1 x2 x3 x4 x5 v u 1,
      outPiece x0 x1 x2 x3 x4 x5 v u 0] (ix2 r (headLane h d))
      = (u (ix3 h r d) + part x0 x1 x2 x3 x4 x5 h r d) * Ideal.ofBits .f32 0x3DB504F3#32 := by
  have e := canon_four (e := .f32) (fun h => Rect.unit (s := S1024x512) ![0, 128 * h.val] ![1024, 128] (inb_head h))
    (fun h => k0_pay2 (v.readCov (listB x0 x1 x2 x3 x4 x5 u) (accRect h).toLoadRect)) h (ix2 r d)
    (fun k hk => by rw [head_emb]; exact head_not_mem hk r d)
  rw [head_emb] at e
  refine e.trans ?_
  rw [pay2_at, View.readCov_eq_canon', ← canon_listB]
  exact congrArg (fun y => View.canon (listB x0 x1 x2 x3 x4 x5 u) y * _) (acc_emb h r d)

end Cert.KernelIdeal.Dq

end
-- ==== Proof.DqOut.lean ====
module

public import proofs.«01_k».proof.Proof.DqTile
public import Idealize.ShloMosaic.Lib.Pipeline.ValueKit
public import Idealize.ShloMosaic.Lib.Pointwise

/-! The kernel's body as the frame states it, a matter of unfolding: the accumulator after a point that begins the sum,
and the block written by a point that ends it. -/

@[expose] public section
set_option maxRecDepth 16384
noncomputable section
namespace Cert.KernelIdeal.Dq
open Cert.KernelIdeal Cert.KernelIdeal.Gen Idealize.ShloMosaic Idealize.ShloMosaic.TcCoe Idealize.SL.Sem

set_option maxHeartbeats 8000000 in
theorem soutA (c : Dev nD) (i : grid0.Coords) (arg3 : Memref sig .tc .vmem S1024x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S4x1024x128 .f32) (harg10 : arg10.IsWhole) (hc0 : cond0_0 i) (hc1 : ¬cond0_1 i)
    (x0 : Vec Ideal S1024x512 .bf16) (x1 : Vec Ideal S2048x128 .bf16) (x2 : Vec Ideal S2048x128 .bf16) (x3 : Vec Ideal S1024x512 .bf16) (x4 : Vec Ideal S1024x512 .f32) (x5 : Vec Ideal S1024x512 .f32) (y : S4x1024x128.Idx) :
   sout0_A_0 c i arg3 harg3 arg4 harg4 arg5 harg5 arg6 harg6 arg7 harg7 arg8 harg8 arg9 harg9 arg10 harg10 hc0 hc1 x0 x1 x2 x3 x4 x5 y = View.canon (listA x0 x1 x2 x3 x4 x5 arg10.view 4) y := by
  frame_out
  exact rfl

set_option maxHeartbeats 8000000 in
theorem outB (c : Dev nD) (i : grid0.Coords) (arg3 : Memref sig .tc .vmem S1024x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S4x1024x128 .f32) (harg10 : arg10.IsWhole) (hc0 : ¬cond0_0 i) (hc1 : cond0_1 i)
    (x0 : Vec Ideal S1024x512 .bf16) (x1 : Vec Ideal S2048x128 .bf16) (x2 : Vec Ideal S2048x128 .bf16) (x3 : Vec Ideal S1024x512 .bf16) (x4 : Vec Ideal S1024x512 .f32) (x5 : Vec Ideal S1024x512 .f32) (xs0 : Vec Ideal S4x1024x128 .f32) (y : S1024x512.Idx) :
   out0_B_6 c i arg3 harg3 arg4 harg4 arg5 harg5 arg6 harg6 arg7 harg7 arg8 harg8 arg9 harg9 arg10 harg10 hc0 hc1 x0 x1 x2 x3 x4 x5 xs0 y = View.canon [outPiece x0 x1 x2 x3 x4 x5 arg10.view xs0 3, outPiece x0 x1 x2 x3 x4 x5 arg10.view xs0 2,
     outPiece x0 x1 x2 x3 x4 x5 arg10.view xs0 1, outPiece x0 x1 x2 x3 x4 x5 arg10.view xs0 0] y := by
  frame_out
  exact rfl

end Cert.KernelIdeal.Dq

end
-- ==== Proof.DqValue.lean ====
module

public import proofs.«01_k».proof.Proof.DqHost
public import proofs.«01_k».proof.Proof.DqAcc
public import proofs.«01_k».proof.Proof.DqOut
public import Idealize.ShloMosaic.Lib.Pipeline.ValueKit
public import Idealize.ShloMosaic.Lib.Pointwise

/-! The kernel's result: at each grid point the blocks are those of the packed projection, and the two halves of the keys add up. -/

@[expose] public section

set_option maxRecDepth 16384

noncomputable section

namespace Cert.KernelIdeal.Dq

open Cert.KernelIdeal Cert.KernelIdeal.Gen Idealize.ShloMosaic Idealize.ShloMosaic.TcCoe Idealize.SL.Sem

open Cert.Attn

variable (m : (ℓ : Loc nD τ sig) → Buf (Elt Ideal) ℓ)

theorem idx_val : ∀ t : Fin cfg0.N, win0_0.index t = ![t.val / 2 % 4, t.val / 8] ∧ win0_1.index t = ![t.val % 2, 16 + t.val / 8]
    ∧ win0_2.index t = ![t.val % 2, 20 + t.val / 8] ∧ win0_3.index t = ![t.val / 2 % 4, t.val / 8]
    ∧ win0_4.index t = ![t.val / 2 % 4, t.val / 8] ∧ win0_5.index t = ![t.val / 2 % 4, t.val / 8]
    ∧ win0_6.index t = ![t.val / 2 % 4, t.val / 8] :=
  (by decide +kernel : ∀ t : Fin grid0.N, _)

/-- The query row, the key row and the group of a grid point. -/
def qrow (t : Fin cfg0.N) (r : Fin 1024) : Fin 4096 := ⟨t.val / 2 % 4 * 1024 + r.val, by omega⟩
def krow (t : Fin cfg0.N) (j : Fin 2048) : Fin 4096 := ⟨t.val % 2 * 2048 + j.val, by omega⟩
def grp (t : Fin cfg0.N) : Fin 4 := ⟨t.val / 8, by have : t.val < 32 := t.isLt; omega⟩

theorem rd0 (A : FVec Ideal S4096x3072 .f32) (t : Fin cfg0.N) (r : Fin 1024) (h : Fin 4) (d : Fin 128) :
    ((cfg0.win 0).blk t).view.read (Elt Ideal) A (ix2 r (headLane h d)) = A (ix2 (qrow t r) (qi (grp t) h d)) := by
  blk_point [idx_val t, qrow, grp, qi, headLane]

theorem rd1 (A : FVec Ideal S4096x3072 .f32) (t : Fin cfg0.N) (j : Fin 2048) (d : Fin 128) :
    ((cfg0.win 1).blk t).view.read (Elt Ideal) A (ix2 j d) = A (ix2 (krow t j) (ki (grp t) d)) := by
  blk_point [idx_val t, krow, grp, ki]

theorem rd2 (A : FVec Ideal S4096x3072 .f32) (t : Fin cfg0.N) (j : Fin 2048) (d : Fin 128) :
    ((cfg0.win 2).blk t).view.read (Elt Ideal) A (ix2 j d) = A (ix2 (krow t j) (vi (grp t) d)) := by
  blk_point [idx_val t, krow, grp, vi]

theorem rd3 (A : FVec Ideal S4096x2048 .f32) (t : Fin cfg0.N) (r : Fin 1024) (h : Fin 4) (d : Fin 128) :
    ((cfg0.win 3).blk t).view.read (Elt Ideal) A (ix2 r (headLane h d)) = A (ix2 (qrow t r) (oi (grp t) h d)) := by
  blk_point [idx_val t, qrow, grp, oi, headLane]

theorem rd4 (A : FVec Ideal S4096x2048 .f32) (t : Fin cfg0.N) (r : Fin 1024) (h : Fin 4) (d : Fin 128) :
    ((cfg0.win 4).blk t).view.read (Elt Ideal) A (ix2 r (headLane h d)) = A (ix2 (qrow t r) (oi (grp t) h d)) := by
  blk_point [idx_val t, qrow, grp, oi, headLane]

theorem rd5 (A : FVec Ideal S4096x2048 .f32) (t : Fin cfg0.N) (r : Fin 1024) (h : Fin 4) (d : Fin 128) :
    ((cfg0.win 5).blk t).view.read (Elt Ideal) A (ix2 r (headLane h d)) = A (ix2 (qrow t r) (oi (grp t) h d)) := by
  blk_point [idx_val t, qrow, grp, oi, headLane]

/-- The packed projection and the cotangent of a device. -/
abbrev Xm (c : Dev nD) : Fin 4096 → Fin 3072 → EReal := XM (m ((c : Thread nD τ).loc main_arg0))
abbrev Ym (c : Dev nD) : Fin 4096 → Fin 2048 → EReal := YM (m ((c : Thread nD τ).loc main_arg1))

/-- The sum over a half of the keys, from what the six blocks hold. -/
theorem part_of (x0 x3 x4 x5 : FVec Ideal S1024x512 .f32) (x1 x2 : FVec Ideal S2048x128 .f32) (X : Fin 4096 → Fin 3072 → EReal) (Y : Fin 4096 → Fin 2048 → EReal)
    (b : Fin 4) (q : Fin 1024 → Fin 4096) (k : Fin 2048 → Fin 4096)
    (e0 : ∀ r h d, x0 (ix2 r (headLane h d)) = X (q r) (qi b h d)) (e1 : ∀ j d, x1 (ix2 j d) = X (k j) (ki b d))
    (e2 : ∀ j d, x2 (ix2 j d) = X (k j) (vi b d)) (e3 : ∀ r h d, x3 (ix2 r (headLane h d)) = Y (q r) (oi b h d))
    (e4 : ∀ r h d, x4 (ix2 r (headLane h d)) = LSE X b h (q r)) (e5 : ∀ r h d, x5 (ix2 r (headLane h d)) = DEL X Y b h (q r))
    (h : Fin 4) (r : Fin 1024) (d : Fin 128) :
    part x0 x1 x2 x3 x4 x5 h r d = ∑ j : Fin 2048, DS X Y b h (q r) (k j) * X (k j) (ki b d) := by
  refine Finset.sum_congr rfl fun j _ => congrArg₂ (· * ·) ?_ (e1 j d)
  have z : nt x0 x1 h r j * Ideal.ofBits .f32 0x3DB504F3#32 = Z X b h (q r) (k j) :=
    congrArg (· * _) (Finset.sum_congr rfl fun d _ => (congrArg₂ (· * ·) (e0 r h d) (e1 j d)).trans (mul_comm _ _))
  have p : nt x3 x2 h r j = DP X Y b h (q r) (k j) :=
    Finset.sum_congr rfl fun d _ => congrArg₂ (· * ·) (e3 r h d) (e2 j d)
  rw [dsAt, z, p, e4, e5]
  rfl

/-- A grid point's part of the gradient. -/
theorem part_at (c : Dev nD) (t : Fin cfg0.N) (h : Fin 4) (r : Fin 1024) (d : Fin 128) :
    part (iblk m c 0 t) (iblk m c 1 t) (iblk m c 2 t) (iblk m c 3 t) (iblk m c 4 t) (iblk m c 5 t) h r d
      = ∑ j : Fin 2048, DS (Xm m c) (Ym m c) (grp t) h (qrow t r) (krow t j) * Xm m c (krow t j) (ki (grp t) d) :=
  part_of _ _ _ _ _ _ (Xm m c) (Ym m c) (grp t) (qrow t) (krow t)
    (fun r h d => (rd0 (V m c main_v45) t r h d).trans (congrFun (V45 m c) _))
    (fun j d => (rd1 (V m c main_v45) t j d).trans (congrFun (V45 m c) _))
    (fun j d => (rd2 (V m c main_v45) t j d).trans (congrFun (V45 m c) _))
    (fun r h d => (rd3 (V m c main_v46) t r h d).trans (congrFun (V46 m c) _))
    (fun r h d => ((rd4 (V m c main_v41) t r h d).trans (congrFun (V41 m c) _)).trans ((hwide_at _ _ _ _ _).trans (hlse_at _ _ _ _)))
    (fun r h d => ((rd5 (V m c main_v44) t r h d).trans (congrFun (V44 m c) _)).trans ((hwide_at _ _ _ _ _).trans (hdelta_at _ _ _ _ _)))
    h r d

/-- What the kernel leaves of head `g` of group `b` at query `i`. -/
def DQK (X : Fin 4096 → Fin 3072 → EReal) (Y : Fin 4096 → Fin 2048 → EReal) (b g : Fin 4) (i : Fin 4096) (d : Fin 128) : EReal :=
  (∑ j : Fin 2048, DS X Y b g i ⟨j.val, by omega⟩ * X ⟨j.val, by omega⟩ (ki b d)
    + ∑ j : Fin 2048, DS X Y b g i ⟨2048 + j.val, by omega⟩ * X ⟨2048 + j.val, by omega⟩ (ki b d)) * c0

/-- The carried accumulator after the first of the two points of an output block. -/
theorem scratch_at (c : Dev nD) (t : Fin cfg0.N) (ht : t.val % 2 = 0) (h : Fin 4) (r : Fin 1024) (d : Fin 128) :
    (outsAt0 m c t.val t.isLt).2 (ix3 h r d)
      = ∑ j : Fin 2048, DS (Xm m c) (Ym m c) (grp t) h (qrow t r) (krow t j) * Xm m c (krow t j) (ki (grp t) d) := by
  rw [outsAt0_A m c t ht (by omega)]
  dsimp only
  rw [soutA, canon_listA _ _ _ _ _ _ _ h r d 4 (le_refl 4), if_pos h.isLt]
  exact part_at m c t h r d

/-- What the second of the two points of an output block writes. -/
theorem out_at (c : Dev nD) (t t' : Fin cfg0.N) (ht : t.val % 2 = 1) (ht' : t'.val = t.val - 1) (h : Fin 4) (r : Fin 1024) (d : Fin 128) :
    (outsAt0 m c t.val t.isLt).1 (ix2 r (headLane h d)) = DQK (Xm m c) (Ym m c) (grp t) h (qrow t r) d := by
  have e := scratch_at m c t' (by omega) h r d
  have hN : t.val < 32 := t.isLt
  have g : grp t' = grp t := Fin.ext (by simp only [grp]; omega)
  have q : qrow t' r = qrow t r := Fin.ext (by simp only [qrow]; omega)
  have k0 : krow t' = fun j => ⟨j.val, by omega⟩ := funext fun j => Fin.ext (by simp only [krow]; omega)
  have k1 : krow t = fun j => ⟨2048 + j.val, by omega⟩ := funext fun j => Fin.ext (by simp only [krow]; omega)
  rw [g, q, k0] at e
  rw [outsAt0_B m c t (by omega) ht]
  dsimp only
  rw [outB, canon_out, part_at m c t h r d, k1]
  refine congrArg (fun s => (s + _) * _) ?_
  rw [← e]
  congr 2
  simp only [ht']

/-- The kernel's result as an array. -/
def DQF (X : Fin 4096 → Fin 3072 → EReal) (Y : Fin 4096 → Fin 2048 → EReal) (i : Fin 4096) (l : Fin 2048) : EReal :=
  DQK X Y ⟨l.val / 512, by omega⟩ ⟨l.val / 128 % 4, by omega⟩ i ⟨l.val % 128, by omega⟩

theorem DQF_at (X : Fin 4096 → Fin 3072 → EReal) (Y : Fin 4096 → Fin 2048 → EReal) (b g : Fin 4) (i : Fin 4096) (d : Fin 128) (l : Fin 2048)
    (hl : l.val = (oi b g d).val) : DQF X Y i l = DQK X Y b g i d := by
  have e0 : (⟨l.val / 512, by omega⟩ : Fin 4) = b := Fin.ext (by simp only [oi] at hl; simp only; omega)
  have e1 : (⟨l.val / 128 % 4, by omega⟩ : Fin 4) = g := Fin.ext (by simp only [oi] at hl; simp only; omega)
  have e2 : (⟨l.val % 128, by omega⟩ : Fin 128) = d := Fin.ext (by simp only [oi] at hl; simp only; omega)
  rw [DQF, e0, e1, e2]

theorem out_block (c : Dev nD) (t : Fin cfg0.N) (ht : t.val % 2 = 1) (y : S1024x512.Idx) (i : Fin 4096) (l : Fin 2048)
    (hi : i.val = win0_6.index t 0 * 1024 + (y 0).val) (hl : l.val = win0_6.index t 1 * 512 + (y 1).val) :
    (outsAt0 m c t.val t.isLt).1 y = DQF (Xm m c) (Ym m c) i l := by
  obtain ⟨e0, e1⟩ : win0_6.index t 0 = t.val / 2 % 4 ∧ win0_6.index t 1 = t.val / 8 := by
    rw [(idx_val t).2.2.2.2.2.2]; exact ⟨rfl, rfl⟩
  have y0 : (y 0).val < 1024 := (y 0).isLt
  have y1 : (y 1).val < 512 := (y 1).isLt
  have hN : t.val < 32 := t.isLt
  obtain ⟨r, hr⟩ : ∃ r : Fin 1024, r.val = (y 0).val := ⟨⟨_, y0⟩, rfl⟩
  obtain ⟨h, hh⟩ : ∃ h : Fin 4, h.val = (y 1).val / 128 := ⟨⟨(y 1).val / 128, by omega⟩, rfl⟩
  obtain ⟨d, hd⟩ : ∃ d : Fin 128, d.val = (y 1).val % 128 := ⟨⟨(y 1).val % 128, by omega⟩, rfl⟩
  have hy : y = ix2 r (headLane h d) := by
    funext a; apply Fin.ext; fin_cases a
    · exact hr.symm
    · simp only [headLane]; show (y 1).val = _; simp only [ix2]; show _ = 128 * h.val + d.val; omega
  rw [hy, out_at m c t ⟨t.val - 1, by have := t.isLt; omega⟩ ht rfl h r d,
    DQF_at _ _ (grp t) h i d l (by simp only [oi, grp]; omega)]
  congr 1
  exact Fin.ext (by simp only [qrow]; omega)

theorem final_6 (c : Dev nD) : (dats m 0 c).arrAt 6 (cfgs 0).N = fun y : S4096x2048.Idx => DQF (Xm m c) (Ym m c) (y 0) (y 1) := by
  refine (dats m 0 c).arrAt_eq_of_covers 6 _ (by decide +kernel) fun t hf y => ?_
  blk_simp; rw [after0_6]
  exact out_block m c t ((flush0_6 t).mp hf) y _ _ (by blk_simp) (by blk_simp)

end Cert.KernelIdeal.Dq

end
-- ==== Proof.DqRef.lean ====
module

public import proofs.«01_k».proof.Proof.Gen.ReferenceIdeal.Read
public import proofs.«01_k».proof.Proof.DqHost

/-! The reference's gradient read at an entry: the derivative of the logits, and its product with the keys. -/

@[expose] public section

set_option maxRecDepth 16384

noncomputable section

namespace Cert.ReferenceIdeal.Dq

open Cert.ReferenceIdeal Cert.ReferenceIdeal.Gen Cert.ReferenceIdeal.Read Idealize.ShloMosaic Idealize.ShloMosaic.TcCoe Idealize.SL.Sem
open Cert.Attn
open Cert.KernelIdeal.Dq (hz hmax hmax' hexp hsum hprob hk hq hv XM YM)

variable (x : FVec Ideal S4096x3072 .f32) (y : FVec Ideal S4096x2048 .f32)

theorem v3_eq : val_main_v3 (F := Ideal) x = hk x := rfl
theorem v5_eq : val_main_v5 (F := Ideal) x = hv x := rfl
theorem v9_eq : val_main_v9 (F := Ideal) x = hz x := rfl
theorem v30_eq : val_main_v30 (F := Ideal) x = hexp x (hmax' x) := rfl
theorem v31_eq : val_main_v31 (F := Ideal) x = hsum x (hmax' x) := rfl

theorem v42_at (b g : Fin 4) (i j : Fin 4096) : val_main_v42 (F := Ideal) x y (ix4 b g i j) = DP (XM x) (YM y) b g i j := by
  pointwise [val_main_v42, val_main_v41, val_main_v40, val_main_v5, val_main_v4]
  rfl

/-- The derivative of the logits, of the exponentials `e`, their sum `l` and `dp`. -/
def grad (e dp : FVec Ideal S4x4x4096x4096 .f32) (l : FVec Ideal S4x4x4096 .f32) : FVec Ideal S4x4x4096x4096 .f32 :=
  let l1 : FVec Ideal S4x4x4096x1 .f32 := broadcastInDim S4x4x4096x1 ![0, 1, 2] bcast_S4x4x4096_S4x4x4096x1_0_1_2 l
  let w : FVec Ideal S4x4x4096x1 .f32 := Host.divf (broadcastInDim S4x4x4096x1 ![] bcast_S_S4x4x4096x1 (constant S_ .f32 0x3F800000#32)) (mulf l1 l1)
  let s : FVec Ideal S4x4x4096x4096 .f32 := mulf (mulf dp (broadcastInDim S4x4x4096x4096 ![0, 1, 2, 3] bcast_S4x4x4096x1_S4x4x4096x4096_0_1_2_3 w)) e
  let t : FVec Ideal S4x4x4096 .f32 := Host.reduceAdd s (constant S_ .f32 0x00000000#32) reducesTo_S4x4x4096x4096_S4x4x4096_d3 h_S_
  let n : FVec Ideal S4x4x4096x1 .f32 := Host.negf (shapeCast S4x4x4096x1 t shapeCasts_S4x4x4096_S4x4x4096x1)
  let n' : FVec Ideal S4x4x4096 .f32 := Host.reduceAdd n (constant S_ .f32 0x00000000#32) reducesTo_S4x4x4096x1_S4x4x4096_d3 h_S_
  mulf (addf (Host.divf dp (broadcastInDim S4x4x4096x4096 ![0, 1, 2, 3] bcast_S4x4x4096x1_S4x4x4096x4096_0_1_2_3 l1))
    (broadcastInDim S4x4x4096x4096 ![0, 1, 2] bcast_S4x4x4096_S4x4x4096x4096_0_1_2 n')) e

theorem v54_eq : val_main_v54 (F := Ideal) x y = grad (hexp x (hmax' x)) (val_main_v42 (F := Ideal) x y) (hsum x (hmax' x)) := rfl

theorem grad_at (e dp : FVec Ideal S4x4x4096x4096 .f32) (l : FVec Ideal S4x4x4096 .f32) (b g : Fin 4) (i j : Fin 4096) :
    grad e dp l (ix4 b g i j) = (Ideal.div (dp (ix4 b g i j)) (l (ix3 b g i))
      + -(∑ j' : Fin 4096, dp (ix4 b g i j') * Ideal.div (Ideal.ofBits .f32 0x3F800000#32) (l (ix3 b g i) * l (ix3 b g i)) * e (ix4 b g i j'))) * e (ix4 b g i j) := by
  pointwise [grad]
  simp only [Finset.univ_unique, Finset.sum_singleton]

theorem v54_at (b g : Fin 4) (i j : Fin 4096) : val_main_v54 (F := Ideal) x y (ix4 b g i j) = G (XM x) (YM y) b g i j := by
  rw [v54_eq, grad_at, Cert.KernelIdeal.Dq.hsum_at x (hmax' x) (Cert.KernelIdeal.Dq.hmax'_at x)]
  simp only [v42_at, Cert.KernelIdeal.Dq.hexp_at x (hmax' x) (Cert.KernelIdeal.Dq.hmax'_at x)]
  rfl

/-- The product of a derivative with the keys, by query, group, head and lane. -/
def dqForm (g' : FVec Ideal S4x4x4096x4096 .f32) (k : FVec Ideal S4096x4x128 .f32) : FVec Ideal S4096x2048 .f32 :=
  shapeCast S4096x2048 (transpose S4096x4x4x128 [1, 0, 2, 3] (Host.dotGeneral dot_S4x4096x4096x4_S4096x4x128_S4x4096x4x128_1_0_23_2_0_1 none
    (transpose S4x4096x4096x4 [0, 3, 2, 1] (mulf g' (broadcastInDim S4x4x4096x4096 ![] bcast_S_S4x4x4096x4096 (constant S_ .f32 0x3DB504F3#32))) transposes_S4x4x4096x4096_S4x4096x4096x4_0_3_2_1 : FVec Ideal S4x4096x4096x4 .f32) k : FVec Ideal S4x4096x4x128 .f32)
    transposes_S4x4096x4x128_S4096x4x4x128_1_0_2_3 : FVec Ideal S4096x4x4x128 .f32) shapeCasts_S4096x4x4x128_S4096x2048

theorem dqForm_at (g' : FVec Ideal S4x4x4096x4096 .f32) (k : FVec Ideal S4096x4x128 .f32) (b g : Fin 4) (i : Fin 4096) (d : Fin 128) :
    dqForm g' k (ix2 i (oi b g d)) = ∑ j : Fin 4096, g' (ix4 b g i j) * c0 * k (ix3 j b d) := by
  pointwise [dqForm]
  have e1 : (⟨(oi b g d).val / 512, by omega⟩ : Fin 4) = b := Fin.ext (by simp only [oi]; omega)
  have e2 : (⟨(oi b g d).val / 128 % 4, by omega⟩ : Fin 4) = g := Fin.ext (by simp only [oi]; omega)
  have e3 : (⟨(oi b g d).val % 128, by omega⟩ : Fin 128) = d := Fin.ext (by simp only [oi]; omega)
  refine Finset.sum_congr rfl fun j _ => ?_
  exact congrArg₂ (· * ·) (congrArg (· * c0) (congrArg₂ (fun u v => g' (ix4 u v i j)) e1 e2)) (congrArg₂ (fun u v => k (ix3 j u v)) e1 e3)

theorem v60_eq : val_main_v60 (F := Ideal) x y = dqForm (val_main_v54 (F := Ideal) x y) (hk x) := rfl

theorem hk_at (j : Fin 4096) (b : Fin 4) (d : Fin 128) : hk x (ix3 j b d) = XM x j (ki b d) := by
  pointwise [hk]
  rfl

theorem v60_at (b g : Fin 4) (i : Fin 4096) (d : Fin 128) : val_main_v60 (F := Ideal) x y (ix2 i (oi b g d))
    = ∑ j : Fin 4096, G (XM x) (YM y) b g i j * c0 * XM x j (ki b d) := by
  rw [v60_eq, dqForm_at]
  exact Finset.sum_congr rfl fun j _ => by rw [v54_at, hk_at]

end Cert.ReferenceIdeal.Dq

end
-- ==== Proof.DqAlg.lean ====
module

public import proofs.«01_k».proof.Defs
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.DqValue
public import proofs.«01_k».proof.Proof.DqRef
public import proofs.«01_k».proof.Proof.Finite
public import Idealize.ShloMosaic.Lib.Claim

/-! The value claim of the attention's gradient in the queries: on finite arguments the kernel's result and the
reference's are equal. -/

@[expose] public section

set_option maxRecDepth 16384

noncomputable section

namespace Cert.AttnDq

open Cert.KernelIdeal Cert.Finite Cert.Attn Idealize.ShloMosaic Idealize.ShloMosaic.TcCoe Idealize.SL.Sem
open Cert.KernelIdeal.Dq Cert.ReferenceIdeal.Dq Cert.ReferenceIdeal.Read

section Arrays

variable (x0 : FVec Ideal S4096x3072 .f32) (x1 : FVec Ideal S4096x2048 .f32)

/-- The precondition says that every entry of the two arguments is a real number. -/
theorem real_of_pre (h : Cert.Pre_finite.fn (F := Ideal) x0 x1 = fun _ => 1#1) :
    (∀ i, IsReal (x0 i)) ∧ (∀ i, IsReal (x1 i)) := by
  have e := congrFun h ix0
  have hs : Subsingleton Cert.Pre_finite.S_.Idx := ⟨fun a b => funext fun i => i.elim0⟩
  obtain ⟨e0, e1⟩ := IntOp.andi_eq_one.1 e
  exact ⟨all_real _ _ _ _ _ _ (fun _ => rfl) e0, all_real _ _ _ _ _ _ (fun _ => rfl) e1⟩

/-- A factor of a sum of products of reals may stand inside it. -/
theorem sum_mul_real {J : Nat} {f k : Fin J → EReal} {c : EReal} (hf : ∀ j, IsReal (f j)) (hk : ∀ j, IsReal (k j)) (hc : IsReal c) :
    (∑ j, f j * k j) * c = ∑ j, f j * c * k j := by
  choose f' hf using hf
  choose k' hk using hk
  obtain ⟨c', rfl⟩ := hc
  simp only [hf, hk, ← EReal.coe_mul]
  rw [← coe_sum, ← coe_sum, ← EReal.coe_mul, Finset.sum_mul]
  exact congrArg _ (Finset.sum_congr rfl fun j _ => by ring)

/-- A sum over the keys is the sum over their two halves. -/
theorem sum_halves (f : Fin 4096 → EReal) :
    ∑ j : Fin 2048, f ⟨j.val, by omega⟩ + ∑ j : Fin 2048, f ⟨2048 + j.val, by omega⟩ = ∑ j : Fin 4096, f j :=
  (Fin.sum_univ_add (a := 2048) (b := 2048) f).symm

theorem dq_eq (h0 : ∀ i, IsReal (x0 i)) (h1 : ∀ i, IsReal (x1 i)) :
    (fun y : S4096x2048.Idx => DQF (XM x0) (YM x1) (y 0) (y 1)) = val_main_v60 (F := Ideal) x0 x1 := by
  funext y
  idx_vars y
  obtain ⟨b, hb⟩ : ∃ b : Fin 4, b.val = y1.val / 512 := ⟨⟨y1.val / 512, by omega⟩, rfl⟩
  obtain ⟨g, hg⟩ : ∃ b : Fin 4, b.val = y1.val / 128 % 4 := ⟨⟨y1.val / 128 % 4, by omega⟩, rfl⟩
  obtain ⟨d, hd⟩ : ∃ b : Fin 128, b.val = y1.val % 128 := ⟨⟨y1.val % 128, by omega⟩, rfl⟩
  obtain rfl : y1 = oi b g d := Fin.ext (by simp only [oi]; omega)
  choose x hx using fun i j => h0 (ix2 i j)
  choose w hw using fun i j => h1 (ix2 i j)
  have hS := fun j => DS_eq_G (X := XM x0) (Y := YM x1) hx hw b g y0 j
  rw [v60_at]
  refine (DQF_at _ _ b g y0 d _ rfl).trans ?_
  rw [DQK, sum_halves (fun j => DS (XM x0) (YM x1) b g y0 j * XM x0 j (ki b d)),
    ← sum_mul_real (fun j => (hS j).2) (fun j => h0 _) isReal_c0]
  exact congrArg (· * _) (Finset.sum_congr rfl fun j _ => congrArg (· * _) (hS j).1)

end Arrays

theorem algebraic : Cert.algebraic_KernelIdeal_ReferenceIdeal_pre_finite := by
  intro m g m' g' hpre hargs
  have hr := fun c : Dev nD => real_of_pre _ _ (hpre c)
  have hu := fun c : Dev nD => dq_eq _ _ (hr c).1 (hr c).2
  refine ⟨fun c y => DQF (Xm m c) (Ym m c) (y 0) (y 1), ?_, ?_⟩
  · refine (θ_run defs _ _).mono (fun r h c => ?_) (Cert.KernelIdeal.Value.run_blocks (F := Ideal) m g)
    obtain ⟨e, k⟩ := h c
    exact ⟨e.trans (final_6 m c), k⟩
  · refine (θ_run Cert.ReferenceIdeal.defs _ _).mono (fun r h c => ?_) (Cert.ReferenceIdeal.Value.run (F := Ideal) m' g')
    obtain ⟨e, k⟩ := h c
    obtain ⟨a0, a1⟩ := hargs c
    refine ⟨e.trans ?_, k⟩
    rw [val_main_v60_eq, a0, a1]; exact (hu c).symm

end Cert.AttnDq

end
-- ==== Proof.DkvHost.lean ====
module

public import proofs.«01_k».proof.Proof.Gen.Kernel2Ideal.Value
public import proofs.«01_k».proof.Proof.DqHost
public import Idealize.ShloMosaic.Lib.Pipeline.ValueKit
public import Idealize.ShloMosaic.Lib.Pointwise

/-! The arrays the host prepares for the kernel of the keys and values: they are those of the kernel of the queries. -/

@[expose] public section

set_option maxRecDepth 16384

noncomputable section

namespace Cert.Kernel2Ideal.Dkv

open Cert.Kernel2Ideal Cert.Kernel2Ideal.Gen Idealize.ShloMosaic Idealize.ShloMosaic.TcCoe Idealize.SL.Sem
open Cert.KernelIdeal.Dq (hwide hlse hdelta)

variable (m : (ℓ : Loc nD τ sig) → Buf (Elt Ideal) ℓ) (c : Dev nD)

theorem V45 : V m c main_v45 = m ((c : Thread nD τ).loc main_arg0) := by entry_read; rfl
theorem V46 : V m c main_v46 = m ((c : Thread nD τ).loc main_arg1) := by entry_read; rfl
theorem V41 : V m c main_v41 = hwide (hlse (m ((c : Thread nD τ).loc main_arg0))) := by entry_read; rfl
theorem V44 : V m c main_v44 = hwide (hdelta (m ((c : Thread nD τ).loc main_arg0)) (m ((c : Thread nD τ).loc main_arg1))) := by entry_read; rfl

end Cert.Kernel2Ideal.Dkv

end
-- ==== Proof.DkvTile.lean ====
module

public import proofs.«01_k».proof.Proof.Gen.Kernel2Ideal.Value
public import Idealize.ShloMosaic.Lib.Pipeline.ValueKit
public import Idealize.ShloMosaic.Lib.Pointwise

/-! The body of the gradient in the keys and values, one grid point: the matrices `p` and `ds` of a head, joined from pieces of
sixteen rows, and what a head adds to the two accumulators. -/

@[expose] public section

set_option maxRecDepth 16384

noncomputable section

namespace Cert.Kernel2Ideal.Dkv

open Cert.Kernel2Ideal Cert.Kernel2Ideal.Gen Idealize.ShloMosaic Idealize.ShloMosaic.TcCoe Idealize.SL.Sem

/-- A row's value, held in 128 equal lanes, laid along 1024 lanes. -/
def wide (L : Vec Ideal S16x128 .f32) : FVec Ideal S16x1024 .f32 :=
  let v : FVec Ideal S16x128 .f32 := shapeCast S16x128 L shapeCasts_S16x128_S16x128
  concatenate S16x1024 1 [⟨S16x128, v⟩, ⟨S16x128, v⟩, ⟨S16x128, v⟩, ⟨S16x128, v⟩, ⟨S16x128, v⟩, ⟨S16x128, v⟩, ⟨S16x128, v⟩, ⟨S16x128, v⟩]
    concatenates_S16x128_S16x128_S16x128_S16x128_S16x128_S16x128_S16x128_S16x128_S16x1024_d1

theorem slices_piece (n : Fin 64) : S1024x1024.Slices ![16 * n.val, 0] S16x1024 :=
  ⟨rfl, fun a => by fin_cases a <;> simp [S16x1024, S1024x1024] <;> omega⟩

theorem inb_row (n : Fin 64) (h : Fin 4) : ∀ a, (![16 * n.val, 128 * h.val] : Fin 2 → Nat) a + S16x128.size a ≤ S1024x512.size a :=
  fun a => by fin_cases a <;> simp [S16x128, S1024x512] <;> omega

theorem inb_head (h : Fin 4) : ∀ a, (![0, 128 * h.val] : Fin 2 → Nat) a + S1024x128.size a ≤ S1024x512.size a :=
  fun a => by fin_cases a <;> simp [S1024x128, S1024x512] <;> omega

/-- Rows `16 n … 16 n + 15` of `p = exp (s scale - lse)`. -/
def expPiece (s : FVec Ideal S1024x1024 .f32) (L : Vec Ideal S16x128 .f32) (n : Fin 64) : FVec Ideal S16x1024 .f32 :=
  exp (subf (mulf (extractStridedSlice S16x1024 ![16 * n.val, 0] s (slices_piece n))
    (broadcast S16x1024 (Scalar.ofBits .f32 0x3DB504F3#32))) (wide L))

/-- Rows `16 n … 16 n + 15` of `ds = p (dp - dlt)`. -/
def dsPiece (s dp : FVec Ideal S1024x1024 .f32) (L D : Vec Ideal S16x128 .f32) (n : Fin 64) : FVec Ideal S16x1024 .bf16 :=
  truncf .bf16 (mulf (expPiece s L n) (subf (extractStridedSlice S16x1024 ![16 * n.val, 0] dp (slices_piece n)) (wide D))) bitsLt_bf16_f32

variable (x0 : Vec Ideal S1024x512 .bf16) (x1 x2 : Vec Ideal S1024x128 .bf16) (x3 : Vec Ideal S1024x512 .bf16)
  (x4 x5 : Vec Ideal S1024x512 .f32)

/-- Head `h`'s lanes of a block of rows. -/
def headOf {e : EltTy} (X : Vec Ideal S1024x512 e) (h : Fin 4) : Vec Ideal S1024x128 e :=
  View.ld X (Rect.unit ![0, 128 * h.val] ![1024, 128] (inb_head h))

/-- Sixteen rows of head `h`'s lanes. -/
def rowsOf (X : Vec Ideal S1024x512 .f32) (h : Fin 4) (n : Fin 64) : Vec Ideal S16x128 .f32 :=
  View.ld X (Rect.unit ![16 * n.val, 128 * h.val] ![16, 128] (inb_row n h))

theorem concatenates_pieces (f : Fin 64 → FVec Ideal S16x1024 .bf16) :
    Shape.Concatenates ((List.ofFn fun n : Fin 64 => (⟨S16x1024, f n⟩ : (s : Shape) × FVec Ideal s .bf16)).map (·.1)) S1024x1024 0 := by
  have e : (List.ofFn fun n : Fin 64 => (⟨S16x1024, f n⟩ : (s : Shape) × FVec Ideal s .bf16)).map (·.1) = List.replicate 64 S16x1024 := by
    rw [List.map_ofFn]; exact List.ofFn_const _ _
  rw [e]; decide +kernel

/-- Sixty-four pieces of sixteen rows, joined. -/
def joined (f : Fin 64 → FVec Ideal S16x1024 .bf16) : FVec Ideal S1024x1024 .bf16 :=
  concatenate S1024x1024 0 (List.ofFn fun n : Fin 64 => (⟨S16x1024, f n⟩ : (s : Shape) × FVec Ideal s .bf16)) (concatenates_pieces f)

/-- The matrices `p` and `ds` of head `h`. -/
def pMat (h : Fin 4) : FVec Ideal S1024x1024 .bf16 :=
  joined fun n => truncf .bf16 (expPiece (k0_pay3 (headOf x0 h) x1) (rowsOf x4 h n) n) bitsLt_bf16_f32
def dsMat (h : Fin 4) : FVec Ideal S1024x1024 .bf16 :=
  joined fun n => dsPiece (k0_pay3 (headOf x0 h) x1) (k0_pay4 (headOf x3 h) x2) (rowsOf x4 h n) (rowsOf x5 h n) n

/-- What head `h` leaves in the accumulators: `acc + dsᵀ q` and `acc + pᵀ do`. -/
def updK (h : Fin 4) (acc : Vec Ideal S1024x128 .f32) : FVec Ideal S1024x128 .f32 :=
  k0_pay219 (dsMat x0 x1 x2 x3 x4 x5 h) acc (headOf x0 h)
def updV (h : Fin 4) (acc : Vec Ideal S1024x128 .f32) : FVec Ideal S1024x128 .f32 :=
  k0_pay218 (pMat x0 x1 x4 h) acc (headOf x3 h)

/-- The four heads in turn. -/
def stepK (acc : Vec Ideal S1024x128 .f32) : FVec Ideal S1024x128 .f32 :=
  updK x0 x1 x2 x3 x4 x5 3 (updK x0 x1 x2 x3 x4 x5 2 (updK x0 x1 x2 x3 x4 x5 1 (updK x0 x1 x2 x3 x4 x5 0 acc)))
def stepV (acc : Vec Ideal S1024x128 .f32) : FVec Ideal S1024x128 .f32 :=
  updV x0 x1 x3 x4 3 (updV x0 x1 x3 x4 2 (updV x0 x1 x3 x4 1 (updV x0 x1 x3 x4 0 acc)))

end Cert.Kernel2Ideal.Dkv

end
-- ==== Proof.DkvAt.lean ====
module

public import proofs.«01_k».proof.Proof.DkvTile
public import Idealize.ShloMosaic.Lib.Pipeline.ValueKit
public import Idealize.ShloMosaic.Lib.Pointwise

/-! The entries of the matrices `p` and `ds` of a head, and the sum over the four heads that a grid point adds to the
accumulators. -/

@[expose] public section

set_option maxRecDepth 16384

noncomputable section

namespace Cert.Kernel2Ideal.Dkv

open Cert.Kernel2Ideal Cert.Kernel2Ideal.Gen Idealize.ShloMosaic Idealize.ShloMosaic.TcCoe Idealize.SL.Sem

/-- A column's lane. -/
def lane (j : Fin 1024) : Fin 128 := ⟨j.val % 128, Nat.mod_lt _ (by norm_num)⟩

theorem wide_at (L : Vec Ideal S16x128 .f32) (r : Fin 16) (j : Fin 1024) : wide L (ix2 r j) = L (ix2 r (lane j)) := by
  have e : wide L (ix2 r j) = (shapeCast S16x128 L shapeCasts_S16x128_S16x128 : FVec Ideal S16x128 .f32) (ix2 r (lane j)) := by
    refine concatenate_ofFn_apply (N := 8) (t := S16x1024) (s₁ := S16x128) 1
      (fun _ => (shapeCast S16x128 L shapeCasts_S16x128_S16x128 : FVec Ideal S16x128 .f32))
      concatenates_S16x128_S16x128_S16x128_S16x128_S16x128_S16x128_S16x128_S16x128_S16x1024_d1 rfl 128 rfl (ix2 r j)
      ⟨j.val / 128, by omega⟩ rfl (ix2 r (lane j)) rfl ?_
    intro b hb; fin_cases b
    · rfl
    · exact absurd rfl hb
  rw [e]; pointwise

/-- Row `16 n + r`. -/
def rowOf (n : Fin 64) (r : Fin 16) : Fin 1024 := ⟨16 * n.val + r.val, by omega⟩

theorem slice_at (X : FVec Ideal S1024x1024 .f32) (n : Fin 64) (r : Fin 16) (j : Fin 1024) :
    extractStridedSlice S16x1024 ![16 * n.val, 0] X (slices_piece n) (ix2 r j) = X (ix2 (rowOf n r) j) :=
  congrArg X (funext fun a => Fin.ext (by fin_cases a <;> simp [rowOf, ix2]))

theorem expPiece_at (s : FVec Ideal S1024x1024 .f32) (L : Vec Ideal S16x128 .f32) (n : Fin 64) (r : Fin 16) (j : Fin 1024) :
    expPiece s L n (ix2 r j) = Ideal.exp (s (ix2 (rowOf n r) j) * Ideal.ofBits .f32 0x3DB504F3#32 - L (ix2 r (lane j))) := by
  rw [← wide_at L, ← slice_at s]
  rfl

theorem dsPiece_at (s dp : FVec Ideal S1024x1024 .f32) (L D : Vec Ideal S16x128 .f32) (n : Fin 64) (r : Fin 16) (j : Fin 1024) :
    dsPiece s dp L D n (ix2 r j) = Ideal.exp (s (ix2 (rowOf n r) j) * Ideal.ofBits .f32 0x3DB504F3#32 - L (ix2 r (lane j)))
      * (dp (ix2 (rowOf n r) j) - D (ix2 r (lane j))) := by
  rw [← expPiece_at, ← wide_at D, ← slice_at dp]
  rfl

variable (x0 : Vec Ideal S1024x512 .bf16) (x1 x2 : Vec Ideal S1024x128 .bf16) (x3 : Vec Ideal S1024x512 .bf16)
  (x4 x5 : Vec Ideal S1024x512 .f32)

/-- Lane `d` of head `h`. -/
def headLane (h : Fin 4) (d : Fin 128) : Fin 512 := ⟨128 * h.val + d.val, by omega⟩

theorem headOf_at {e : EltTy} (X : Vec Ideal S1024x512 e) (h : Fin 4) (r : Fin 1024) (d : Fin 128) :
    headOf X h (ix2 r d) = X (ix2 r (headLane h d)) :=
  View.ld_unit_apply_of X _ _ _ _ _ fun a => by fin_cases a <;> simp [headLane, ix2]

theorem rowsOf_at (X : Vec Ideal S1024x512 .f32) (h : Fin 4) (n : Fin 64) (r : Fin 16) (d : Fin 128) :
    rowsOf X h n (ix2 r d) = X (ix2 (rowOf n r) (headLane h d)) :=
  View.ld_unit_apply_of X _ _ _ _ _ fun a => by fin_cases a <;> simp [headLane, rowOf, ix2]

/-- The product of a head's rows with the rows of the keys. -/
def nt (q : Vec Ideal S1024x512 .bf16) (k : Vec Ideal S1024x128 .bf16) (h : Fin 4) (r : Fin 1024) (j : Fin 1024) : EReal :=
  ∑ d : Fin 128, q (ix2 r (headLane h d)) * k (ix2 j d)

/-- The entries of `p` and `ds`. -/
def pAt (h : Fin 4) (r : Fin 1024) (j : Fin 1024) : EReal :=
  Ideal.exp (nt x0 x1 h r j * Ideal.ofBits .f32 0x3DB504F3#32 - x4 (ix2 r (headLane h (lane j))))
def dsAt (h : Fin 4) (r : Fin 1024) (j : Fin 1024) : EReal :=
  pAt x0 x1 x4 h r j * (nt x3 x2 h r j - x5 (ix2 r (headLane h (lane j))))

theorem pay3_at (q k : Vec Ideal S1024x128 .bf16) (r j : Fin 1024) : k0_pay3 q k (ix2 r j) = ∑ d : Fin 128, q (ix2 r d) * k (ix2 j d) := by
  pointwise [k0_pay3]
theorem pay4_at (q k : Vec Ideal S1024x128 .bf16) (r j : Fin 1024) : k0_pay4 q k (ix2 r j) = ∑ d : Fin 128, q (ix2 r d) * k (ix2 j d) := by
  pointwise [k0_pay4]

theorem s_at (h : Fin 4) (r j : Fin 1024) : k0_pay3 (headOf x0 h) x1 (ix2 r j) = nt x0 x1 h r j :=
  (pay3_at _ _ _ _).trans (Finset.sum_congr rfl fun d _ => congrArg (· * _) (headOf_at x0 h _ d))
theorem dp_at (h : Fin 4) (r j : Fin 1024) : k0_pay4 (headOf x3 h) x2 (ix2 r j) = nt x3 x2 h r j :=
  (pay4_at _ _ _ _).trans (Finset.sum_congr rfl fun d _ => congrArg (· * _) (headOf_at x3 h _ d))

theorem joined_at (f : Fin 64 → FVec Ideal S16x1024 .bf16) (r j : Fin 1024) :
    joined f (ix2 r j) = f ⟨r.val / 16, by omega⟩ (ix2 ⟨r.val % 16, Nat.mod_lt _ (by norm_num)⟩ j) :=
  concatenate_ofFn_apply (N := 64) (t := S1024x1024) (s₁ := S16x1024) 0 f (concatenates_pieces f) rfl 16 rfl (ix2 r j)
    ⟨r.val / 16, by omega⟩ rfl (ix2 ⟨r.val % 16, Nat.mod_lt _ (by norm_num)⟩ j) rfl
    (fun b hb => by
      fin_cases b
      · exact absurd rfl hb
      · rfl)

theorem rowOf_div (r : Fin 1024) : rowOf ⟨r.val / 16, by omega⟩ ⟨r.val % 16, Nat.mod_lt _ (by norm_num)⟩ = r := Fin.ext (Nat.div_add_mod r.val 16)

theorem pMat_at (h : Fin 4) (r j : Fin 1024) : pMat x0 x1 x4 h (ix2 r j) = pAt x0 x1 x4 h r j := by
  refine (joined_at _ r j).trans ((expPiece_at _ _ _ _ _).trans ?_)
  rw [rowsOf_at, rowOf_div, s_at]
  rfl

theorem dsMat_at (h : Fin 4) (r j : Fin 1024) : dsMat x0 x1 x2 x3 x4 x5 h (ix2 r j) = dsAt x0 x1 x2 x3 x4 x5 h r j := by
  refine (joined_at _ r j).trans ((dsPiece_at _ _ _ _ _ _ _).trans ?_)
  rw [rowsOf_at, rowsOf_at, rowOf_div, s_at, dp_at]
  rfl

theorem pay219_at (M : FVec Ideal S1024x1024 .bf16) (acc : Vec Ideal S1024x128 .f32) (q : Vec Ideal S1024x128 .bf16) (j : Fin 1024) (d : Fin 128) :
    k0_pay219 M acc q (ix2 j d) = acc (ix2 j d) + ∑ r : Fin 1024, M (ix2 r j) * q (ix2 r d) := by
  pointwise [k0_pay219]
theorem pay218_at (M : FVec Ideal S1024x1024 .bf16) (acc : Vec Ideal S1024x128 .f32) (q : Vec Ideal S1024x128 .bf16) (j : Fin 1024) (d : Fin 128) :
    k0_pay218 M acc q (ix2 j d) = acc (ix2 j d) + ∑ r : Fin 1024, M (ix2 r j) * q (ix2 r d) := by
  pointwise [k0_pay218]

/-- What head `h` adds at a grid point. -/
def partK (h : Fin 4) (j : Fin 1024) (d : Fin 128) : EReal := ∑ r : Fin 1024, dsAt x0 x1 x2 x3 x4 x5 h r j * x0 (ix2 r (headLane h d))
def partV (h : Fin 4) (j : Fin 1024) (d : Fin 128) : EReal := ∑ r : Fin 1024, pAt x0 x1 x4 h r j * x3 (ix2 r (headLane h d))

theorem updK_at (h : Fin 4) (acc : Vec Ideal S1024x128 .f32) (j : Fin 1024) (d : Fin 128) :
    updK x0 x1 x2 x3 x4 x5 h acc (ix2 j d) = acc (ix2 j d) + partK x0 x1 x2 x3 x4 x5 h j d :=
  (pay219_at _ _ _ _ _).trans (congrArg _ (Finset.sum_congr rfl fun r _ => congrArg₂ (· * ·) (dsMat_at x0 x1 x2 x3 x4 x5 h r j) (headOf_at x0 h r d)))
theorem updV_at (h : Fin 4) (acc : Vec Ideal S1024x128 .f32) (j : Fin 1024) (d : Fin 128) :
    updV x0 x1 x3 x4 h acc (ix2 j d) = acc (ix2 j d) + partV x0 x1 x3 x4 h j d :=
  (pay218_at _ _ _ _ _).trans (congrArg _ (Finset.sum_congr rfl fun r _ => congrArg₂ (· * ·) (pMat_at x0 x1 x4 h r j) (headOf_at x3 h r d)))

theorem stepK_at (acc : Vec Ideal S1024x128 .f32) (j : Fin 1024) (d : Fin 128) :
    stepK x0 x1 x2 x3 x4 x5 acc (ix2 j d) = acc (ix2 j d) + ∑ h : Fin 4, partK x0 x1 x2 x3 x4 x5 h j d := by
  rw [stepK, updK_at, updK_at, updK_at, updK_at, Fin.sum_univ_four]
  simp only [add_assoc]
theorem stepV_at (acc : Vec Ideal S1024x128 .f32) (j : Fin 1024) (d : Fin 128) :
    stepV x0 x1 x3 x4 acc (ix2 j d) = acc (ix2 j d) + ∑ h : Fin 4, partV x0 x1 x3 x4 h j d := by
  rw [stepV, updV_at, updV_at, updV_at, updV_at, Fin.sum_univ_four]
  simp only [add_assoc]

theorem pay1_at (j : Fin 1024) (d : Fin 128) : k0_pay1 (F := Ideal) (ix2 j d) = 0 := by
  pointwise [k0_pay1]
theorem pay2_at (j : Fin 1024) (d : Fin 128) : k0_pay2 (F := Ideal) (ix2 j d) = 0 := by
  pointwise [k0_pay2]
theorem pay877_at (w : Vec Ideal S1024x128 .f32) (j : Fin 1024) (d : Fin 128) :
    k0_pay877 w (ix2 j d) = w (ix2 j d) * Ideal.ofBits .f32 0x3DB504F3#32 := by
  pointwise [k0_pay877]

end Cert.Kernel2Ideal.Dkv

end
-- ==== Proof.DkvOutA.lean ====
module

public import proofs.«01_k».proof.Proof.DkvTile
public import Idealize.ShloMosaic.Lib.Pipeline.ValueKit
public import Idealize.ShloMosaic.Lib.Pointwise

/-! The body as the frame states it, a matter of unfolding: the accumulators after a point that begins the sums. -/

@[expose] public section

set_option maxRecDepth 16384

noncomputable section

namespace Cert.Kernel2Ideal.Dkv

open Cert.Kernel2Ideal Cert.Kernel2Ideal.Gen Idealize.ShloMosaic Idealize.ShloMosaic.TcCoe Idealize.SL.Sem

variable (c : Dev nD) (i : grid0.Coords) (arg3 : Memref sig .tc .vmem S1024x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole)
  (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole)
  (x0 : Vec Ideal S1024x512 .bf16) (x1 x2 : Vec Ideal S1024x128 .bf16) (x3 : Vec Ideal S1024x512 .bf16) (x4 x5 : Vec Ideal S1024x512 .f32)
  (u0 u1 : Vec Ideal S1024x128 .f32) (y : S1024x128.Idx)

set_option maxHeartbeats 8000000 in
theorem soutA0 (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 x4 x5 y = stepK x0 x1 x2 x3 x4 x5 (k0_pay1 (F := Ideal)) y := by
  frame_out
  exact rfl

set_option maxHeartbeats 8000000 in
theorem soutA1 (hc0 : cond0_0 i) (hc1 : ¬cond0_1 i) :
    sout0_A_1 c i arg3 harg3 arg4 harg4 arg5 harg5 arg6 harg6 arg7 harg7 arg8 harg8 arg9 harg9 arg10 harg10 arg11 harg11 arg12 harg12 hc0 hc1 x0 x1 x2 x3 x4 x5 y = stepV x0 x1 x3 x4 (k0_pay2 (F := Ideal)) y := by
  frame_out
  exact rfl

end Cert.Kernel2Ideal.Dkv

end
-- ==== Proof.DkvOutB.lean ====
module

public import proofs.«01_k».proof.Proof.DkvTile
public import Idealize.ShloMosaic.Lib.Pipeline.ValueKit
public import Idealize.ShloMosaic.Lib.Pointwise

/-! The body as the frame states it, a matter of unfolding: the accumulators after a point that goes on with the sums. -/

@[expose] public section

set_option maxRecDepth 16384

noncomputable section

namespace Cert.Kernel2Ideal.Dkv

open Cert.Kernel2Ideal Cert.Kernel2Ideal.Gen Idealize.ShloMosaic Idealize.ShloMosaic.TcCoe Idealize.SL.Sem

variable (c : Dev nD) (i : grid0.Coords) (arg3 : Memref sig .tc .vmem S1024x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole)
  (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole)
  (x0 : Vec Ideal S1024x512 .bf16) (x1 x2 : Vec Ideal S1024x128 .bf16) (x3 : Vec Ideal S1024x512 .bf16) (x4 x5 : Vec Ideal S1024x512 .f32)
  (u0 u1 : Vec Ideal S1024x128 .f32) (y : S1024x128.Idx)

set_option maxHeartbeats 8000000 in
theorem soutB0 (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 hc0 hc1 x0 x1 x2 x3 x4 x5 u0 u1 y = stepK x0 x1 x2 x3 x4 x5 u0 y := by
  frame_out
  exact rfl

set_option maxHeartbeats 8000000 in
theorem soutB1 (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 hc0 hc1 x0 x1 x2 x3 x4 x5 u0 u1 y = stepV x0 x1 x3 x4 u1 y := by
  frame_out
  exact rfl

end Cert.Kernel2Ideal.Dkv

end
-- ==== Proof.DkvOutC.lean ====
module

public import proofs.«01_k».proof.Proof.DkvTile
public import Idealize.ShloMosaic.Lib.Pipeline.ValueKit
public import Idealize.ShloMosaic.Lib.Pointwise

/-! The body as the frame states it, a matter of unfolding: the blocks written by a point that ends the sums. -/

@[expose] public section

set_option maxRecDepth 16384

noncomputable section

namespace Cert.Kernel2Ideal.Dkv

open Cert.Kernel2Ideal Cert.Kernel2Ideal.Gen Idealize.ShloMosaic Idealize.ShloMosaic.TcCoe Idealize.SL.Sem

variable (c : Dev nD) (i : grid0.Coords) (arg3 : Memref sig .tc .vmem S1024x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole)
  (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole)
  (x0 : Vec Ideal S1024x512 .bf16) (x1 x2 : Vec Ideal S1024x128 .bf16) (x3 : Vec Ideal S1024x512 .bf16) (x4 x5 : Vec Ideal S1024x512 .f32)
  (u0 u1 : Vec Ideal S1024x128 .f32) (y : S1024x128.Idx)

set_option maxHeartbeats 8000000 in
theorem outC6 (hc0 : ¬cond0_0 i) (hc1 : cond0_1 i) :
    out0_C_6 c i arg3 harg3 arg4 harg4 arg5 harg5 arg6 harg6 arg7 harg7 arg8 harg8 arg9 harg9 arg10 harg10 arg11 harg11 arg12 harg12 hc0 hc1 x0 x1 x2 x3 x4 x5 u0 u1 y = k0_pay877 (F := Ideal) (stepK x0 x1 x2 x3 x4 x5 u0) y := by
  frame_out
  exact rfl

set_option maxHeartbeats 8000000 in
theorem outC7 (hc0 : ¬cond0_0 i) (hc1 : cond0_1 i) :
    out0_C_7 c i arg3 harg3 arg4 harg4 arg5 harg5 arg6 harg6 arg7 harg7 arg8 harg8 arg9 harg9 arg10 harg10 arg11 harg11 arg12 harg12 hc0 hc1 x0 x1 x2 x3 x4 x5 u0 u1 y = stepV x0 x1 x3 x4 u1 y := by
  frame_out
  exact rfl

end Cert.Kernel2Ideal.Dkv

end
-- ==== Proof.DkvValue.lean ====
module

public import proofs.«01_k».proof.Proof.DkvHost
public import proofs.«01_k».proof.Proof.DkvAt
public import proofs.«01_k».proof.Proof.DkvOutA
public import proofs.«01_k».proof.Proof.DkvOutB
public import proofs.«01_k».proof.Proof.DkvOutC
public import Idealize.ShloMosaic.Lib.Pipeline.ValueKit
public import Idealize.ShloMosaic.Lib.Pointwise

/-! The kernel's two results: at each grid point the blocks are those of the packed projection, and the four blocks of
queries add up. -/

@[expose] public section

set_option maxRecDepth 16384

noncomputable section

namespace Cert.Kernel2Ideal.Dkv

open Cert.Kernel2Ideal Cert.Kernel2Ideal.Gen Idealize.ShloMosaic Idealize.ShloMosaic.TcCoe Idealize.SL.Sem

open Cert.Attn
open Cert.KernelIdeal.Dq (hwide hlse hdelta hwide_at hlse_at hdelta_at XM YM)

variable (m : (ℓ : Loc nD τ sig) → Buf (Elt Ideal) ℓ)

theorem idx_val : ∀ t : Fin cfg0.N, win0_0.index t = ![t.val % 4, t.val / 16] ∧ win0_1.index t = ![t.val / 4 % 4, 16 + t.val / 16]
    ∧ win0_2.index t = ![t.val / 4 % 4, 20 + t.val / 16] ∧ win0_3.index t = ![t.val % 4, t.val / 16]
    ∧ win0_4.index t = ![t.val % 4, t.val / 16] ∧ win0_5.index t = ![t.val % 4, t.val / 16]
    ∧ win0_6.index t = ![t.val / 4 % 4, t.val / 16] ∧ win0_7.index t = ![t.val / 4 % 4, t.val / 16] :=
  (by decide +kernel : ∀ t : Fin grid0.N, _)

/-- Row `r` of the block of queries `s`; the key row and the group of a grid point. -/
def qrow (s : Fin 4) (r : Fin 1024) : Fin 4096 := ⟨s.val * 1024 + r.val, by omega⟩
def blkq (t : Fin cfg0.N) : Fin 4 := ⟨t.val % 4, by omega⟩
def krow (t : Fin cfg0.N) (j : Fin 1024) : Fin 4096 := ⟨t.val / 4 % 4 * 1024 + j.val, by omega⟩
def grp (t : Fin cfg0.N) : Fin 4 := ⟨t.val / 16, by have : t.val < 64 := t.isLt; omega⟩

theorem rd0 (A : FVec Ideal S4096x3072 .f32) (t : Fin cfg0.N) (r : Fin 1024) (h : Fin 4) (d : Fin 128) :
    ((cfg0.win 0).blk t).view.read (Elt Ideal) A (ix2 r (headLane h d)) = A (ix2 (qrow (blkq t) r) (qi (grp t) h d)) := by
  blk_point [idx_val t, qrow, blkq, grp, qi, headLane]

theorem rd1 (A : FVec Ideal S4096x3072 .f32) (t : Fin cfg0.N) (j : Fin 1024) (d : Fin 128) :
    ((cfg0.win 1).blk t).view.read (Elt Ideal) A (ix2 j d) = A (ix2 (krow t j) (ki (grp t) d)) := by
  blk_point [idx_val t, krow, grp, ki]

theorem rd2 (A : FVec Ideal S4096x3072 .f32) (t : Fin cfg0.N) (j : Fin 1024) (d : Fin 128) :
    ((cfg0.win 2).blk t).view.read (Elt Ideal) A (ix2 j d) = A (ix2 (krow t j) (vi (grp t) d)) := by
  blk_point [idx_val t, krow, grp, vi]

theorem rd3 (A : FVec Ideal S4096x2048 .f32) (t : Fin cfg0.N) (r : Fin 1024) (h : Fin 4) (d : Fin 128) :
    ((cfg0.win 3).blk t).view.read (Elt Ideal) A (ix2 r (headLane h d)) = A (ix2 (qrow (blkq t) r) (oi (grp t) h d)) := by
  blk_point [idx_val t, qrow, blkq, grp, oi, headLane]

theorem rd4 (A : FVec Ideal S4096x2048 .f32) (t : Fin cfg0.N) (r : Fin 1024) (h : Fin 4) (d : Fin 128) :
    ((cfg0.win 4).blk t).view.read (Elt Ideal) A (ix2 r (headLane h d)) = A (ix2 (qrow (blkq t) r) (oi (grp t) h d)) := by
  blk_point [idx_val t, qrow, blkq, grp, oi, headLane]

theorem rd5 (A : FVec Ideal S4096x2048 .f32) (t : Fin cfg0.N) (r : Fin 1024) (h : Fin 4) (d : Fin 128) :
    ((cfg0.win 5).blk t).view.read (Elt Ideal) A (ix2 r (headLane h d)) = A (ix2 (qrow (blkq t) r) (oi (grp t) h d)) := by
  blk_point [idx_val t, qrow, blkq, grp, oi, headLane]

/-- The packed projection and the cotangent of a device. -/
abbrev Xm (c : Dev nD) : Fin 4096 → Fin 3072 → EReal := XM (m ((c : Thread nD τ).loc main_arg0))
abbrev Ym (c : Dev nD) : Fin 4096 → Fin 2048 → EReal := YM (m ((c : Thread nD τ).loc main_arg1))

/-- What one block of queries gives the gradients of key `j` of group `b`. -/
def PartK (X : Fin 4096 → Fin 3072 → EReal) (Y : Fin 4096 → Fin 2048 → EReal) (b : Fin 4) (j : Fin 4096) (d : Fin 128) (s : Fin 4) : EReal :=
  ∑ h : Fin 4, ∑ r : Fin 1024, DS X Y b h (qrow s r) j * X (qrow s r) (qi b h d)
def PartV (X : Fin 4096 → Fin 3072 → EReal) (Y : Fin 4096 → Fin 2048 → EReal) (b : Fin 4) (j : Fin 4096) (d : Fin 128) (s : Fin 4) : EReal :=
  ∑ h : Fin 4, ∑ r : Fin 1024, PK X b h (qrow s r) j * Y (qrow s r) (oi b h d)

section Blocks
variable (x0 x3 x4 x5 : FVec Ideal S1024x512 .f32) (x1 x2 : FVec Ideal S1024x128 .f32) (X : Fin 4096 → Fin 3072 → EReal) (Y : Fin 4096 → Fin 2048 → EReal)
  (b : Fin 4) (q : Fin 1024 → Fin 4096) (k : Fin 1024 → Fin 4096)
  (e0 : ∀ r h d, x0 (ix2 r (headLane h d)) = X (q r) (qi b h d)) (e1 : ∀ j d, x1 (ix2 j d) = X (k j) (ki b d))
  (e2 : ∀ j d, x2 (ix2 j d) = X (k j) (vi b d)) (e3 : ∀ r h d, x3 (ix2 r (headLane h d)) = Y (q r) (oi b h d))
  (e4 : ∀ r h d, x4 (ix2 r (headLane h d)) = LSE X b h (q r)) (e5 : ∀ r h d, x5 (ix2 r (headLane h d)) = DEL X Y b h (q r))
  (h : Fin 4) (r j : Fin 1024) (d : Fin 128)

include e0 e1 e4 in
theorem p_of : pAt x0 x1 x4 h r j = PK X b h (q r) (k j) := by
  have z : nt x0 x1 h r j * Ideal.ofBits .f32 0x3DB504F3#32 = Z X b h (q r) (k j) :=
    congrArg (· * _) (Finset.sum_congr rfl fun d _ => (congrArg₂ (· * ·) (e0 r h d) (e1 j d)).trans (mul_comm _ _))
  rw [pAt, z, e4]
  rfl

include e0 e1 e2 e3 e4 e5 in
theorem ds_of : dsAt x0 x1 x2 x3 x4 x5 h r j = DS X Y b h (q r) (k j) := by
  have p : nt x3 x2 h r j = DP X Y b h (q r) (k j) :=
    Finset.sum_congr rfl fun d _ => congrArg₂ (· * ·) (e3 r h d) (e2 j d)
  rw [dsAt, p_of x0 x4 x1 X b q k e0 e1 e4, p, e5]
  rfl

include e0 e1 e2 e3 e4 e5 in
theorem partK_of : ∑ h : Fin 4, partK x0 x1 x2 x3 x4 x5 h j d = ∑ h : Fin 4, ∑ r : Fin 1024, DS X Y b h (q r) (k j) * X (q r) (qi b h d) :=
  Finset.sum_congr rfl fun h _ => Finset.sum_congr rfl fun r _ =>
    congrArg₂ (· * ·) (ds_of x0 x3 x4 x5 x1 x2 X Y b q k e0 e1 e2 e3 e4 e5 h r j) (e0 r h d)

include e0 e1 e3 e4 in
theorem partV_of : ∑ h : Fin 4, partV x0 x1 x3 x4 h j d = ∑ h : Fin 4, ∑ r : Fin 1024, PK X b h (q r) (k j) * Y (q r) (oi b h d) :=
  Finset.sum_congr rfl fun h _ => Finset.sum_congr rfl fun r _ =>
    congrArg₂ (· * ·) (p_of x0 x4 x1 X b q k e0 e1 e4 h r j) (e3 r h d)

end Blocks

/-- A grid point's part of the two gradients. -/
theorem partK_at (c : Dev nD) (t : Fin cfg0.N) (j : Fin 1024) (d : Fin 128) :
    ∑ h : Fin 4, partK (iblk m c 0 t) (iblk m c 1 t) (iblk m c 2 t) (iblk m c 3 t) (iblk m c 4 t) (iblk m c 5 t) h j d
      = PartK (Xm m c) (Ym m c) (grp t) (krow t j) d (blkq t) :=
  partK_of _ _ _ _ _ _ (Xm m c) (Ym m c) (grp t) (qrow (blkq t)) (krow t)
    (fun r h d => (rd0 (V m c main_v45) t r h d).trans (congrFun (V45 m c) _))
    (fun j d => (rd1 (V m c main_v45) t j d).trans (congrFun (V45 m c) _))
    (fun j d => (rd2 (V m c main_v45) t j d).trans (congrFun (V45 m c) _))
    (fun r h d => (rd3 (V m c main_v46) t r h d).trans (congrFun (V46 m c) _))
    (fun r h d => ((rd4 (V m c main_v41) t r h d).trans (congrFun (V41 m c) _)).trans ((hwide_at _ _ _ _ _).trans (hlse_at _ _ _ _)))
    (fun r h d => ((rd5 (V m c main_v44) t r h d).trans (congrFun (V44 m c) _)).trans ((hwide_at _ _ _ _ _).trans (hdelta_at _ _ _ _ _)))
    j d
theorem partV_at (c : Dev nD) (t : Fin cfg0.N) (j : Fin 1024) (d : Fin 128) :
    ∑ h : Fin 4, partV (iblk m c 0 t) (iblk m c 1 t) (iblk m c 3 t) (iblk m c 4 t) h j d
      = PartV (Xm m c) (Ym m c) (grp t) (krow t j) d (blkq t) :=
  partV_of _ _ _ _ (Xm m c) (Ym m c) (grp t) (qrow (blkq t)) (krow t)
    (fun r h d => (rd0 (V m c main_v45) t r h d).trans (congrFun (V45 m c) _))
    (fun j d => (rd1 (V m c main_v45) t j d).trans (congrFun (V45 m c) _))
    (fun r h d => (rd3 (V m c main_v46) t r h d).trans (congrFun (V46 m c) _))
    (fun r h d => ((rd4 (V m c main_v41) t r h d).trans (congrFun (V41 m c) _)).trans ((hwide_at _ _ _ _ _).trans (hlse_at _ _ _ _)))
    j d

/-- The carried accumulators: the first point sets them, each of the next two adds its part. -/
theorem first_at (c : Dev nD) (t : Fin cfg0.N) (ht : t.val % 4 = 0) (j : Fin 1024) (d : Fin 128) :
    (outsAt0 m c t.val t.isLt).2.2.1 (ix2 j d) = PartK (Xm m c) (Ym m c) (grp t) (krow t j) d (blkq t)
    ∧ (outsAt0 m c t.val t.isLt).2.2.2 (ix2 j d) = PartV (Xm m c) (Ym m c) (grp t) (krow t j) d (blkq t) := by
  rw [outsAt0_A m c t ht (by omega)]
  dsimp only
  rw [soutA0, soutA1, stepK_at, stepV_at, pay1_at, pay2_at, zero_add, zero_add]
  exact ⟨partK_at m c t j d, partV_at m c t j d⟩

theorem next_at (c : Dev nD) (t t' : Fin cfg0.N) (ht : ¬t.val % 4 = 0) (ht3 : ¬t.val % 4 = 3) (ht' : t'.val = t.val - 1) (j : Fin 1024) (d : Fin 128) :
    (outsAt0 m c t.val t.isLt).2.2.1 (ix2 j d)
      = (outsAt0 m c t'.val t'.isLt).2.2.1 (ix2 j d) + PartK (Xm m c) (Ym m c) (grp t) (krow t j) d (blkq t)
    ∧ (outsAt0 m c t.val t.isLt).2.2.2 (ix2 j d)
      = (outsAt0 m c t'.val t'.isLt).2.2.2 (ix2 j d) + PartV (Xm m c) (Ym m c) (grp t) (krow t j) d (blkq t) := by
  obtain ⟨n, hn⟩ := t'
  obtain rfl : n = t.val - 1 := ht'
  rw [outsAt0_B m c t ht ht3]
  dsimp only
  rw [soutB0, soutB1, stepK_at, stepV_at, partK_at m c t j d, partV_at m c t j d]
  exact ⟨rfl, rfl⟩

/-- What the last of the four points of an output block writes. -/
theorem last_at (c : Dev nD) (t t' : Fin cfg0.N) (ht3 : t.val % 4 = 3) (ht' : t'.val = t.val - 1) (j : Fin 1024) (d : Fin 128) :
    (outsAt0 m c t.val t.isLt).1 (ix2 j d)
      = ((outsAt0 m c t'.val t'.isLt).2.2.1 (ix2 j d) + PartK (Xm m c) (Ym m c) (grp t) (krow t j) d (blkq t)) * c0
    ∧ (outsAt0 m c t.val t.isLt).2.1 (ix2 j d)
      = (outsAt0 m c t'.val t'.isLt).2.2.2 (ix2 j d) + PartV (Xm m c) (Ym m c) (grp t) (krow t j) d (blkq t) := by
  obtain ⟨n, hn⟩ := t'
  obtain rfl : n = t.val - 1 := ht'
  rw [outsAt0_C m c t (by omega) ht3]
  dsimp only
  rw [outC6, outC7, pay877_at, stepK_at, stepV_at, partK_at m c t j d, partV_at m c t j d]
  exact ⟨rfl, rfl⟩

/-- What the kernel leaves at key `j` of group `b`. -/
def DKK (X : Fin 4096 → Fin 3072 → EReal) (Y : Fin 4096 → Fin 2048 → EReal) (b : Fin 4) (j : Fin 4096) (d : Fin 128) : EReal :=
  (∑ s : Fin 4, PartK X Y b j d s) * c0
def DVK (X : Fin 4096 → Fin 3072 → EReal) (Y : Fin 4096 → Fin 2048 → EReal) (b : Fin 4) (j : Fin 4096) (d : Fin 128) : EReal :=
  ∑ s : Fin 4, PartV X Y b j d s

theorem out_at (c : Dev nD) (t : Fin cfg0.N) (ht : t.val % 4 = 3) (j : Fin 1024) (d : Fin 128) :
    (outsAt0 m c t.val t.isLt).1 (ix2 j d) = DKK (Xm m c) (Ym m c) (grp t) (krow t j) d
    ∧ (outsAt0 m c t.val t.isLt).2.1 (ix2 j d) = DVK (Xm m c) (Ym m c) (grp t) (krow t j) d := by
  have hN : t.val < 64 := t.isLt
  obtain ⟨t2, h2⟩ : ∃ t2 : Fin cfg0.N, t2.val = t.val - 1 := ⟨⟨t.val - 1, by have := t.isLt; omega⟩, rfl⟩
  obtain ⟨t1, h1⟩ : ∃ t1 : Fin cfg0.N, t1.val = t.val - 2 := ⟨⟨t.val - 2, by have := t.isLt; omega⟩, rfl⟩
  obtain ⟨t0, h0⟩ : ∃ t0 : Fin cfg0.N, t0.val = t.val - 3 := ⟨⟨t.val - 3, by have := t.isLt; omega⟩, rfl⟩
  have gq : ∀ t' : Fin cfg0.N, t'.val / 4 = t.val / 4 → grp t' = grp t ∧ krow t' j = krow t j := fun t' h =>
    ⟨Fin.ext (by simp only [grp]; omega), Fin.ext (by simp only [krow]; omega)⟩
  have a0 := first_at m c t0 (by omega) j d
  have a1 := next_at m c t1 t0 (by omega) (by omega) (by omega) j d
  have a2 := next_at m c t2 t1 (by omega) (by omega) (by omega) j d
  have a3 := last_at m c t t2 ht (by omega) j d
  rw [(gq t0 (by omega)).1, (gq t0 (by omega)).2, show blkq t0 = 0 from Fin.ext (by show t0.val % 4 = 0; omega)] at a0
  rw [(gq t1 (by omega)).1, (gq t1 (by omega)).2, show blkq t1 = 1 from Fin.ext (by show t1.val % 4 = 1; omega), a0.1, a0.2] at a1
  rw [(gq t2 (by omega)).1, (gq t2 (by omega)).2, show blkq t2 = 2 from Fin.ext (by show t2.val % 4 = 2; omega), a1.1, a1.2] at a2
  rw [show blkq t = 3 from Fin.ext (by show t.val % 4 = 3; omega), a2.1, a2.2] at a3
  rw [DKK, DVK, Fin.sum_univ_four, Fin.sum_univ_four]
  exact a3

/-- The kernel's results as arrays. -/
def DKF (X : Fin 4096 → Fin 3072 → EReal) (Y : Fin 4096 → Fin 2048 → EReal) (j : Fin 4096) (l : Fin 512) : EReal :=
  DKK X Y ⟨l.val / 128, by omega⟩ j ⟨l.val % 128, by omega⟩
def DVF (X : Fin 4096 → Fin 3072 → EReal) (Y : Fin 4096 → Fin 2048 → EReal) (j : Fin 4096) (l : Fin 512) : EReal :=
  DVK X Y ⟨l.val / 128, by omega⟩ j ⟨l.val % 128, by omega⟩

theorem DF_at (X : Fin 4096 → Fin 3072 → EReal) (Y : Fin 4096 → Fin 2048 → EReal) (b : Fin 4) (j : Fin 4096) (d : Fin 128) (l : Fin 512)
    (hl : l.val = b.val * 128 + d.val) : DKF X Y j l = DKK X Y b j d ∧ DVF X Y j l = DVK X Y b j d := by
  have e0 : (⟨l.val / 128, by omega⟩ : Fin 4) = b := Fin.ext (by simp only; omega)
  have e2 : (⟨l.val % 128, by omega⟩ : Fin 128) = d := Fin.ext (by simp only; omega)
  rw [DKF, DVF, e0, e2]
  exact ⟨rfl, rfl⟩

theorem out_block (c : Dev nD) (t : Fin cfg0.N) (ht : t.val % 4 = 3) (y : S1024x128.Idx) (i : Fin 4096) (l : Fin 512)
    (hi : i.val = t.val / 4 % 4 * 1024 + (y 0).val) (hl : l.val = t.val / 16 * 128 + (y 1).val) :
    (outsAt0 m c t.val t.isLt).1 y = DKF (Xm m c) (Ym m c) i l ∧ (outsAt0 m c t.val t.isLt).2.1 y = DVF (Xm m c) (Ym m c) i l := by
  obtain ⟨r, hr⟩ : ∃ r : Fin 1024, r.val = (y 0).val := ⟨⟨_, (y 0).isLt⟩, rfl⟩
  obtain ⟨d, hd⟩ : ∃ d : Fin 128, d.val = (y 1).val := ⟨⟨_, (y 1).isLt⟩, rfl⟩
  have hy : y = ix2 r d := by
    funext a; apply Fin.ext; fin_cases a
    · exact hr.symm
    · exact hd.symm
  have e := DF_at (Xm m c) (Ym m c) (grp t) i d l (by simp only [grp]; omega)
  obtain rfl : i = krow t r := Fin.ext (by simp only [krow]; omega)
  rw [hy, e.1, e.2]
  exact out_at m c t ht r d

theorem idx6 (t : Fin cfg0.N) : win0_6.index t 0 = t.val / 4 % 4 ∧ win0_6.index t 1 = t.val / 16 := by
  rw [(idx_val t).2.2.2.2.2.2.1]; exact ⟨rfl, rfl⟩
theorem idx7 (t : Fin cfg0.N) : win0_7.index t 0 = t.val / 4 % 4 ∧ win0_7.index t 1 = t.val / 16 := by
  rw [(idx_val t).2.2.2.2.2.2.2]; exact ⟨rfl, rfl⟩

theorem final_6 (c : Dev nD) : (dats m 0 c).arrAt 6 (cfgs 0).N = fun y : S4096x512.Idx => DKF (Xm m c) (Ym m c) (y 0) (y 1) := by
  refine (dats m 0 c).arrAt_eq_of_covers 6 _ (by decide +kernel) fun t hf y => ?_
  blk_simp; rw [after0_6]
  exact (out_block m c t ((flush0_6 t).mp hf) y _ _ (by rw [← (idx6 t).1]; blk_simp) (by rw [← (idx6 t).2]; blk_simp)).1

theorem final_7 (c : Dev nD) : (dats m 0 c).arrAt 7 (cfgs 0).N = fun y : S4096x512.Idx => DVF (Xm m c) (Ym m c) (y 0) (y 1) := by
  refine (dats m 0 c).arrAt_eq_of_covers 7 _ (by decide +kernel) fun t hf y => ?_
  blk_simp; rw [after0_7]
  exact (out_block m c t ((flush0_7 t).mp hf) y _ _ (by rw [← (idx7 t).1]; blk_simp) (by rw [← (idx7 t).2]; blk_simp)).2

end Cert.Kernel2Ideal.Dkv

end
-- ==== Proof.DkvRef.lean ====
module

public import proofs.«01_k».proof.Proof.Gen.Reference2Ideal.Read
public import proofs.«01_k».proof.Proof.DqRef

/-! The reference's gradients in the keys and in the values read at an entry: sums over the queries and the heads of the
group, of the derivative of the logits with the queries and of the probabilities with the cotangent. -/

@[expose] public section

set_option maxRecDepth 16384

noncomputable section

namespace Cert.Reference2Ideal.Dkv

open Cert.Reference2Ideal Cert.Reference2Ideal.Gen Cert.Reference2Ideal.Read Idealize.ShloMosaic Idealize.ShloMosaic.TcCoe Idealize.SL.Sem
open Cert.Attn
open Cert.KernelIdeal.Dq (hz hmax hmax' hexp hsum hprob hprob_at hk hq hv XM YM)

variable (x : FVec Ideal S4096x3072 .f32) (y : FVec Ideal S4096x2048 .f32)

/-- Lane `d` of group `b` in a result. -/
def kl (b : Fin 4) (d : Fin 128) : Fin 512 := ⟨b.val * 128 + d.val, by omega⟩

theorem v56_eq : val_main_v56 (F := Ideal) x y = Cert.ReferenceIdeal.Read.val_main_v54 (F := Ideal) x y := rfl
theorem v34_eq : val_main_v34 (F := Ideal) x = hprob x := rfl

/-- The product of a derivative with the queries, by key, group and lane. -/
def dkForm (g' : FVec Ideal S4x4x4096x4096 .f32) (q : FVec Ideal S4096x4x4x128 .f32) : FVec Ideal S4096x512 .f32 :=
  shapeCast S4096x512 (transpose S4096x4x128 [1, 0, 2] (Host.dotGeneral dot_S4x4096x4096x4_S4096x4x4x128_S4x4096x128_23_02_1_3_0_1 none
    (transpose S4x4096x4096x4 [0, 3, 2, 1] (mulf g' (broadcastInDim S4x4x4096x4096 ![] bcast_S_S4x4x4096x4096 (constant S_ .f32 0x3DB504F3#32))) transposes_S4x4x4096x4096_S4x4096x4096x4_0_3_2_1 : FVec Ideal S4x4096x4096x4 .f32) q : FVec Ideal S4x4096x128 .f32)
    transposes_S4x4096x128_S4096x4x128_1_0_2 : FVec Ideal S4096x4x128 .f32) shapeCasts_S4096x4x128_S4096x512

/-- The product of the probabilities with the cotangent, by key, group and lane. -/
def dvForm (p : FVec Ideal S4x4x4096x4096 .f32) (w : FVec Ideal S4096x2048 .f32) : FVec Ideal S4096x512 .f32 :=
  shapeCast S4096x512 (transpose S4096x4x128 [2, 0, 1] (Host.dotGeneral dot_S4x128x4x4096_S4x4x4096x4096_S4x128x4096_23_12_1_3_0_0 none
    (transpose S4x128x4x4096 [1, 3, 2, 0] (shapeCast S4096x4x4x128 w shapeCasts_S4096x2048_S4096x4x4x128) transposes_S4096x4x4x128_S4x128x4x4096_1_3_2_0 : FVec Ideal S4x128x4x4096 .f32) p : FVec Ideal S4x128x4096 .f32)
    transposes_S4x128x4096_S4096x4x128_2_0_1 : FVec Ideal S4096x4x128 .f32) shapeCasts_S4096x4x128_S4096x512

theorem v62_eq : val_main_v62 (F := Ideal) x y = dkForm (val_main_v56 (F := Ideal) x y) (hq x) := rfl
theorem v63_eq : val_main_v63 (F := Ideal) x y = dvForm (val_main_v34 (F := Ideal) x) y := rfl

theorem dkForm_at (g' : FVec Ideal S4x4x4096x4096 .f32) (q : FVec Ideal S4096x4x4x128 .f32) (b : Fin 4) (j : Fin 4096) (d : Fin 128) :
    dkForm g' q (ix2 j (kl b d)) = ∑ i : Fin 4096, ∑ g : Fin 4, g' (ix4 b g i j) * c0 * q (ix4 i b g d) := by
  pointwise [dkForm]
  have e1 : (⟨(kl b d).val / 128, by omega⟩ : Fin 4) = b := Fin.ext (by simp only [kl]; omega)
  have e3 : (⟨(kl b d).val % 128, by omega⟩ : Fin 128) = d := Fin.ext (by simp only [kl]; omega)
  refine Finset.sum_congr rfl fun i _ => Finset.sum_congr rfl fun g _ => ?_
  exact congrArg₂ (· * ·) (congrArg (· * c0) (congrArg (fun u => g' (ix4 u g i j)) e1)) (congrArg₂ (fun u v => q (ix4 i u g v)) e1 e3)

theorem dvForm_at (p : FVec Ideal S4x4x4096x4096 .f32) (w : FVec Ideal S4096x2048 .f32) (b : Fin 4) (j : Fin 4096) (d : Fin 128) :
    dvForm p w (ix2 j (kl b d)) = ∑ g : Fin 4, ∑ i : Fin 4096, w (ix2 i (oi b g d)) * p (ix4 b g i j) := by
  pointwise [dvForm]
  have e1 : (⟨(kl b d).val / 128, by omega⟩ : Fin 4) = b := Fin.ext (by simp only [kl]; omega)
  refine Finset.sum_congr rfl fun g _ => Finset.sum_congr rfl fun i _ => ?_
  refine congrArg₂ (· * ·) (congrArg (fun u => w (ix2 i u)) (Fin.ext ?_)) (congrArg (fun u => p (ix4 u g i j)) e1)
  simp only [kl, oi]; omega

theorem hq_at (i : Fin 4096) (b g : Fin 4) (d : Fin 128) : hq x (ix4 i b g d) = XM x i (qi b g d) := by
  pointwise [hq]
  rfl

theorem v62_at (b : Fin 4) (j : Fin 4096) (d : Fin 128) : val_main_v62 (F := Ideal) x y (ix2 j (kl b d))
    = ∑ g : Fin 4, ∑ i : Fin 4096, G (XM x) (YM y) b g i j * c0 * XM x i (qi b g d) := by
  rw [v62_eq, dkForm_at, Finset.sum_comm]
  exact Finset.sum_congr rfl fun g _ => Finset.sum_congr rfl fun i _ => by rw [v56_eq, Cert.ReferenceIdeal.Dq.v54_at, hq_at]

theorem v63_at (b : Fin 4) (j : Fin 4096) (d : Fin 128) : val_main_v63 (F := Ideal) x y (ix2 j (kl b d))
    = ∑ g : Fin 4, ∑ i : Fin 4096, YM y i (oi b g d) * Ideal.div (E (XM x) b g i j) (L (XM x) b g i) := by
  rw [v63_eq, dvForm_at]
  exact Finset.sum_congr rfl fun g _ => Finset.sum_congr rfl fun i _ => by rw [v34_eq, hprob_at]

end Cert.Reference2Ideal.Dkv

end
-- ==== Proof.DkvAlg.lean ====
module

public import proofs.«01_k».proof.Defs
public import proofs.«01_k».proof.Proof.Gen.Reference2Ideal.Run
public import proofs.«01_k».proof.Proof.DkvValue
public import proofs.«01_k».proof.Proof.DkvRef
public import proofs.«01_k».proof.Proof.DqAlg

/-! The value claim of the attention's gradients in the keys and values: on finite arguments the kernel's results and the
reference's are equal. -/

@[expose] public section

set_option maxRecDepth 16384

noncomputable section

namespace Cert.AttnDkv

open Cert.Kernel2Ideal Cert.Finite Cert.Attn Idealize.ShloMosaic Idealize.ShloMosaic.TcCoe Idealize.SL.Sem
open Cert.Kernel2Ideal.Dkv Cert.Reference2Ideal.Dkv Cert.Reference2Ideal.Read
open Cert.KernelIdeal.Dq (XM YM)
open Cert.AttnDq (real_of_pre sum_mul_real)

section Arrays

/-- A sum over four blocks of queries, head by head, is the sum over all the queries of each head. -/
theorem sum_blocks (f : Fin 4 → Fin 4096 → EReal) :
    ∑ s : Fin 4, ∑ h : Fin 4, ∑ r : Fin 1024, f h (qrow s r) = ∑ h : Fin 4, ∑ i : Fin 4096, f h i := by
  rw [Finset.sum_comm]
  refine Finset.sum_congr rfl fun h _ => ?_
  rw [← Finset.sum_product']
  refine Fintype.sum_equiv (finProdFinEquiv (m := 4) (n := 1024)) _ _ fun p => congrArg (f h) (Fin.ext ?_)
  simp only [qrow, finProdFinEquiv_apply_val]; omega

variable (x0 : FVec Ideal S4096x3072 .f32) (x1 : FVec Ideal S4096x2048 .f32) (h0 : ∀ i, IsReal (x0 i)) (h1 : ∀ i, IsReal (x1 i))
include h0

theorem dv_eq : (fun y : S4096x512.Idx => DVF (XM x0) (YM x1) (y 0) (y 1)) = val_main_v63 (F := Ideal) x0 x1 := by
  funext y
  idx_vars y
  obtain ⟨b, hb⟩ : ∃ b : Fin 4, b.val = y1.val / 128 := ⟨⟨y1.val / 128, by omega⟩, rfl⟩
  obtain ⟨d, hd⟩ : ∃ b : Fin 128, b.val = y1.val % 128 := ⟨⟨y1.val % 128, by omega⟩, rfl⟩
  obtain rfl : y1 = kl b d := Fin.ext (by simp only [kl]; omega)
  choose x hx using fun i j => h0 (ix2 i j)
  rw [v63_at]
  refine (DF_at _ _ b y0 d _ rfl).2.trans ((sum_blocks fun h i => PK (XM x0) b h i y0 * YM x1 i (oi b h d)).trans ?_)
  exact Finset.sum_congr rfl fun h _ => Finset.sum_congr rfl fun i _ =>
    (congrArg (· * _) (PK_eq (X := XM x0) hx b h i y0).1).trans (mul_comm _ _)

include h1
theorem dk_eq : (fun y : S4096x512.Idx => DKF (XM x0) (YM x1) (y 0) (y 1)) = val_main_v62 (F := Ideal) x0 x1 := by
  funext y
  idx_vars y
  obtain ⟨b, hb⟩ : ∃ b : Fin 4, b.val = y1.val / 128 := ⟨⟨y1.val / 128, by omega⟩, rfl⟩
  obtain ⟨d, hd⟩ : ∃ b : Fin 128, b.val = y1.val % 128 := ⟨⟨y1.val % 128, by omega⟩, rfl⟩
  obtain rfl : y1 = kl b d := Fin.ext (by simp only [kl]; omega)
  choose x hx using fun i j => h0 (ix2 i j)
  choose w hw using fun i j => h1 (ix2 i j)
  have hS := fun h i => DS_eq_G (X := XM x0) (Y := YM x1) hx hw b h i y0
  rw [v62_at]
  refine (DF_at _ _ b y0 d _ rfl).1.trans ((congrArg (· * c0) (sum_blocks fun h i => DS (XM x0) (YM x1) b h i y0 * XM x0 i (qi b h d))).trans ?_)
  have e := fun h => sum_mul_real (f := fun i => G (XM x0) (YM x1) b h i y0) (k := fun i => XM x0 i (qi b h d))
    (fun i => (hS h i).2) (fun i => h0 _) isReal_c0
  have q := sum_mul_real (f := fun h => ∑ i, G (XM x0) (YM x1) b h i y0 * XM x0 i (qi b h d)) (k := fun _ : Fin 4 => ((1 : ℝ) : EReal))
    (fun h => isReal_sum _ _ fun i => IsReal.mul (hS h i).2 (h0 _)) (fun _ => ⟨1, rfl⟩) isReal_c0
  simp only [EReal.coe_one, mul_one] at q
  simp only [fun h i => (hS h i).1]
  exact q.trans (Finset.sum_congr rfl fun h _ => e h)

end Arrays

theorem algebraic : Cert.algebraic_Kernel2Ideal_Reference2Ideal_pre_finite := by
  intro m g m' g' hpre hargs
  have hr := fun c : Dev nD => real_of_pre _ _ (hpre c)
  have hk := fun c : Dev nD => dk_eq _ _ (hr c).1 (hr c).2
  have hv := fun c : Dev nD => dv_eq _ (m ((c : Thread nD τ).loc main_arg1)) (hr c).1
  refine ⟨fun c y => DKF (Xm m c) (Ym m c) (y 0) (y 1), fun c y => DVF (Xm m c) (Ym m c) (y 0) (y 1), ?_, ?_⟩
  · refine (θ_run defs _ _).mono (fun r h c => ?_) (Cert.Kernel2Ideal.Value.run_blocks (F := Ideal) m g)
    obtain ⟨e, e', k⟩ := h c
    exact ⟨e.trans (final_6 m c), e'.trans (final_7 m c), k⟩
  · refine (θ_run Cert.Reference2Ideal.defs _ _).mono (fun r h c => ?_) (Cert.Reference2Ideal.Value.run (F := Ideal) m' g')
    obtain ⟨e, e', k⟩ := h c
    obtain ⟨a0, a1⟩ := hargs c
    refine ⟨e.trans ?_, e'.trans ?_, k⟩
    · rw [val_main_v62_eq, a0, a1]; exact (hk c).symm
    · refine (val_main_v63_eq _ _).trans ?_
      rw [a0, a1]; exact (hv c).symm

end Cert.AttnDkv

end
-- ==== Proof.ConvSpec.lean ====
module

public import Idealize.ShloMosaic.Lib.Pipeline.ValueKit
public import Idealize.ShloMosaic.Lib.Pointwise
public import Idealize.ShloMosaic.Lib.ValueLayout
public import Idealize.ShloMosaic.Lib.WordCmp
public import proofs.«01_k».proof.Proof.Finite

/-! The gradient of the gated three-row convolution, one column at a time: the step's own formulas over the extended
reals, and the law by which the two ways of writing the derivative of `x · σ(x)` agree on finite values. -/

@[expose] public section

set_option maxRecDepth 16384

noncomputable section

namespace Cert.ConvAct

open Idealize.ShloMosaic Cert.Finite
open scoped BigOperators

/-- The column moved one row down: row `r` holds the value of the row before it, the first row zero. -/
def prev (x : Fin 4096 → EReal) (r : Fin 4096) : EReal :=
  if r.val = 0 then 0 else x ⟨r.val - 1, by omega⟩

/-- The column moved one row up: row `r` holds the value of the row after it, the last row zero. -/
def next (x : Fin 4096 → EReal) (r : Fin 4096) : EReal :=
  if h : r.val < 4095 then x ⟨r.val + 1, by omega⟩ else 0

/-- A choice on "the row is row `k`". -/
theorem select_row (r k : ℕ) (hr : r < 4096) (hk : k < 4096) (a b : EReal) :
    Scalar.select (IntOp.cmpi .eq (BitVec.ofNat 32 r) (BitVec.ofNat 32 k)) a b = if r = k then a else b := by
  rw [WordCmp.cmpi_eq_ofNat (by omega) (by omega)]
  by_cases h : r = k <;> simp [h, Scalar.select]

/-- A column rotated down by one row, its first row made zero. -/
theorem down_eq (X : Fin 4096 → EReal) (r : Fin 4096) (p : (r.val + 4096 - 1) % 4096 < 4096) :
    Scalar.select (IntOp.cmpi .eq (BitVec.ofNat 32 r.val) 0#32) 0 (X ⟨(r.val + 4096 - 1) % 4096, p⟩) = prev X r := by
  rw [show (0#32 : BitVec 32) = BitVec.ofNat 32 0 from rfl, select_row _ _ r.isLt (by omega), prev]
  split
  · rfl
  · exact congrArg X (Fin.ext (by simp only; omega))

/-- A column rotated up by one row, its last row made zero. -/
theorem up_eq (X : Fin 4096 → EReal) (r : Fin 4096) (p : (r.val + 4096 - 4095) % 4096 < 4096) :
    Scalar.select (IntOp.cmpi .eq (BitVec.ofNat 32 r.val) 4095#32) 0 (X ⟨(r.val + 4096 - 4095) % 4096, p⟩) = next X r := by
  rw [show (4095#32 : BitVec 32) = BitVec.ofNat 32 4095 from rfl, select_row _ _ r.isLt (by omega), next]
  by_cases h : r.val < 4095
  · rw [if_neg (by omega), dif_pos h]
    exact congrArg X (Fin.ext (by simp only; omega))
  · rw [if_pos (by omega), dif_neg h]

/-- The three-row convolution of a column, with its bias. -/
def conv (w : Fin 3 → EReal) (b : EReal) (u : Fin 4096 → EReal) (r : Fin 4096) : EReal :=
  w 0 * prev u r + w 1 * u r + w 2 * next u r + b

/-- The gradient reaching the value half: the incoming gradient times `g · σ(g)`. -/
def dval (g d : EReal) : EReal := d * (g * Ideal.logistic g)

/-- The gradient reaching the gate half, the derivative of `g · σ(g)` written as `σ(g) · (1 + g · (1 − σ(g)))`. -/
def dgate (g v d : EReal) : EReal := d * v * (Ideal.logistic g * (1 + g * (1 - Ideal.logistic g)))

/-- The gradient of the convolution's input: the same three weights, met from the other side. -/
def du (w : Fin 3 → EReal) (dc : Fin 4096 → EReal) (r : Fin 4096) : EReal :=
  w 0 * next dc r + w 1 * dc r + w 2 * prev dc r

/-- The eight rows kept for the weights of one half: the three weights' gradients, the bias's, and four zero rows. -/
def dw (u dc : Fin 4096 → EReal) (k : Fin 8) : EReal :=
  if k.val = 0 then ∑ r, dc r * prev u r
  else if k.val = 1 then ∑ r, dc r * u r
  else if k.val = 2 then ∑ r, dc r * next u r
  else if k.val = 3 then ∑ r, dc r
  else 0

theorem dw_rest (u dc : Fin 4096 → EReal) (k : Fin 8) (hk : 4 ≤ k.val) : dw u dc k = 0 := by
  unfold dw
  rw [if_neg (by omega), if_neg (by omega), if_neg (by omega), if_neg (by omega)]

theorem isReal_conv {w : Fin 3 → EReal} {b : EReal} {u : Fin 4096 → EReal} (hw : ∀ k, IsReal (w k)) (hb : IsReal b)
    (hu : ∀ r, IsReal (u r)) (r : Fin 4096) : IsReal (conv w b u r) := by
  have hp : IsReal (prev u r) := by unfold prev; split; exacts [isReal_zero, hu _]
  have hn : IsReal (next u r) := by unfold next; split; exacts [hu _, isReal_zero]
  exact ((((hw 0).mul hp).add ((hw 1).mul (hu r))).add ((hw 2).mul hn)).add hb

/-- On real numbers the derivative of `g · σ(g)` is `σ(g) + g · (σ(g) · (1 − σ(g)))`, which is the form that
differentiating the product gives. -/
theorem dgate_eq {g v d : EReal} (hg : IsReal g) (hv : IsReal v) (hd : IsReal d) :
    d * v * Ideal.logistic g + g * (d * v) * (Ideal.logistic g * (1 - Ideal.logistic g)) = dgate g v d := by
  obtain ⟨g, rfl⟩ := hg; obtain ⟨v, rfl⟩ := hv; obtain ⟨d, rfl⟩ := hd
  rw [dgate, Ideal.logistic_coe]
  generalize (1 + Real.exp (-g))⁻¹ = s
  norm_cast
  ring

end Cert.ConvAct

end
-- ==== Proof.ConvPay.lean ====
module

public import proofs.«01_k».proof.Proof.Gen.Kernel3Ideal.Value
public import proofs.«01_k».proof.Proof.ConvSpec
public import Idealize.ShloMosaic.Lib.ValueLayout

/-! The kernel's steps read at an entry of a block: the shifts by a row, the convolution, the gradient of the gate and of
the value, the gradient of the input and the column sums. -/

@[expose] public section

set_option maxRecDepth 16384

noncomputable section

namespace Cert.Kernel3Ideal.Conv

open Cert.Kernel3Ideal Cert.Kernel3Ideal.Gen Idealize.ShloMosaic Idealize.ShloMosaic.TcCoe Idealize.SL.Sem
open Cert.ConvAct
open scoped BigOperators

variable (v : Vec Ideal S1x4096x128 .f32) (a b c : FVec Ideal S4096x128 .f32) (w0 w1 w2 w3 : FVec Ideal S1x128 .f32)
  (r : Fin 4096) (l : Fin 128)

theorem pay2_at : k0_pay2 (F := Ideal) v (ix2 r l) = v (ix3 0 r l) := by pointwise [k0_pay2]
theorem pay3_at : k0_pay3 (F := Ideal) v (ix2 r l) = v (ix3 0 r l) := by pointwise [k0_pay3]
theorem pay4_at : k0_pay4 (F := Ideal) v (ix2 r l) = prev (fun r => v (ix3 0 r l)) r := by
  pointwise [k0_pay4, k0_pay2]
  exact down_eq (fun r => v (ix3 0 r l)) r _
theorem pay6_at : k0_pay6 (F := Ideal) v (ix2 r l) = prev (fun r => v (ix3 0 r l)) r := by
  pointwise [k0_pay6, k0_pay3]
  exact down_eq (fun r => v (ix3 0 r l)) r _

/-- A block rotated up by one row, at an entry. -/
theorem rot_up (h : S4096x128.Rotates 0 none) :
    dynamicRotate 0 4095#32 none a h (ix2 r l) = a (ix2 ⟨(r.val + 4096 - 4095) % 4096, Nat.mod_lt _ (by decide)⟩ l) := by
  rw [Pointwise.dynamicRotate_apply]
  refine congrArg a (funext fun b => ?_)
  have hb : b.val < 2 := b.isLt
  rcases b with ⟨b, _⟩
  interval_cases b
  · refine Fin.ext ?_
    show (r.val + 4096 - (4095 + 0) % 4096) % 4096 = (r.val + 4096 - 4095) % 4096
    rw [show (4095 + 0) % 4096 = 4095 from rfl]
  · rfl

/-- A column's choice between zero and the row after. -/
theorem up_at (h : S4096x128.Rotates 0 none) (hi) :
    select (cmpi .eq (iota .tc S4096x128 32 [0] hi) (broadcast S4096x128 4095#32))
      (broadcast S4096x128 (Scalar.ofBits (F := Ideal) .f32 0x00000000#32)) (dynamicRotate 0 4095#32 none a h) (ix2 r l)
      = next (fun r => a (ix2 r l)) r := by
  rw [ValueIdx.select_apply, rot_up]
  pointwise
  exact up_eq (fun r => a (ix2 r l)) r _

theorem pay5_at : k0_pay5 (F := Ideal) v (ix2 r l) = next (fun r => v (ix3 0 r l)) r := by
  unfold k0_pay5
  refine (up_at _ r l _ _).trans ?_
  simp only [pay2_at]

theorem pay7_at : k0_pay7 (F := Ideal) v (ix2 r l) = next (fun r => v (ix3 0 r l)) r := by
  unfold k0_pay7
  refine (up_at _ r l _ _).trans ?_
  simp only [pay3_at]

theorem pay9_at : k0_pay9 (F := Ideal) a b c w0 w1 w2 w3 (ix2 r l)
    = w1 (ix2 0 l) * b (ix2 r l) + w2 (ix2 0 l) * a (ix2 r l) + w3 (ix2 0 l) * c (ix2 r l) + w0 (ix2 0 l) := by
  pointwise [k0_pay9]

theorem pay11_at : k0_pay11 (F := Ideal) a b w0 w1 (ix2 r l)
    = w0 (ix2 0 l) * b (ix2 r l) + w1 (ix2 0 l) * a (ix2 r l) := by
  pointwise [k0_pay11]

theorem pay13_at : k0_pay13 (F := Ideal) a b (ix2 r l) = dval (b (ix2 r l)) (a (ix2 r l)) := by
  pointwise [k0_pay13, k0_pay12]
  rfl

theorem pay14_at (e : FVec Ideal S4096x128 .f32) : k0_pay14 (F := Ideal) a b c w0 e w1 (ix2 r l)
    = dgate (c (ix2 r l)) (e (ix2 r l) + w1 (ix2 0 l) * b (ix2 r l) + w0 (ix2 0 l)) (a (ix2 r l)) := by
  pointwise [k0_pay14, k0_pay12]
  rfl

theorem pay15_at (e : FVec Ideal S4096x128 .f32) : k0_pay15 (F := Ideal) a b c w0 e w1 (ix2 r l)
    = prev (fun r => k0_pay14 (F := Ideal) a b c w0 e w1 (ix2 r l)) r := by
  unfold k0_pay15
  generalize k0_pay14 (F := Ideal) a b c w0 e w1 = y
  pointwise
  exact down_eq (fun r => y (ix2 r l)) r _

theorem pay16_at (e : FVec Ideal S4096x128 .f32) : k0_pay16 (F := Ideal) a b c w0 e w1 w2 w3 (ix2 r l)
    = w2 (ix2 0 l) * next (fun r => k0_pay14 (F := Ideal) a b c w0 e w1 (ix2 r l)) r
      + w3 (ix2 0 l) * k0_pay14 (F := Ideal) a b c w0 e w1 (ix2 r l) := by
  unfold k0_pay16
  generalize k0_pay14 (F := Ideal) a b c w0 e w1 = y
  rw [ValueIdx.addf_apply, ValueIdx.mulf_apply, up_at]
  pointwise

theorem pay17_at : k0_pay17 (F := Ideal) a b w0 (ix3 0 r l) = b (ix2 r l) + w0 (ix2 0 l) * a (ix2 r l) := by
  pointwise [k0_pay17]

theorem pay18_at : k0_pay18 (F := Ideal) a (ix2 r l) = prev (fun r => a (ix2 r l)) r := by
  pointwise [k0_pay18]
  exact down_eq (fun r => a (ix2 r l)) r _

theorem pay19_at : k0_pay19 (F := Ideal) a w0 w1 (ix2 r l)
    = w0 (ix2 0 l) * next (fun r => a (ix2 r l)) r + w1 (ix2 0 l) * a (ix2 r l) := by
  unfold k0_pay19
  rw [ValueIdx.addf_apply, ValueIdx.mulf_apply, up_at]
  pointwise

theorem pay20_at : k0_pay20 (F := Ideal) a b w0 (ix3 0 r l) = b (ix2 r l) + w0 (ix2 0 l) * a (ix2 r l) := by
  pointwise [k0_pay20]

theorem pay8_at (v : FVec Ideal S1x1x128 .f32) : k0_pay8 (F := Ideal) v (ix2 0 l) = v (ix3 0 0 l) := by pointwise [k0_pay8]
theorem pay10_at (v : FVec Ideal S1x1x128 .f32) : k0_pay10 (F := Ideal) v (ix2 0 l) = v (ix3 0 0 l) := by pointwise [k0_pay10]

theorem pay21_at : k0_pay21 (F := Ideal) a b (ix3 0 0 l) = ∑ r, b (ix2 r l) * a (ix2 r l) := by pointwise [k0_pay21]
theorem pay22_at : k0_pay22 (F := Ideal) a b (ix3 0 0 l) = ∑ r, b (ix2 r l) * a (ix2 r l) := by pointwise [k0_pay22]
theorem pay23_at : k0_pay23 (F := Ideal) a b (ix3 0 0 l) = ∑ r, b (ix2 r l) * a (ix2 r l) := by pointwise [k0_pay23]
theorem pay24_at : k0_pay24 (F := Ideal) a (ix3 0 0 l) = ∑ r, a (ix2 r l) := by pointwise [k0_pay24]
theorem pay27_at : k0_pay27 (F := Ideal) a b (ix3 0 0 l) = ∑ r, b (ix2 r l) * a (ix2 r l) := by pointwise [k0_pay27]
theorem pay28_at : k0_pay28 (F := Ideal) a b (ix3 0 0 l) = ∑ r, b (ix2 r l) * a (ix2 r l) := by pointwise [k0_pay28]
theorem pay29_at : k0_pay29 (F := Ideal) a b (ix3 0 0 l) = ∑ r, b (ix2 r l) * a (ix2 r l) := by pointwise [k0_pay29]
theorem pay30_at : k0_pay30 (F := Ideal) a (ix3 0 0 l) = ∑ r, a (ix2 r l) := by pointwise [k0_pay30]
theorem pay26_at (k : Fin 4) : k0_pay26 (F := Ideal) k0_pay25 (ix3 0 k l) = 0 := by pointwise [k0_pay26, k0_pay25]
theorem pay1_at (k : Fin 4) : k0_pay1 (F := Ideal) k0_pay31 (ix3 0 k l) = 0 := by pointwise [k0_pay1, k0_pay31]

variable (U : Vec Ideal S2x4096x128 .f32) (W : Vec Ideal S2x3x128 .f32) (B : Vec Ideal S2x1x128 .f32)

/-- Half `h` of the block of the convolution's input. -/
def halfU (h : Fin 2) : Vec Ideal S1x4096x128 .f32 := fun i => U (ix3 h (i 1) (i 2))
/-- Half `h` of the block of biases. -/
def halfB (h : Fin 2) : FVec Ideal S1x1x128 .f32 := fun i => B (ix3 h 0 (i 2))
/-- Half `h` of the block of weights. -/
def halfW (h : Fin 2) : Vec Ideal S3x128 .f32 := fun i => W (ix3 h (i 0) (i 1))
/-- Row `k` of three weights. -/
def rowW (w : Vec Ideal S3x128 .f32) (k : Fin 3) : FVec Ideal S1x128 .f32 := fun i => w (ix2 k (i 1))

theorem halfU_at (h : Fin 2) : halfU U h (ix3 0 r l) = U (ix3 h r l) := rfl
theorem halfB_at (h : Fin 2) : halfB B h (ix3 0 0 l) = B (ix3 h 0 l) := rfl
theorem rowW_at (h : Fin 2) (k : Fin 3) : rowW (halfW W h) k (ix2 0 l) = W (ix3 h k l) := rfl

theorem ldU0 (h) : View.ld U (Rect.unit ![0, 0, 0] ![1, 4096, 128] h) = halfU U 0 := by
  refine funext fun (i : S1x4096x128.Idx) => ?_
  pointwise [halfU]
theorem ldU1 (h) : View.ld U (Rect.unit ![1, 0, 0] ![1, 4096, 128] h) = halfU U 1 := by
  refine funext fun (i : S1x4096x128.Idx) => ?_
  pointwise [halfU]
theorem ldB0 (h) : View.ld B (Rect.unit ![0, 0, 0] ![1, 1, 128] h) = halfB B 0 := by
  refine funext fun (i : S1x1x128.Idx) => ?_
  pointwise [halfB]
theorem ldB1 (h) : View.ld B (Rect.unit ![1, 0, 0] ![1, 1, 128] h) = halfB B 1 := by
  refine funext fun (i : S1x1x128.Idx) => ?_
  pointwise [halfB]
theorem ldW0 (w : Vec Ideal S3x128 .f32) (h) : View.ld w (Rect.unit ![0, 0] ![1, 128] h) = rowW w 0 := by
  refine funext fun (i : S1x128.Idx) => ?_
  pointwise [rowW]
theorem ldW1 (w : Vec Ideal S3x128 .f32) (h) : View.ld w (Rect.unit ![1, 0] ![1, 128] h) = rowW w 1 := by
  refine funext fun (i : S1x128.Idx) => ?_
  pointwise [rowW]
theorem ldW2 (w : Vec Ideal S3x128 .f32) (h) : View.ld w (Rect.unit ![2, 0] ![1, 128] h) = rowW w 2 := by
  refine funext fun (i : S1x128.Idx) => ?_
  pointwise [rowW]

/-- The weights of the first half, seen through its row of the weight block. -/
theorem rdW0 {M : Memref sig .tc .vmem S2x3x128 .f32} (hM : M.IsWhole) (h) (hn) :
    View.read (Elt Ideal) ((M.view.slice (Rect.unit ![0, 0, 0] ![1, 3, 128] h)).reshape S3x128 hn) (hM.unread W)
      = halfW W 0 := by
  refine funext fun (i : S3x128.Idx) => ?_
  idx_vars i
  refine (congrFun (hM.read_unread W) _).trans (congrArg W ?_)
  refine (congrArg (fun z : S1x3x128.Idx => (Rect.unit (s := S2x3x128) ![0, 0, 0] ![1, 3, 128] h).emb z)
    (ValueIdx.reshapeEquiv_ix2_1ab (a := 3) (b := 128) hn i0 i1)).trans ?_
  funext a
  have ha : a.val < 3 := a.isLt
  rcases a with ⟨a, _⟩
  interval_cases a <;> exact Fin.ext (by simp [Rect.emb, Rect.unit])

/-- The weights of the second half, seen through its row of the weight block. -/
theorem rdW1 {M : Memref sig .tc .vmem S2x3x128 .f32} (hM : M.IsWhole) (h) (hn) :
    View.read (Elt Ideal) ((M.view.slice (Rect.unit ![1, 0, 0] ![1, 3, 128] h)).reshape S3x128 hn) (hM.unread W)
      = halfW W 1 := by
  refine funext fun (i : S3x128.Idx) => ?_
  idx_vars i
  refine (congrFun (hM.read_unread W) _).trans (congrArg W ?_)
  refine (congrArg (fun z : S1x3x128.Idx => (Rect.unit (s := S2x3x128) ![1, 0, 0] ![1, 3, 128] h).emb z)
    (ValueIdx.reshapeEquiv_ix2_1ab (a := 3) (b := 128) hn i0 i1)).trans ?_
  funext a
  have ha : a.val < 3 := a.isLt
  rcases a with ⟨a, _⟩
  interval_cases a <;> exact Fin.ext (by simp [Rect.emb, Rect.unit])

end Cert.Kernel3Ideal.Conv

end
-- ==== Proof.ConvValue.lean ====
module

public import proofs.«01_k».proof.Proof.ConvPay

/-! What the kernel leaves in its two results, entry by entry: the column formulas of `ConvSpec` at the arguments. -/

@[expose] public section

set_option maxRecDepth 16384

noncomputable section

namespace Cert.Kernel3Ideal.Conv

open Cert.Kernel3Ideal Cert.Kernel3Ideal.Gen Idealize.ShloMosaic Idealize.ShloMosaic.TcCoe Idealize.SL.Sem
open Idealize.ShloMosaic.Pipeline (Dat)
open Cert.ConvAct
open scoped BigOperators

variable (m : (ℓ : Loc nD τ sig) → Buf (Elt Ideal) ℓ)

section Spec

variable (a0 : FVec Ideal S2x4096x5632 .f32) (a1 : FVec Ideal S2x3x5632 .f32) (a2 : FVec Ideal S2x1x5632 .f32)
  (a3 : FVec Ideal S4096x5632 .f32)

/-- Column `l` of half `h` of the convolution. -/
def cvK (h : Fin 2) (l : Fin 5632) : Fin 4096 → EReal :=
  conv (fun k => a1 (ix3 h k l)) (a2 (ix3 h 0 l)) (fun r => a0 (ix3 h r l))

/-- Column `l` of the gradient of the convolution's half `h` as the kernel forms it. -/
def dcK (h : Fin 2) (l : Fin 5632) (r : Fin 4096) : EReal :=
  if h.val = 0 then dgate (cvK a0 a1 a2 0 l r) (cvK a0 a1 a2 1 l r) (a3 (ix2 r l))
  else dval (cvK a0 a1 a2 0 l r) (a3 (ix2 r l))

/-- The gradient of the convolution's input. -/
def DU : FVec Ideal S2x4096x5632 .bf16 := fun i =>
  du (fun k => a1 (ix3 (i 0) k (i 2))) (dcK a0 a1 a2 a3 (i 0) (i 2)) (i 1)

/-- The weights' and the biases' gradients, in eight rows. -/
def DW : FVec Ideal S2x8x5632 .f32 := fun i =>
  dw (fun r => a0 (ix3 (i 0) r (i 2))) (dcK a0 a1 a2 a3 (i 0) (i 2)) (i 1)

theorem dcK_zero (l : Fin 5632) :
    dcK a0 a1 a2 a3 0 l = fun r => dgate (cvK a0 a1 a2 0 l r) (cvK a0 a1 a2 1 l r) (a3 (ix2 r l)) :=
  funext fun r => if_pos rfl

theorem dcK_one (l : Fin 5632) : dcK a0 a1 a2 a3 1 l = fun r => dval (cvK a0 a1 a2 0 l r) (a3 (ix2 r l)) :=
  funext fun r => if_neg (by decide)

theorem DU_at (h : Fin 2) (r : Fin 4096) (l : Fin 5632) :
    DU a0 a1 a2 a3 (ix3 h r l) = du (fun k => a1 (ix3 h k l)) (dcK a0 a1 a2 a3 h l) r := rfl

theorem DW_at (h : Fin 2) (k : Fin 8) (l : Fin 5632) :
    DW a0 a1 a2 a3 (ix3 h k l) = dw (fun r => a0 (ix3 h r l)) (dcK a0 a1 a2 a3 h l) k := rfl

end Spec

theorem idx_val : ∀ t : Fin cfg0.N, win0_0.index t = ![0, 0, t.val] ∧ win0_1.index t = ![0, 0, t.val]
    ∧ win0_2.index t = ![0, 0, t.val] ∧ win0_3.index t = ![0, t.val] ∧ win0_4.index t = ![0, 0, t.val]
    ∧ win0_5.index t = ![0, 0, t.val] :=
  (by decide +kernel : ∀ t : Fin grid0.N, _)

/-- Column `l` of step `t`'s block in the whole array. -/
def col (t : Fin cfg0.N) (l : Fin 128) : Fin 5632 :=
  ⟨t.val * 128 + l.val, by have : t.val < 44 := t.isLt; omega⟩

theorem blk0 (c : Dev nD) (t : Fin cfg0.N) (h : Fin 2) (r : Fin 4096) (l : Fin 128) :
    iblk m c 0 t (ix3 h r l) = m ((c : Thread nD τ).loc main_arg0) (ix3 h r (col t l)) := by
  blk_point [iblk, V, idx_val t, col]

theorem blk1 (c : Dev nD) (t : Fin cfg0.N) (h : Fin 2) (k : Fin 3) (l : Fin 128) :
    iblk m c 1 t (ix3 h k l) = m ((c : Thread nD τ).loc main_arg1) (ix3 h k (col t l)) := by
  blk_point [iblk, V, idx_val t, col]

theorem blk2 (c : Dev nD) (t : Fin cfg0.N) (h : Fin 2) (l : Fin 128) :
    iblk m c 2 t (ix3 h 0 l) = m ((c : Thread nD τ).loc main_arg2) (ix3 h 0 (col t l)) := by
  blk_point [iblk, V, idx_val t, col]

theorem blk3 (c : Dev nD) (t : Fin cfg0.N) (r : Fin 4096) (l : Fin 128) :
    iblk m c 3 t (ix2 r l) = m ((c : Thread nD τ).loc main_arg3) (ix2 r (col t l)) := by
  blk_point [iblk, V, idx_val t, col]

theorem final_4 (c : Dev nD) : (dats m 0 c).arrAt 4 (cfgs 0).N = DU (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  unfold Gen.outsAt0
  have hU : ∃ U : Vec Ideal S2x4096x128 .f32, iblk m c 0 t = U := ⟨_, rfl⟩
  have hW : ∃ U : Vec Ideal S2x3x128 .f32, iblk m c 1 t = U := ⟨_, rfl⟩
  have hB : ∃ U : Vec Ideal S2x1x128 .f32, iblk m c 2 t = U := ⟨_, rfl⟩
  have hD : ∃ U : Vec Ideal S4096x128 .f32, iblk m c 3 t = U := ⟨_, rfl⟩
  have e0 := blk0 m c t
  have e1 := blk1 m c t
  have e2 := blk2 m c t
  have e3 := blk3 m c t
  obtain ⟨U, hU⟩ := hU
  obtain ⟨W, hW⟩ := hW
  obtain ⟨B, hB⟩ := hB
  obtain ⟨D, hD⟩ := hD
  frame_out
  canon_tiles x h
  · rw [hU, hW, hB, hD]
    rw [hU] at e0; rw [hW] at e1; rw [hB] at e2; rw [hD] at e3
    idx_vars x
    obtain rfl : x0 = 0 := Subsingleton.elim _ _
    have hy : (((View.whole main_v0_0).slice (win0_4.rect t)).emb y) = ix3 1 x1 (col t x2) := by
      blk_ext [idx_val t, col]
    rw [hy]
    simp only [ldW0, ldW1, ldW2, rdW0, rdW1, ldU0, ldU1, ldB0, ldB1]
    simp only [halfU_at, halfB_at, rowW_at, pay20_at, pay18_at, pay19_at, pay13_at, pay9_at, pay2_at, pay4_at, pay5_at, pay8_at, e0, e1, e2, e3]
    rw [DU_at, dcK_one]
    rfl
  · rw [hU, hW, hB, hD]
    rw [hU] at e0; rw [hW] at e1; rw [hB] at e2; rw [hD] at e3
    idx_vars x
    obtain rfl : x0 = 0 := Subsingleton.elim _ _
    have hy : (((View.whole main_v0_0).slice (win0_4.rect t)).emb y) = ix3 0 x1 (col t x2) := by
      blk_ext [idx_val t, col]
    rw [hy]
    simp only [ldW0, ldW1, ldW2, rdW0, rdW1, ldU0, ldU1, ldB0, ldB1]
    simp only [halfU_at, halfB_at, rowW_at, pay17_at, pay15_at, pay16_at, pay14_at, pay11_at, pay10_at, pay3_at, pay6_at, pay7_at, pay9_at, pay2_at,
      pay4_at, pay5_at, pay8_at, e0, e1, e2, e3]
    rw [DU_at, dcK_zero]
    rfl

set_option maxHeartbeats 1000000 in
theorem final_5 (c : Dev nD) : (dats m 0 c).arrAt 5 (cfgs 0).N = DW (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  unfold Gen.outsAt0
  have hU : ∃ U : Vec Ideal S2x4096x128 .f32, iblk m c 0 t = U := ⟨_, rfl⟩
  have hW : ∃ U : Vec Ideal S2x3x128 .f32, iblk m c 1 t = U := ⟨_, rfl⟩
  have hB : ∃ U : Vec Ideal S2x1x128 .f32, iblk m c 2 t = U := ⟨_, rfl⟩
  have hD : ∃ U : Vec Ideal S4096x128 .f32, iblk m c 3 t = U := ⟨_, rfl⟩
  have e0 := blk0 m c t
  have e1 := blk1 m c t
  have e2 := blk2 m c t
  have e3 := blk3 m c t
  obtain ⟨U, hU⟩ := hU
  obtain ⟨W, hW⟩ := hW
  obtain ⟨B, hB⟩ := hB
  obtain ⟨D, hD⟩ := hD
  frame_out
  canon_tiles x h using View.cover_of_tiledBy _ ![1, 1, 128] (by sl_kernel_rfl) y
  · idx_vars x
    obtain rfl : x0 = 0 := Subsingleton.elim _ _
    have hy : (((View.whole main_v0_1).slice (win0_5.rect t)).emb y) = ix3 1 ⟨4 + x1.val, by omega⟩ (col t x2) := by
      blk_ext [idx_val t, col]
    rw [hy, DW_at]
    refine Eq.trans ?_ (dw_rest _ _ _ (by simp)).symm
    exact pay1_at x2 x1
  · rw [hU, hW, hB, hD]
    rw [hU] at e0; rw [hW] at e1; rw [hB] at e2; rw [hD] at e3
    idx_vars x
    obtain rfl : x0 = 0 := Subsingleton.elim _ _
    obtain rfl : x1 = 0 := Subsingleton.elim _ _
    have hy : (((View.whole main_v0_1).slice (win0_5.rect t)).emb y) = ix3 1 3 (col t x2) := by
      blk_ext [idx_val t, col]
    rw [hy]
    simp only [ldW0, ldW1, ldW2, rdW0, rdW1, ldU0, ldU1, ldB0, ldB1]
    simp only [halfU_at, halfB_at, rowW_at, pay26_at, pay1_at, pay21_at, pay22_at, pay23_at, pay24_at, pay27_at, pay28_at, pay29_at, pay30_at, pay14_at, pay11_at, pay10_at, pay3_at, pay6_at, pay7_at,
      pay13_at, pay9_at, pay2_at, pay4_at, pay5_at, pay8_at, e0, e1, e2, e3]
    rw [DW_at, dcK_one]
    rfl
  · rw [hU, hW, hB, hD]
    rw [hU] at e0; rw [hW] at e1; rw [hB] at e2; rw [hD] at e3
    idx_vars x
    obtain rfl : x0 = 0 := Subsingleton.elim _ _
    obtain rfl : x1 = 0 := Subsingleton.elim _ _
    have hy : (((View.whole main_v0_1).slice (win0_5.rect t)).emb y) = ix3 1 2 (col t x2) := by
      blk_ext [idx_val t, col]
    rw [hy]
    simp only [ldW0, ldW1, ldW2, rdW0, rdW1, ldU0, ldU1, ldB0, ldB1]
    simp only [halfU_at, halfB_at, rowW_at, pay26_at, pay1_at, pay21_at, pay22_at, pay23_at, pay24_at, pay27_at, pay28_at, pay29_at, pay30_at, pay14_at, pay11_at, pay10_at, pay3_at, pay6_at, pay7_at,
      pay13_at, pay9_at, pay2_at, pay4_at, pay5_at, pay8_at, e0, e1, e2, e3]
    rw [DW_at, dcK_one]
    rfl
  · rw [hU, hW, hB, hD]
    rw [hU] at e0; rw [hW] at e1; rw [hB] at e2; rw [hD] at e3
    idx_vars x
    obtain rfl : x0 = 0 := Subsingleton.elim _ _
    obtain rfl : x1 = 0 := Subsingleton.elim _ _
    have hy : (((View.whole main_v0_1).slice (win0_5.rect t)).emb y) = ix3 1 1 (col t x2) := by
      blk_ext [idx_val t, col]
    rw [hy]
    simp only [ldW0, ldW1, ldW2, rdW0, rdW1, ldU0, ldU1, ldB0, ldB1]
    simp only [halfU_at, halfB_at, rowW_at, pay26_at, pay1_at, pay21_at, pay22_at, pay23_at, pay24_at, pay27_at, pay28_at, pay29_at, pay30_at, pay14_at, pay11_at, pay10_at, pay3_at, pay6_at, pay7_at,
      pay13_at, pay9_at, pay2_at, pay4_at, pay5_at, pay8_at, e0, e1, e2, e3]
    rw [DW_at, dcK_one]
    rfl
  · rw [hU, hW, hB, hD]
    rw [hU] at e0; rw [hW] at e1; rw [hB] at e2; rw [hD] at e3
    idx_vars x
    obtain rfl : x0 = 0 := Subsingleton.elim _ _
    obtain rfl : x1 = 0 := Subsingleton.elim _ _
    have hy : (((View.whole main_v0_1).slice (win0_5.rect t)).emb y) = ix3 1 0 (col t x2) := by
      blk_ext [idx_val t, col]
    rw [hy]
    simp only [ldW0, ldW1, ldW2, rdW0, rdW1, ldU0, ldU1, ldB0, ldB1]
    simp only [halfU_at, halfB_at, rowW_at, pay26_at, pay1_at, pay21_at, pay22_at, pay23_at, pay24_at, pay27_at, pay28_at, pay29_at, pay30_at, pay14_at, pay11_at, pay10_at, pay3_at, pay6_at, pay7_at,
      pay13_at, pay9_at, pay2_at, pay4_at, pay5_at, pay8_at, e0, e1, e2, e3]
    rw [DW_at, dcK_one]
    rfl
  · idx_vars x
    obtain rfl : x0 = 0 := Subsingleton.elim _ _
    have hy : (((View.whole main_v0_1).slice (win0_5.rect t)).emb y) = ix3 0 ⟨4 + x1.val, by omega⟩ (col t x2) := by
      blk_ext [idx_val t, col]
    rw [hy, DW_at]
    refine Eq.trans ?_ (dw_rest _ _ _ (by simp)).symm
    exact pay26_at x2 x1
  · rw [hU, hW, hB, hD]
    rw [hU] at e0; rw [hW] at e1; rw [hB] at e2; rw [hD] at e3
    idx_vars x
    obtain rfl : x0 = 0 := Subsingleton.elim _ _
    obtain rfl : x1 = 0 := Subsingleton.elim _ _
    have hy : (((View.whole main_v0_1).slice (win0_5.rect t)).emb y) = ix3 0 3 (col t x2) := by
      blk_ext [idx_val t, col]
    rw [hy]
    simp only [ldW0, ldW1, ldW2, rdW0, rdW1, ldU0, ldU1, ldB0, ldB1]
    simp only [halfU_at, halfB_at, rowW_at, pay26_at, pay1_at, pay21_at, pay22_at, pay23_at, pay24_at, pay27_at, pay28_at, pay29_at, pay30_at, pay14_at, pay11_at, pay10_at, pay3_at, pay6_at, pay7_at,
      pay13_at, pay9_at, pay2_at, pay4_at, pay5_at, pay8_at, e0, e1, e2, e3]
    rw [DW_at, dcK_zero]
    rfl
  · rw [hU, hW, hB, hD]
    rw [hU] at e0; rw [hW] at e1; rw [hB] at e2; rw [hD] at e3
    idx_vars x
    obtain rfl : x0 = 0 := Subsingleton.elim _ _
    obtain rfl : x1 = 0 := Subsingleton.elim _ _
    have hy : (((View.whole main_v0_1).slice (win0_5.rect t)).emb y) = ix3 0 2 (col t x2) := by
      blk_ext [idx_val t, col]
    rw [hy]
    simp only [ldW0, ldW1, ldW2, rdW0, rdW1, ldU0, ldU1, ldB0, ldB1]
    simp only [halfU_at, halfB_at, rowW_at, pay26_at, pay1_at, pay21_at, pay22_at, pay23_at, pay24_at, pay27_at, pay28_at, pay29_at, pay30_at, pay14_at, pay11_at, pay10_at, pay3_at, pay6_at, pay7_at,
      pay13_at, pay9_at, pay2_at, pay4_at, pay5_at, pay8_at, e0, e1, e2, e3]
    rw [DW_at, dcK_zero]
    rfl
  · rw [hU, hW, hB, hD]
    rw [hU] at e0; rw [hW] at e1; rw [hB] at e2; rw [hD] at e3
    idx_vars x
    obtain rfl : x0 = 0 := Subsingleton.elim _ _
    obtain rfl : x1 = 0 := Subsingleton.elim _ _
    have hy : (((View.whole main_v0_1).slice (win0_5.rect t)).emb y) = ix3 0 1 (col t x2) := by
      blk_ext [idx_val t, col]
    rw [hy]
    simp only [ldW0, ldW1, ldW2, rdW0, rdW1, ldU0, ldU1, ldB0, ldB1]
    simp only [halfU_at, halfB_at, rowW_at, pay26_at, pay1_at, pay21_at, pay22_at, pay23_at, pay24_at, pay27_at, pay28_at, pay29_at, pay30_at, pay14_at, pay11_at, pay10_at, pay3_at, pay6_at, pay7_at,
      pay13_at, pay9_at, pay2_at, pay4_at, pay5_at, pay8_at, e0, e1, e2, e3]
    rw [DW_at, dcK_zero]
    rfl
  · rw [hU, hW, hB, hD]
    rw [hU] at e0; rw [hW] at e1; rw [hB] at e2; rw [hD] at e3
    idx_vars x
    obtain rfl : x0 = 0 := Subsingleton.elim _ _
    obtain rfl : x1 = 0 := Subsingleton.elim _ _
    have hy : (((View.whole main_v0_1).slice (win0_5.rect t)).emb y) = ix3 0 0 (col t x2) := by
      blk_ext [idx_val t, col]
    rw [hy]
    simp only [ldW0, ldW1, ldW2, rdW0, rdW1, ldU0, ldU1, ldB0, ldB1]
    simp only [halfU_at, halfB_at, rowW_at, pay26_at, pay1_at, pay21_at, pay22_at, pay23_at, pay24_at, pay27_at, pay28_at, pay29_at, pay30_at, pay14_at, pay11_at, pay10_at, pay3_at, pay6_at, pay7_at,
      pay13_at, pay9_at, pay2_at, pay4_at, pay5_at, pay8_at, e0, e1, e2, e3]
    rw [DW_at, dcK_zero]
    rfl

end Cert.Kernel3Ideal.Conv

end
-- ==== Proof.ConvRef.lean ====
module

public import proofs.«01_k».proof.Proof.Gen.Reference3Ideal.Read
public import proofs.«01_k».proof.Proof.ConvSpec

/-! The reference read at an entry: the vector-Jacobian product of the gated convolution is the column formulas of
`ConvSpec`. -/

@[expose] public section

set_option maxRecDepth 16384

noncomputable section

namespace Cert.Reference3Ideal.Conv

open Cert.Reference3Ideal Cert.Reference3Ideal.Gen Cert.Reference3Ideal.Read Idealize.ShloMosaic Idealize.ShloMosaic.TcCoe
open Cert.ConvAct Cert.Finite
open scoped BigOperators

variable (x0 : FVec Ideal S2x4096x5632 .f32) (x1 : FVec Ideal S2x3x5632 .f32) (x2 : FVec Ideal S2x1x5632 .f32)
  (x3 : FVec Ideal S4096x5632 .f32)

/-- The convolution's column `l` of half `h`. -/
def cv (h : Fin 2) (l : Fin 5632) : Fin 4096 → EReal :=
  conv (fun k => x1 (ix3 h k l)) (x2 (ix3 h 0 l)) (fun r => x0 (ix3 h r l))

theorem v19_at (h : Fin 2) (r : Fin 4096) (l : Fin 5632) :
    val_main_v19 (F := Ideal) x0 x1 x2 (ix3 h r l) = cv x0 x1 x2 h l r := by
  pointwise [val_main_v19, val_main_v18, val_main_v17, val_main_v16, val_main_v15, val_main_v14, val_main_v13, val_main_v12,
    val_main_v11, val_main_v10, val_main_v9, val_main_v8, val_main_v7, val_main_v5, val_main_v4, val_main_v2, val_main_v1,
    val_main_v0, val_main_cst]
  simp only [cv, conv, prev, next, Nat.lt_one_iff, Nat.add_comm 1]
  rfl

theorem gate_at (r : Fin 4096) (l : Fin 5632) :
    val_main_v24_2 (F := Ideal) x0 x1 x2 (ix2 r l) = Ideal.logistic (cv x0 x1 x2 0 l r) := by
  have h := v19_at x0 x1 x2 0 r l
  pointwise [val_main_v24_2, val_main_call0_v4, val_main_call0_v3, val_main_call0_v2, val_main_call0_v1, val_main_call0_v0,
    val_main_v21, val_main_v20, val_main_call0_cst, val_main_call0_cst_0]
  rw [h]
  rfl

/-- The gradient of the convolution's result as the reference forms it. -/
def dcR (h : Fin 2) (l : Fin 5632) (r : Fin 4096) : EReal :=
  if h.val = 0 then
    x3 (ix2 r l) * cv x0 x1 x2 1 l r * Ideal.logistic (cv x0 x1 x2 0 l r)
      + cv x0 x1 x2 0 l r * (x3 (ix2 r l) * cv x0 x1 x2 1 l r)
        * (Ideal.logistic (cv x0 x1 x2 0 l r) * (1 - Ideal.logistic (cv x0 x1 x2 0 l r)))
  else cv x0 x1 x2 0 l r * Ideal.logistic (cv x0 x1 x2 0 l r) * x3 (ix2 r l)

theorem v33_at (h : Fin 2) (r : Fin 4096) (l : Fin 5632) :
    val_main_v33 (F := Ideal) x0 x1 x2 x3 (ix3 h r l) = dcR x0 x1 x2 x3 h l r := by
  have h0 := v19_at x0 x1 x2 0 r l
  have h1 := v19_at x0 x1 x2 1 r l
  have hs := gate_at x0 x1 x2 r l
  pointwise [val_main_v33, val_main_v32, val_main_v31, val_main_v30, val_main_v29, val_main_v28, val_main_v27, val_main_v26,
    val_main_v23, val_main_v22, val_main_v21, val_main_v20, val_main_v24_0, val_main_v24_1, val_main_call1_v0, val_main_call1_v1,
    val_main_call1_v2, val_main_call0_v6, val_main_call0_v7, val_main_call0_cst_1, val_main_cst_2, val_main_cst_3]
  rw [h0, h1, hs]
  rcases h with ⟨h, hh⟩
  interval_cases h <;> simp [dcR]

theorem v64_at (h : Fin 2) (r : Fin 4096) (l : Fin 5632) :
    val_main_v64 (F := Ideal) x0 x1 x2 x3 (ix3 h r l) = du (fun k => x1 (ix3 h k l)) (dcR x0 x1 x2 x3 h l) r := by
  have hd := fun r => v33_at x0 x1 x2 x3 h r l
  pointwise [val_main_v64, val_main_v63, val_main_v62, val_main_v61, val_main_v59, val_main_v58, val_main_v56,
    val_main_v50, val_main_v49, val_main_v43, val_main_v42, val_main_v37, val_main_v36, val_main_v14, val_main_v10,
    val_main_v7, val_main_cst_11, val_main_cst_12]
  simp only [hd, Nat.add_comm 1]
  generalize dcR x0 x1 x2 x3 h l = dc
  have hp : (if _ : 1 ≤ r.val ∧ r.val - 1 < 4095 then x1 (ix3 h 2 l) * dc ⟨r.val - 1, by omega⟩ else 0)
      = x1 (ix3 h 2 l) * prev dc r := by
    unfold prev
    split
    · rw [if_neg (by omega)]
    · rw [if_pos (by omega), mul_zero]
  have hn : (if _ : r.val < 4095 then x1 (ix3 h 0 l) * dc ⟨r.val + 1, by omega⟩ else 0)
      = x1 (ix3 h 0 l) * next dc r := by
    unfold next
    split
    · rfl
    · rw [mul_zero]
  rw [hp, hn, du, add_comm, add_assoc]

/-- Row `k` of the three weight gradients. -/
theorem v55_at (h : Fin 2) (k : Fin 3) (l : Fin 5632) :
    val_main_v55 (F := Ideal) x0 x1 x2 x3 (ix3 h k l)
      = dw (fun r => x0 (ix3 h r l)) (dcR x0 x1 x2 x3 h l) ⟨k.val, by omega⟩ := by
  have hd := fun r => v33_at x0 x1 x2 x3 h r l
  pointwise [val_main_v55, val_main_v54, val_main_v53, val_main_v52, val_main_v51, val_main_v48, val_main_v47, val_main_v46,
    val_main_v45, val_main_v44, val_main_v41, val_main_v40, val_main_v39, val_main_v38, val_main_v5, val_main_v4,
    val_main_v2, val_main_v1, val_main_v0, val_main_cst, val_main_cst_5, val_main_cst_6, val_main_cst_7, val_main_cst_8,
    val_main_cst_9, val_main_cst_10]
  simp only [hd]
  rcases k with ⟨k, hk⟩
  interval_cases k <;> simp [dw, prev, next, Nat.add_comm 1]
  · symm
    rw [Fin.sum_univ_succ (n := 4095)]
    simp [Fin.succ]
  · rw [Fin.sum_univ_castSucc (n := 4095)]
    simp
    rfl

theorem v66_at (h : Fin 2) (k : Fin 8) (l : Fin 5632) :
    val_main_v66 (F := Ideal) x0 x1 x2 x3 (ix3 h k l) = dw (fun r => x0 (ix3 h r l)) (dcR x0 x1 x2 x3 h l) k := by
  have hd := fun r => v33_at x0 x1 x2 x3 h r l
  have hw := fun k => v55_at x0 x1 x2 x3 h k l
  pointwise [val_main_v66, val_main_v65, val_main_v35, val_main_v34, val_main_cst_4, val_main_cst_13]
  simp only [hd, hw]
  rcases k with ⟨k, hk⟩
  interval_cases k <;> simp [dw]

end Cert.Reference3Ideal.Conv

end
-- ==== Proof.ConvAlg.lean ====
module

public import proofs.«01_k».proof.Defs
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Pre_finite_conv
public import proofs.«01_k».proof.Proof.ConvValue
public import proofs.«01_k».proof.Proof.ConvRef
public import Idealize.ShloMosaic.Lib.Claim

/-! The value claim of the gated convolution's gradient: on finite arguments the kernel's results and the reference's
are equal. -/

@[expose] public section

set_option maxRecDepth 16384

noncomputable section

namespace Cert.ConvAct

open Cert.Kernel3Ideal Cert.Finite Idealize.ShloMosaic Idealize.ShloMosaic.TcCoe Idealize.SL.Sem
open Cert.Kernel3Ideal.Conv Cert.Reference3Ideal.Conv Cert.Reference3Ideal.Read

section Arrays

variable (x0 : FVec Ideal S2x4096x5632 .f32) (x1 : FVec Ideal S2x3x5632 .f32) (x2 : FVec Ideal S2x1x5632 .f32)
  (x3 : FVec Ideal S4096x5632 .f32)

/-- The precondition says that every entry of the four arguments is a real number. -/
theorem real_of_pre (h : Cert.Pre_finite_conv.fn (F := Ideal) x0 x1 x2 x3 = fun _ => 1#1) :
    (∀ i, IsReal (x0 i)) ∧ (∀ i, IsReal (x1 i)) ∧ (∀ i, IsReal (x2 i)) ∧ (∀ i, IsReal (x3 i)) := by
  have e := congrFun h ix0
  have hs : Subsingleton Cert.Pre_finite_conv.S_.Idx := ⟨fun a b => funext fun i => i.elim0⟩
  obtain ⟨e, e3⟩ := IntOp.andi_eq_one.1 e
  obtain ⟨e, e2⟩ := IntOp.andi_eq_one.1 e
  obtain ⟨e0, e1⟩ := IntOp.andi_eq_one.1 e
  exact ⟨all_real _ _ _ _ _ _ (fun _ => rfl) e0, all_real _ _ _ _ _ _ (fun _ => rfl) e1,
    all_real _ _ _ _ _ _ (fun _ => rfl) e2, all_real _ _ _ _ _ _ (fun _ => rfl) e3⟩

/-- On real arguments the two ways of forming the gradient of the convolution's result agree. -/
theorem dcR_eq_dcK (h0 : ∀ i, IsReal (x0 i)) (h1 : ∀ i, IsReal (x1 i)) (h2 : ∀ i, IsReal (x2 i))
    (h3 : ∀ i, IsReal (x3 i)) (h : Fin 2) (l : Fin 5632) : dcR x0 x1 x2 x3 h l = dcK x0 x1 x2 x3 h l := by
  funext r
  have hc : ∀ h, IsReal (cv x0 x1 x2 h l r) := fun h =>
    isReal_conv (fun k => h1 (ix3 h k l)) (h2 (ix3 h 0 l)) (fun r => h0 (ix3 h r l)) r
  unfold dcR dcK
  split
  · exact dgate_eq (hc 0) (hc 1) (h3 (ix2 r l))
  · exact mul_comm _ _

theorem DU_eq (h0 : ∀ i, IsReal (x0 i)) (h1 : ∀ i, IsReal (x1 i)) (h2 : ∀ i, IsReal (x2 i)) (h3 : ∀ i, IsReal (x3 i)) :
    DU x0 x1 x2 x3 = val_main_v64 (F := Ideal) x0 x1 x2 x3 := by
  funext i
  idx_vars i
  exact ((v64_at x0 x1 x2 x3 i0 i1 i2).trans (by rw [dcR_eq_dcK x0 x1 x2 x3 h0 h1 h2 h3]; rfl)).symm

theorem DW_eq (h0 : ∀ i, IsReal (x0 i)) (h1 : ∀ i, IsReal (x1 i)) (h2 : ∀ i, IsReal (x2 i)) (h3 : ∀ i, IsReal (x3 i)) :
    DW x0 x1 x2 x3 = val_main_v66 (F := Ideal) x0 x1 x2 x3 := by
  funext i
  idx_vars i
  exact ((v66_at x0 x1 x2 x3 i0 i1 i2).trans (by rw [dcR_eq_dcK x0 x1 x2 x3 h0 h1 h2 h3]; rfl)).symm

end Arrays

theorem algebraic : Cert.algebraic_Kernel3Ideal_Reference3Ideal_pre_finite_conv := by
  intro m g m' g' hpre hargs
  have hr := fun c : Dev nD => real_of_pre _ _ _ _ (hpre c)
  have hu := fun c : Dev nD => DU_eq _ _ _ _ (hr c).1 (hr c).2.1 (hr c).2.2.1 (hr c).2.2.2
  have hw := fun c : Dev nD => DW_eq _ _ _ _ (hr c).1 (hr c).2.1 (hr c).2.2.1 (hr c).2.2.2
  refine ⟨fun c => DU (m (c.tc.loc main_arg0)) (m (c.tc.loc main_arg1)) (m (c.tc.loc main_arg2)) (m (c.tc.loc main_arg3)),
    fun c => DW (m (c.tc.loc main_arg0)) (m (c.tc.loc main_arg1)) (m (c.tc.loc main_arg2)) (m (c.tc.loc main_arg3)), ?_, ?_⟩
  · refine (θ_run defs _ _).mono (fun r h c => ?_) (Cert.Kernel3Ideal.Value.run_blocks (F := Ideal) m g)
    obtain ⟨e4, e5, k⟩ := h c
    exact ⟨e4.trans (final_4 m c), e5.trans (final_5 m c), k⟩
  · refine (θ_run Cert.Reference3Ideal.defs _ _).mono (fun r h c => ?_) (Cert.Reference3Ideal.Value.run (F := Ideal) m' g')
    obtain ⟨e4, e5, k⟩ := h c
    obtain ⟨a0, a1, a2, a3⟩ := hargs c
    refine ⟨e4.trans ?_, e5.trans ?_, k⟩
    · rw [val_main_v64_eq, a0, a1, a2, a3]; exact (hu c).symm
    · rw [val_main_v66_eq, a0, a1, a2, a3]; exact (hw c).symm

end Cert.ConvAct

end
-- ==== Proof.FfnDownDx.lean ====
module

public import proofs.«01_k».proof.Defs
public import proofs.«01_k».proof.Proof.Gen.Reference4Ideal.Run
public import proofs.«01_k».proof.Proof.Gen.Reference4Ideal.Read
public import proofs.«01_k».proof.Proof.Gen.Kernel4Ideal.Value
public import Idealize.ShloMosaic.Lib.Pipeline.ValueKit
public import Idealize.ShloMosaic.Lib.Pointwise
public import Idealize.ShloMosaic.Lib.Claim

/-! The gradient of the down projection in its input, `dh . w^T`: every grid point writes one block of it. -/

@[expose] public section

set_option maxRecDepth 16384

noncomputable section

namespace Cert.FfnDownDx

open Cert.Kernel4Ideal Cert.Kernel4Ideal.Gen Cert.Kernel4Ideal.Value Cert.Reference4Ideal.Read
open Idealize.ShloMosaic Idealize.ShloMosaic.TcCoe Idealize.SL.Sem

theorem out_eq (a : Vec Ideal S1024x2048 .bf16) (b : Vec Ideal S1408x2048 .bf16) (r : Fin 1024) (s : Fin 1408) :
    out0_2 a b (ix2 r s) = ∑ k : Fin 2048, a (ix2 r k) * b (ix2 s k) := by
  refine Eq.trans (b := k0_pay1 (F := Ideal) a b (ix2 r s)) ?_ ?_
  · frame_out
  · pointwise [k0_pay1]

theorem idx_val : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The row and the column of a grid point's block. -/
def row (t : Fin cfg0.N) (r : Fin 1024) : Fin 4096 := ⟨t.val / 4 * 1024 + r.val, by have : t.val < 16 := t.isLt; omega⟩
def col (t : Fin cfg0.N) (s : Fin 1408) : Fin 5632 := ⟨t.val % 4 * 1408 + s.val, by omega⟩

theorem rd0 (A : FVec Ideal S4096x2048 .bf16) (t : Fin cfg0.N) (r : Fin 1024) (k : Fin 2048) :
    ((cfg0.win 0).blk t).view.read (Elt Ideal) A (ix2 r k) = A (ix2 (row t r) k) := by
  blk_point [idx_val t, row]
theorem rd1 (A : FVec Ideal S5632x2048 .bf16) (t : Fin cfg0.N) (s : Fin 1408) (k : Fin 2048) :
    ((cfg0.win 1).blk t).view.read (Elt Ideal) A (ix2 s k) = A (ix2 (col t s) k) := by
  blk_point [idx_val t, col]

/-- The product. -/
def prod (w : FVec Ideal S5632x2048 .f32) (y : FVec Ideal S4096x2048 .f32) (i : Fin 4096) (j : Fin 5632) : EReal :=
  ∑ k : Fin 2048, y (ix2 i k) * w (ix2 j k)

theorem ref_eq (w : FVec Ideal S5632x2048 .f32) (y : FVec Ideal S4096x2048 .f32) :
    val_main_v2 (F := Ideal) w y = fun z : S4096x5632.Idx => prod w y (z 0) (z 1) := by
  funext z
  idx_vars z
  pointwise [val_main_v2, val_main_v1, val_main_v0]
  rfl

variable (m : (ℓ : Loc nD τ sig) → Buf (Elt Ideal) ℓ)

abbrev W (c : Dev nD) : FVec Ideal S5632x2048 .f32 := m ((c : Thread nD τ).loc main_arg0)
abbrev Y (c : Dev nD) : FVec Ideal S4096x2048 .f32 := m ((c : Thread nD τ).loc main_arg1)

theorem V0 (c : Dev nD) : V m c main_v0 = m ((c : Thread nD τ).loc main_arg1) := by entry_read; rfl
theorem V1 (c : Dev nD) : V m c main_v1 = m ((c : Thread nD τ).loc main_arg0) := by entry_read; rfl

theorem out_at (c : Dev nD) (t : Fin cfg0.N) (r : Fin 1024) (s : Fin 1408) :
    out0_2 (iblk m c 0 t) (iblk m c 1 t) (ix2 r s) = prod (W m c) (Y m c) (row t r) (col t s) :=
  (out_eq _ _ r s).trans (Finset.sum_congr rfl fun k _ => congrArg₂ (· * ·)
    ((rd0 (V m c main_v0) t r k).trans (congrFun (V0 m c) _)) ((rd1 (V m c main_v1) t s k).trans (congrFun (V1 m c) _)))

theorem out_block (c : Dev nD) (t : Fin cfg0.N) (y : S1024x1408.Idx) (i : Fin 4096) (j : Fin 5632)
    (hi : i.val = win0_2.index t 0 * 1024 + (y 0).val) (hj : j.val = win0_2.index t 1 * 1408 + (y 1).val) :
    out0_2 (iblk m c 0 t) (iblk m c 1 t) y = prod (W m c) (Y m c) i j := by
  idx_vars y
  rw [(idx_val t).2.2] at hi hj
  rw [out_at m c t y0 y1]
  exact congrArg₂ _ (Fin.ext hi.symm) (Fin.ext hj.symm)

theorem final (c : Dev nD) : (dats m 0 c).arrAt 2 (cfgs 0).N = fun z : S4096x5632.Idx => prod (W m c) (Y m c) (z 0) (z 1) := by
  refine (dats m 0 c).arrAt_eq_of_covers 2 _ (by decide +kernel) fun t hf y => ?_
  blk_simp; rw [after0_2]
  exact out_block m c t y _ _ (by blk_simp) (by blk_simp)

theorem algebraic : Cert.algebraic_Kernel4Ideal_Reference4Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference4Ideal.defs _ _).mono (fun r h c => ?_) (Cert.Reference4Ideal.Value.run (F := Ideal) m' g')
    obtain ⟨e, k⟩ := h c
    obtain ⟨a0, a1⟩ := hargs c
    refine ⟨e.trans ?_, k⟩
    rw [val_main_v2_eq, a0, a1]; exact ref_eq _ _

end Cert.FfnDownDx

end
-- ==== Proof.Blocks.lean ====
module

public import Idealize.ShloMosaic.Lib.Pipeline.ValueKit
public import Idealize.ShloMosaic.Lib.Pointwise

/-! A product whose contracted index is walked in blocks: an accumulator that a run of grid points fills holds, at the
end of the run, the sum over the whole contracted index. -/

@[expose] public section

noncomputable section

namespace Cert.Blocks

variable {K B N : ℕ}

/-- The sum over the blocks of the sums inside them is the sum over all indices. -/
theorem sum_blocks (f : ℕ → EReal) : ∑ k ∈ Finset.range K, ∑ r : Fin B, f (k * B + r.val) = ∑ i : Fin (K * B), f i.val := by
  rw [Finset.sum_range, ← Finset.sum_product']
  refine Fintype.sum_equiv (finProdFinEquiv (m := K) (n := B)) _ _ fun p => congrArg f ?_
  simp only [finProdFinEquiv_apply_val, Nat.mul_comm, Nat.add_comm]

/-- The accumulator inside a run of `K` points. -/
theorem acc_eq (hK : 0 < K) (s : (n : ℕ) → n < N → EReal) (F : ℕ → ℕ → EReal)
    (first : ∀ n h, n % K = 0 → s n h = F (n / K) 0)
    (next : ∀ n h, n % K ≠ 0 → n % K ≠ K - 1 → s n h = s (n - 1) (by omega) + F (n / K) (n % K)) :
    ∀ n h, n % K ≠ K - 1 → s n h = ∑ k ∈ Finset.range (n % K + 1), F (n / K) k := by
  intro n
  induction n with
  | zero => intro h _; rw [first 0 h (Nat.zero_mod K)]; simp
  | succ n ih =>
    intro h hl
    by_cases h0 : (n + 1) % K = 0
    · rw [first _ h h0, h0]; simp
    · have hd : (n + 1) / K = n / K := by
        rw [Nat.succ_div, if_neg fun d => h0 (Nat.mod_eq_zero_of_dvd d)]; rfl
      have hm : (n + 1) % K = n % K + 1 := by
        have a := Nat.div_add_mod (n + 1) K
        have b := Nat.div_add_mod n K
        rw [hd] at a; omega
      have hl' : n % K ≠ K - 1 := by
        have := Nat.mod_lt (n + 1) hK
        omega
      rw [next _ h h0 hl, Finset.sum_range_succ, hd, hm]
      exact congrArg (· + _) (ih (by omega) hl')

/-- What the last point of a run writes is the sum over the contracted index. -/
theorem last_eq (hK : 1 < K) (s o : (n : ℕ) → n < N → EReal) (F : ℕ → ℕ → EReal)
    (first : ∀ n h, n % K = 0 → s n h = ∑ r : Fin B, F (n / K) r.val)
    (next : ∀ n h, n % K ≠ 0 → n % K ≠ K - 1 → s n h = s (n - 1) (by omega) + ∑ r : Fin B, F (n / K) (n % K * B + r.val))
    (last : ∀ n h, n % K = K - 1 → o n h = s (n - 1) (by omega) + ∑ r : Fin B, F (n / K) (n % K * B + r.val))
    (n : ℕ) (h : n < N) (hn : n % K = K - 1) : o n h = ∑ i : Fin (K * B), F (n / K) i.val := by
  have n0 : n ≠ 0 := by rintro rfl; simp at hn; omega
  obtain ⟨l, rfl⟩ := Nat.exists_eq_succ_of_ne_zero n0
  have hd : (l + 1) / K = l / K := by
    rw [Nat.succ_div, if_neg fun d => by have := Nat.mod_eq_zero_of_dvd d; simp only [Nat.succ_eq_add_one] at hn; omega]; rfl
  have hm : l % K = K - 2 := by
    have a := Nat.div_add_mod (l + 1) K
    have b := Nat.div_add_mod l K
    simp only [Nat.succ_eq_add_one] at hn
    rw [hd] at a; omega
  have e := acc_eq (K := K) (by omega) s (fun j k => ∑ r : Fin B, F j (k * B + r.val)) (fun n h h0 => by simpa using first n h h0) next l (by omega) (by omega)
  rw [last _ h hn, ← sum_blocks, show K = (l % K + 1) + 1 by omega, Finset.sum_range_succ]
  simp only [Nat.succ_eq_add_one] at hn ⊢
  rw [← show K = (l % K + 1) + 1 by omega, hd, hn, show K - 1 = l % K + 1 by omega]
  exact congrArg (· + _) e

end Cert.Blocks

end
-- ==== Proof.FfnDownDw.lean ====
module

public import proofs.«01_k».proof.Defs
public import proofs.«01_k».proof.Proof.Gen.Reference5Ideal.Run
public import proofs.«01_k».proof.Proof.Gen.Reference5Ideal.Read
public import proofs.«01_k».proof.Proof.Gen.Kernel5Ideal.Value
public import proofs.«01_k».proof.Proof.Blocks
public import Idealize.ShloMosaic.Lib.Pipeline.ValueKit
public import Idealize.ShloMosaic.Lib.Pointwise
public import Idealize.ShloMosaic.Lib.Claim

/-! The gradient of the down projection in its weight, `a^T . dh`: four grid points in a row, a block of 1024 rows each,
fill the accumulator of one block of it. -/

@[expose] public section

set_option maxRecDepth 16384

noncomputable section

namespace Cert.FfnDownDw

open Cert.Kernel5Ideal Cert.Kernel5Ideal.Gen Cert.Kernel5Ideal.Value Cert.Reference5Ideal.Read
open Idealize.ShloMosaic Idealize.ShloMosaic.TcCoe Idealize.SL.Sem

section Body

/-- What a grid point adds to the accumulator. -/
def part (a : Vec Ideal S1024x1408 .bf16) (b : Vec Ideal S1024x1024 .bf16) (p : Fin 1408) (q : Fin 1024) : EReal :=
  ∑ r : Fin 1024, a (ix2 r p) * b (ix2 r q)

theorem pay1_at (p : Fin 1408) (q : Fin 1024) : k0_pay1 (F := Ideal) (ix2 p q) = 0 := by
  pointwise [k0_pay1]
theorem pay2_at (u : Vec Ideal S1408x1024 .f32) (a : Vec Ideal S1024x1408 .bf16) (b : Vec Ideal S1024x1024 .bf16) (p : Fin 1408) (q : Fin 1024) :
    k0_pay2 (F := Ideal) u a b (ix2 p q) = u (ix2 p q) + part a b p q := by
  pointwise [k0_pay2]
  rfl

variable (c : Dev nD) (i : grid0.Coords) (arg3 : Memref sig .tc .vmem S1024x1408 .bf16) (harg3 : arg3.IsWhole) (arg4 : Memref sig .tc .vmem S1024x1024 .bf16) (harg4 : arg4.IsWhole) (arg5 : Memref sig .tc .vmem S1408x1024 .bf16) (harg5 : arg5.IsWhole) (arg6 : Memref sig .tc .vmem S1408x1024 .f32) (harg6 : arg6.IsWhole)
  (x0 : Vec Ideal S1024x1408 .bf16) (x1 : Vec Ideal S1024x1024 .bf16) (u : Vec Ideal S1408x1024 .f32) (p : Fin 1408) (q : Fin 1024)

theorem first_at (hc0 : cond0_0 i) (hc1 : ¬cond0_1 i) :
    sout0_A_0 c i arg3 harg3 arg4 harg4 arg5 harg5 arg6 harg6 hc0 hc1 x0 x1 (ix2 p q) = part x0 x1 p q := by
  refine Eq.trans (b := k0_pay2 (F := Ideal) (k0_pay1 (F := Ideal)) x0 x1 (ix2 p q)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

theorem last_at (hc0 : ¬cond0_0 i) (hc1 : cond0_1 i) :
    out0_C_2 c i arg3 harg3 arg4 harg4 arg5 harg5 arg6 harg6 hc0 hc1 x0 x1 u (ix2 p q) = u (ix2 p q) + part x0 x1 p q := by
  refine Eq.trans (b := k0_pay3 (F := Ideal) (k0_pay2 (F := Ideal) u x0 x1) (ix2 p q)) ?_ (pay2_at u x0 x1 p q)
  frame_out; try exact rfl

end Body

theorem idx_val : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

/-- The row of the contracted index `n`; the two coordinates of an entry of the block that the run `j` fills. -/
def row (n : ℕ) : Fin 4096 := ⟨n % 4096, Nat.mod_lt _ (by norm_num)⟩
def co0 (j : ℕ) (p : Fin 1408) : Fin 5632 := ⟨(j / 2 * 1408 + p.val) % 5632, Nat.mod_lt _ (by norm_num)⟩
def co1 (j : ℕ) (q : Fin 1024) : Fin 2048 := ⟨j % 2 * 1024 + q.val, by omega⟩

theorem rd0 (A : FVec Ideal S4096x5632 .bf16) (t : Fin cfg0.N) (r : Fin 1024) (p : Fin 1408) :
    ((cfg0.win 0).blk t).view.read (Elt Ideal) A (ix2 r p) = A (ix2 (row (t.val % 4 * 1024 + r.val)) (co0 (t.val / 4) p)) := by
  have hN : t.val < 32 := t.isLt
  blk_point [idx_val t, row, co0]
theorem rd1 (A : FVec Ideal S4096x2048 .bf16) (t : Fin cfg0.N) (r : Fin 1024) (q : Fin 1024) :
    ((cfg0.win 1).blk t).view.read (Elt Ideal) A (ix2 r q) = A (ix2 (row (t.val % 4 * 1024 + r.val)) (co1 (t.val / 4) q)) := by
  blk_point [idx_val t, row, co1]

/-- The product. -/
def prod (a : FVec Ideal S4096x5632 .f32) (y : FVec Ideal S4096x2048 .f32) (i : Fin 5632) (j : Fin 2048) : EReal :=
  ∑ k : Fin 4096, a (ix2 k i) * y (ix2 k j)

theorem ref_eq (a : FVec Ideal S4096x5632 .f32) (y : FVec Ideal S4096x2048 .f32) :
    val_main_v4 (F := Ideal) a y = fun z : S5632x2048.Idx => prod a y (z 0) (z 1) := by
  funext z
  idx_vars z
  pointwise [val_main_v4, val_main_v3, val_main_v2, val_main_v1, val_main_v0]
  exact Finset.sum_congr rfl fun k _ => mul_comm _ _

variable (m : (ℓ : Loc nD τ sig) → Buf (Elt Ideal) ℓ)

abbrev W (c : Dev nD) : FVec Ideal S4096x5632 .f32 := m ((c : Thread nD τ).loc main_arg0)
abbrev Y (c : Dev nD) : FVec Ideal S4096x2048 .f32 := m ((c : Thread nD τ).loc main_arg1)

theorem V0 (c : Dev nD) : V m c main_v0 = m ((c : Thread nD τ).loc main_arg0) := by entry_read; rfl
theorem V1 (c : Dev nD) : V m c main_v1 = m ((c : Thread nD τ).loc main_arg1) := by entry_read; rfl

theorem part_at (c : Dev nD) (t : Fin cfg0.N) (p : Fin 1408) (q : Fin 1024) :
    part (iblk m c 0 t) (iblk m c 1 t) p q
      = ∑ r : Fin 1024, W m c (ix2 (row (t.val % 4 * 1024 + r.val)) (co0 (t.val / 4) p)) * Y m c (ix2 (row (t.val % 4 * 1024 + r.val)) (co1 (t.val / 4) q)) :=
  Finset.sum_congr rfl fun r _ => congrArg₂ (· * ·)
    ((rd0 (V m c main_v0) t r p).trans (congrFun (V0 m c) _)) ((rd1 (V m c main_v1) t r q).trans (congrFun (V1 m c) _))

/-- The last point of a run writes the product. -/
theorem out_at (c : Dev nD) (t : Fin cfg0.N) (ht : t.val % 4 = 3) (p : Fin 1408) (q : Fin 1024) :
    (outsAt0 m c t.val t.isLt).1 (ix2 p q) = prod (W m c) (Y m c) (co0 (t.val / 4) p) (co1 (t.val / 4) q) := by
  refine (Cert.Blocks.last_eq (K := 4) (B := 1024) (N := cfg0.N) (by norm_num)
    (fun n h => (outsAt0 m c n h).2 (ix2 p q)) (fun n h => (outsAt0 m c n h).1 (ix2 p q))
    (fun j k => W m c (ix2 (row k) (co0 j p)) * Y m c (ix2 (row k) (co1 j q)))
    (fun n h h0 => ?_) (fun n h h0 h1 => ?_) (fun n h h1 => ?_) t.val t.isLt ht).trans ?_
  · refine (congrArg (fun o => o.2 (ix2 p q)) (outsAt0_A m c ⟨n, h⟩ h0 (by dsimp only; omega))).trans ?_
    dsimp only
    rw [first_at, part_at]
    simp only [h0, Nat.zero_mul, Nat.zero_add]
  · refine (congrArg (fun o => o.2 (ix2 p q)) (outsAt0_B m c ⟨n, h⟩ h0 h1)).trans ?_
    dsimp only
    rw [next_at, part_at]
  · refine (congrArg (fun o => o.1 (ix2 p q)) (outsAt0_C m c ⟨n, h⟩ (by dsimp only; omega) h1)).trans ?_
    dsimp only
    rw [last_at, part_at]
  · refine Finset.sum_congr rfl fun k _ => ?_
    have e : row k.val = k := Fin.ext (Nat.mod_eq_of_lt k.isLt)
    rw [e]

theorem out_block (c : Dev nD) (t : Fin cfg0.N) (ht : t.val % 4 = 3) (y : S1408x1024.Idx) (i : Fin 5632) (j : Fin 2048)
    (hi : i.val = win0_2.index t 0 * 1408 + (y 0).val) (hj : j.val = win0_2.index t 1 * 1024 + (y 1).val) :
    (outsAt0 m c t.val t.isLt).1 y = prod (W m c) (Y m c) i j := by
  have hN : t.val < 32 := t.isLt
  idx_vars y
  have h0 : y0.val < 1408 := y0.isLt
  rw [(idx_val t).2.2] at hi hj
  rw [out_at m c t ht y0 y1]
  refine congrArg₂ _ (Fin.ext (Eq.trans (Nat.mod_eq_of_lt ?_) hi.symm)) (Fin.ext hj.symm)
  omega

theorem final (c : Dev nD) : (dats m 0 c).arrAt 2 (cfgs 0).N = fun z : S5632x2048.Idx => prod (W m c) (Y m c) (z 0) (z 1) := by
  refine (dats m 0 c).arrAt_eq_of_covers 2 _ (by decide +kernel) fun t hf y => ?_
  blk_simp; rw [after0_2]
  exact out_block m c t ((flush0_2 t).mp hf) y _ _ (by blk_simp) (by blk_simp)

theorem algebraic : Cert.algebraic_Kernel5Ideal_Reference5Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference5Ideal.defs _ _).mono (fun r h c => ?_) (Cert.Reference5Ideal.Value.run (F := Ideal) m' g')
    obtain ⟨e, k⟩ := h c
    obtain ⟨a0, a1⟩ := hargs c
    refine ⟨e.trans ?_, k⟩
    rw [val_main_v4_eq, a0, a1]; exact ref_eq _ _

end Cert.FfnDownDw

end
-- ==== Proof.FfnUpDx.lean ====
module

public import proofs.«01_k».proof.Defs
public import proofs.«01_k».proof.Proof.Gen.Reference6Ideal.Run
public import proofs.«01_k».proof.Proof.Gen.Reference6Ideal.Read
public import proofs.«01_k».proof.Proof.Gen.Kernel6Ideal.Value
public import proofs.«01_k».proof.Proof.Blocks
public import Idealize.ShloMosaic.Lib.Pipeline.ValueKit
public import Idealize.ShloMosaic.Lib.Pointwise
public import Idealize.ShloMosaic.Lib.Claim

/-! The gradient of the up projection in its input, `du . w^T`: the columns of the weight lie in eight pieces, those of
`du` in two halves of four, and eight grid points in a row, a piece each, fill the accumulator of a block of rows. -/

@[expose] public section

set_option maxRecDepth 16384

noncomputable section

namespace Cert.FfnUpDx

open Cert.Kernel6Ideal Cert.Kernel6Ideal.Gen Cert.Kernel6Ideal.Value Cert.Reference6Ideal.Read
open Idealize.ShloMosaic Idealize.ShloMosaic.TcCoe Idealize.SL.Sem

section Body

/-- What a grid point adds to the accumulator. -/
def part (a : Vec Ideal S1x1024x1408 .bf16) (b : Vec Ideal S1x2048x1408 .bf16) (p : Fin 1024) (q : Fin 2048) : EReal :=
  ∑ r : Fin 1408, a (ix3 0 p r) * b (ix3 0 q r)

theorem pay1_at (p : Fin 1024) (q : Fin 2048) : k0_pay1 (F := Ideal) (ix2 p q) = 0 := by
  pointwise [k0_pay1]
theorem pay2_at (u : Vec Ideal S1024x2048 .f32) (a : Vec Ideal S1x1024x1408 .bf16) (b : Vec Ideal S1x2048x1408 .bf16) (p : Fin 1024) (q : Fin 2048) :
    k0_pay2 (F := Ideal) u a b (ix2 p q) = u (ix2 p q) + part a b p q := by
  pointwise [k0_pay2]
  rfl

variable (c : Dev nD) (i : grid0.Coords) (arg3 : Memref sig .tc .vmem S1x1024x1408 .bf16) (harg3 : arg3.IsWhole) (arg4 : Memref sig .tc .vmem S1x2048x1408 .bf16) (harg4 : arg4.IsWhole) (arg5 : Memref sig .tc .vmem S1024x2048 .f32) (harg5 : arg5.IsWhole) (arg6 : Memref sig .tc .vmem S1024x2048 .f32) (harg6 : arg6.IsWhole)
  (x0 : Vec Ideal S1x1024x1408 .bf16) (x1 : Vec Ideal S1x2048x1408 .bf16) (u : Vec Ideal S1024x2048 .f32) (p : Fin 1024) (q : Fin 2048)

theorem first_at (hc0 : cond0_0 i) (hc1 : ¬cond0_1 i) :
    sout0_A_0 c i arg3 harg3 arg4 harg4 arg5 harg5 arg6 harg6 hc0 hc1 x0 x1 (ix2 p q) = part x0 x1 p q := by
  refine Eq.trans (b := k0_pay2 (F := Ideal) (k0_pay1 (F := Ideal)) x0 x1 (ix2 p q)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

theorem last_at (hc0 : ¬cond0_0 i) (hc1 : cond0_1 i) :
    out0_C_2 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

end Body

theorem idx_val : ∀ t : Fin cfg0.N, win0_0.index t = ![t.val % 8 / 4, t.val / 8, t.val % 4] ∧ win0_1.index t = ![t.val % 8, 0, 0]
    ∧ win0_2.index t = ![t.val / 8, 0] :=
  (by decide +kernel : ∀ t : Fin grid0.N, _)

/-- The column `n`; its half and its place there; its piece and its place there; the row of an entry of the block that
the run `j` fills. -/
def col (n : ℕ) : Fin 11264 := ⟨n % 11264, Nat.mod_lt _ (by norm_num)⟩
def half (n : ℕ) : Fin 2 := ⟨n / 5632 % 2, Nat.mod_lt _ (by norm_num)⟩
def lane (n : ℕ) : Fin 5632 := ⟨n % 5632, Nat.mod_lt _ (by norm_num)⟩
def piece (n : ℕ) : Fin 8 := ⟨n / 1408 % 8, Nat.mod_lt _ (by norm_num)⟩
def pos (n : ℕ) : Fin 1408 := ⟨n % 1408, Nat.mod_lt _ (by norm_num)⟩
def row (j : ℕ) (p : Fin 1024) : Fin 4096 := ⟨(j * 1024 + p.val) % 4096, Nat.mod_lt _ (by norm_num)⟩

theorem rd0 (A : FVec Ideal S2x4096x5632 .bf16) (t : Fin cfg0.N) (p : Fin 1024) (r : Fin 1408) :
    ((cfg0.win 0).blk t).view.read (Elt Ideal) A (ix3 0 p r)
      = A (ix3 (half (t.val % 8 * 1408 + r.val)) (row (t.val / 8) p) (lane (t.val % 8 * 1408 + r.val))) := by
  have hN : t.val < 32 := t.isLt
  blk_point [idx_val t, half, lane, row]
theorem rd1 (A : FVec Ideal S8x2048x1408 .bf16) (t : Fin cfg0.N) (q : Fin 2048) (r : Fin 1408) :
    ((cfg0.win 1).blk t).view.read (Elt Ideal) A (ix3 0 q r)
      = A (ix3 (piece (t.val % 8 * 1408 + r.val)) q (pos (t.val % 8 * 1408 + r.val))) := by
  blk_point [idx_val t, piece, pos]

/-- The arrays the host lays out. -/
def halves (y : FVec Ideal S4096x11264 .f32) : FVec Ideal S2x4096x5632 .bf16 :=
  transpose S2x4096x5632 [1, 0, 2] (shapeCast S4096x2x5632 (truncf .bf16 y bitsLt_bf16_f32 : FVec Ideal S4096x11264 .bf16) shapeCasts_S4096x11264_S4096x2x5632 : FVec Ideal S4096x2x5632 .bf16) transposes_S4096x2x5632_S2x4096x5632_1_0_2
def pieces (w : FVec Ideal S2048x11264 .f32) : FVec Ideal S8x2048x1408 .bf16 :=
  transpose S8x2048x1408 [1, 0, 2] (shapeCast S2048x8x1408 (truncf .bf16 w bitsLt_bf16_f32 : FVec Ideal S2048x11264 .bf16) shapeCasts_S2048x11264_S2048x8x1408 : FVec Ideal S2048x8x1408 .bf16) transposes_S2048x8x1408_S8x2048x1408_1_0_2

theorem halves_at (y : FVec Ideal S4096x11264 .f32) (n : ℕ) (i : Fin 4096) : halves y (ix3 (half n) i (lane n)) = y (ix2 i (col n)) := by
  pointwise [halves, half, lane, col]
  exact congrArg (fun l => y (ix2 i l)) (Fin.ext (by dsimp only; omega))
theorem pieces_at (w : FVec Ideal S2048x11264 .f32) (n : ℕ) (i : Fin 2048) : pieces w (ix3 (piece n) i (pos n)) = w (ix2 i (col n)) := by
  pointwise [pieces, piece, pos, col]
  exact congrArg (fun l => w (ix2 i l)) (Fin.ext (by dsimp only; omega))

/-- The product. -/
def prod (w : FVec Ideal S2048x11264 .f32) (y : FVec Ideal S4096x11264 .f32) (i : Fin 4096) (j : Fin 2048) : EReal :=
  ∑ k : Fin 11264, y (ix2 i k) * w (ix2 j k)

theorem ref_eq (w : FVec Ideal S2048x11264 .f32) (y : FVec Ideal S4096x11264 .f32) :
    val_main_v2 (F := Ideal) w y = fun z : S4096x2048.Idx => prod w y (z 0) (z 1) := by
  funext z
  idx_vars z
  pointwise [val_main_v2, val_main_v1, val_main_v0]
  rfl

variable (m : (ℓ : Loc nD τ sig) → Buf (Elt Ideal) ℓ)

abbrev W (c : Dev nD) : FVec Ideal S2048x11264 .f32 := m ((c : Thread nD τ).loc main_arg0)
abbrev Y (c : Dev nD) : FVec Ideal S4096x11264 .f32 := m ((c : Thread nD τ).loc main_arg1)

theorem V5 (c : Dev nD) : V m c main_v5 = halves (Y m c) := by entry_read; rfl
theorem V2 (c : Dev nD) : V m c main_v2 = pieces (W m c) := by entry_read; rfl

theorem part_at (c : Dev nD) (t : Fin cfg0.N) (p : Fin 1024) (q : Fin 2048) :
    part (iblk m c 0 t) (iblk m c 1 t) p q
      = ∑ r : Fin 1408, Y m c (ix2 (row (t.val / 8) p) (col (t.val % 8 * 1408 + r.val))) * W m c (ix2 q (col (t.val % 8 * 1408 + r.val))) :=
  Finset.sum_congr rfl fun r _ => congrArg₂ (· * ·)
    (((rd0 (V m c main_v5) t p r).trans (congrFun (V5 m c) _)).trans (halves_at _ _ _))
    (((rd1 (V m c main_v2) t q r).trans (congrFun (V2 m c) _)).trans (pieces_at _ _ _))

/-- The last point of a run writes the product. -/
theorem out_at (c : Dev nD) (t : Fin cfg0.N) (ht : t.val % 8 = 7) (p : Fin 1024) (q : Fin 2048) :
    (outsAt0 m c t.val t.isLt).1 (ix2 p q) = prod (W m c) (Y m c) (row (t.val / 8) p) q := by
  refine (Cert.Blocks.last_eq (K := 8) (B := 1408) (N := cfg0.N) (by norm_num)
    (fun n h => (outsAt0 m c n h).2 (ix2 p q)) (fun n h => (outsAt0 m c n h).1 (ix2 p q))
    (fun j k => Y m c (ix2 (row j p) (col k)) * W m c (ix2 q (col k)))
    (fun n h h0 => ?_) (fun n h h0 h1 => ?_) (fun n h h1 => ?_) t.val t.isLt ht).trans ?_
  · refine (congrArg (fun o => o.2 (ix2 p q)) (outsAt0_A m c ⟨n, h⟩ h0 (by dsimp only; omega))).trans ?_
    dsimp only
    rw [first_at, part_at]
    simp only [h0, Nat.zero_mul, Nat.zero_add]
  · refine (congrArg (fun o => o.2 (ix2 p q)) (outsAt0_B m c ⟨n, h⟩ h0 h1)).trans ?_
    dsimp only
    rw [next_at, part_at]
  · refine (congrArg (fun o => o.1 (ix2 p q)) (outsAt0_C m c ⟨n, h⟩ (by dsimp only; omega) h1)).trans ?_
    dsimp only
    rw [last_at, part_at]
  · refine Finset.sum_congr rfl fun k _ => ?_
    have e : col k.val = k := Fin.ext (Nat.mod_eq_of_lt k.isLt)
    rw [e]

theorem out_block (c : Dev nD) (t : Fin cfg0.N) (ht : t.val % 8 = 7) (y : S1024x2048.Idx) (i : Fin 4096) (j : Fin 2048)
    (hi : i.val = win0_2.index t 0 * 1024 + (y 0).val) (hj : j.val = win0_2.index t 1 * 2048 + (y 1).val) :
    (outsAt0 m c t.val t.isLt).1 y = prod (W m c) (Y m c) i j := by
  have hN : t.val < 32 := t.isLt
  idx_vars y
  have h0 : y0.val < 1024 := y0.isLt
  rw [(idx_val t).2.2] at hi hj
  rw [out_at m c t ht y0 y1]
  refine congrArg₂ _ (Fin.ext (Eq.trans (Nat.mod_eq_of_lt ?_) hi.symm)) (Fin.ext ((hj.trans (by simp)).symm))
  omega

theorem final (c : Dev nD) : (dats m 0 c).arrAt 2 (cfgs 0).N = fun z : S4096x2048.Idx => prod (W m c) (Y m c) (z 0) (z 1) := by
  refine (dats m 0 c).arrAt_eq_of_covers 2 _ (by decide +kernel) fun t hf y => ?_
  blk_simp; rw [after0_2]
  exact out_block m c t ((flush0_2 t).mp hf) y _ _ (by blk_simp) (by blk_simp)

theorem algebraic : Cert.algebraic_Kernel6Ideal_Reference6Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference6Ideal.defs _ _).mono (fun r h c => ?_) (Cert.Reference6Ideal.Value.run (F := Ideal) m' g')
    obtain ⟨e, k⟩ := h c
    obtain ⟨a0, a1⟩ := hargs c
    refine ⟨e.trans ?_, k⟩
    rw [val_main_v2_eq, a0, a1]; exact ref_eq _ _

end Cert.FfnUpDx

end
-- ==== Proof.FfnUpDw.lean ====
module

public import proofs.«01_k».proof.Defs
public import proofs.«01_k».proof.Proof.Gen.Reference7Ideal.Run
public import proofs.«01_k».proof.Proof.Gen.Reference7Ideal.Read
public import proofs.«01_k».proof.Proof.Gen.Kernel7Ideal.Value
public import proofs.«01_k».proof.Proof.Blocks
public import Idealize.ShloMosaic.Lib.Pipeline.ValueKit
public import Idealize.ShloMosaic.Lib.Pointwise
public import Idealize.ShloMosaic.Lib.Claim

/-! The gradient of the up projection in its weight, `h^T . du`, in eight pieces of columns: four grid points in a row,
a block of 1024 rows each, fill the accumulator of a piece. -/

@[expose] public section

set_option maxRecDepth 16384

noncomputable section

namespace Cert.FfnUpDw

open Cert.Kernel7Ideal Cert.Kernel7Ideal.Gen Cert.Kernel7Ideal.Value Cert.Reference7Ideal.Read
open Idealize.ShloMosaic Idealize.ShloMosaic.TcCoe Idealize.SL.Sem

section Body

/-- What a grid point adds to the accumulator. -/
def part (a : Vec Ideal S1024x2048 .bf16) (b : Vec Ideal S1x1024x1408 .bf16) (q : Fin 2048) (p : Fin 1408) : EReal :=
  ∑ r : Fin 1024, a (ix2 r q) * b (ix3 0 r p)

theorem pay1_at (q : Fin 2048) (p : Fin 1408) : k0_pay1 (F := Ideal) (ix2 q p) = 0 := by
  pointwise [k0_pay1]
theorem pay2_at (u : Vec Ideal S2048x1408 .f32) (a : Vec Ideal S1024x2048 .bf16) (b : Vec Ideal S1x1024x1408 .bf16) (q : Fin 2048) (p : Fin 1408) :
    k0_pay2 (F := Ideal) u a b (ix2 q p) = u (ix2 q p) + part a b q p := by
  pointwise [k0_pay2]
  rfl
theorem pay3_at (u : Vec Ideal S2048x1408 .f32) (q : Fin 2048) (p : Fin 1408) : k0_pay3 (F := Ideal) u (ix3 0 q p) = u (ix2 q p) := by
  pointwise [k0_pay3]

variable (c : Dev nD) (i : grid0.Coords) (arg3 : Memref sig .tc .vmem S1024x2048 .bf16) (harg3 : arg3.IsWhole) (arg4 : Memref sig .tc .vmem S1x1024x1408 .bf16) (harg4 : arg4.IsWhole) (arg5 : Memref sig .tc .vmem S1x2048x1408 .bf16) (harg5 : arg5.IsWhole) (arg6 : Memref sig .tc .vmem S2048x1408 .f32) (harg6 : arg6.IsWhole)
  (x0 : Vec Ideal S1024x2048 .bf16) (x1 : Vec Ideal S1x1024x1408 .bf16) (u : Vec Ideal S2048x1408 .f32) (q : Fin 2048) (p : Fin 1408)

theorem first_at (hc0 : cond0_0 i) (hc1 : ¬cond0_1 i) :
    sout0_A_0 c i arg3 harg3 arg4 harg4 arg5 harg5 arg6 harg6 hc0 hc1 x0 x1 (ix2 q p) = part x0 x1 q p := by
  refine Eq.trans (b := k0_pay2 (F := Ideal) (k0_pay1 (F := Ideal)) x0 x1 (ix2 q p)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 q p) = u (ix2 q p) + part x0 x1 q p := by
  refine Eq.trans (b := k0_pay2 (F := Ideal) u x0 x1 (ix2 q p)) ?_ (pay2_at u x0 x1 q p)
  frame_out; try exact rfl

theorem last_at (hc0 : ¬cond0_0 i) (hc1 : cond0_1 i) :
    out0_C_2 c i arg3 harg3 arg4 harg4 arg5 harg5 arg6 harg6 hc0 hc1 x0 x1 u (ix3 0 q p) = u (ix2 q p) + part x0 x1 q p := by
  refine Eq.trans (b := k0_pay3 (F := Ideal) (k0_pay2 (F := Ideal) u x0 x1) (ix3 0 q p)) ?_ ((pay3_at _ q p).trans (pay2_at u x0 x1 q p))
  frame_out; try exact rfl

end Body

theorem idx_val : ∀ t : Fin cfg0.N, win0_0.index t = ![t.val % 4, 0] ∧ win0_1.index t = ![t.val / 4 / 4, t.val % 4, t.val / 4 % 4]
    ∧ win0_2.index t = ![t.val / 4, 0, 0] :=
  (by decide +kernel : ∀ t : Fin grid0.N, _)

/-- The row `n`; the half of the columns that holds the piece `j`, the place there of the piece's column `p`, and that
column. -/
def row (n : ℕ) : Fin 4096 := ⟨n % 4096, Nat.mod_lt _ (by norm_num)⟩
def half (j : ℕ) : Fin 2 := ⟨j / 4 % 2, Nat.mod_lt _ (by norm_num)⟩
def lane (j : ℕ) (p : Fin 1408) : Fin 5632 := ⟨j % 4 * 1408 + p.val, by omega⟩
def col (j : ℕ) (p : Fin 1408) : Fin 11264 := ⟨j % 8 * 1408 + p.val, by omega⟩

theorem rd0 (A : FVec Ideal S4096x2048 .bf16) (t : Fin cfg0.N) (r : Fin 1024) (q : Fin 2048) :
    ((cfg0.win 0).blk t).view.read (Elt Ideal) A (ix2 r q) = A (ix2 (row (t.val % 4 * 1024 + r.val)) q) := by
  blk_point [idx_val t, row]
theorem rd1 (A : FVec Ideal S2x4096x5632 .bf16) (t : Fin cfg0.N) (r : Fin 1024) (p : Fin 1408) :
    ((cfg0.win 1).blk t).view.read (Elt Ideal) A (ix3 0 r p)
      = A (ix3 (half (t.val / 4)) (row (t.val % 4 * 1024 + r.val)) (lane (t.val / 4) p)) := by
  have hN : t.val < 32 := t.isLt
  blk_point [idx_val t, half, row, lane]

/-- The array the host lays out. -/
def halves (y : FVec Ideal S4096x11264 .f32) : FVec Ideal S2x4096x5632 .bf16 :=
  transpose S2x4096x5632 [1, 0, 2] (shapeCast S4096x2x5632 (truncf .bf16 y bitsLt_bf16_f32 : FVec Ideal S4096x11264 .bf16) shapeCasts_S4096x11264_S4096x2x5632 : FVec Ideal S4096x2x5632 .bf16) transposes_S4096x2x5632_S2x4096x5632_1_0_2

theorem halves_at (y : FVec Ideal S4096x11264 .f32) (j : ℕ) (i : Fin 4096) (p : Fin 1408) :
    halves y (ix3 (half j) i (lane j p)) = y (ix2 i (col j p)) := by
  pointwise [halves, half, lane, col]
  exact congrArg (fun l => y (ix2 i l)) (Fin.ext (by dsimp only; omega))

/-- The product, piece by piece. -/
def prod (x : FVec Ideal S4096x2048 .f32) (y : FVec Ideal S4096x11264 .f32) (d : Fin 8) (i : Fin 2048) (p : Fin 1408) : EReal :=
  ∑ k : Fin 4096, x (ix2 k i) * y (ix2 k (col d.val p))

theorem ref_eq (x : FVec Ideal S4096x2048 .f32) (y : FVec Ideal S4096x11264 .f32) :
    val_main_v6 (F := Ideal) x y = fun z : S8x2048x1408.Idx => prod x y (z 0) (z 1) (z 2) := by
  funext z
  idx_vars z
  pointwise [val_main_v6, val_main_v5, val_main_v4, val_main_v3, val_main_v2, val_main_v1, val_main_v0]
  have h0 : z0.val < 8 := z0.isLt
  refine Finset.sum_congr rfl fun k _ => (mul_comm _ _).trans (congrArg (fun l => x (ix2 k z1) * y (ix2 k l)) (Fin.ext ?_))
  simp only [col]
  omega

variable (m : (ℓ : Loc nD τ sig) → Buf (Elt Ideal) ℓ)

abbrev X (c : Dev nD) : FVec Ideal S4096x2048 .f32 := m ((c : Thread nD τ).loc main_arg0)
abbrev Y (c : Dev nD) : FVec Ideal S4096x11264 .f32 := m ((c : Thread nD τ).loc main_arg1)

theorem V3 (c : Dev nD) : V m c main_v3 = m ((c : Thread nD τ).loc main_arg0) := by entry_read; rfl
theorem V2 (c : Dev nD) : V m c main_v2 = halves (Y m c) := by entry_read; rfl

theorem part_at (c : Dev nD) (t : Fin cfg0.N) (q : Fin 2048) (p : Fin 1408) :
    part (iblk m c 0 t) (iblk m c 1 t) q p
      = ∑ r : Fin 1024, X m c (ix2 (row (t.val % 4 * 1024 + r.val)) q) * Y m c (ix2 (row (t.val % 4 * 1024 + r.val)) (col (t.val / 4) p)) :=
  Finset.sum_congr rfl fun r _ => congrArg₂ (· * ·)
    ((rd0 (V m c main_v3) t r q).trans (congrFun (V3 m c) _))
    (((rd1 (V m c main_v2) t r p).trans (congrFun (V2 m c) _)).trans (halves_at _ _ _ _))

/-- The last point of a run writes the product. -/
theorem out_at (c : Dev nD) (t : Fin cfg0.N) (ht : t.val % 4 = 3) (d : Fin 8) (hd : d.val = t.val / 4) (q : Fin 2048) (p : Fin 1408) :
    (outsAt0 m c t.val t.isLt).1 (ix3 0 q p) = prod (X m c) (Y m c) d q p := by
  refine (Cert.Blocks.last_eq (K := 4) (B := 1024) (N := cfg0.N) (by norm_num)
    (fun n h => (outsAt0 m c n h).2 (ix2 q p)) (fun n h => (outsAt0 m c n h).1 (ix3 0 q p))
    (fun j k => X m c (ix2 (row k) q) * Y m c (ix2 (row k) (col j p)))
    (fun n h h0 => ?_) (fun n h h0 h1 => ?_) (fun n h h1 => ?_) t.val t.isLt ht).trans ?_
  · refine (congrArg (fun o => o.2 (ix2 q p)) (outsAt0_A m c ⟨n, h⟩ h0 (by dsimp only; omega))).trans ?_
    dsimp only
    rw [first_at, part_at]
    simp only [h0, Nat.zero_mul, Nat.zero_add]
  · refine (congrArg (fun o => o.2 (ix2 q p)) (outsAt0_B m c ⟨n, h⟩ h0 h1)).trans ?_
    dsimp only
    rw [next_at, part_at]
  · refine (congrArg (fun o => o.1 (ix3 0 q p)) (outsAt0_C m c ⟨n, h⟩ (by dsimp only; omega) h1)).trans ?_
    dsimp only
    rw [last_at, part_at]
  · refine Finset.sum_congr rfl fun k _ => ?_
    have e : row k.val = k := Fin.ext (Nat.mod_eq_of_lt k.isLt)
    rw [e, hd]

theorem out_block (c : Dev nD) (t : Fin cfg0.N) (ht : t.val % 4 = 3) (y : S1x2048x1408.Idx) (d : Fin 8) (i : Fin 2048) (l : Fin 1408)
    (hd : d.val = win0_2.index t 0 * 1 + (y 0).val) (hi : i.val = win0_2.index t 1 * 2048 + (y 1).val) (hl : l.val = win0_2.index t 2 * 1408 + (y 2).val) :
    (outsAt0 m c t.val t.isLt).1 y = prod (X m c) (Y m c) d i l := by
  idx_vars y
  obtain rfl : y0 = 0 := Subsingleton.elim (α := Fin 1) _ _
  rw [(idx_val t).2.2] at hd hi hl
  rw [out_at m c t ht d (hd.trans (by simp)) y1 y2]
  exact congrArg₂ _ (Fin.ext (hi.trans (by simp)).symm) (Fin.ext (hl.trans (by simp)).symm)

theorem final (c : Dev nD) : (dats m 0 c).arrAt 2 (cfgs 0).N = fun z : S8x2048x1408.Idx => prod (X m c) (Y m c) (z 0) (z 1) (z 2) := by
  refine (dats m 0 c).arrAt_eq_of_covers 2 _ (by decide +kernel) fun t hf y => ?_
  blk_simp; rw [after0_2]
  exact out_block m c t ((flush0_2 t).mp hf) y _ _ _ (by blk_simp) (by blk_simp) (by blk_simp)

theorem algebraic : Cert.algebraic_Kernel7Ideal_Reference7Ideal := by
  intro m g m' g' _ hargs
  refine ⟨fun c z => prod (X m c) (Y m c) (z 0) (z 1) (z 2), ?_, ?_⟩
  · refine (θ_run defs _ _).mono (fun r h c => ?_) (run_blocks (F := Ideal) m g)
    obtain ⟨e, k⟩ := h c
    exact ⟨e.trans (final m c), k⟩
  · refine (θ_run Cert.Reference7Ideal.defs _ _).mono (fun r h c => ?_) (Cert.Reference7Ideal.Value.run (F := Ideal) m' g')
    obtain ⟨e, k⟩ := h c
    obtain ⟨a0, a1⟩ := hargs c
    refine ⟨e.trans ?_, k⟩
    rw [val_main_v6_eq, a0, a1]; exact ref_eq _ _

end Cert.FfnUpDw

end
-- ==== Proof.FfnUpFwd.lean ====
module

public import proofs.«01_k».proof.Defs
public import proofs.«01_k».proof.Proof.Gen.Reference8Ideal.Run
public import proofs.«01_k».proof.Proof.Gen.Reference8Ideal.Read
public import proofs.«01_k».proof.Proof.Gen.Kernel8Ideal.Value
public import Idealize.ShloMosaic.Lib.Pipeline.ValueKit
public import Idealize.ShloMosaic.Lib.Pointwise
public import Idealize.ShloMosaic.Lib.Claim

/-! The up projection `h . w`, with the columns of the weight in eight pieces and those of the result in two halves:
every grid point writes one block of it. -/

@[expose] public section

set_option maxRecDepth 16384

noncomputable section

namespace Cert.FfnUpFwd

open Cert.Kernel8Ideal Cert.Kernel8Ideal.Gen Cert.Kernel8Ideal.Value Cert.Reference8Ideal.Read
open Idealize.ShloMosaic Idealize.ShloMosaic.TcCoe Idealize.SL.Sem

theorem out_eq (a : Vec Ideal S1024x2048 .bf16) (b : Vec Ideal S1x2048x1408 .bf16) (r : Fin 1024) (s : Fin 1408) :
    out0_2 a b (ix3 0 r s) = ∑ k : Fin 2048, a (ix2 r k) * b (ix3 0 k s) := by
  refine Eq.trans (b := k0_pay1 (F := Ideal) a b (ix3 0 r s)) ?_ ?_
  · frame_out
  · pointwise [k0_pay1]

theorem idx_val : ∀ t : Fin cfg0.N, win0_0.index t = ![t.val / 8, 0] ∧ win0_1.index t = ![t.val % 8, 0, 0]
    ∧ win0_2.index t = ![t.val % 8 / 4, t.val / 8, t.val % 8 % 4] :=
  (by decide +kernel : ∀ t : Fin grid0.N, _)

/-- The row, the piece and the column of a grid point's block; the column of half `h` and place `l`. -/
def row (t : Fin cfg0.N) (r : Fin 1024) : Fin 4096 := ⟨t.val / 8 * 1024 + r.val, by have : t.val < 32 := t.isLt; omega⟩
def piece (t : Fin cfg0.N) : Fin 8 := ⟨t.val % 8, by omega⟩
def col (d : Fin 8) (s : Fin 1408) : Fin 11264 := ⟨d.val * 1408 + s.val, by omega⟩
def colOf (h : Fin 2) (l : Fin 5632) : Fin 11264 := ⟨h.val * 5632 + l.val, by omega⟩

theorem rd0 (A : FVec Ideal S4096x2048 .bf16) (t : Fin cfg0.N) (r : Fin 1024) (k : Fin 2048) :
    ((cfg0.win 0).blk t).view.read (Elt Ideal) A (ix2 r k) = A (ix2 (row t r) k) := by
  blk_point [idx_val t, row]
theorem rd1 (A : FVec Ideal S8x2048x1408 .bf16) (t : Fin cfg0.N) (k : Fin 2048) (s : Fin 1408) :
    ((cfg0.win 1).blk t).view.read (Elt Ideal) A (ix3 0 k s) = A (ix3 (piece t) k s) := by
  blk_point [idx_val t, piece]

/-- The array the host lays out. -/
def pieces (w : FVec Ideal S2048x11264 .f32) : FVec Ideal S8x2048x1408 .bf16 :=
  transpose S8x2048x1408 [1, 0, 2] (shapeCast S2048x8x1408 (truncf .bf16 w bitsLt_bf16_f32 : FVec Ideal S2048x11264 .bf16) shapeCasts_S2048x11264_S2048x8x1408 : FVec Ideal S2048x8x1408 .bf16) transposes_S2048x8x1408_S8x2048x1408_1_0_2

theorem pieces_at (w : FVec Ideal S2048x11264 .f32) (d : Fin 8) (k : Fin 2048) (s : Fin 1408) : pieces w (ix3 d k s) = w (ix2 k (col d s)) := by
  pointwise [pieces, col]

/-- The product. -/
def prod (x : FVec Ideal S4096x2048 .f32) (w : FVec Ideal S2048x11264 .f32) (i : Fin 4096) (j : Fin 11264) : EReal :=
  ∑ k : Fin 2048, x (ix2 i k) * w (ix2 k j)

theorem ref_eq (x : FVec Ideal S4096x2048 .f32) (w : FVec Ideal S2048x11264 .f32) :
    val_main_v2 (F := Ideal) x w = fun z : S2x4096x5632.Idx => prod x w (z 1) (colOf (z 0) (z 2)) := by
  funext z
  idx_vars z
  pointwise [val_main_v2, val_main_v1, val_main_v0]
  rfl

variable (m : (ℓ : Loc nD τ sig) → Buf (Elt Ideal) ℓ)

abbrev X (c : Dev nD) : FVec Ideal S4096x2048 .f32 := m ((c : Thread nD τ).loc main_arg0)
abbrev W (c : Dev nD) : FVec Ideal S2048x11264 .f32 := m ((c : Thread nD τ).loc main_arg1)

theorem V3 (c : Dev nD) : V m c main_v3 = m ((c : Thread nD τ).loc main_arg0) := by entry_read; rfl
theorem V2 (c : Dev nD) : V m c main_v2 = pieces (W m c) := by entry_read; rfl

theorem out_at (c : Dev nD) (t : Fin cfg0.N) (r : Fin 1024) (s : Fin 1408) :
    out0_2 (iblk m c 0 t) (iblk m c 1 t) (ix3 0 r s) = prod (X m c) (W m c) (row t r) (col (piece t) s) :=
  (out_eq _ _ r s).trans (Finset.sum_congr rfl fun k _ => congrArg₂ (· * ·)
    ((rd0 (V m c main_v3) t r k).trans (congrFun (V3 m c) _))
    (((rd1 (V m c main_v2) t k s).trans (congrFun (V2 m c) _)).trans (pieces_at _ _ _ _)))

theorem out_block (c : Dev nD) (t : Fin cfg0.N) (y : S1x1024x1408.Idx) (h : Fin 2) (i : Fin 4096) (l : Fin 5632)
    (hh : h.val = win0_2.index t 0 * 1 + (y 0).val) (hi : i.val = win0_2.index t 1 * 1024 + (y 1).val) (hl : l.val = win0_2.index t 2 * 1408 + (y 2).val) :
    out0_2 (iblk m c 0 t) (iblk m c 1 t) y = prod (X m c) (W m c) i (colOf h l) := by
  idx_vars y
  obtain rfl : y0 = 0 := Subsingleton.elim (α := Fin 1) _ _
  rw [(idx_val t).2.2] at hh hi hl
  replace hh : h.val = t.val % 8 / 4 := hh.trans (by simp)
  replace hl : l.val = t.val % 8 % 4 * 1408 + y2.val := hl
  rw [out_at m c t y1 y2]
  refine congrArg₂ _ (Fin.ext hi.symm) (Fin.ext ?_)
  simp only [col, colOf, piece]
  omega

theorem final (c : Dev nD) : (dats m 0 c).arrAt 2 (cfgs 0).N = fun z : S2x4096x5632.Idx => prod (X m c) (W m c) (z 1) (colOf (z 0) (z 2)) := by
  refine (dats m 0 c).arrAt_eq_of_covers 2 _ (by decide +kernel) fun t hf y => ?_
  blk_simp; rw [after0_2]
  exact out_block m c t y _ _ _ (by blk_simp) (by blk_simp) (by blk_simp)

theorem algebraic : Cert.algebraic_Kernel8Ideal_Reference8Ideal := by
  intro m g m' g' _ hargs
  refine ⟨fun c z => prod (X m c) (W m c) (z 1) (colOf (z 0) (z 2)), ?_, ?_⟩
  · refine (θ_run defs _ _).mono (fun r h c => ?_) (run_blocks (F := Ideal) m g)
    obtain ⟨e, k⟩ := h c
    exact ⟨e.trans (final m c), k⟩
  · refine (θ_run Cert.Reference8Ideal.defs _ _).mono (fun r h c => ?_) (Cert.Reference8Ideal.Value.run (F := Ideal) m' g')
    obtain ⟨e, k⟩ := h c
    obtain ⟨a0, a1⟩ := hargs c
    refine ⟨e.trans ?_, k⟩
    rw [val_main_v2_eq, a0, a1]; exact ref_eq _ _

end Cert.FfnUpFwd

end
-- ==== Proof.FfnDownFwd.lean ====
module

public import proofs.«01_k».proof.Defs
public import proofs.«01_k».proof.Proof.Gen.Reference9Ideal.Run
public import proofs.«01_k».proof.Proof.Gen.Reference9Ideal.Read
public import proofs.«01_k».proof.Proof.Gen.Kernel9Ideal.Value
public import proofs.«01_k».proof.Proof.Blocks
public import Idealize.ShloMosaic.Lib.Pipeline.ValueKit
public import Idealize.ShloMosaic.Lib.Pointwise
public import Idealize.ShloMosaic.Lib.Claim

/-! The down projection with its residual, `a . w + h`: four grid points in a row, a block of 1408 columns each, fill the
accumulator of one block of it, and the last of them adds the residual. -/

@[expose] public section

set_option maxRecDepth 16384

noncomputable section

namespace Cert.FfnDownFwd

open Cert.Kernel9Ideal Cert.Kernel9Ideal.Gen Cert.Kernel9Ideal.Value Cert.Reference9Ideal.Read
open Idealize.ShloMosaic Idealize.ShloMosaic.TcCoe Idealize.SL.Sem

section Body

/-- What a grid point adds to the accumulator. -/
def part (a : Vec Ideal S1024x1408 .bf16) (b : Vec Ideal S1408x1024 .bf16) (p q : Fin 1024) : EReal :=
  ∑ r : Fin 1408, a (ix2 p r) * b (ix2 r q)

theorem pay1_at (p q : Fin 1024) : k0_pay1 (F := Ideal) (ix2 p q) = 0 := by
  pointwise [k0_pay1]
theorem pay2_at (u : Vec Ideal S1024x1024 .f32) (a : Vec Ideal S1024x1408 .bf16) (b : Vec Ideal S1408x1024 .bf16) (p q : Fin 1024) :
    k0_pay2 (F := Ideal) u a b (ix2 p q) = u (ix2 p q) + part a b p q := by
  pointwise [k0_pay2]
  rfl
theorem pay3_at (u v : Vec Ideal S1024x1024 .f32) (p q : Fin 1024) : k0_pay3 (F := Ideal) u v (ix2 p q) = u (ix2 p q) + v (ix2 p q) := by
  pointwise [k0_pay3]

variable (c : Dev nD) (i : grid0.Coords) (arg3 : Memref sig .tc .vmem S1024x1408 .bf16) (harg3 : arg3.IsWhole) (arg4 : Memref sig .tc .vmem S1408x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 : Vec Ideal S1024x1408 .bf16) (x1 : Vec Ideal S1408x1024 .bf16) (x2 u : Vec Ideal S1024x1024 .f32) (p q : Fin 1024)

theorem first_at (hc0 : cond0_0 i) (hc1 : ¬cond0_1 i) :
    sout0_A_0 c i arg3 harg3 arg4 harg4 arg5 harg5 arg6 harg6 arg7 harg7 hc0 hc1 x0 x1 x2 (ix2 p q) = part x0 x1 p q := by
  refine Eq.trans (b := k0_pay2 (F := Ideal) (k0_pay1 (F := Ideal)) x0 x1 (ix2 p q)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 arg7 harg7 hc0 hc1 x0 x1 x2 u (ix2 p q) = u (ix2 p q) + part x0 x1 p q := by
  refine Eq.trans (b := k0_pay2 (F := Ideal) u x0 x1 (ix2 p q)) ?_ (pay2_at u x0 x1 p q)
  frame_out; try exact rfl

theorem last_at (hc0 : ¬cond0_0 i) (hc1 : cond0_1 i) :
    out0_C_3 c i arg3 harg3 arg4 harg4 arg5 harg5 arg6 harg6 arg7 harg7 hc0 hc1 x0 x1 x2 u (ix2 p q) = u (ix2 p q) + part x0 x1 p q + x2 (ix2 p q) := by
  refine Eq.trans (b := k0_pay3 (F := Ideal) (k0_pay2 (F := Ideal) u x0 x1) x2 (ix2 p q)) ?_
    ((pay3_at _ x2 p q).trans (congrArg (· + _) (pay2_at u x0 x1 p q)))
  frame_out; try exact rfl

end Body

theorem idx_val : ∀ t : Fin cfg0.N, win0_0.index t = ![t.val / 4 / 2, t.val % 4] ∧ win0_1.index t = ![t.val % 4, t.val / 4 % 2]
    ∧ win0_2.index t = ![t.val / 4 / 2, t.val / 4 % 2] ∧ win0_3.index t = ![t.val / 4 / 2, t.val / 4 % 2] :=
  (by decide +kernel : ∀ t : Fin grid0.N, _)

/-- The contracted index `n`; the row and the column of an entry of the block that the run `j` fills. -/
def mid (n : ℕ) : Fin 5632 := ⟨n % 5632, Nat.mod_lt _ (by norm_num)⟩
def row (j : ℕ) (p : Fin 1024) : Fin 4096 := ⟨(j / 2 * 1024 + p.val) % 4096, Nat.mod_lt _ (by norm_num)⟩
def col (j : ℕ) (q : Fin 1024) : Fin 2048 := ⟨j % 2 * 1024 + q.val, by omega⟩

theorem rd0 (A : FVec Ideal S4096x5632 .bf16) (t : Fin cfg0.N) (p : Fin 1024) (r : Fin 1408) :
    ((cfg0.win 0).blk t).view.read (Elt Ideal) A (ix2 p r) = A (ix2 (row (t.val / 4) p) (mid (t.val % 4 * 1408 + r.val))) := by
  have hN : t.val < 32 := t.isLt
  blk_point [idx_val t, row, mid]
theorem rd1 (A : FVec Ideal S5632x2048 .bf16) (t : Fin cfg0.N) (r : Fin 1408) (q : Fin 1024) :
    ((cfg0.win 1).blk t).view.read (Elt Ideal) A (ix2 r q) = A (ix2 (mid (t.val % 4 * 1408 + r.val)) (col (t.val / 4) q)) := by
  blk_point [idx_val t, col, mid]
theorem rd2 (A : FVec Ideal S4096x2048 .f32) (t : Fin cfg0.N) (p q : Fin 1024) :
    ((cfg0.win 2).blk t).view.read (Elt Ideal) A (ix2 p q) = A (ix2 (row (t.val / 4) p) (col (t.val / 4) q)) := by
  have hN : t.val < 32 := t.isLt
  blk_point [idx_val t, row, col]

/-- The product with the residual. -/
def prod (x : FVec Ideal S4096x5632 .f32) (w : FVec Ideal S5632x2048 .f32) (h : FVec Ideal S4096x2048 .f32) (i : Fin 4096) (j : Fin 2048) : EReal :=
  ∑ k : Fin 5632, x (ix2 i k) * w (ix2 k j) + h (ix2 i j)

theorem ref_eq (x : FVec Ideal S4096x5632 .f32) (w : FVec Ideal S5632x2048 .f32) (h : FVec Ideal S4096x2048 .f32) :
    val_main_v1 (F := Ideal) x w h = fun z : S4096x2048.Idx => prod x w h (z 0) (z 1) := by
  funext z
  idx_vars z
  pointwise [val_main_v1, val_main_v0]
  exact add_comm _ _

variable (m : (ℓ : Loc nD τ sig) → Buf (Elt Ideal) ℓ)

abbrev X (c : Dev nD) : FVec Ideal S4096x5632 .f32 := m ((c : Thread nD τ).loc main_arg0)
abbrev W (c : Dev nD) : FVec Ideal S5632x2048 .f32 := m ((c : Thread nD τ).loc main_arg1)
abbrev H (c : Dev nD) : FVec Ideal S4096x2048 .f32 := m ((c : Thread nD τ).loc main_arg2)

theorem V0 (c : Dev nD) : V m c main_v0 = m ((c : Thread nD τ).loc main_arg0) := by entry_read; rfl
theorem V1 (c : Dev nD) : V m c main_v1 = m ((c : Thread nD τ).loc main_arg1) := by entry_read; rfl
theorem Varg (c : Dev nD) : V m c main_arg2 = m ((c : Thread nD τ).loc main_arg2) := by entry_read; try rfl

theorem part_at (c : Dev nD) (t : Fin cfg0.N) (p q : Fin 1024) :
    part (iblk m c 0 t) (iblk m c 1 t) p q
      = ∑ r : Fin 1408, X m c (ix2 (row (t.val / 4) p) (mid (t.val % 4 * 1408 + r.val))) * W m c (ix2 (mid (t.val % 4 * 1408 + r.val)) (col (t.val / 4) q)) :=
  Finset.sum_congr rfl fun r _ => congrArg₂ (· * ·)
    ((rd0 (V m c main_v0) t p r).trans (congrFun (V0 m c) _)) ((rd1 (V m c main_v1) t r q).trans (congrFun (V1 m c) _))

theorem res_at (c : Dev nD) (t : Fin cfg0.N) (p q : Fin 1024) : iblk m c 2 t (ix2 p q) = H m c (ix2 (row (t.val / 4) p) (col (t.val / 4) q)) :=
  (rd2 (V m c main_arg2) t p q).trans (congrFun (Varg m c) _)

/-- The accumulator with the last grid point's part added, which is the product. -/
def filled (c : Dev nD) (n : ℕ) (h : n < cfg0.N) (p q : Fin 1024) : EReal :=
  (outsAt0 m c (n - 1) (Nat.lt_of_le_of_lt (Nat.sub_le _ _) h)).2 (ix2 p q) + part (iblk m c 0 ⟨n, h⟩) (iblk m c 1 ⟨n, h⟩) p q

theorem filled_eq (c : Dev nD) (t : Fin cfg0.N) (ht : t.val % 4 = 3) (p q : Fin 1024) :
    filled m c t.val t.isLt p q = ∑ k : Fin 5632, X m c (ix2 (row (t.val / 4) p) k) * W m c (ix2 k (col (t.val / 4) q)) := by
  refine (Cert.Blocks.last_eq (K := 4) (B := 1408) (N := cfg0.N) (by norm_num)
    (fun n h => (outsAt0 m c n h).2 (ix2 p q)) (fun n h => filled m c n h p q)
    (fun j k => X m c (ix2 (row j p) (mid k)) * W m c (ix2 (mid k) (col j q)))
    (fun n h h0 => ?_) (fun n h h0 h1 => ?_) (fun n h h1 => ?_) t.val t.isLt ht).trans ?_
  · refine (congrArg (fun o => o.2 (ix2 p q)) (outsAt0_A m c ⟨n, h⟩ h0 (by dsimp only; omega))).trans ?_
    dsimp only
    rw [first_at, part_at]
    simp only [h0, Nat.zero_mul, Nat.zero_add]
  · refine (congrArg (fun o => o.2 (ix2 p q)) (outsAt0_B m c ⟨n, h⟩ h0 h1)).trans ?_
    dsimp only
    rw [next_at, part_at]
  · rw [filled, part_at]
  · refine Finset.sum_congr rfl fun k _ => ?_
    have e : mid k.val = k := Fin.ext (Nat.mod_eq_of_lt k.isLt)
    rw [e]

/-- The last point of a run writes the product and the residual. -/
theorem out_at (c : Dev nD) (t : Fin cfg0.N) (ht : t.val % 4 = 3) (p q : Fin 1024) :
    (outsAt0 m c t.val t.isLt).1 (ix2 p q) = prod (X m c) (W m c) (H m c) (row (t.val / 4) p) (col (t.val / 4) q) := by
  refine (congrArg (fun o => o.1 (ix2 p q)) (outsAt0_C m c t (by omega) ht)).trans ?_
  dsimp only
  rw [last_at]
  exact congrArg₂ (· + ·) (filled_eq m c t ht p q) (res_at m c t p q)

theorem out_block (c : Dev nD) (t : Fin cfg0.N) (ht : t.val % 4 = 3) (y : S1024x1024.Idx) (i : Fin 4096) (j : Fin 2048)
    (hi : i.val = win0_3.index t 0 * 1024 + (y 0).val) (hj : j.val = win0_3.index t 1 * 1024 + (y 1).val) :
    (outsAt0 m c t.val t.isLt).1 y = prod (X m c) (W m c) (H m c) i j := by
  have hN : t.val < 32 := t.isLt
  idx_vars y
  have h0 : y0.val < 1024 := y0.isLt
  rw [(idx_val t).2.2.2] at hi hj
  rw [out_at m c t ht y0 y1]
  refine congrArg₂ _ (Fin.ext (Eq.trans (Nat.mod_eq_of_lt ?_) hi.symm)) (Fin.ext hj.symm)
  omega

theorem final (c : Dev nD) : (dats m 0 c).arrAt 3 (cfgs 0).N = fun z : S4096x2048.Idx => prod (X m c) (W m c) (H m c) (z 0) (z 1) := by
  refine (dats m 0 c).arrAt_eq_of_covers 3 _ (by decide +kernel) fun t hf y => ?_
  blk_simp; rw [after0_3]
  exact out_block m c t ((flush0_3 t).mp hf) y _ _ (by blk_simp) (by blk_simp)

theorem algebraic : Cert.algebraic_Kernel9Ideal_Reference9Ideal := by
  intro m g m' g' _ hargs
  refine ⟨fun c z => prod (X m c) (W m c) (H m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference9Ideal.defs _ _).mono (fun r h c => ?_) (Cert.Reference9Ideal.Value.run (F := Ideal) m' g')
    obtain ⟨e, k⟩ := h c
    obtain ⟨a0, a1, a2⟩ := hargs c
    refine ⟨e.trans ?_, k⟩
    rw [val_main_v1_eq, a0, a1, a2]; exact ref_eq _ _ _

end Cert.FfnDownFwd

end
-- ==== Proof.BQkvDx.lean ====
module

public import proofs.«01_k».proof.Defs
public import proofs.«01_k».proof.Proof.Gen.Reference10Ideal.Run
public import proofs.«01_k».proof.Proof.Gen.Reference10Ideal.Read
public import proofs.«01_k».proof.Proof.Gen.Kernel10Ideal.Value
public import proofs.«01_k».proof.Proof.Blocks
public import Idealize.ShloMosaic.Lib.Pipeline.ValueKit
public import Idealize.ShloMosaic.Lib.Pointwise
public import Idealize.ShloMosaic.Lib.Claim

/-! The gradient of mixer B's input projection in its input, `dqkv . w^T`: the columns of the weight lie in eight pieces,
and eight grid points in a row, a piece each, fill the accumulator of a block of rows. -/

@[expose] public section

set_option maxRecDepth 16384

noncomputable section

namespace Cert.BQkvDx

open Cert.Kernel10Ideal Cert.Kernel10Ideal.Gen Cert.Kernel10Ideal.Value Cert.Reference10Ideal.Read
open Idealize.ShloMosaic Idealize.ShloMosaic.TcCoe Idealize.SL.Sem

section Body

/-- What a grid point adds to the accumulator. -/
def part (a : Vec Ideal S1024x1152 .bf16) (b : Vec Ideal S1x2048x1152 .bf16) (p : Fin 1024) (q : Fin 2048) : EReal :=
  ∑ r : Fin 1152, a (ix2 p r) * b (ix3 0 q r)

theorem pay1_at (p : Fin 1024) (q : Fin 2048) : k0_pay1 (F := Ideal) (ix2 p q) = 0 := by
  pointwise [k0_pay1]
theorem pay2_at (u : Vec Ideal S1024x2048 .f32) (a : Vec Ideal S1024x1152 .bf16) (b : Vec Ideal S1x2048x1152 .bf16) (p : Fin 1024) (q : Fin 2048) :
    k0_pay2 (F := Ideal) u a b (ix2 p q) = u (ix2 p q) + part a b p q := by
  pointwise [k0_pay2]
  rfl

variable (c : Dev nD) (i : grid0.Coords) (arg3 : Memref sig .tc .vmem S1024x1152 .bf16) (harg3 : arg3.IsWhole) (arg4 : Memref sig .tc .vmem S1x2048x1152 .bf16) (harg4 : arg4.IsWhole) (arg5 : Memref sig .tc .vmem S1024x2048 .f32) (harg5 : arg5.IsWhole) (arg6 : Memref sig .tc .vmem S1024x2048 .f32) (harg6 : arg6.IsWhole)
  (x0 : Vec Ideal S1024x1152 .bf16) (x1 : Vec Ideal S1x2048x1152 .bf16) (u : Vec Ideal S1024x2048 .f32) (p : Fin 1024) (q : Fin 2048)

theorem first_at (hc0 : cond0_0 i) (hc1 : ¬cond0_1 i) :
    sout0_A_0 c i arg3 harg3 arg4 harg4 arg5 harg5 arg6 harg6 hc0 hc1 x0 x1 (ix2 p q) = part x0 x1 p q := by
  refine Eq.trans (b := k0_pay2 (F := Ideal) (k0_pay1 (F := Ideal)) x0 x1 (ix2 p q)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

theorem last_at (hc0 : ¬cond0_0 i) (hc1 : cond0_1 i) :
    out0_C_2 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

end Body

theorem idx_val : ∀ t : Fin cfg0.N, win0_0.index t = ![t.val / 8, t.val % 8] ∧ win0_1.index t = ![t.val % 8, 0, 0]
    ∧ win0_2.index t = ![t.val / 8, 0] :=
  (by decide +kernel : ∀ t : Fin grid0.N, _)

/-- The column `n`; its piece and its place there; the row of an entry of the block that the run `j` fills. -/
def col (n : ℕ) : Fin 9216 := ⟨n % 9216, Nat.mod_lt _ (by norm_num)⟩
def piece (n : ℕ) : Fin 8 := ⟨n / 1152 % 8, Nat.mod_lt _ (by norm_num)⟩
def pos (n : ℕ) : Fin 1152 := ⟨n % 1152, Nat.mod_lt _ (by norm_num)⟩
def row (j : ℕ) (p : Fin 1024) : Fin 4096 := ⟨(j * 1024 + p.val) % 4096, Nat.mod_lt _ (by norm_num)⟩

theorem rd0 (A : FVec Ideal S4096x9216 .bf16) (t : Fin cfg0.N) (p : Fin 1024) (r : Fin 1152) :
    ((cfg0.win 0).blk t).view.read (Elt Ideal) A (ix2 p r)
      = A (ix2 (row (t.val / 8) p) (col (t.val % 8 * 1152 + r.val))) := by
  have hN : t.val < 32 := t.isLt
  blk_point [idx_val t, col, row]
theorem rd1 (A : FVec Ideal S8x2048x1152 .bf16) (t : Fin cfg0.N) (q : Fin 2048) (r : Fin 1152) :
    ((cfg0.win 1).blk t).view.read (Elt Ideal) A (ix3 0 q r)
      = A (ix3 (piece (t.val % 8 * 1152 + r.val)) q (pos (t.val % 8 * 1152 + r.val))) := by
  blk_point [idx_val t, piece, pos]

/-- The array the host lays out. -/
def pieces (w : FVec Ideal S2048x9216 .f32) : FVec Ideal S8x2048x1152 .bf16 :=
  transpose S8x2048x1152 [1, 0, 2] (shapeCast S2048x8x1152 (truncf .bf16 w bitsLt_bf16_f32 : FVec Ideal S2048x9216 .bf16) shapeCasts_S2048x9216_S2048x8x1152 : FVec Ideal S2048x8x1152 .bf16) transposes_S2048x8x1152_S8x2048x1152_1_0_2

theorem pieces_at (w : FVec Ideal S2048x9216 .f32) (n : ℕ) (i : Fin 2048) : pieces w (ix3 (piece n) i (pos n)) = w (ix2 i (col n)) := by
  pointwise [pieces, piece, pos, col]
  exact congrArg (fun l => w (ix2 i l)) (Fin.ext (by dsimp only; omega))

/-- The product. -/
def prod (w : FVec Ideal S2048x9216 .f32) (y : FVec Ideal S4096x9216 .f32) (i : Fin 4096) (j : Fin 2048) : EReal :=
  ∑ k : Fin 9216, y (ix2 i k) * w (ix2 j k)

theorem ref_eq (w : FVec Ideal S2048x9216 .f32) (y : FVec Ideal S4096x9216 .f32) :
    val_main_v2 (F := Ideal) w y = fun z : S4096x2048.Idx => prod w y (z 0) (z 1) := by
  funext z
  idx_vars z
  pointwise [val_main_v2, val_main_v1, val_main_v0]
  rfl

variable (m : (ℓ : Loc nD τ sig) → Buf (Elt Ideal) ℓ)

abbrev W (c : Dev nD) : FVec Ideal S2048x9216 .f32 := m ((c : Thread nD τ).loc main_arg0)
abbrev Y (c : Dev nD) : FVec Ideal S4096x9216 .f32 := m ((c : Thread nD τ).loc main_arg1)

theorem V3 (c : Dev nD) : V m c main_v3 = m ((c : Thread nD τ).loc main_arg1) := by entry_read; rfl
theorem V2 (c : Dev nD) : V m c main_v2 = pieces (W m c) := by entry_read; rfl

theorem part_at (c : Dev nD) (t : Fin cfg0.N) (p : Fin 1024) (q : Fin 2048) :
    part (iblk m c 0 t) (iblk m c 1 t) p q
      = ∑ r : Fin 1152, Y m c (ix2 (row (t.val / 8) p) (col (t.val % 8 * 1152 + r.val))) * W m c (ix2 q (col (t.val % 8 * 1152 + r.val))) :=
  Finset.sum_congr rfl fun r _ => congrArg₂ (· * ·)
    ((rd0 (V m c main_v3) t p r).trans (congrFun (V3 m c) _))
    (((rd1 (V m c main_v2) t q r).trans (congrFun (V2 m c) _)).trans (pieces_at _ _ _))

/-- The last point of a run writes the product. -/
theorem out_at (c : Dev nD) (t : Fin cfg0.N) (ht : t.val % 8 = 7) (p : Fin 1024) (q : Fin 2048) :
    (outsAt0 m c t.val t.isLt).1 (ix2 p q) = prod (W m c) (Y m c) (row (t.val / 8) p) q := by
  refine (Cert.Blocks.last_eq (K := 8) (B := 1152) (N := cfg0.N) (by norm_num)
    (fun n h => (outsAt0 m c n h).2 (ix2 p q)) (fun n h => (outsAt0 m c n h).1 (ix2 p q))
    (fun j k => Y m c (ix2 (row j p) (col k)) * W m c (ix2 q (col k)))
    (fun n h h0 => ?_) (fun n h h0 h1 => ?_) (fun n h h1 => ?_) t.val t.isLt ht).trans ?_
  · refine (congrArg (fun o => o.2 (ix2 p q)) (outsAt0_A m c ⟨n, h⟩ h0 (by dsimp only; omega))).trans ?_
    dsimp only
    rw [first_at, part_at]
    simp only [h0, Nat.zero_mul, Nat.zero_add]
  · refine (congrArg (fun o => o.2 (ix2 p q)) (outsAt0_B m c ⟨n, h⟩ h0 h1)).trans ?_
    dsimp only
    rw [next_at, part_at]
  · refine (congrArg (fun o => o.1 (ix2 p q)) (outsAt0_C m c ⟨n, h⟩ (by dsimp only; omega) h1)).trans ?_
    dsimp only
    rw [last_at, part_at]
  · refine Finset.sum_congr rfl fun k _ => ?_
    have e : col k.val = k := Fin.ext (Nat.mod_eq_of_lt k.isLt)
    rw [e]

theorem out_block (c : Dev nD) (t : Fin cfg0.N) (ht : t.val % 8 = 7) (y : S1024x2048.Idx) (i : Fin 4096) (j : Fin 2048)
    (hi : i.val = win0_2.index t 0 * 1024 + (y 0).val) (hj : j.val = win0_2.index t 1 * 2048 + (y 1).val) :
    (outsAt0 m c t.val t.isLt).1 y = prod (W m c) (Y m c) i j := by
  have hN : t.val < 32 := t.isLt
  idx_vars y
  have h0 : y0.val < 1024 := y0.isLt
  rw [(idx_val t).2.2] at hi hj
  rw [out_at m c t ht y0 y1]
  refine congrArg₂ _ (Fin.ext (Eq.trans (Nat.mod_eq_of_lt ?_) hi.symm)) (Fin.ext ((hj.trans (by simp)).symm))
  omega

theorem final (c : Dev nD) : (dats m 0 c).arrAt 2 (cfgs 0).N = fun z : S4096x2048.Idx => prod (W m c) (Y m c) (z 0) (z 1) := by
  refine (dats m 0 c).arrAt_eq_of_covers 2 _ (by decide +kernel) fun t hf y => ?_
  blk_simp; rw [after0_2]
  exact out_block m c t ((flush0_2 t).mp hf) y _ _ (by blk_simp) (by blk_simp)

theorem algebraic : Cert.algebraic_Kernel10Ideal_Reference10Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference10Ideal.defs _ _).mono (fun r h c => ?_) (Cert.Reference10Ideal.Value.run (F := Ideal) m' g')
    obtain ⟨e, k⟩ := h c
    obtain ⟨a0, a1⟩ := hargs c
    refine ⟨e.trans ?_, k⟩
    rw [val_main_v2_eq, a0, a1]; exact ref_eq _ _

end Cert.BQkvDx

end
-- ==== Proof.BQkvDw.lean ====
module

public import proofs.«01_k».proof.Defs
public import proofs.«01_k».proof.Proof.Gen.Reference11Ideal.Run
public import proofs.«01_k».proof.Proof.Gen.Reference11Ideal.Read
public import proofs.«01_k».proof.Proof.Gen.Kernel11Ideal.Value
public import proofs.«01_k».proof.Proof.Blocks
public import Idealize.ShloMosaic.Lib.Pipeline.ValueKit
public import Idealize.ShloMosaic.Lib.Pointwise
public import Idealize.ShloMosaic.Lib.Claim

/-! The gradient of mixer B's input projection in its weight, `h^T . dqkv`, in eight pieces of columns: four grid points in a row,
a block of 1024 rows each, fill the accumulator of a piece. -/

@[expose] public section

set_option maxRecDepth 16384

noncomputable section

namespace Cert.BQkvDw

open Cert.Kernel11Ideal Cert.Kernel11Ideal.Gen Cert.Kernel11Ideal.Value Cert.Reference11Ideal.Read
open Idealize.ShloMosaic Idealize.ShloMosaic.TcCoe Idealize.SL.Sem

section Body

/-- What a grid point adds to the accumulator. -/
def part (a : Vec Ideal S1024x2048 .bf16) (b : Vec Ideal S1024x1152 .bf16) (q : Fin 2048) (p : Fin 1152) : EReal :=
  ∑ r : Fin 1024, a (ix2 r q) * b (ix2 r p)

theorem pay1_at (q : Fin 2048) (p : Fin 1152) : k0_pay1 (F := Ideal) (ix2 q p) = 0 := by
  pointwise [k0_pay1]
theorem pay2_at (u : Vec Ideal S2048x1152 .f32) (a : Vec Ideal S1024x2048 .bf16) (b : Vec Ideal S1024x1152 .bf16) (q : Fin 2048) (p : Fin 1152) :
    k0_pay2 (F := Ideal) u a b (ix2 q p) = u (ix2 q p) + part a b q p := by
  pointwise [k0_pay2]
  rfl
theorem pay3_at (u : Vec Ideal S2048x1152 .f32) (q : Fin 2048) (p : Fin 1152) : k0_pay3 (F := Ideal) u (ix3 0 q p) = u (ix2 q p) := by
  pointwise [k0_pay3]

variable (c : Dev nD) (i : grid0.Coords) (arg3 : Memref sig .tc .vmem S1024x2048 .bf16) (harg3 : arg3.IsWhole) (arg4 : Memref sig .tc .vmem S1024x1152 .bf16) (harg4 : arg4.IsWhole) (arg5 : Memref sig .tc .vmem S1x2048x1152 .bf16) (harg5 : arg5.IsWhole) (arg6 : Memref sig .tc .vmem S2048x1152 .f32) (harg6 : arg6.IsWhole)
  (x0 : Vec Ideal S1024x2048 .bf16) (x1 : Vec Ideal S1024x1152 .bf16) (u : Vec Ideal S2048x1152 .f32) (q : Fin 2048) (p : Fin 1152)

theorem first_at (hc0 : cond0_0 i) (hc1 : ¬cond0_1 i) :
    sout0_A_0 c i arg3 harg3 arg4 harg4 arg5 harg5 arg6 harg6 hc0 hc1 x0 x1 (ix2 q p) = part x0 x1 q p := by
  refine Eq.trans (b := k0_pay2 (F := Ideal) (k0_pay1 (F := Ideal)) x0 x1 (ix2 q p)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 q p) = u (ix2 q p) + part x0 x1 q p := by
  refine Eq.trans (b := k0_pay2 (F := Ideal) u x0 x1 (ix2 q p)) ?_ (pay2_at u x0 x1 q p)
  frame_out; try exact rfl

theorem last_at (hc0 : ¬cond0_0 i) (hc1 : cond0_1 i) :
    out0_C_2 c i arg3 harg3 arg4 harg4 arg5 harg5 arg6 harg6 hc0 hc1 x0 x1 u (ix3 0 q p) = u (ix2 q p) + part x0 x1 q p := by
  refine Eq.trans (b := k0_pay3 (F := Ideal) (k0_pay2 (F := Ideal) u x0 x1) (ix3 0 q p)) ?_ ((pay3_at _ q p).trans (pay2_at u x0 x1 q p))
  frame_out; try exact rfl

end Body

theorem idx_val : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

/-- The row `n`; the column `p` of the piece `j`. -/
def row (n : ℕ) : Fin 4096 := ⟨n % 4096, Nat.mod_lt _ (by norm_num)⟩
def col (j : ℕ) (p : Fin 1152) : Fin 9216 := ⟨j % 8 * 1152 + p.val, by omega⟩

theorem rd0 (A : FVec Ideal S4096x2048 .bf16) (t : Fin cfg0.N) (r : Fin 1024) (q : Fin 2048) :
    ((cfg0.win 0).blk t).view.read (Elt Ideal) A (ix2 r q) = A (ix2 (row (t.val % 4 * 1024 + r.val)) q) := by
  blk_point [idx_val t, row]
theorem rd1 (A : FVec Ideal S4096x9216 .bf16) (t : Fin cfg0.N) (r : Fin 1024) (p : Fin 1152) :
    ((cfg0.win 1).blk t).view.read (Elt Ideal) A (ix2 r p)
      = A (ix2 (row (t.val % 4 * 1024 + r.val)) (col (t.val / 4) p)) := by
  have hN : t.val < 32 := t.isLt
  blk_point [idx_val t, row, col]

/-- The product, piece by piece. -/
def prod (x : FVec Ideal S4096x2048 .f32) (y : FVec Ideal S4096x9216 .f32) (d : Fin 8) (i : Fin 2048) (p : Fin 1152) : EReal :=
  ∑ k : Fin 4096, x (ix2 k i) * y (ix2 k (col d.val p))

theorem ref_eq (x : FVec Ideal S4096x2048 .f32) (y : FVec Ideal S4096x9216 .f32) :
    val_main_v6 (F := Ideal) x y = fun z : S8x2048x1152.Idx => prod x y (z 0) (z 1) (z 2) := by
  funext z
  idx_vars z
  pointwise [val_main_v6, val_main_v5, val_main_v4, val_main_v3, val_main_v2, val_main_v1, val_main_v0]
  have h0 : z0.val < 8 := z0.isLt
  refine Finset.sum_congr rfl fun k _ => (mul_comm _ _).trans (congrArg (fun l => x (ix2 k z1) * y (ix2 k l)) (Fin.ext ?_))
  simp only [col]
  omega

variable (m : (ℓ : Loc nD τ sig) → Buf (Elt Ideal) ℓ)

abbrev X (c : Dev nD) : FVec Ideal S4096x2048 .f32 := m ((c : Thread nD τ).loc main_arg0)
abbrev Y (c : Dev nD) : FVec Ideal S4096x9216 .f32 := m ((c : Thread nD τ).loc main_arg1)

theorem V0 (c : Dev nD) : V m c main_v0 = m ((c : Thread nD τ).loc main_arg0) := by entry_read; rfl
theorem V1 (c : Dev nD) : V m c main_v1 = m ((c : Thread nD τ).loc main_arg1) := by entry_read; rfl

theorem part_at (c : Dev nD) (t : Fin cfg0.N) (q : Fin 2048) (p : Fin 1152) :
    part (iblk m c 0 t) (iblk m c 1 t) q p
      = ∑ r : Fin 1024, X m c (ix2 (row (t.val % 4 * 1024 + r.val)) q) * Y m c (ix2 (row (t.val % 4 * 1024 + r.val)) (col (t.val / 4) p)) :=
  Finset.sum_congr rfl fun r _ => congrArg₂ (· * ·)
    ((rd0 (V m c main_v0) t r q).trans (congrFun (V0 m c) _))
    ((rd1 (V m c main_v1) t r p).trans (congrFun (V1 m c) _))

/-- The last point of a run writes the product. -/
theorem out_at (c : Dev nD) (t : Fin cfg0.N) (ht : t.val % 4 = 3) (d : Fin 8) (hd : d.val = t.val / 4) (q : Fin 2048) (p : Fin 1152) :
    (outsAt0 m c t.val t.isLt).1 (ix3 0 q p) = prod (X m c) (Y m c) d q p := by
  refine (Cert.Blocks.last_eq (K := 4) (B := 1024) (N := cfg0.N) (by norm_num)
    (fun n h => (outsAt0 m c n h).2 (ix2 q p)) (fun n h => (outsAt0 m c n h).1 (ix3 0 q p))
    (fun j k => X m c (ix2 (row k) q) * Y m c (ix2 (row k) (col j p)))
    (fun n h h0 => ?_) (fun n h h0 h1 => ?_) (fun n h h1 => ?_) t.val t.isLt ht).trans ?_
  · refine (congrArg (fun o => o.2 (ix2 q p)) (outsAt0_A m c ⟨n, h⟩ h0 (by dsimp only; omega))).trans ?_
    dsimp only
    rw [first_at, part_at]
    simp only [h0, Nat.zero_mul, Nat.zero_add]
  · refine (congrArg (fun o => o.2 (ix2 q p)) (outsAt0_B m c ⟨n, h⟩ h0 h1)).trans ?_
    dsimp only
    rw [next_at, part_at]
  · refine (congrArg (fun o => o.1 (ix3 0 q p)) (outsAt0_C m c ⟨n, h⟩ (by dsimp only; omega) h1)).trans ?_
    dsimp only
    rw [last_at, part_at]
  · refine Finset.sum_congr rfl fun k _ => ?_
    have e : row k.val = k := Fin.ext (Nat.mod_eq_of_lt k.isLt)
    rw [e, hd]

theorem out_block (c : Dev nD) (t : Fin cfg0.N) (ht : t.val % 4 = 3) (y : S1x2048x1152.Idx) (d : Fin 8) (i : Fin 2048) (l : Fin 1152)
    (hd : d.val = win0_2.index t 0 * 1 + (y 0).val) (hi : i.val = win0_2.index t 1 * 2048 + (y 1).val) (hl : l.val = win0_2.index t 2 * 1152 + (y 2).val) :
    (outsAt0 m c t.val t.isLt).1 y = prod (X m c) (Y m c) d i l := by
  idx_vars y
  obtain rfl : y0 = 0 := Subsingleton.elim (α := Fin 1) _ _
  rw [(idx_val t).2.2] at hd hi hl
  rw [out_at m c t ht d (hd.trans (by simp)) y1 y2]
  exact congrArg₂ _ (Fin.ext (hi.trans (by simp)).symm) (Fin.ext (hl.trans (by simp)).symm)

theorem final (c : Dev nD) : (dats m 0 c).arrAt 2 (cfgs 0).N = fun z : S8x2048x1152.Idx => prod (X m c) (Y m c) (z 0) (z 1) (z 2) := by
  refine (dats m 0 c).arrAt_eq_of_covers 2 _ (by decide +kernel) fun t hf y => ?_
  blk_simp; rw [after0_2]
  exact out_block m c t ((flush0_2 t).mp hf) y _ _ _ (by blk_simp) (by blk_simp) (by blk_simp)

theorem algebraic : Cert.algebraic_Kernel11Ideal_Reference11Ideal := by
  intro m g m' g' _ hargs
  refine ⟨fun c z => prod (X m c) (Y m c) (z 0) (z 1) (z 2), ?_, ?_⟩
  · refine (θ_run defs _ _).mono (fun r h c => ?_) (run_blocks (F := Ideal) m g)
    obtain ⟨e, k⟩ := h c
    exact ⟨e.trans (final m c), k⟩
  · refine (θ_run Cert.Reference11Ideal.defs _ _).mono (fun r h c => ?_) (Cert.Reference11Ideal.Value.run (F := Ideal) m' g')
    obtain ⟨e, k⟩ := h c
    obtain ⟨a0, a1⟩ := hargs c
    refine ⟨e.trans ?_, k⟩
    rw [val_main_v6_eq, a0, a1]; exact ref_eq _ _

end Cert.BQkvDw

end
-- ==== Proof.BQkvFwd.lean ====
module

public import proofs.«01_k».proof.Defs
public import proofs.«01_k».proof.Proof.Gen.Reference12Ideal.Run
public import proofs.«01_k».proof.Proof.Gen.Reference12Ideal.Read
public import proofs.«01_k».proof.Proof.Gen.Kernel12Ideal.Value
public import Idealize.ShloMosaic.Lib.Pipeline.ValueKit
public import Idealize.ShloMosaic.Lib.Pointwise
public import Idealize.ShloMosaic.Lib.Claim

/-! Mixer B's input projection `h . w`, with the columns of the weight in eight pieces: every grid point writes one block
of it. -/

@[expose] public section

set_option maxRecDepth 16384

noncomputable section

namespace Cert.BQkvFwd

open Cert.Kernel12Ideal Cert.Kernel12Ideal.Gen Cert.Kernel12Ideal.Value Cert.Reference12Ideal.Read
open Idealize.ShloMosaic Idealize.ShloMosaic.TcCoe Idealize.SL.Sem

theorem out_eq (a : Vec Ideal S1024x2048 .bf16) (b : Vec Ideal S1x2048x1152 .bf16) (r : Fin 1024) (s : Fin 1152) :
    out0_2 a b (ix2 r s) = ∑ k : Fin 2048, a (ix2 r k) * b (ix3 0 k s) := by
  refine Eq.trans (b := k0_pay1 (F := Ideal) a b (ix2 r s)) ?_ ?_
  · frame_out
  · pointwise [k0_pay1]

theorem idx_val : ∀ t : Fin cfg0.N, win0_0.index t = ![t.val / 8, 0] ∧ win0_1.index t = ![t.val % 8, 0, 0]
    ∧ win0_2.index t = ![t.val / 8, t.val % 8] :=
  (by decide +kernel : ∀ t : Fin grid0.N, _)

/-- The row, the piece and the column of a grid point's block. -/
def row (t : Fin cfg0.N) (r : Fin 1024) : Fin 4096 := ⟨t.val / 8 * 1024 + r.val, by have : t.val < 32 := t.isLt; omega⟩
def piece (t : Fin cfg0.N) : Fin 8 := ⟨t.val % 8, by omega⟩
def col (d : Fin 8) (s : Fin 1152) : Fin 9216 := ⟨d.val * 1152 + s.val, by omega⟩

theorem rd0 (A : FVec Ideal S4096x2048 .bf16) (t : Fin cfg0.N) (r : Fin 1024) (k : Fin 2048) :
    ((cfg0.win 0).blk t).view.read (Elt Ideal) A (ix2 r k) = A (ix2 (row t r) k) := by
  blk_point [idx_val t, row]
theorem rd1 (A : FVec Ideal S8x2048x1152 .bf16) (t : Fin cfg0.N) (k : Fin 2048) (s : Fin 1152) :
    ((cfg0.win 1).blk t).view.read (Elt Ideal) A (ix3 0 k s) = A (ix3 (piece t) k s) := by
  blk_point [idx_val t, piece]

/-- The array the host lays out. -/
def pieces (w : FVec Ideal S2048x9216 .f32) : FVec Ideal S8x2048x1152 .bf16 :=
  transpose S8x2048x1152 [1, 0, 2] (shapeCast S2048x8x1152 (truncf .bf16 w bitsLt_bf16_f32 : FVec Ideal S2048x9216 .bf16) shapeCasts_S2048x9216_S2048x8x1152 : FVec Ideal S2048x8x1152 .bf16) transposes_S2048x8x1152_S8x2048x1152_1_0_2

theorem pieces_at (w : FVec Ideal S2048x9216 .f32) (d : Fin 8) (k : Fin 2048) (s : Fin 1152) : pieces w (ix3 d k s) = w (ix2 k (col d s)) := by
  pointwise [pieces, col]

/-- The product. -/
def prod (x : FVec Ideal S4096x2048 .f32) (w : FVec Ideal S2048x9216 .f32) (i : Fin 4096) (j : Fin 9216) : EReal :=
  ∑ k : Fin 2048, x (ix2 i k) * w (ix2 k j)

theorem ref_eq (x : FVec Ideal S4096x2048 .f32) (w : FVec Ideal S2048x9216 .f32) :
    val_main_v1 (F := Ideal) x w = fun z : S4096x9216.Idx => prod x w (z 0) (z 1) := by
  funext z
  idx_vars z
  pointwise [val_main_v1, val_main_v0]
  rfl

variable (m : (ℓ : Loc nD τ sig) → Buf (Elt Ideal) ℓ)

abbrev X (c : Dev nD) : FVec Ideal S4096x2048 .f32 := m ((c : Thread nD τ).loc main_arg0)
abbrev W (c : Dev nD) : FVec Ideal S2048x9216 .f32 := m ((c : Thread nD τ).loc main_arg1)

theorem V3 (c : Dev nD) : V m c main_v3 = m ((c : Thread nD τ).loc main_arg0) := by entry_read; rfl
theorem V2 (c : Dev nD) : V m c main_v2 = pieces (W m c) := by entry_read; rfl

theorem out_at (c : Dev nD) (t : Fin cfg0.N) (r : Fin 1024) (s : Fin 1152) :
    out0_2 (iblk m c 0 t) (iblk m c 1 t) (ix2 r s) = prod (X m c) (W m c) (row t r) (col (piece t) s) :=
  (out_eq _ _ r s).trans (Finset.sum_congr rfl fun k _ => congrArg₂ (· * ·)
    ((rd0 (V m c main_v3) t r k).trans (congrFun (V3 m c) _))
    (((rd1 (V m c main_v2) t k s).trans (congrFun (V2 m c) _)).trans (pieces_at _ _ _ _)))

theorem out_block (c : Dev nD) (t : Fin cfg0.N) (y : S1024x1152.Idx) (i : Fin 4096) (j : Fin 9216)
    (hi : i.val = win0_2.index t 0 * 1024 + (y 0).val) (hj : j.val = win0_2.index t 1 * 1152 + (y 1).val) :
    out0_2 (iblk m c 0 t) (iblk m c 1 t) y = prod (X m c) (W m c) i j := by
  idx_vars y
  rw [(idx_val t).2.2] at hi hj
  rw [out_at m c t y0 y1]
  exact congrArg₂ _ (Fin.ext hi.symm) (Fin.ext hj.symm)

theorem final (c : Dev nD) : (dats m 0 c).arrAt 2 (cfgs 0).N = fun z : S4096x9216.Idx => prod (X m c) (W m c) (z 0) (z 1) := by
  refine (dats m 0 c).arrAt_eq_of_covers 2 _ (by decide +kernel) fun t hf y => ?_
  blk_simp; rw [after0_2]
  exact out_block m c t y _ _ (by blk_simp) (by blk_simp)

theorem algebraic : Cert.algebraic_Kernel12Ideal_Reference12Ideal := by
  intro m g m' g' _ hargs
  refine ⟨fun c z => prod (X m c) (W m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference12Ideal.defs _ _).mono (fun r h c => ?_) (Cert.Reference12Ideal.Value.run (F := Ideal) m' g')
    obtain ⟨e, k⟩ := h c
    obtain ⟨a0, a1⟩ := hargs c
    refine ⟨e.trans ?_, k⟩
    rw [val_main_v1_eq, a0, a1]; exact ref_eq _ _

end Cert.BQkvFwd

end
-- ==== Proof.BOutDx.lean ====
module

public import proofs.«01_k».proof.Defs
public import proofs.«01_k».proof.Proof.Gen.Reference13Ideal.Run
public import proofs.«01_k».proof.Proof.Gen.Reference13Ideal.Read
public import proofs.«01_k».proof.Proof.Gen.Kernel13Ideal.Value
public import Idealize.ShloMosaic.Lib.Pipeline.ValueKit
public import Idealize.ShloMosaic.Lib.Pointwise
public import Idealize.ShloMosaic.Lib.Claim

/-! The gradient of mixer B's output projection in its input, `dh . w^T`: every grid point writes one block of it. -/

@[expose] public section

set_option maxRecDepth 16384

noncomputable section

namespace Cert.BOutDx

open Cert.Kernel13Ideal Cert.Kernel13Ideal.Gen Cert.Kernel13Ideal.Value Cert.Reference13Ideal.Read
open Idealize.ShloMosaic Idealize.ShloMosaic.TcCoe Idealize.SL.Sem

theorem out_eq (a : Vec Ideal S1024x2048 .bf16) (b : Vec Ideal S1536x2048 .bf16) (r : Fin 1024) (s : Fin 1536) :
    out0_2 a b (ix2 r s) = ∑ k : Fin 2048, a (ix2 r k) * b (ix2 s k) := by
  refine Eq.trans (b := k0_pay1 (F := Ideal) a b (ix2 r s)) ?_ ?_
  · frame_out
  · pointwise [k0_pay1]

theorem idx_val : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The row and the column of a grid point's block. -/
def row (t : Fin cfg0.N) (r : Fin 1024) : Fin 4096 := ⟨t.val / 2 * 1024 + r.val, by have : t.val < 8 := t.isLt; omega⟩
def col (t : Fin cfg0.N) (s : Fin 1536) : Fin 3072 := ⟨t.val % 2 * 1536 + s.val, by omega⟩

theorem rd0 (A : FVec Ideal S4096x2048 .bf16) (t : Fin cfg0.N) (r : Fin 1024) (k : Fin 2048) :
    ((cfg0.win 0).blk t).view.read (Elt Ideal) A (ix2 r k) = A (ix2 (row t r) k) := by
  blk_point [idx_val t, row]
theorem rd1 (A : FVec Ideal S3072x2048 .bf16) (t : Fin cfg0.N) (s : Fin 1536) (k : Fin 2048) :
    ((cfg0.win 1).blk t).view.read (Elt Ideal) A (ix2 s k) = A (ix2 (col t s) k) := by
  blk_point [idx_val t, col]

/-- The product. -/
def prod (w : FVec Ideal S3072x2048 .f32) (y : FVec Ideal S4096x2048 .f32) (i : Fin 4096) (j : Fin 3072) : EReal :=
  ∑ k : Fin 2048, y (ix2 i k) * w (ix2 j k)

theorem ref_eq (w : FVec Ideal S3072x2048 .f32) (y : FVec Ideal S4096x2048 .f32) :
    val_main_v2 (F := Ideal) w y = fun z : S4096x3072.Idx => prod w y (z 0) (z 1) := by
  funext z
  idx_vars z
  pointwise [val_main_v2, val_main_v1, val_main_v0]
  rfl

variable (m : (ℓ : Loc nD τ sig) → Buf (Elt Ideal) ℓ)

abbrev W (c : Dev nD) : FVec Ideal S3072x2048 .f32 := m ((c : Thread nD τ).loc main_arg0)
abbrev Y (c : Dev nD) : FVec Ideal S4096x2048 .f32 := m ((c : Thread nD τ).loc main_arg1)

theorem V0 (c : Dev nD) : V m c main_v0 = m ((c : Thread nD τ).loc main_arg1) := by entry_read; rfl
theorem V1 (c : Dev nD) : V m c main_v1 = m ((c : Thread nD τ).loc main_arg0) := by entry_read; rfl

theorem out_at (c : Dev nD) (t : Fin cfg0.N) (r : Fin 1024) (s : Fin 1536) :
    out0_2 (iblk m c 0 t) (iblk m c 1 t) (ix2 r s) = prod (W m c) (Y m c) (row t r) (col t s) :=
  (out_eq _ _ r s).trans (Finset.sum_congr rfl fun k _ => congrArg₂ (· * ·)
    ((rd0 (V m c main_v0) t r k).trans (congrFun (V0 m c) _)) ((rd1 (V m c main_v1) t s k).trans (congrFun (V1 m c) _)))

theorem out_block (c : Dev nD) (t : Fin cfg0.N) (y : S1024x1536.Idx) (i : Fin 4096) (j : Fin 3072)
    (hi : i.val = win0_2.index t 0 * 1024 + (y 0).val) (hj : j.val = win0_2.index t 1 * 1536 + (y 1).val) :
    out0_2 (iblk m c 0 t) (iblk m c 1 t) y = prod (W m c) (Y m c) i j := by
  idx_vars y
  rw [(idx_val t).2.2] at hi hj
  rw [out_at m c t y0 y1]
  exact congrArg₂ _ (Fin.ext hi.symm) (Fin.ext hj.symm)

theorem final (c : Dev nD) : (dats m 0 c).arrAt 2 (cfgs 0).N = fun z : S4096x3072.Idx => prod (W m c) (Y m c) (z 0) (z 1) := by
  refine (dats m 0 c).arrAt_eq_of_covers 2 _ (by decide +kernel) fun t hf y => ?_
  blk_simp; rw [after0_2]
  exact out_block m c t y _ _ (by blk_simp) (by blk_simp)

theorem algebraic : Cert.algebraic_Kernel13Ideal_Reference13Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference13Ideal.defs _ _).mono (fun r h c => ?_) (Cert.Reference13Ideal.Value.run (F := Ideal) m' g')
    obtain ⟨e, k⟩ := h c
    obtain ⟨a0, a1⟩ := hargs c
    refine ⟨e.trans ?_, k⟩
    rw [val_main_v2_eq, a0, a1]; exact ref_eq _ _

end Cert.BOutDx

end
-- ==== Proof.BOutDw.lean ====
module

public import proofs.«01_k».proof.Defs
public import proofs.«01_k».proof.Proof.Gen.Reference14Ideal.Run
public import proofs.«01_k».proof.Proof.Gen.Reference14Ideal.Read
public import proofs.«01_k».proof.Proof.Gen.Kernel14Ideal.Value
public import proofs.«01_k».proof.Proof.Blocks
public import Idealize.ShloMosaic.Lib.Pipeline.ValueKit
public import Idealize.ShloMosaic.Lib.Pointwise
public import Idealize.ShloMosaic.Lib.Claim

/-! The gradient of mixer B's output projection in its weight, `a^T . dh`: four grid points in a row, a block of 1024 rows each,
fill the accumulator of one block of it. -/

@[expose] public section

set_option maxRecDepth 16384

noncomputable section

namespace Cert.BOutDw

open Cert.Kernel14Ideal Cert.Kernel14Ideal.Gen Cert.Kernel14Ideal.Value Cert.Reference14Ideal.Read
open Idealize.ShloMosaic Idealize.ShloMosaic.TcCoe Idealize.SL.Sem

section Body

/-- What a grid point adds to the accumulator. -/
def part (a : Vec Ideal S1024x1536 .bf16) (b : Vec Ideal S1024x1024 .bf16) (p : Fin 1536) (q : Fin 1024) : EReal :=
  ∑ r : Fin 1024, a (ix2 r p) * b (ix2 r q)

theorem pay1_at (p : Fin 1536) (q : Fin 1024) : k0_pay1 (F := Ideal) (ix2 p q) = 0 := by
  pointwise [k0_pay1]
theorem pay2_at (u : Vec Ideal S1536x1024 .f32) (a : Vec Ideal S1024x1536 .bf16) (b : Vec Ideal S1024x1024 .bf16) (p : Fin 1536) (q : Fin 1024) :
    k0_pay2 (F := Ideal) u a b (ix2 p q) = u (ix2 p q) + part a b p q := by
  pointwise [k0_pay2]
  rfl

variable (c : Dev nD) (i : grid0.Coords) (arg3 : Memref sig .tc .vmem S1024x1536 .bf16) (harg3 : arg3.IsWhole) (arg4 : Memref sig .tc .vmem S1024x1024 .bf16) (harg4 : arg4.IsWhole) (arg5 : Memref sig .tc .vmem S1536x1024 .bf16) (harg5 : arg5.IsWhole) (arg6 : Memref sig .tc .vmem S1536x1024 .f32) (harg6 : arg6.IsWhole)
  (x0 : Vec Ideal S1024x1536 .bf16) (x1 : Vec Ideal S1024x1024 .bf16) (u : Vec Ideal S1536x1024 .f32) (p : Fin 1536) (q : Fin 1024)

theorem first_at (hc0 : cond0_0 i) (hc1 : ¬cond0_1 i) :
    sout0_A_0 c i arg3 harg3 arg4 harg4 arg5 harg5 arg6 harg6 hc0 hc1 x0 x1 (ix2 p q) = part x0 x1 p q := by
  refine Eq.trans (b := k0_pay2 (F := Ideal) (k0_pay1 (F := Ideal)) x0 x1 (ix2 p q)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

theorem last_at (hc0 : ¬cond0_0 i) (hc1 : cond0_1 i) :
    out0_C_2 c i arg3 harg3 arg4 harg4 arg5 harg5 arg6 harg6 hc0 hc1 x0 x1 u (ix2 p q) = u (ix2 p q) + part x0 x1 p q := by
  refine Eq.trans (b := k0_pay3 (F := Ideal) (k0_pay2 (F := Ideal) u x0 x1) (ix2 p q)) ?_ (pay2_at u x0 x1 p q)
  frame_out; try exact rfl

end Body

theorem idx_val : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

/-- The row of the contracted index `n`; the two coordinates of an entry of the block that the run `j` fills. -/
def row (n : ℕ) : Fin 4096 := ⟨n % 4096, Nat.mod_lt _ (by norm_num)⟩
def co0 (j : ℕ) (p : Fin 1536) : Fin 3072 := ⟨(j / 2 * 1536 + p.val) % 3072, Nat.mod_lt _ (by norm_num)⟩
def co1 (j : ℕ) (q : Fin 1024) : Fin 2048 := ⟨j % 2 * 1024 + q.val, by omega⟩

theorem rd0 (A : FVec Ideal S4096x3072 .bf16) (t : Fin cfg0.N) (r : Fin 1024) (p : Fin 1536) :
    ((cfg0.win 0).blk t).view.read (Elt Ideal) A (ix2 r p) = A (ix2 (row (t.val % 4 * 1024 + r.val)) (co0 (t.val / 4) p)) := by
  have hN : t.val < 16 := t.isLt
  blk_point [idx_val t, row, co0]
theorem rd1 (A : FVec Ideal S4096x2048 .bf16) (t : Fin cfg0.N) (r : Fin 1024) (q : Fin 1024) :
    ((cfg0.win 1).blk t).view.read (Elt Ideal) A (ix2 r q) = A (ix2 (row (t.val % 4 * 1024 + r.val)) (co1 (t.val / 4) q)) := by
  blk_point [idx_val t, row, co1]

/-- The product. -/
def prod (a : FVec Ideal S4096x3072 .f32) (y : FVec Ideal S4096x2048 .f32) (i : Fin 3072) (j : Fin 2048) : EReal :=
  ∑ k : Fin 4096, a (ix2 k i) * y (ix2 k j)

theorem ref_eq (a : FVec Ideal S4096x3072 .f32) (y : FVec Ideal S4096x2048 .f32) :
    val_main_v4 (F := Ideal) a y = fun z : S3072x2048.Idx => prod a y (z 0) (z 1) := by
  funext z
  idx_vars z
  pointwise [val_main_v4, val_main_v3, val_main_v2, val_main_v1, val_main_v0]
  exact Finset.sum_congr rfl fun k _ => mul_comm _ _

variable (m : (ℓ : Loc nD τ sig) → Buf (Elt Ideal) ℓ)

abbrev W (c : Dev nD) : FVec Ideal S4096x3072 .f32 := m ((c : Thread nD τ).loc main_arg0)
abbrev Y (c : Dev nD) : FVec Ideal S4096x2048 .f32 := m ((c : Thread nD τ).loc main_arg1)

theorem V0 (c : Dev nD) : V m c main_v0 = m ((c : Thread nD τ).loc main_arg0) := by entry_read; rfl
theorem V1 (c : Dev nD) : V m c main_v1 = m ((c : Thread nD τ).loc main_arg1) := by entry_read; rfl

theorem part_at (c : Dev nD) (t : Fin cfg0.N) (p : Fin 1536) (q : Fin 1024) :
    part (iblk m c 0 t) (iblk m c 1 t) p q
      = ∑ r : Fin 1024, W m c (ix2 (row (t.val % 4 * 1024 + r.val)) (co0 (t.val / 4) p)) * Y m c (ix2 (row (t.val % 4 * 1024 + r.val)) (co1 (t.val / 4) q)) :=
  Finset.sum_congr rfl fun r _ => congrArg₂ (· * ·)
    ((rd0 (V m c main_v0) t r p).trans (congrFun (V0 m c) _)) ((rd1 (V m c main_v1) t r q).trans (congrFun (V1 m c) _))

/-- The last point of a run writes the product. -/
theorem out_at (c : Dev nD) (t : Fin cfg0.N) (ht : t.val % 4 = 3) (p : Fin 1536) (q : Fin 1024) :
    (outsAt0 m c t.val t.isLt).1 (ix2 p q) = prod (W m c) (Y m c) (co0 (t.val / 4) p) (co1 (t.val / 4) q) := by
  refine (Cert.Blocks.last_eq (K := 4) (B := 1024) (N := cfg0.N) (by norm_num)
    (fun n h => (outsAt0 m c n h).2 (ix2 p q)) (fun n h => (outsAt0 m c n h).1 (ix2 p q))
    (fun j k => W m c (ix2 (row k) (co0 j p)) * Y m c (ix2 (row k) (co1 j q)))
    (fun n h h0 => ?_) (fun n h h0 h1 => ?_) (fun n h h1 => ?_) t.val t.isLt ht).trans ?_
  · refine (congrArg (fun o => o.2 (ix2 p q)) (outsAt0_A m c ⟨n, h⟩ h0 (by dsimp only; omega))).trans ?_
    dsimp only
    rw [first_at, part_at]
    simp only [h0, Nat.zero_mul, Nat.zero_add]
  · refine (congrArg (fun o => o.2 (ix2 p q)) (outsAt0_B m c ⟨n, h⟩ h0 h1)).trans ?_
    dsimp only
    rw [next_at, part_at]
  · refine (congrArg (fun o => o.1 (ix2 p q)) (outsAt0_C m c ⟨n, h⟩ (by dsimp only; omega) h1)).trans ?_
    dsimp only
    rw [last_at, part_at]
  · refine Finset.sum_congr rfl fun k _ => ?_
    have e : row k.val = k := Fin.ext (Nat.mod_eq_of_lt k.isLt)
    rw [e]

theorem out_block (c : Dev nD) (t : Fin cfg0.N) (ht : t.val % 4 = 3) (y : S1536x1024.Idx) (i : Fin 3072) (j : Fin 2048)
    (hi : i.val = win0_2.index t 0 * 1536 + (y 0).val) (hj : j.val = win0_2.index t 1 * 1024 + (y 1).val) :
    (outsAt0 m c t.val t.isLt).1 y = prod (W m c) (Y m c) i j := by
  have hN : t.val < 16 := t.isLt
  idx_vars y
  have h0 : y0.val < 1536 := y0.isLt
  rw [(idx_val t).2.2] at hi hj
  rw [out_at m c t ht y0 y1]
  refine congrArg₂ _ (Fin.ext (Eq.trans (Nat.mod_eq_of_lt ?_) hi.symm)) (Fin.ext hj.symm)
  omega

theorem final (c : Dev nD) : (dats m 0 c).arrAt 2 (cfgs 0).N = fun z : S3072x2048.Idx => prod (W m c) (Y m c) (z 0) (z 1) := by
  refine (dats m 0 c).arrAt_eq_of_covers 2 _ (by decide +kernel) fun t hf y => ?_
  blk_simp; rw [after0_2]
  exact out_block m c t ((flush0_2 t).mp hf) y _ _ (by blk_simp) (by blk_simp)

theorem algebraic : Cert.algebraic_Kernel14Ideal_Reference14Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference14Ideal.defs _ _).mono (fun r h c => ?_) (Cert.Reference14Ideal.Value.run (F := Ideal) m' g')
    obtain ⟨e, k⟩ := h c
    obtain ⟨a0, a1⟩ := hargs c
    refine ⟨e.trans ?_, k⟩
    rw [val_main_v4_eq, a0, a1]; exact ref_eq _ _

end Cert.BOutDw

end
-- ==== Proof.BOutFwd.lean ====
module

public import proofs.«01_k».proof.Defs
public import proofs.«01_k».proof.Proof.Gen.Reference15Ideal.Run
public import proofs.«01_k».proof.Proof.Gen.Reference15Ideal.Read
public import proofs.«01_k».proof.Proof.Gen.Kernel15Ideal.Value
public import proofs.«01_k».proof.Proof.Blocks
public import Idealize.ShloMosaic.Lib.Pipeline.ValueKit
public import Idealize.ShloMosaic.Lib.Pointwise
public import Idealize.ShloMosaic.Lib.Claim

/-! Mixer B's output projection with its residual, `y . w + h`: two grid points in a row, a block of 1536 columns each, fill
the accumulator of one block of it, and the second adds the residual. -/

@[expose] public section

set_option maxRecDepth 16384

noncomputable section

namespace Cert.BOutFwd

open Cert.Kernel15Ideal Cert.Kernel15Ideal.Gen Cert.Kernel15Ideal.Value Cert.Reference15Ideal.Read
open Idealize.ShloMosaic Idealize.ShloMosaic.TcCoe Idealize.SL.Sem

section Body

/-- What a grid point adds to the accumulator. -/
def part (a : Vec Ideal S1024x1536 .bf16) (b : Vec Ideal S1536x1024 .bf16) (p q : Fin 1024) : EReal :=
  ∑ r : Fin 1536, a (ix2 p r) * b (ix2 r q)

theorem pay1_at (p q : Fin 1024) : k0_pay1 (F := Ideal) (ix2 p q) = 0 := by
  pointwise [k0_pay1]
theorem pay2_at (u : Vec Ideal S1024x1024 .f32) (a : Vec Ideal S1024x1536 .bf16) (b : Vec Ideal S1536x1024 .bf16) (p q : Fin 1024) :
    k0_pay2 (F := Ideal) u a b (ix2 p q) = u (ix2 p q) + part a b p q := by
  pointwise [k0_pay2]
  rfl
theorem pay3_at (u v : Vec Ideal S1024x1024 .f32) (p q : Fin 1024) : k0_pay3 (F := Ideal) u v (ix2 p q) = u (ix2 p q) + v (ix2 p q) := by
  pointwise [k0_pay3]

variable (c : Dev nD) (i : grid0.Coords) (arg3 : Memref sig .tc .vmem S1024x1536 .bf16) (harg3 : arg3.IsWhole) (arg4 : Memref sig .tc .vmem S1536x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 : Vec Ideal S1024x1536 .bf16) (x1 : Vec Ideal S1536x1024 .bf16) (x2 u : Vec Ideal S1024x1024 .f32) (p q : Fin 1024)

theorem first_at (hc0 : cond0_0 i) (hc1 : ¬cond0_1 i) :
    sout0_A_0 c i arg3 harg3 arg4 harg4 arg5 harg5 arg6 harg6 arg7 harg7 hc0 hc1 x0 x1 x2 (ix2 p q) = part x0 x1 p q := by
  refine Eq.trans (b := k0_pay2 (F := Ideal) (k0_pay1 (F := Ideal)) x0 x1 (ix2 p q)) ?_ ?_
  · frame_out; try exact rfl
  · rw [pay2_at, pay1_at, zero_add]

theorem last_at (hc0 : ¬cond0_0 i) (hc1 : cond0_1 i) :
    out0_B_3 c i arg3 harg3 arg4 harg4 arg5 harg5 arg6 harg6 arg7 harg7 hc0 hc1 x0 x1 x2 u (ix2 p q) = u (ix2 p q) + part x0 x1 p q + x2 (ix2 p q) := by
  refine Eq.trans (b := k0_pay3 (F := Ideal) (k0_pay2 (F := Ideal) u x0 x1) x2 (ix2 p q)) ?_
    ((pay3_at _ x2 p q).trans (congrArg (· + _) (pay2_at u x0 x1 p q)))
  frame_out; try exact rfl

end Body

theorem idx_val : ∀ t : Fin cfg0.N, win0_0.index t = ![t.val / 2 / 2, t.val % 2] ∧ win0_1.index t = ![t.val % 2, t.val / 2 % 2]
    ∧ win0_2.index t = ![t.val / 2 / 2, t.val / 2 % 2] ∧ win0_3.index t = ![t.val / 2 / 2, t.val / 2 % 2] :=
  (by decide +kernel : ∀ t : Fin grid0.N, _)

/-- The contracted index `n`; the row and the column of an entry of the block that the run `j` fills. -/
def mid (n : ℕ) : Fin 3072 := ⟨n % 3072, Nat.mod_lt _ (by norm_num)⟩
def row (j : ℕ) (p : Fin 1024) : Fin 4096 := ⟨(j / 2 * 1024 + p.val) % 4096, Nat.mod_lt _ (by norm_num)⟩
def col (j : ℕ) (q : Fin 1024) : Fin 2048 := ⟨j % 2 * 1024 + q.val, by omega⟩

theorem rd0 (A : FVec Ideal S4096x3072 .bf16) (t : Fin cfg0.N) (p : Fin 1024) (r : Fin 1536) :
    ((cfg0.win 0).blk t).view.read (Elt Ideal) A (ix2 p r) = A (ix2 (row (t.val / 2) p) (mid (t.val % 2 * 1536 + r.val))) := by
  have hN : t.val < 16 := t.isLt
  blk_point [idx_val t, row, mid]
theorem rd1 (A : FVec Ideal S3072x2048 .bf16) (t : Fin cfg0.N) (r : Fin 1536) (q : Fin 1024) :
    ((cfg0.win 1).blk t).view.read (Elt Ideal) A (ix2 r q) = A (ix2 (mid (t.val % 2 * 1536 + r.val)) (col (t.val / 2) q)) := by
  blk_point [idx_val t, col, mid]
theorem rd2 (A : FVec Ideal S4096x2048 .f32) (t : Fin cfg0.N) (p q : Fin 1024) :
    ((cfg0.win 2).blk t).view.read (Elt Ideal) A (ix2 p q) = A (ix2 (row (t.val / 2) p) (col (t.val / 2) q)) := by
  have hN : t.val < 16 := t.isLt
  blk_point [idx_val t, row, col]

/-- The product with the residual. -/
def prod (x : FVec Ideal S4096x3072 .f32) (w : FVec Ideal S3072x2048 .f32) (h : FVec Ideal S4096x2048 .f32) (i : Fin 4096) (j : Fin 2048) : EReal :=
  ∑ k : Fin 3072, x (ix2 i k) * w (ix2 k j) + h (ix2 i j)

theorem ref_eq (x : FVec Ideal S4096x3072 .f32) (w : FVec Ideal S3072x2048 .f32) (h : FVec Ideal S4096x2048 .f32) :
    val_main_v1 (F := Ideal) x w h = fun z : S4096x2048.Idx => prod x w h (z 0) (z 1) := by
  funext z
  idx_vars z
  pointwise [val_main_v1, val_main_v0]
  exact add_comm _ _

variable (m : (ℓ : Loc nD τ sig) → Buf (Elt Ideal) ℓ)

abbrev X (c : Dev nD) : FVec Ideal S4096x3072 .f32 := m ((c : Thread nD τ).loc main_arg0)
abbrev W (c : Dev nD) : FVec Ideal S3072x2048 .f32 := m ((c : Thread nD τ).loc main_arg1)
abbrev H (c : Dev nD) : FVec Ideal S4096x2048 .f32 := m ((c : Thread nD τ).loc main_arg2)

theorem V0 (c : Dev nD) : V m c main_v0 = m ((c : Thread nD τ).loc main_arg0) := by entry_read; rfl
theorem V1 (c : Dev nD) : V m c main_v1 = m ((c : Thread nD τ).loc main_arg1) := by entry_read; rfl
theorem Varg (c : Dev nD) : V m c main_arg2 = m ((c : Thread nD τ).loc main_arg2) := by entry_read; try rfl

theorem part_at (c : Dev nD) (t : Fin cfg0.N) (p q : Fin 1024) :
    part (iblk m c 0 t) (iblk m c 1 t) p q
      = ∑ r : Fin 1536, X m c (ix2 (row (t.val / 2) p) (mid (t.val % 2 * 1536 + r.val))) * W m c (ix2 (mid (t.val % 2 * 1536 + r.val)) (col (t.val / 2) q)) :=
  Finset.sum_congr rfl fun r _ => congrArg₂ (· * ·)
    ((rd0 (V m c main_v0) t p r).trans (congrFun (V0 m c) _)) ((rd1 (V m c main_v1) t r q).trans (congrFun (V1 m c) _))

theorem res_at (c : Dev nD) (t : Fin cfg0.N) (p q : Fin 1024) : iblk m c 2 t (ix2 p q) = H m c (ix2 (row (t.val / 2) p) (col (t.val / 2) q)) :=
  (rd2 (V m c main_arg2) t p q).trans (congrFun (Varg m c) _)

/-- The accumulator with the last grid point's part added, which is the product. -/
def filled (c : Dev nD) (n : ℕ) (h : n < cfg0.N) (p q : Fin 1024) : EReal :=
  (outsAt0 m c (n - 1) (Nat.lt_of_le_of_lt (Nat.sub_le _ _) h)).2 (ix2 p q) + part (iblk m c 0 ⟨n, h⟩) (iblk m c 1 ⟨n, h⟩) p q

theorem filled_eq (c : Dev nD) (t : Fin cfg0.N) (ht : t.val % 2 = 1) (p q : Fin 1024) :
    filled m c t.val t.isLt p q = ∑ k : Fin 3072, X m c (ix2 (row (t.val / 2) p) k) * W m c (ix2 k (col (t.val / 2) q)) := by
  refine (Cert.Blocks.last_eq (K := 2) (B := 1536) (N := cfg0.N) (by norm_num)
    (fun n h => (outsAt0 m c n h).2 (ix2 p q)) (fun n h => filled m c n h p q)
    (fun j k => X m c (ix2 (row j p) (mid k)) * W m c (ix2 (mid k) (col j q)))
    (fun n h h0 => ?_) (fun n h h0 h1 => ?_) (fun n h h1 => ?_) t.val t.isLt ht).trans ?_
  · refine (congrArg (fun o => o.2 (ix2 p q)) (outsAt0_A m c ⟨n, h⟩ h0 (by dsimp only; omega))).trans ?_
    dsimp only
    rw [first_at, part_at]
    simp only [h0, Nat.zero_mul, Nat.zero_add]
  · omega
  · rw [filled, part_at]
  · refine Finset.sum_congr rfl fun k _ => ?_
    have e : mid k.val = k := Fin.ext (Nat.mod_eq_of_lt k.isLt)
    rw [e]

/-- The last point of a run writes the product and the residual. -/
theorem out_at (c : Dev nD) (t : Fin cfg0.N) (ht : t.val % 2 = 1) (p q : Fin 1024) :
    (outsAt0 m c t.val t.isLt).1 (ix2 p q) = prod (X m c) (W m c) (H m c) (row (t.val / 2) p) (col (t.val / 2) q) := by
  refine (congrArg (fun o => o.1 (ix2 p q)) (outsAt0_B m c t (by omega) ht)).trans ?_
  dsimp only
  rw [last_at]
  exact congrArg₂ (· + ·) (filled_eq m c t ht p q) (res_at m c t p q)

theorem out_block (c : Dev nD) (t : Fin cfg0.N) (ht : t.val % 2 = 1) (y : S1024x1024.Idx) (i : Fin 4096) (j : Fin 2048)
    (hi : i.val = win0_3.index t 0 * 1024 + (y 0).val) (hj : j.val = win0_3.index t 1 * 1024 + (y 1).val) :
    (outsAt0 m c t.val t.isLt).1 y = prod (X m c) (W m c) (H m c) i j := by
  have hN : t.val < 16 := t.isLt
  idx_vars y
  have h0 : y0.val < 1024 := y0.isLt
  rw [(idx_val t).2.2.2] at hi hj
  rw [out_at m c t ht y0 y1]
  refine congrArg₂ _ (Fin.ext (Eq.trans (Nat.mod_eq_of_lt ?_) hi.symm)) (Fin.ext hj.symm)
  omega

theorem final (c : Dev nD) : (dats m 0 c).arrAt 3 (cfgs 0).N = fun z : S4096x2048.Idx => prod (X m c) (W m c) (H m c) (z 0) (z 1) := by
  refine (dats m 0 c).arrAt_eq_of_covers 3 _ (by decide +kernel) fun t hf y => ?_
  blk_simp; rw [after0_3]
  exact out_block m c t ((flush0_3 t).mp hf) y _ _ (by blk_simp) (by blk_simp)

theorem algebraic : Cert.algebraic_Kernel15Ideal_Reference15Ideal := by
  intro m g m' g' _ hargs
  refine ⟨fun c z => prod (X m c) (W m c) (H m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference15Ideal.defs _ _).mono (fun r h c => ?_) (Cert.Reference15Ideal.Value.run (F := Ideal) m' g')
    obtain ⟨e, k⟩ := h c
    obtain ⟨a0, a1, a2⟩ := hargs c
    refine ⟨e.trans ?_, k⟩
    rw [val_main_v1_eq, a0, a1, a2]; exact ref_eq _ _ _

end Cert.BOutFwd

end
-- ==== Proof.AQkvDx.lean ====
module

public import proofs.«01_k».proof.Defs
public import proofs.«01_k».proof.Proof.Gen.Reference16Ideal.Run
public import proofs.«01_k».proof.Proof.Gen.Reference16Ideal.Read
public import proofs.«01_k».proof.Proof.Gen.Kernel16Ideal.Value
public import proofs.«01_k».proof.Proof.Blocks
public import Idealize.ShloMosaic.Lib.Pipeline.ValueKit
public import Idealize.ShloMosaic.Lib.Pointwise
public import Idealize.ShloMosaic.Lib.Claim

/-! The gradient of mixer A's input projection in its input, `dqkv . w^T`: the columns of the weight lie in eight pieces,
and eight grid points in a row, a piece each, fill the accumulator of a block of rows. -/

@[expose] public section

set_option maxRecDepth 16384

noncomputable section

namespace Cert.AQkvDx

open Cert.Kernel16Ideal Cert.Kernel16Ideal.Gen Cert.Kernel16Ideal.Value Cert.Reference16Ideal.Read
open Idealize.ShloMosaic Idealize.ShloMosaic.TcCoe Idealize.SL.Sem

section Body

/-- What a grid point adds to the accumulator. -/
def part (a : Vec Ideal S1024x384 .bf16) (b : Vec Ideal S1x2048x384 .bf16) (p : Fin 1024) (q : Fin 2048) : EReal :=
  ∑ r : Fin 384, a (ix2 p r) * b (ix3 0 q r)

theorem pay1_at (p : Fin 1024) (q : Fin 2048) : k0_pay1 (F := Ideal) (ix2 p q) = 0 := by
  pointwise [k0_pay1]
theorem pay2_at (u : Vec Ideal S1024x2048 .f32) (a : Vec Ideal S1024x384 .bf16) (b : Vec Ideal S1x2048x384 .bf16) (p : Fin 1024) (q : Fin 2048) :
    k0_pay2 (F := Ideal) u a b (ix2 p q) = u (ix2 p q) + part a b p q := by
  pointwise [k0_pay2]
  rfl

variable (c : Dev nD) (i : grid0.Coords) (arg3 : Memref sig .tc .vmem S1024x384 .bf16) (harg3 : arg3.IsWhole) (arg4 : Memref sig .tc .vmem S1x2048x384 .bf16) (harg4 : arg4.IsWhole) (arg5 : Memref sig .tc .vmem S1024x2048 .f32) (harg5 : arg5.IsWhole) (arg6 : Memref sig .tc .vmem S1024x2048 .f32) (harg6 : arg6.IsWhole)
  (x0 : Vec Ideal S1024x384 .bf16) (x1 : Vec Ideal S1x2048x384 .bf16) (u : Vec Ideal S1024x2048 .f32) (p : Fin 1024) (q : Fin 2048)

theorem first_at (hc0 : cond0_0 i) (hc1 : ¬cond0_1 i) :
    sout0_A_0 c i arg3 harg3 arg4 harg4 arg5 harg5 arg6 harg6 hc0 hc1 x0 x1 (ix2 p q) = part x0 x1 p q := by
  refine Eq.trans (b := k0_pay2 (F := Ideal) (k0_pay1 (F := Ideal)) x0 x1 (ix2 p q)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

theorem last_at (hc0 : ¬cond0_0 i) (hc1 : cond0_1 i) :
    out0_C_2 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

end Body

theorem idx_val : ∀ t : Fin cfg0.N, win0_0.index t = ![t.val / 8, t.val % 8] ∧ win0_1.index t = ![t.val % 8, 0, 0]
    ∧ win0_2.index t = ![t.val / 8, 0] :=
  (by decide +kernel : ∀ t : Fin grid0.N, _)

/-- The column `n`; its piece and its place there; the row of an entry of the block that the run `j` fills. -/
def col (n : ℕ) : Fin 3072 := ⟨n % 3072, Nat.mod_lt _ (by norm_num)⟩
def piece (n : ℕ) : Fin 8 := ⟨n / 384 % 8, Nat.mod_lt _ (by norm_num)⟩
def pos (n : ℕ) : Fin 384 := ⟨n % 384, Nat.mod_lt _ (by norm_num)⟩
def row (j : ℕ) (p : Fin 1024) : Fin 4096 := ⟨(j * 1024 + p.val) % 4096, Nat.mod_lt _ (by norm_num)⟩

theorem rd0 (A : FVec Ideal S4096x3072 .bf16) (t : Fin cfg0.N) (p : Fin 1024) (r : Fin 384) :
    ((cfg0.win 0).blk t).view.read (Elt Ideal) A (ix2 p r)
      = A (ix2 (row (t.val / 8) p) (col (t.val % 8 * 384 + r.val))) := by
  have hN : t.val < 32 := t.isLt
  blk_point [idx_val t, col, row]
theorem rd1 (A : FVec Ideal S8x2048x384 .bf16) (t : Fin cfg0.N) (q : Fin 2048) (r : Fin 384) :
    ((cfg0.win 1).blk t).view.read (Elt Ideal) A (ix3 0 q r)
      = A (ix3 (piece (t.val % 8 * 384 + r.val)) q (pos (t.val % 8 * 384 + r.val))) := by
  blk_point [idx_val t, piece, pos]

/-- The array the host lays out. -/
def pieces (w : FVec Ideal S2048x3072 .f32) : FVec Ideal S8x2048x384 .bf16 :=
  transpose S8x2048x384 [1, 0, 2] (shapeCast S2048x8x384 (truncf .bf16 w bitsLt_bf16_f32 : FVec Ideal S2048x3072 .bf16) shapeCasts_S2048x3072_S2048x8x384 : FVec Ideal S2048x8x384 .bf16) transposes_S2048x8x384_S8x2048x384_1_0_2

theorem pieces_at (w : FVec Ideal S2048x3072 .f32) (n : ℕ) (i : Fin 2048) : pieces w (ix3 (piece n) i (pos n)) = w (ix2 i (col n)) := by
  pointwise [pieces, piece, pos, col]
  exact congrArg (fun l => w (ix2 i l)) (Fin.ext (by dsimp only; omega))

/-- The product. -/
def prod (w : FVec Ideal S2048x3072 .f32) (y : FVec Ideal S4096x3072 .f32) (i : Fin 4096) (j : Fin 2048) : EReal :=
  ∑ k : Fin 3072, y (ix2 i k) * w (ix2 j k)

theorem ref_eq (w : FVec Ideal S2048x3072 .f32) (y : FVec Ideal S4096x3072 .f32) :
    val_main_v2 (F := Ideal) w y = fun z : S4096x2048.Idx => prod w y (z 0) (z 1) := by
  funext z
  idx_vars z
  pointwise [val_main_v2, val_main_v1, val_main_v0]
  rfl

variable (m : (ℓ : Loc nD τ sig) → Buf (Elt Ideal) ℓ)

abbrev W (c : Dev nD) : FVec Ideal S2048x3072 .f32 := m ((c : Thread nD τ).loc main_arg0)
abbrev Y (c : Dev nD) : FVec Ideal S4096x3072 .f32 := m ((c : Thread nD τ).loc main_arg1)

theorem V3 (c : Dev nD) : V m c main_v3 = m ((c : Thread nD τ).loc main_arg1) := by entry_read; rfl
theorem V2 (c : Dev nD) : V m c main_v2 = pieces (W m c) := by entry_read; rfl

theorem part_at (c : Dev nD) (t : Fin cfg0.N) (p : Fin 1024) (q : Fin 2048) :
    part (iblk m c 0 t) (iblk m c 1 t) p q
      = ∑ r : Fin 384, Y m c (ix2 (row (t.val / 8) p) (col (t.val % 8 * 384 + r.val))) * W m c (ix2 q (col (t.val % 8 * 384 + r.val))) :=
  Finset.sum_congr rfl fun r _ => congrArg₂ (· * ·)
    ((rd0 (V m c main_v3) t p r).trans (congrFun (V3 m c) _))
    (((rd1 (V m c main_v2) t q r).trans (congrFun (V2 m c) _)).trans (pieces_at _ _ _))

/-- The last point of a run writes the product. -/
theorem out_at (c : Dev nD) (t : Fin cfg0.N) (ht : t.val % 8 = 7) (p : Fin 1024) (q : Fin 2048) :
    (outsAt0 m c t.val t.isLt).1 (ix2 p q) = prod (W m c) (Y m c) (row (t.val / 8) p) q := by
  refine (Cert.Blocks.last_eq (K := 8) (B := 384) (N := cfg0.N) (by norm_num)
    (fun n h => (outsAt0 m c n h).2 (ix2 p q)) (fun n h => (outsAt0 m c n h).1 (ix2 p q))
    (fun j k => Y m c (ix2 (row j p) (col k)) * W m c (ix2 q (col k)))
    (fun n h h0 => ?_) (fun n h h0 h1 => ?_) (fun n h h1 => ?_) t.val t.isLt ht).trans ?_
  · refine (congrArg (fun o => o.2 (ix2 p q)) (outsAt0_A m c ⟨n, h⟩ h0 (by dsimp only; omega))).trans ?_
    dsimp only
    rw [first_at, part_at]
    simp only [h0, Nat.zero_mul, Nat.zero_add]
  · refine (congrArg (fun o => o.2 (ix2 p q)) (outsAt0_B m c ⟨n, h⟩ h0 h1)).trans ?_
    dsimp only
    rw [next_at, part_at]
  · refine (congrArg (fun o => o.1 (ix2 p q)) (outsAt0_C m c ⟨n, h⟩ (by dsimp only; omega) h1)).trans ?_
    dsimp only
    rw [last_at, part_at]
  · refine Finset.sum_congr rfl fun k _ => ?_
    have e : col k.val = k := Fin.ext (Nat.mod_eq_of_lt k.isLt)
    rw [e]

theorem out_block (c : Dev nD) (t : Fin cfg0.N) (ht : t.val % 8 = 7) (y : S1024x2048.Idx) (i : Fin 4096) (j : Fin 2048)
    (hi : i.val = win0_2.index t 0 * 1024 + (y 0).val) (hj : j.val = win0_2.index t 1 * 2048 + (y 1).val) :
    (outsAt0 m c t.val t.isLt).1 y = prod (W m c) (Y m c) i j := by
  have hN : t.val < 32 := t.isLt
  idx_vars y
  have h0 : y0.val < 1024 := y0.isLt
  rw [(idx_val t).2.2] at hi hj
  rw [out_at m c t ht y0 y1]
  refine congrArg₂ _ (Fin.ext (Eq.trans (Nat.mod_eq_of_lt ?_) hi.symm)) (Fin.ext ((hj.trans (by simp)).symm))
  omega

theorem final (c : Dev nD) : (dats m 0 c).arrAt 2 (cfgs 0).N = fun z : S4096x2048.Idx => prod (W m c) (Y m c) (z 0) (z 1) := by
  refine (dats m 0 c).arrAt_eq_of_covers 2 _ (by decide +kernel) fun t hf y => ?_
  blk_simp; rw [after0_2]
  exact out_block m c t ((flush0_2 t).mp hf) y _ _ (by blk_simp) (by blk_simp)

theorem algebraic : Cert.algebraic_Kernel16Ideal_Reference16Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference16Ideal.defs _ _).mono (fun r h c => ?_) (Cert.Reference16Ideal.Value.run (F := Ideal) m' g')
    obtain ⟨e, k⟩ := h c
    obtain ⟨a0, a1⟩ := hargs c
    refine ⟨e.trans ?_, k⟩
    rw [val_main_v2_eq, a0, a1]; exact ref_eq _ _

end Cert.AQkvDx

end
-- ==== Proof.AQkvDw.lean ====
module

public import proofs.«01_k».proof.Defs
public import proofs.«01_k».proof.Proof.Gen.Reference17Ideal.Run
public import proofs.«01_k».proof.Proof.Gen.Reference17Ideal.Read
public import proofs.«01_k».proof.Proof.Gen.Kernel17Ideal.Value
public import proofs.«01_k».proof.Proof.Blocks
public import Idealize.ShloMosaic.Lib.Pipeline.ValueKit
public import Idealize.ShloMosaic.Lib.Pointwise
public import Idealize.ShloMosaic.Lib.Claim

/-! The gradient of mixer A's input projection in its weight, `h^T . dqkv`, in eight pieces of columns: four grid points in a row,
a block of 1024 rows each, fill the accumulator of a piece. -/

@[expose] public section

set_option maxRecDepth 16384

noncomputable section

namespace Cert.AQkvDw

open Cert.Kernel17Ideal Cert.Kernel17Ideal.Gen Cert.Kernel17Ideal.Value Cert.Reference17Ideal.Read
open Idealize.ShloMosaic Idealize.ShloMosaic.TcCoe Idealize.SL.Sem

section Body

/-- What a grid point adds to the accumulator. -/
def part (a : Vec Ideal S1024x2048 .bf16) (b : Vec Ideal S1024x384 .bf16) (q : Fin 2048) (p : Fin 384) : EReal :=
  ∑ r : Fin 1024, a (ix2 r q) * b (ix2 r p)

theorem pay1_at (q : Fin 2048) (p : Fin 384) : k0_pay1 (F := Ideal) (ix2 q p) = 0 := by
  pointwise [k0_pay1]
theorem pay2_at (u : Vec Ideal S2048x384 .f32) (a : Vec Ideal S1024x2048 .bf16) (b : Vec Ideal S1024x384 .bf16) (q : Fin 2048) (p : Fin 384) :
    k0_pay2 (F := Ideal) u a b (ix2 q p) = u (ix2 q p) + part a b q p := by
  pointwise [k0_pay2]
  rfl
theorem pay3_at (u : Vec Ideal S2048x384 .f32) (q : Fin 2048) (p : Fin 384) : k0_pay3 (F := Ideal) u (ix3 0 q p) = u (ix2 q p) := by
  pointwise [k0_pay3]

variable (c : Dev nD) (i : grid0.Coords) (arg3 : Memref sig .tc .vmem S1024x2048 .bf16) (harg3 : arg3.IsWhole) (arg4 : Memref sig .tc .vmem S1024x384 .bf16) (harg4 : arg4.IsWhole) (arg5 : Memref sig .tc .vmem S1x2048x384 .bf16) (harg5 : arg5.IsWhole) (arg6 : Memref sig .tc .vmem S2048x384 .f32) (harg6 : arg6.IsWhole)
  (x0 : Vec Ideal S1024x2048 .bf16) (x1 : Vec Ideal S1024x384 .bf16) (u : Vec Ideal S2048x384 .f32) (q : Fin 2048) (p : Fin 384)

theorem first_at (hc0 : cond0_0 i) (hc1 : ¬cond0_1 i) :
    sout0_A_0 c i arg3 harg3 arg4 harg4 arg5 harg5 arg6 harg6 hc0 hc1 x0 x1 (ix2 q p) = part x0 x1 q p := by
  refine Eq.trans (b := k0_pay2 (F := Ideal) (k0_pay1 (F := Ideal)) x0 x1 (ix2 q p)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 q p) = u (ix2 q p) + part x0 x1 q p := by
  refine Eq.trans (b := k0_pay2 (F := Ideal) u x0 x1 (ix2 q p)) ?_ (pay2_at u x0 x1 q p)
  frame_out; try exact rfl

theorem last_at (hc0 : ¬cond0_0 i) (hc1 : cond0_1 i) :
    out0_C_2 c i arg3 harg3 arg4 harg4 arg5 harg5 arg6 harg6 hc0 hc1 x0 x1 u (ix3 0 q p) = u (ix2 q p) + part x0 x1 q p := by
  refine Eq.trans (b := k0_pay3 (F := Ideal) (k0_pay2 (F := Ideal) u x0 x1) (ix3 0 q p)) ?_ ((pay3_at _ q p).trans (pay2_at u x0 x1 q p))
  frame_out; try exact rfl

end Body

theorem idx_val : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

/-- The row `n`; the column `p` of the piece `j`. -/
def row (n : ℕ) : Fin 4096 := ⟨n % 4096, Nat.mod_lt _ (by norm_num)⟩
def col (j : ℕ) (p : Fin 384) : Fin 3072 := ⟨j % 8 * 384 + p.val, by omega⟩

theorem rd0 (A : FVec Ideal S4096x2048 .bf16) (t : Fin cfg0.N) (r : Fin 1024) (q : Fin 2048) :
    ((cfg0.win 0).blk t).view.read (Elt Ideal) A (ix2 r q) = A (ix2 (row (t.val % 4 * 1024 + r.val)) q) := by
  blk_point [idx_val t, row]
theorem rd1 (A : FVec Ideal S4096x3072 .bf16) (t : Fin cfg0.N) (r : Fin 1024) (p : Fin 384) :
    ((cfg0.win 1).blk t).view.read (Elt Ideal) A (ix2 r p)
      = A (ix2 (row (t.val % 4 * 1024 + r.val)) (col (t.val / 4) p)) := by
  have hN : t.val < 32 := t.isLt
  blk_point [idx_val t, row, col]

/-- The product, piece by piece. -/
def prod (x : FVec Ideal S4096x2048 .f32) (y : FVec Ideal S4096x3072 .f32) (d : Fin 8) (i : Fin 2048) (p : Fin 384) : EReal :=
  ∑ k : Fin 4096, x (ix2 k i) * y (ix2 k (col d.val p))

theorem ref_eq (x : FVec Ideal S4096x2048 .f32) (y : FVec Ideal S4096x3072 .f32) :
    val_main_v6 (F := Ideal) x y = fun z : S8x2048x384.Idx => prod x y (z 0) (z 1) (z 2) := by
  funext z
  idx_vars z
  pointwise [val_main_v6, val_main_v5, val_main_v4, val_main_v3, val_main_v2, val_main_v1, val_main_v0]
  have h0 : z0.val < 8 := z0.isLt
  refine Finset.sum_congr rfl fun k _ => (mul_comm _ _).trans (congrArg (fun l => x (ix2 k z1) * y (ix2 k l)) (Fin.ext ?_))
  simp only [col]
  omega

variable (m : (ℓ : Loc nD τ sig) → Buf (Elt Ideal) ℓ)

abbrev X (c : Dev nD) : FVec Ideal S4096x2048 .f32 := m ((c : Thread nD τ).loc main_arg0)
abbrev Y (c : Dev nD) : FVec Ideal S4096x3072 .f32 := m ((c : Thread nD τ).loc main_arg1)

theorem V0 (c : Dev nD) : V m c main_v0 = m ((c : Thread nD τ).loc main_arg0) := by entry_read; rfl
theorem V1 (c : Dev nD) : V m c main_v1 = m ((c : Thread nD τ).loc main_arg1) := by entry_read; rfl

theorem part_at (c : Dev nD) (t : Fin cfg0.N) (q : Fin 2048) (p : Fin 384) :
    part (iblk m c 0 t) (iblk m c 1 t) q p
      = ∑ r : Fin 1024, X m c (ix2 (row (t.val % 4 * 1024 + r.val)) q) * Y m c (ix2 (row (t.val % 4 * 1024 + r.val)) (col (t.val / 4) p)) :=
  Finset.sum_congr rfl fun r _ => congrArg₂ (· * ·)
    ((rd0 (V m c main_v0) t r q).trans (congrFun (V0 m c) _))
    ((rd1 (V m c main_v1) t r p).trans (congrFun (V1 m c) _))

/-- The last point of a run writes the product. -/
theorem out_at (c : Dev nD) (t : Fin cfg0.N) (ht : t.val % 4 = 3) (d : Fin 8) (hd : d.val = t.val / 4) (q : Fin 2048) (p : Fin 384) :
    (outsAt0 m c t.val t.isLt).1 (ix3 0 q p) = prod (X m c) (Y m c) d q p := by
  refine (Cert.Blocks.last_eq (K := 4) (B := 1024) (N := cfg0.N) (by norm_num)
    (fun n h => (outsAt0 m c n h).2 (ix2 q p)) (fun n h => (outsAt0 m c n h).1 (ix3 0 q p))
    (fun j k => X m c (ix2 (row k) q) * Y m c (ix2 (row k) (col j p)))
    (fun n h h0 => ?_) (fun n h h0 h1 => ?_) (fun n h h1 => ?_) t.val t.isLt ht).trans ?_
  · refine (congrArg (fun o => o.2 (ix2 q p)) (outsAt0_A m c ⟨n, h⟩ h0 (by dsimp only; omega))).trans ?_
    dsimp only
    rw [first_at, part_at]
    simp only [h0, Nat.zero_mul, Nat.zero_add]
  · refine (congrArg (fun o => o.2 (ix2 q p)) (outsAt0_B m c ⟨n, h⟩ h0 h1)).trans ?_
    dsimp only
    rw [next_at, part_at]
  · refine (congrArg (fun o => o.1 (ix3 0 q p)) (outsAt0_C m c ⟨n, h⟩ (by dsimp only; omega) h1)).trans ?_
    dsimp only
    rw [last_at, part_at]
  · refine Finset.sum_congr rfl fun k _ => ?_
    have e : row k.val = k := Fin.ext (Nat.mod_eq_of_lt k.isLt)
    rw [e, hd]

theorem out_block (c : Dev nD) (t : Fin cfg0.N) (ht : t.val % 4 = 3) (y : S1x2048x384.Idx) (d : Fin 8) (i : Fin 2048) (l : Fin 384)
    (hd : d.val = win0_2.index t 0 * 1 + (y 0).val) (hi : i.val = win0_2.index t 1 * 2048 + (y 1).val) (hl : l.val = win0_2.index t 2 * 384 + (y 2).val) :
    (outsAt0 m c t.val t.isLt).1 y = prod (X m c) (Y m c) d i l := by
  idx_vars y
  obtain rfl : y0 = 0 := Subsingleton.elim (α := Fin 1) _ _
  rw [(idx_val t).2.2] at hd hi hl
  rw [out_at m c t ht d (hd.trans (by simp)) y1 y2]
  exact congrArg₂ _ (Fin.ext (hi.trans (by simp)).symm) (Fin.ext (hl.trans (by simp)).symm)

theorem final (c : Dev nD) : (dats m 0 c).arrAt 2 (cfgs 0).N = fun z : S8x2048x384.Idx => prod (X m c) (Y m c) (z 0) (z 1) (z 2) := by
  refine (dats m 0 c).arrAt_eq_of_covers 2 _ (by decide +kernel) fun t hf y => ?_
  blk_simp; rw [after0_2]
  exact out_block m c t ((flush0_2 t).mp hf) y _ _ _ (by blk_simp) (by blk_simp) (by blk_simp)

theorem algebraic : Cert.algebraic_Kernel17Ideal_Reference17Ideal := by
  intro m g m' g' _ hargs
  refine ⟨fun c z => prod (X m c) (Y m c) (z 0) (z 1) (z 2), ?_, ?_⟩
  · refine (θ_run defs _ _).mono (fun r h c => ?_) (run_blocks (F := Ideal) m g)
    obtain ⟨e, k⟩ := h c
    exact ⟨e.trans (final m c), k⟩
  · refine (θ_run Cert.Reference17Ideal.defs _ _).mono (fun r h c => ?_) (Cert.Reference17Ideal.Value.run (F := Ideal) m' g')
    obtain ⟨e, k⟩ := h c
    obtain ⟨a0, a1⟩ := hargs c
    refine ⟨e.trans ?_, k⟩
    rw [val_main_v6_eq, a0, a1]; exact ref_eq _ _

end Cert.AQkvDw

end
-- ==== Proof.AQkvFwd.lean ====
module

public import proofs.«01_k».proof.Defs
public import proofs.«01_k».proof.Proof.Gen.Reference18Ideal.Run
public import proofs.«01_k».proof.Proof.Gen.Reference18Ideal.Read
public import proofs.«01_k».proof.Proof.Gen.Kernel18Ideal.Value
public import Idealize.ShloMosaic.Lib.Pipeline.ValueKit
public import Idealize.ShloMosaic.Lib.Pointwise
public import Idealize.ShloMosaic.Lib.Claim

/-! Mixer A's input projection `h . w`, with the columns of the weight in eight pieces: every grid point writes one block
of it. -/

@[expose] public section

set_option maxRecDepth 16384

noncomputable section

namespace Cert.AQkvFwd

open Cert.Kernel18Ideal Cert.Kernel18Ideal.Gen Cert.Kernel18Ideal.Value Cert.Reference18Ideal.Read
open Idealize.ShloMosaic Idealize.ShloMosaic.TcCoe Idealize.SL.Sem

theorem out_eq (a : Vec Ideal S1024x2048 .bf16) (b : Vec Ideal S1x2048x384 .bf16) (r : Fin 1024) (s : Fin 384) :
    out0_2 a b (ix2 r s) = ∑ k : Fin 2048, a (ix2 r k) * b (ix3 0 k s) := by
  refine Eq.trans (b := k0_pay1 (F := Ideal) a b (ix2 r s)) ?_ ?_
  · frame_out
  · pointwise [k0_pay1]

theorem idx_val : ∀ t : Fin cfg0.N, win0_0.index t = ![t.val / 8, 0] ∧ win0_1.index t = ![t.val % 8, 0, 0]
    ∧ win0_2.index t = ![t.val / 8, t.val % 8] :=
  (by decide +kernel : ∀ t : Fin grid0.N, _)

/-- The row, the piece and the column of a grid point's block. -/
def row (t : Fin cfg0.N) (r : Fin 1024) : Fin 4096 := ⟨t.val / 8 * 1024 + r.val, by have : t.val < 32 := t.isLt; omega⟩
def piece (t : Fin cfg0.N) : Fin 8 := ⟨t.val % 8, by omega⟩
def col (d : Fin 8) (s : Fin 384) : Fin 3072 := ⟨d.val * 384 + s.val, by omega⟩

theorem rd0 (A : FVec Ideal S4096x2048 .bf16) (t : Fin cfg0.N) (r : Fin 1024) (k : Fin 2048) :
    ((cfg0.win 0).blk t).view.read (Elt Ideal) A (ix2 r k) = A (ix2 (row t r) k) := by
  blk_point [idx_val t, row]
theorem rd1 (A : FVec Ideal S8x2048x384 .bf16) (t : Fin cfg0.N) (k : Fin 2048) (s : Fin 384) :
    ((cfg0.win 1).blk t).view.read (Elt Ideal) A (ix3 0 k s) = A (ix3 (piece t) k s) := by
  blk_point [idx_val t, piece]

/-- The array the host lays out. -/
def pieces (w : FVec Ideal S2048x3072 .f32) : FVec Ideal S8x2048x384 .bf16 :=
  transpose S8x2048x384 [1, 0, 2] (shapeCast S2048x8x384 (truncf .bf16 w bitsLt_bf16_f32 : FVec Ideal S2048x3072 .bf16) shapeCasts_S2048x3072_S2048x8x384 : FVec Ideal S2048x8x384 .bf16) transposes_S2048x8x384_S8x2048x384_1_0_2

theorem pieces_at (w : FVec Ideal S2048x3072 .f32) (d : Fin 8) (k : Fin 2048) (s : Fin 384) : pieces w (ix3 d k s) = w (ix2 k (col d s)) := by
  pointwise [pieces, col]

/-- The product. -/
def prod (x : FVec Ideal S4096x2048 .f32) (w : FVec Ideal S2048x3072 .f32) (i : Fin 4096) (j : Fin 3072) : EReal :=
  ∑ k : Fin 2048, x (ix2 i k) * w (ix2 k j)

theorem ref_eq (x : FVec Ideal S4096x2048 .f32) (w : FVec Ideal S2048x3072 .f32) :
    val_main_v0 (F := Ideal) x w = fun z : S4096x3072.Idx => prod x w (z 0) (z 1) := by
  funext z
  idx_vars z
  pointwise [val_main_v0]
  rfl

variable (m : (ℓ : Loc nD τ sig) → Buf (Elt Ideal) ℓ)

abbrev X (c : Dev nD) : FVec Ideal S4096x2048 .f32 := m ((c : Thread nD τ).loc main_arg0)
abbrev W (c : Dev nD) : FVec Ideal S2048x3072 .f32 := m ((c : Thread nD τ).loc main_arg1)

theorem V3 (c : Dev nD) : V m c main_v3 = m ((c : Thread nD τ).loc main_arg0) := by entry_read; rfl
theorem V2 (c : Dev nD) : V m c main_v2 = pieces (W m c) := by entry_read; rfl

theorem out_at (c : Dev nD) (t : Fin cfg0.N) (r : Fin 1024) (s : Fin 384) :
    out0_2 (iblk m c 0 t) (iblk m c 1 t) (ix2 r s) = prod (X m c) (W m c) (row t r) (col (piece t) s) :=
  (out_eq _ _ r s).trans (Finset.sum_congr rfl fun k _ => congrArg₂ (· * ·)
    ((rd0 (V m c main_v3) t r k).trans (congrFun (V3 m c) _))
    (((rd1 (V m c main_v2) t k s).trans (congrFun (V2 m c) _)).trans (pieces_at _ _ _ _)))

theorem out_block (c : Dev nD) (t : Fin cfg0.N) (y : S1024x384.Idx) (i : Fin 4096) (j : Fin 3072)
    (hi : i.val = win0_2.index t 0 * 1024 + (y 0).val) (hj : j.val = win0_2.index t 1 * 384 + (y 1).val) :
    out0_2 (iblk m c 0 t) (iblk m c 1 t) y = prod (X m c) (W m c) i j := by
  idx_vars y
  rw [(idx_val t).2.2] at hi hj
  rw [out_at m c t y0 y1]
  exact congrArg₂ _ (Fin.ext hi.symm) (Fin.ext hj.symm)

theorem final (c : Dev nD) : (dats m 0 c).arrAt 2 (cfgs 0).N = fun z : S4096x3072.Idx => prod (X m c) (W m c) (z 0) (z 1) := by
  refine (dats m 0 c).arrAt_eq_of_covers 2 _ (by decide +kernel) fun t hf y => ?_
  blk_simp; rw [after0_2]
  exact out_block m c t y _ _ (by blk_simp) (by blk_simp)

theorem algebraic : Cert.algebraic_Kernel18Ideal_Reference18Ideal := by
  intro m g m' g' _ hargs
  refine ⟨fun c z => prod (X m c) (W m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference18Ideal.defs _ _).mono (fun r h c => ?_) (Cert.Reference18Ideal.Value.run (F := Ideal) m' g')
    obtain ⟨e, k⟩ := h c
    obtain ⟨a0, a1⟩ := hargs c
    refine ⟨e.trans ?_, k⟩
    rw [val_main_v0_eq, a0, a1]; exact ref_eq _ _

end Cert.AQkvFwd

end
-- ==== Proof.AOutDx.lean ====
module

public import proofs.«01_k».proof.Defs
public import proofs.«01_k».proof.Proof.Gen.Reference19Ideal.Run
public import proofs.«01_k».proof.Proof.Gen.Reference19Ideal.Read
public import proofs.«01_k».proof.Proof.Gen.Kernel19Ideal.Value
public import Idealize.ShloMosaic.Lib.Pipeline.ValueKit
public import Idealize.ShloMosaic.Lib.Pointwise
public import Idealize.ShloMosaic.Lib.Claim

/-! The gradient of mixer A's output projection in its input, `dh . w^T`: every grid point writes a block of its rows, whole. -/

@[expose] public section

set_option maxRecDepth 16384

noncomputable section

namespace Cert.AOutDx

open Cert.Kernel19Ideal Cert.Kernel19Ideal.Gen Cert.Kernel19Ideal.Value Cert.Reference19Ideal.Read
open Idealize.ShloMosaic Idealize.ShloMosaic.TcCoe Idealize.SL.Sem

theorem out_eq (a : Vec Ideal S1024x2048 .bf16) (b : Vec Ideal S2048x2048 .bf16) (r : Fin 1024) (s : Fin 2048) :
    out0_2 a b (ix2 r s) = ∑ k : Fin 2048, a (ix2 r k) * b (ix2 s k) := by
  refine Eq.trans (b := k0_pay1 (F := Ideal) a b (ix2 r s)) ?_ ?_
  · frame_out
  · pointwise [k0_pay1]

theorem idx_val : ∀ t : Fin cfg0.N, win0_0.index t = ![t.val, 0] ∧ win0_1.index t = ![0, 0]
    ∧ win0_2.index t = ![t.val, 0] :=
  (by decide +kernel : ∀ t : Fin grid0.N, _)

/-- The row of a grid point's block. -/
def row (t : Fin cfg0.N) (r : Fin 1024) : Fin 4096 := ⟨t.val * 1024 + r.val, by have : t.val < 4 := t.isLt; omega⟩

theorem rd0 (A : FVec Ideal S4096x2048 .bf16) (t : Fin cfg0.N) (r : Fin 1024) (k : Fin 2048) :
    ((cfg0.win 0).blk t).view.read (Elt Ideal) A (ix2 r k) = A (ix2 (row t r) k) := by
  blk_point [idx_val t, row]
theorem rd1 (A : FVec Ideal S2048x2048 .bf16) (t : Fin cfg0.N) (s : Fin 2048) (k : Fin 2048) :
    ((cfg0.win 1).blk t).view.read (Elt Ideal) A (ix2 s k) = A (ix2 s k) := by
  blk_point [idx_val t]

/-- The product. -/
def prod (w : FVec Ideal S2048x2048 .f32) (y : FVec Ideal S4096x2048 .f32) (i : Fin 4096) (j : Fin 2048) : EReal :=
  ∑ k : Fin 2048, y (ix2 i k) * w (ix2 j k)

theorem ref_eq (w : FVec Ideal S2048x2048 .f32) (y : FVec Ideal S4096x2048 .f32) :
    val_main_v2 (F := Ideal) w y = fun z : S4096x2048.Idx => prod w y (z 0) (z 1) := by
  funext z
  idx_vars z
  pointwise [val_main_v2, val_main_v1, val_main_v0]
  rfl

variable (m : (ℓ : Loc nD τ sig) → Buf (Elt Ideal) ℓ)

abbrev W (c : Dev nD) : FVec Ideal S2048x2048 .f32 := m ((c : Thread nD τ).loc main_arg0)
abbrev Y (c : Dev nD) : FVec Ideal S4096x2048 .f32 := m ((c : Thread nD τ).loc main_arg1)

theorem V0 (c : Dev nD) : V m c main_v0 = m ((c : Thread nD τ).loc main_arg1) := by entry_read; rfl
theorem V1 (c : Dev nD) : V m c main_v1 = m ((c : Thread nD τ).loc main_arg0) := by entry_read; rfl

theorem out_at (c : Dev nD) (t : Fin cfg0.N) (r : Fin 1024) (s : Fin 2048) :
    out0_2 (iblk m c 0 t) (iblk m c 1 t) (ix2 r s) = prod (W m c) (Y m c) (row t r) s :=
  (out_eq _ _ r s).trans (Finset.sum_congr rfl fun k _ => congrArg₂ (· * ·)
    ((rd0 (V m c main_v0) t r k).trans (congrFun (V0 m c) _)) ((rd1 (V m c main_v1) t s k).trans (congrFun (V1 m c) _)))

theorem out_block (c : Dev nD) (t : Fin cfg0.N) (y : S1024x2048.Idx) (i : Fin 4096) (j : Fin 2048)
    (hi : i.val = win0_2.index t 0 * 1024 + (y 0).val) (hj : j.val = win0_2.index t 1 * 2048 + (y 1).val) :
    out0_2 (iblk m c 0 t) (iblk m c 1 t) y = prod (W m c) (Y m c) i j := by
  idx_vars y
  rw [(idx_val t).2.2] at hi hj
  rw [out_at m c t y0 y1]
  exact congrArg₂ _ (Fin.ext hi.symm) (Fin.ext (hj.trans (by simp)).symm)

theorem final (c : Dev nD) : (dats m 0 c).arrAt 2 (cfgs 0).N = fun z : S4096x2048.Idx => prod (W m c) (Y m c) (z 0) (z 1) := by
  refine (dats m 0 c).arrAt_eq_of_covers 2 _ (by decide +kernel) fun t hf y => ?_
  blk_simp; rw [after0_2]
  exact out_block m c t y _ _ (by blk_simp) (by blk_simp)

theorem algebraic : Cert.algebraic_Kernel19Ideal_Reference19Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference19Ideal.defs _ _).mono (fun r h c => ?_) (Cert.Reference19Ideal.Value.run (F := Ideal) m' g')
    obtain ⟨e, k⟩ := h c
    obtain ⟨a0, a1⟩ := hargs c
    refine ⟨e.trans ?_, k⟩
    rw [val_main_v2_eq, a0, a1]; exact ref_eq _ _

end Cert.AOutDx

end
-- ==== Proof.AOutDw.lean ====
module

public import proofs.«01_k».proof.Defs
public import proofs.«01_k».proof.Proof.Gen.Reference20Ideal.Run
public import proofs.«01_k».proof.Proof.Gen.Reference20Ideal.Read
public import proofs.«01_k».proof.Proof.Gen.Kernel20Ideal.Value
public import proofs.«01_k».proof.Proof.Blocks
public import Idealize.ShloMosaic.Lib.Pipeline.ValueKit
public import Idealize.ShloMosaic.Lib.Pointwise
public import Idealize.ShloMosaic.Lib.Claim

/-! The gradient of mixer A's output projection in its weight, `a^T . dh`: four grid points in a row, a block of 1024 rows each,
fill the accumulator of one block of it. -/

@[expose] public section

set_option maxRecDepth 16384

noncomputable section

namespace Cert.AOutDw

open Cert.Kernel20Ideal Cert.Kernel20Ideal.Gen Cert.Kernel20Ideal.Value Cert.Reference20Ideal.Read
open Idealize.ShloMosaic Idealize.ShloMosaic.TcCoe Idealize.SL.Sem

section Body

/-- What a grid point adds to the accumulator. -/
def part (a : Vec Ideal S1024x2048 .bf16) (b : Vec Ideal S1024x1024 .bf16) (p : Fin 2048) (q : Fin 1024) : EReal :=
  ∑ r : Fin 1024, a (ix2 r p) * b (ix2 r q)

theorem pay1_at (p : Fin 2048) (q : Fin 1024) : k0_pay1 (F := Ideal) (ix2 p q) = 0 := by
  pointwise [k0_pay1]
theorem pay2_at (u : Vec Ideal S2048x1024 .f32) (a : Vec Ideal S1024x2048 .bf16) (b : Vec Ideal S1024x1024 .bf16) (p : Fin 2048) (q : Fin 1024) :
    k0_pay2 (F := Ideal) u a b (ix2 p q) = u (ix2 p q) + part a b p q := by
  pointwise [k0_pay2]
  rfl

variable (c : Dev nD) (i : grid0.Coords) (arg3 : Memref sig .tc .vmem S1024x2048 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole)
  (x0 : Vec Ideal S1024x2048 .bf16) (x1 : Vec Ideal S1024x1024 .bf16) (u : Vec Ideal S2048x1024 .f32) (p : Fin 2048) (q : Fin 1024)

theorem first_at (hc0 : cond0_0 i) (hc1 : ¬cond0_1 i) :
    sout0_A_0 c i arg3 harg3 arg4 harg4 arg5 harg5 arg6 harg6 hc0 hc1 x0 x1 (ix2 p q) = part x0 x1 p q := by
  refine Eq.trans (b := k0_pay2 (F := Ideal) (k0_pay1 (F := Ideal)) x0 x1 (ix2 p q)) ?_ ?_
  · frame_out; try exact rfl
  · rw [pay2_at, pay1_at, zero_add]

theorem next_at (hc0 : ¬cond0_0 i) (hc1 : ¬cond0_1 i) :
    sout0_B_0 c i arg3 harg3 arg4 harg4 arg5 harg5 arg6 harg6 hc0 hc1 x0 x1 u (ix2 p q) = u (ix2 p q) + part x0 x1 p q := by
  refine Eq.trans (b := k0_pay2 (F := Ideal) u x0 x1 (ix2 p q)) ?_ (pay2_at u x0 x1 p q)
  frame_out; try exact rfl

theorem last_at (hc0 : ¬cond0_0 i) (hc1 : cond0_1 i) :
    out0_C_2 c i arg3 harg3 arg4 harg4 arg5 harg5 arg6 harg6 hc0 hc1 x0 x1 u (ix2 p q) = u (ix2 p q) + part x0 x1 p q := by
  refine Eq.trans (b := k0_pay3 (F := Ideal) (k0_pay2 (F := Ideal) u x0 x1) (ix2 p q)) ?_ (pay2_at u x0 x1 p q)
  frame_out; try exact rfl

end Body

theorem idx_val : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The row of the contracted index `n`; the column of an entry of the block that the run `j` fills. -/
def row (n : ℕ) : Fin 4096 := ⟨n % 4096, Nat.mod_lt _ (by norm_num)⟩
def col (j : ℕ) (q : Fin 1024) : Fin 2048 := ⟨j % 2 * 1024 + q.val, by omega⟩

theorem rd0 (A : FVec Ideal S4096x2048 .bf16) (t : Fin cfg0.N) (r : Fin 1024) (p : Fin 2048) :
    ((cfg0.win 0).blk t).view.read (Elt Ideal) A (ix2 r p) = A (ix2 (row (t.val % 4 * 1024 + r.val)) p) := by
  blk_point [idx_val t, row]
theorem rd1 (A : FVec Ideal S4096x2048 .bf16) (t : Fin cfg0.N) (r : Fin 1024) (q : Fin 1024) :
    ((cfg0.win 1).blk t).view.read (Elt Ideal) A (ix2 r q) = A (ix2 (row (t.val % 4 * 1024 + r.val)) (col (t.val / 4) q)) := by
  blk_point [idx_val t, row, col]

/-- The product. -/
def prod (a : FVec Ideal S4096x2048 .f32) (y : FVec Ideal S4096x2048 .f32) (i : Fin 2048) (j : Fin 2048) : EReal :=
  ∑ k : Fin 4096, a (ix2 k i) * y (ix2 k j)

theorem ref_eq (a : FVec Ideal S4096x2048 .f32) (y : FVec Ideal S4096x2048 .f32) :
    val_main_v4 (F := Ideal) a y = fun z : S2048x2048.Idx => prod a y (z 0) (z 1) := by
  funext z
  idx_vars z
  pointwise [val_main_v4, val_main_v3, val_main_v2, val_main_v1, val_main_v0]
  exact Finset.sum_congr rfl fun k _ => mul_comm _ _

variable (m : (ℓ : Loc nD τ sig) → Buf (Elt Ideal) ℓ)

abbrev W (c : Dev nD) : FVec Ideal S4096x2048 .f32 := m ((c : Thread nD τ).loc main_arg0)
abbrev Y (c : Dev nD) : FVec Ideal S4096x2048 .f32 := m ((c : Thread nD τ).loc main_arg1)

theorem V0 (c : Dev nD) : V m c main_v0 = m ((c : Thread nD τ).loc main_arg0) := by entry_read; rfl
theorem V1 (c : Dev nD) : V m c main_v1 = m ((c : Thread nD τ).loc main_arg1) := by entry_read; rfl

theorem part_at (c : Dev nD) (t : Fin cfg0.N) (p : Fin 2048) (q : Fin 1024) :
    part (iblk m c 0 t) (iblk m c 1 t) p q
      = ∑ r : Fin 1024, W m c (ix2 (row (t.val % 4 * 1024 + r.val)) p) * Y m c (ix2 (row (t.val % 4 * 1024 + r.val)) (col (t.val / 4) q)) :=
  Finset.sum_congr rfl fun r _ => congrArg₂ (· * ·)
    ((rd0 (V m c main_v0) t r p).trans (congrFun (V0 m c) _)) ((rd1 (V m c main_v1) t r q).trans (congrFun (V1 m c) _))

/-- The last point of a run writes the product. -/
theorem out_at (c : Dev nD) (t : Fin cfg0.N) (ht : t.val % 4 = 3) (p : Fin 2048) (q : Fin 1024) :
    (outsAt0 m c t.val t.isLt).1 (ix2 p q) = prod (W m c) (Y m c) p (col (t.val / 4) q) := by
  refine (Cert.Blocks.last_eq (K := 4) (B := 1024) (N := cfg0.N) (by norm_num)
    (fun n h => (outsAt0 m c n h).2 (ix2 p q)) (fun n h => (outsAt0 m c n h).1 (ix2 p q))
    (fun j k => W m c (ix2 (row k) p) * Y m c (ix2 (row k) (col j q)))
    (fun n h h0 => ?_) (fun n h h0 h1 => ?_) (fun n h h1 => ?_) t.val t.isLt ht).trans ?_
  · refine (congrArg (fun o => o.2 (ix2 p q)) (outsAt0_A m c ⟨n, h⟩ h0 (by dsimp only; omega))).trans ?_
    dsimp only
    rw [first_at, part_at]
    simp only [h0, Nat.zero_mul, Nat.zero_add]
  · refine (congrArg (fun o => o.2 (ix2 p q)) (outsAt0_B m c ⟨n, h⟩ h0 h1)).trans ?_
    dsimp only
    rw [next_at, part_at]
  · refine (congrArg (fun o => o.1 (ix2 p q)) (outsAt0_C m c ⟨n, h⟩ (by dsimp only; omega) h1)).trans ?_
    dsimp only
    rw [last_at, part_at]
  · refine Finset.sum_congr rfl fun k _ => ?_
    have e : row k.val = k := Fin.ext (Nat.mod_eq_of_lt k.isLt)
    rw [e]

theorem out_block (c : Dev nD) (t : Fin cfg0.N) (ht : t.val % 4 = 3) (y : S2048x1024.Idx) (i : Fin 2048) (j : Fin 2048)
    (hi : i.val = win0_2.index t 0 * 2048 + (y 0).val) (hj : j.val = win0_2.index t 1 * 1024 + (y 1).val) :
    (outsAt0 m c t.val t.isLt).1 y = prod (W m c) (Y m c) i j := by
  have hN : t.val < 8 := t.isLt
  idx_vars y
  rw [(idx_val t).2.2] at hi hj
  rw [out_at m c t ht y0 y1]
  refine congrArg₂ _ (Fin.ext (hi.trans (by simp)).symm) (Fin.ext (Eq.trans ?_ hj.symm))
  simp only [col, Matrix.cons_val_one, Matrix.cons_val_fin_one]
  omega

theorem final (c : Dev nD) : (dats m 0 c).arrAt 2 (cfgs 0).N = fun z : S2048x2048.Idx => prod (W m c) (Y m c) (z 0) (z 1) := by
  refine (dats m 0 c).arrAt_eq_of_covers 2 _ (by decide +kernel) fun t hf y => ?_
  blk_simp; rw [after0_2]
  exact out_block m c t ((flush0_2 t).mp hf) y _ _ (by blk_simp) (by blk_simp)

theorem algebraic : Cert.algebraic_Kernel20Ideal_Reference20Ideal := by
  intro m g m' g' _ hargs
  refine ⟨fun c z => prod (W m c) (Y m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference20Ideal.defs _ _).mono (fun r h c => ?_) (Cert.Reference20Ideal.Value.run (F := Ideal) m' g')
    obtain ⟨e, k⟩ := h c
    obtain ⟨a0, a1⟩ := hargs c
    refine ⟨e.trans ?_, k⟩
    rw [val_main_v4_eq, a0, a1]; exact ref_eq _ _

end Cert.AOutDw

end
-- ==== Proof.AOutFwd.lean ====
module

public import proofs.«01_k».proof.Defs
public import proofs.«01_k».proof.Proof.Gen.Reference21Ideal.Run
public import proofs.«01_k».proof.Proof.Gen.Reference21Ideal.Read
public import proofs.«01_k».proof.Proof.Gen.Kernel21Ideal.Value
public import Idealize.ShloMosaic.Lib.Pipeline.ValueKit
public import Idealize.ShloMosaic.Lib.Pointwise
public import Idealize.ShloMosaic.Lib.Claim

/-! Mixer A's output projection with the residual stream, `o . w + h`: every grid point writes one block of it. -/

@[expose] public section

set_option maxRecDepth 16384

noncomputable section

namespace Cert.AOutFwd

open Cert.Kernel21Ideal Cert.Kernel21Ideal.Gen Cert.Kernel21Ideal.Value Cert.Reference21Ideal.Read
open Idealize.ShloMosaic Idealize.ShloMosaic.TcCoe Idealize.SL.Sem

theorem out_eq (a : Vec Ideal S1024x2048 .bf16) (b : Vec Ideal S2048x1024 .bf16) (h : Vec Ideal S1024x1024 .f32) (r s : Fin 1024) :
    out0_3 a b h (ix2 r s) = (∑ k : Fin 2048, a (ix2 r k) * b (ix2 k s)) + h (ix2 r s) := by
  refine Eq.trans (b := k0_pay1 (F := Ideal) a b h (ix2 r s)) ?_ ?_
  · frame_out
  · pointwise [k0_pay1]

theorem idx_val : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The row and the column of a grid point's block. -/
def row (t : Fin cfg0.N) (r : Fin 1024) : Fin 4096 := ⟨t.val / 2 * 1024 + r.val, by have : t.val < 8 := t.isLt; omega⟩
def col (t : Fin cfg0.N) (s : Fin 1024) : Fin 2048 := ⟨t.val % 2 * 1024 + s.val, by omega⟩

theorem rd0 (A : FVec Ideal S4096x2048 .bf16) (t : Fin cfg0.N) (r : Fin 1024) (k : Fin 2048) :
    ((cfg0.win 0).blk t).view.read (Elt Ideal) A (ix2 r k) = A (ix2 (row t r) k) := by
  blk_point [idx_val t, row]
theorem rd1 (A : FVec Ideal S2048x2048 .bf16) (t : Fin cfg0.N) (k : Fin 2048) (s : Fin 1024) :
    ((cfg0.win 1).blk t).view.read (Elt Ideal) A (ix2 k s) = A (ix2 k (col t s)) := by
  blk_point [idx_val t, col]
theorem rd2 (A : FVec Ideal S4096x2048 .f32) (t : Fin cfg0.N) (r s : Fin 1024) :
    ((cfg0.win 2).blk t).view.read (Elt Ideal) A (ix2 r s) = A (ix2 (row t r) (col t s)) := by
  blk_point [idx_val t, row, col]

/-- The product with the residual stream added. -/
def prod (x : FVec Ideal S4096x2048 .f32) (w : FVec Ideal S2048x2048 .f32) (h : FVec Ideal S4096x2048 .f32) (i : Fin 4096) (j : Fin 2048) : EReal :=
  (∑ k : Fin 2048, x (ix2 i k) * w (ix2 k j)) + h (ix2 i j)

theorem ref_eq (x : FVec Ideal S4096x2048 .f32) (w : FVec Ideal S2048x2048 .f32) (h : FVec Ideal S4096x2048 .f32) :
    val_main_v1 (F := Ideal) x w h = fun z : S4096x2048.Idx => prod x w h (z 0) (z 1) := by
  funext z
  idx_vars z
  pointwise [val_main_v1, val_main_v0]
  exact add_comm _ _

variable (m : (ℓ : Loc nD τ sig) → Buf (Elt Ideal) ℓ)

abbrev X (c : Dev nD) : FVec Ideal S4096x2048 .f32 := m ((c : Thread nD τ).loc main_arg0)
abbrev W (c : Dev nD) : FVec Ideal S2048x2048 .f32 := m ((c : Thread nD τ).loc main_arg1)
abbrev H (c : Dev nD) : FVec Ideal S4096x2048 .f32 := m ((c : Thread nD τ).loc main_arg2)

theorem V0 (c : Dev nD) : V m c main_v0 = m ((c : Thread nD τ).loc main_arg0) := by entry_read; rfl
theorem V1 (c : Dev nD) : V m c main_v1 = m ((c : Thread nD τ).loc main_arg1) := by entry_read; rfl
theorem Varg (c : Dev nD) : V m c main_arg2 = m ((c : Thread nD τ).loc main_arg2) := by entry_read; try rfl

theorem out_at (c : Dev nD) (t : Fin cfg0.N) (r s : Fin 1024) :
    out0_3 (iblk m c 0 t) (iblk m c 1 t) (iblk m c 2 t) (ix2 r s) = prod (X m c) (W m c) (H m c) (row t r) (col t s) :=
  (out_eq _ _ _ r s).trans (congrArg₂ (· + ·) (Finset.sum_congr rfl fun k _ => congrArg₂ (· * ·)
    ((rd0 (V m c main_v0) t r k).trans (congrFun (V0 m c) _)) ((rd1 (V m c main_v1) t k s).trans (congrFun (V1 m c) _)))
    ((rd2 (V m c main_arg2) t r s).trans (congrFun (Varg m c) _)))

theorem out_block (c : Dev nD) (t : Fin cfg0.N) (y : S1024x1024.Idx) (i : Fin 4096) (j : Fin 2048)
    (hi : i.val = win0_3.index t 0 * 1024 + (y 0).val) (hj : j.val = win0_3.index t 1 * 1024 + (y 1).val) :
    out0_3 (iblk m c 0 t) (iblk m c 1 t) (iblk m c 2 t) y = prod (X m c) (W m c) (H m c) i j := by
  idx_vars y
  rw [(idx_val t).2.2.2] at hi hj
  rw [out_at m c t y0 y1]
  exact congrArg₂ _ (Fin.ext hi.symm) (Fin.ext hj.symm)

theorem final (c : Dev nD) : (dats m 0 c).arrAt 3 (cfgs 0).N = fun z : S4096x2048.Idx => prod (X m c) (W m c) (H m c) (z 0) (z 1) := by
  refine (dats m 0 c).arrAt_eq_of_covers 3 _ (by decide +kernel) fun t hf y => ?_
  blk_simp; rw [after0_3]
  exact out_block m c t y _ _ (by blk_simp) (by blk_simp)

theorem algebraic : Cert.algebraic_Kernel21Ideal_Reference21Ideal := by
  intro m g m' g' _ hargs
  refine ⟨fun c z => prod (X m c) (W m c) (H m c) (z 0) (z 1), ?_, ?_⟩
  · refine (θ_run defs _ _).mono (fun r h c => ?_) (run_blocks (F := Ideal) m g)
    obtain ⟨e, k⟩ := h c
    exact ⟨e.trans (final m c), k⟩
  · refine (θ_run Cert.Reference21Ideal.defs _ _).mono (fun r h c => ?_) (Cert.Reference21Ideal.Value.run (F := Ideal) m' g')
    obtain ⟨e, k⟩ := h c
    obtain ⟨a0, a1, a2⟩ := hargs c
    refine ⟨e.trans ?_, k⟩
    rw [val_main_v1_eq, a0, a1, a2]; exact ref_eq _ _ _

end Cert.AOutFwd

end
-- ==== Proof.NormSpec.lean ====
module

public import Idealize.ShloMosaic.Lib.Pipeline.ValueKit

@[expose] public section

/-! The gradient of one row of the RMS norm, as two formulas on the extended reals, and that they agree.

A row `x` is divided by the root of `power x`, the mean of its squares plus a small positive constant.
One formula takes the projection of the gradient on the divided row out of it. The other adds up the terms
that differentiating the division gives, two of them equal because the square `x * x` has two factors.
Nothing is asked of the entries: `power x` is positive or `⊤`, so its inverse root is a nonnegative real. -/

noncomputable section

namespace Cert.NormSpec

open Idealize.ShloMosaic

/-- The number of columns, as the programs write it. -/
abbrev width : EReal := Ideal.ofBits .f32 1157627904#32
/-- The constant under the root, as the programs write it. -/
abbrev eps : EReal := Ideal.ofBits .f32 897988541#32
/-- Minus one half, as the programs write it. -/
abbrev mhalf : EReal := Ideal.ofBits .f32 3204448256#32

theorem width_eq : width = ((2048 : ℝ) : EReal) := by
  simp [width, Ideal.ofBits, Ideal.ieee]
  norm_cast; norm_num

theorem mhalf_eq : mhalf = ((-(1 / 2) : ℝ) : EReal) := by
  simp [mhalf, Ideal.ofBits, Ideal.ieee]
  norm_cast; norm_num

theorem eps_pos : 0 < eps := by
  simp only [eps, Ideal.ofBits, Ideal.ieee]
  simp
  norm_cast
  positivity

/-- The mean of the squares of a row plus the small constant. -/
def power (x : Fin 2048 → EReal) : EReal := Ideal.div (∑ k, x k * x k) width + eps

/-- The projection is taken out of the gradient. -/
def byProjection (x d : Fin 2048 → EReal) (r : EReal) (q : Fin 2048) : EReal :=
  r + Ideal.rsqrt (power x) * (d q - x q * Ideal.rsqrt (power x) *
    Ideal.div (∑ k, d k * (x k * Ideal.rsqrt (power x))) width)

/-- The factor every entry of the row gets from the division. -/
def slope (x d : Fin 2048 → EReal) : EReal :=
  Ideal.div ((∑ k, x k * d k) * (mhalf * Ideal.div (Ideal.rsqrt (power x)) (power x))) width

/-- The terms of the derivative are added up. -/
def byTerms (x d : Fin 2048 → EReal) (r : EReal) (q : Fin 2048) : EReal :=
  d q * Ideal.rsqrt (power x) + x q * slope x d + slope x d * x q + r

theorem div_width (a : EReal) : Ideal.div a width = a * ((1 / 2048 : ℝ) : EReal) := by
  rw [width_eq, Ideal.div_coe (by norm_num)]

theorem power_pos (x : Fin 2048 → EReal) : 0 < power x := by
  have hs : (0 : EReal) ≤ ∑ k, x k * x k := Finset.sum_nonneg fun k _ => by
    rcases le_total 0 (x k) with h | h
    · exact mul_nonneg h h
    · exact EReal.mul_nonneg_iff.mpr (.inr ⟨h, h⟩)
  have hd : (0 : EReal) ≤ Ideal.div (∑ k, x k * x k) width := by
    rw [div_width]
    exact mul_nonneg hs (by norm_cast; norm_num)
  exact eps_pos.trans_le (le_add_of_nonneg_left hd)

theorem mul_sum (c : ℝ) (hc : 0 ≤ c) {n : ℕ} (f : Fin n → EReal) :
    ∑ k, f k * (c : EReal) = (∑ k, f k) * (c : EReal) := by
  classical
  induction (Finset.univ : Finset (Fin n)) using Finset.induction_on with
  | empty => simp
  | insert a s ha ih =>
    rw [Finset.sum_insert ha, Finset.sum_insert ha, ih,
      EReal.right_distrib_of_nonneg_of_ne_top (by exact_mod_cast hc) (EReal.coe_ne_top c)]

theorem double (b : EReal) : b + b = b * ((2 : ℝ) : EReal) := by
  induction b with
  | bot => rw [EReal.bot_mul_coe_of_pos (by norm_num)]; rfl
  | top => rw [EReal.top_mul_coe_of_pos (by norm_num)]; rfl
  | coe a => norm_cast; ring

/-- The two formulas agree on every row. -/
theorem eq_terms (x d : Fin 2048 → EReal) (r : EReal) (q : Fin 2048) :
    byProjection x d r q = byTerms x d r q := by
  unfold byProjection byTerms slope
  have hp := power_pos x
  induction hm : power x with
  | bot => rw [hm] at hp; exact absurd hp (by simp)
  | top => simp [Ideal.rsqrt_top, Ideal.div, width_eq]
  | coe m =>
    rw [hm] at hp
    have hm0 : 0 < m := by exact_mod_cast hp
    have hR : Ideal.rsqrt (m : EReal) = (((√m)⁻¹ : ℝ) : EReal) := by
      rw [Ideal.rsqrt_coe, if_neg (not_lt.mpr hm0.le), if_neg hm0.ne']
    have hρ : (0 : ℝ) ≤ (√m)⁻¹ := by positivity
    have hsq : (√m)⁻¹ * (√m)⁻¹ = 1 / m := by
      rw [← mul_inv, Real.mul_self_sqrt hm0.le, one_div]
    rw [hR, div_width, div_width, Ideal.div_coe hm0.ne', mhalf_eq]
    generalize (√m)⁻¹ = ρ at hρ hsq
    have hS : ∑ k, d k * (x k * (ρ : EReal)) = (∑ k, x k * d k) * (ρ : EReal) := by
      rw [← mul_sum ρ hρ]
      exact Finset.sum_congr rfl fun k _ => by rw [← mul_assoc, mul_comm (d k)]
    rw [hS]
    generalize ∑ k, x k * d k = S
    have hB : x q * (S * (((-(1 / 2) : ℝ) : EReal) * ((ρ : EReal) * ((1 / m : ℝ) : EReal))) * ((1 / 2048 : ℝ) : EReal))
        = -(x q * S * ((1 / 2 * (ρ * (ρ * ρ)) * (1 / 2048) : ℝ) : EReal)) := by
      rw [mul_assoc S, ← mul_assoc (x q), ← EReal.coe_mul, ← EReal.coe_mul, ← EReal.coe_mul, ← hsq,
        ← mul_assoc, ← mul_neg, ← EReal.coe_neg]
      congr 2; ring
    have hA : x q * (ρ : EReal) * (S * (ρ : EReal) * ((1 / 2048 : ℝ) : EReal))
        = x q * S * ((ρ * ρ * (1 / 2048) : ℝ) : EReal) := by
      rw [EReal.coe_mul, EReal.coe_mul]; ac_rfl
    rw [mul_comm _ (x q), hB, hA, add_assoc (d q * _), ← EReal.neg_mul, double, sub_eq_add_neg,
      EReal.left_distrib_of_nonneg_of_ne_top (by exact_mod_cast hρ) (EReal.coe_ne_top ρ), add_comm r, mul_comm (ρ : EReal) (d q)]
    congr 2
    rw [← EReal.neg_mul, mul_comm, mul_assoc, mul_assoc (-_), ← EReal.coe_mul, ← EReal.coe_mul]
    congr 2; ring

end Cert.NormSpec

end
-- ==== Proof.NormBwd.lean ====
module

public import proofs.«01_k».proof.Defs
public import proofs.«01_k».proof.Proof.Gen.Reference22Ideal.Run
public import proofs.«01_k».proof.Proof.Gen.Reference22Ideal.Read
public import proofs.«01_k».proof.Proof.Gen.Kernel22Ideal.Value
public import proofs.«01_k».proof.Proof.Blocks
public import proofs.«01_k».proof.Proof.NormSpec
public import Idealize.ShloMosaic.Lib.Pipeline.ValueKit
public import Idealize.ShloMosaic.Lib.Pointwise
public import Idealize.ShloMosaic.Lib.Claim

/-! The gradient of the RMS norm: a grid point takes a block of 256 rows, writes the gradient in them, with the gradient
arriving beside the norm added and once more narrowed, and adds its rows to the gradient in the gain, which the last of
the 16 points completes. -/

@[expose] public section

set_option maxRecDepth 16384

noncomputable section

namespace Cert.NormBwd

open Cert.Kernel22Ideal Cert.Kernel22Ideal.Gen Cert.Kernel22Ideal.Value Cert.Reference22Ideal.Read Cert.NormSpec
open Idealize.ShloMosaic Idealize.ShloMosaic.TcCoe Idealize.SL.Sem

section Body

/-- Row `p` of a block, and the same row of the gradient times the gain. -/
def line (x : Vec Ideal S256x2048 .f32) (p : Fin 256) (k : Fin 2048) : EReal := x (ix2 p k)
def scaled (d : Vec Ideal S256x2048 .f32) (g : Vec Ideal S1x2048 .f32) (p : Fin 256) (k : Fin 2048) : EReal :=
  d (ix2 p k) * g (ix2 0 k)

/-- What a grid point adds to the gradient in the gain. -/
def part (x d : Vec Ideal S256x2048 .f32) (q : Fin 2048) : EReal :=
  ∑ p : Fin 256, d (ix2 p q) * (x (ix2 p q) * Ideal.rsqrt (power (line x p)))

theorem pay3_at (x : Vec Ideal S256x2048 .f32) (p : Fin 256) :
    k0_pay3 (F := Ideal) x (ix2 p 0) = Ideal.rsqrt (power (line x p)) := by
  pointwise [k0_pay3]
  rfl

theorem pay5_at (x d r : Vec Ideal S256x2048 .f32) (g : Vec Ideal S1x2048 .f32) (p : Fin 256) (q : Fin 2048) :
    k0_pay5 (F := Ideal) x d g r (ix2 p q) = byProjection (line x p) (scaled d g p) (r (ix2 p q)) q := by
  pointwise [k0_pay5, k0_pay4]
  rw [pay3_at]
  rfl

theorem pay1_at (x d : Vec Ideal S256x2048 .f32) (u : Vec Ideal S1x2048 .f32) (q : Fin 2048) :
    k0_pay1 (F := Ideal) (k0_pay4 (F := Ideal) x) d u (ix2 0 q) = u (ix2 0 q) + part x d q := by
  pointwise [k0_pay1, k0_pay4]
  simp only [pay3_at]
  rfl

theorem pay2_at (q : Fin 2048) : k0_pay2 (F := Ideal) (ix2 0 q) = 0 := by
  pointwise [k0_pay2]

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole)
  (x0 : Vec Ideal S256x2048 .f32) (x1 : Vec Ideal S1x2048 .f32) (x2 x3 : Vec Ideal S256x2048 .f32) (u : Vec Ideal S1x2048 .f32) (p : Fin 256) (q : Fin 2048)

theorem firstRows (hc0 : cond0_0 i) :
    out0_A_4 c i arg1 harg1 arg2 harg2 arg3 harg3 arg4 harg4 arg5 harg5 arg6 harg6 arg7 harg7 hc0 x0 x1 x2 x3 (ix2 p q)
      = byProjection (line x0 p) (scaled x2 x1 p) (x3 (ix2 p q)) q := by
  refine Eq.trans (b := k0_pay5 (F := Ideal) x0 x2 x1 x3 (ix2 p q)) ?_ (pay5_at x0 x2 x3 x1 p q)
  frame_out; try exact rfl

theorem nextRows (hc0 : ¬cond0_0 i) :
    out0_B_4 c i arg1 harg1 arg2 harg2 arg3 harg3 arg4 harg4 arg5 harg5 arg6 harg6 arg7 harg7 hc0 x0 x1 x2 x3 u (ix2 p q)
      = byProjection (line x0 p) (scaled x2 x1 p) (x3 (ix2 p q)) q := by
  refine Eq.trans (b := k0_pay5 (F := Ideal) x0 x2 x1 x3 (ix2 p q)) ?_ (pay5_at x0 x2 x3 x1 p q)
  frame_out; try exact rfl

theorem firstNarrow (hc0 : cond0_0 i) :
    out0_A_5 c i arg1 harg1 arg2 harg2 arg3 harg3 arg4 harg4 arg5 harg5 arg6 harg6 arg7 harg7 hc0 x0 x1 x2 x3 (ix2 p q)
      = byProjection (line x0 p) (scaled x2 x1 p) (x3 (ix2 p q)) q := by
  refine Eq.trans (b := k0_pay6 (F := Ideal) x0 x2 x1 x3 (ix2 p q)) ?_ (pay5_at x0 x2 x3 x1 p q)
  frame_out; try exact rfl

theorem nextNarrow (hc0 : ¬cond0_0 i) :
    out0_B_5 c i arg1 harg1 arg2 harg2 arg3 harg3 arg4 harg4 arg5 harg5 arg6 harg6 arg7 harg7 hc0 x0 x1 x2 x3 u (ix2 p q)
      = byProjection (line x0 p) (scaled x2 x1 p) (x3 (ix2 p q)) q := by
  refine Eq.trans (b := k0_pay6 (F := Ideal) x0 x2 x1 x3 (ix2 p q)) ?_ (pay5_at x0 x2 x3 x1 p q)
  frame_out; try exact rfl

theorem firstGain (hc0 : cond0_0 i) :
    out0_A_6 c i arg1 harg1 arg2 harg2 arg3 harg3 arg4 harg4 arg5 harg5 arg6 harg6 arg7 harg7 hc0 x0 x1 x2 x3 (ix2 0 q)
      = part x0 x2 q := by
  refine Eq.trans (b := k0_pay1 (F := Ideal) (k0_pay4 (F := Ideal) x0) x2 (k0_pay2 (F := Ideal)) (ix2 0 q)) ?_ ?_
  · frame_out; try exact rfl
  · rw [pay1_at, pay2_at, zero_add]

theorem nextGain (hc0 : ¬cond0_0 i) :
    out0_B_6 c i arg1 harg1 arg2 harg2 arg3 harg3 arg4 harg4 arg5 harg5 arg6 harg6 arg7 harg7 hc0 x0 x1 x2 x3 u (ix2 0 q)
      = u (ix2 0 q) + part x0 x2 q := by
  refine Eq.trans (b := k0_pay1 (F := Ideal) (k0_pay4 (F := Ideal) x0) x2 u (ix2 0 q)) ?_ (pay1_at x0 x2 u q)
  frame_out; try exact rfl

end Body

theorem idx_val : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- Row `n` of the whole array. -/
def row (n : ℕ) : Fin 4096 := ⟨n % 4096, Nat.mod_lt _ (by norm_num)⟩

section Arrays

variable (x d r : FVec Ideal S4096x2048 .f32) (g : FVec Ideal S2048 .f32)

/-- The gradient in the rows, and the gradient in the gain. -/
def rows (i : Fin 4096) (q : Fin 2048) : EReal :=
  byProjection (fun k => x (ix2 i k)) (fun k => d (ix2 i k) * g (ix1 k)) (r (ix2 i q)) q
def gain (q : Fin 2048) : EReal :=
  ∑ i : Fin 4096, d (ix2 i q) * (x (ix2 i q) * Ideal.rsqrt (power fun k => x (ix2 i k)))

theorem inv_at (p : Fin 4096) :
    val_main_v7 (F := Ideal) x (ix2 p 0) = Ideal.rsqrt (power fun k => x (ix2 p k)) := by
  pointwise [val_main_v7, val_main_v6, val_main_v5, val_main_v4, val_main_v3, val_main_v2, val_main_v1, val_main_v0, val_main_cst, val_main_cst_0, val_main_cst_1, val_main_cst_2]
  rfl

theorem half_at (p : Fin 4096) : val_main_v10 (F := Ideal) x (ix2 p 0)
    = mhalf * Ideal.div (Ideal.rsqrt (power fun k => x (ix2 p k))) (power fun k => x (ix2 p k)) := by
  pointwise [val_main_v10, val_main_v9, val_main_v8, val_main_v7, val_main_v6, val_main_v5, val_main_v4, val_main_v3, val_main_v2, val_main_v1, val_main_v0, val_main_cst, val_main_cst_0, val_main_cst_1, val_main_cst_2]
  rfl

theorem ref_rows : val_main_v36 (F := Ideal) x g d r = fun z : S4096x2048.Idx => rows x d r g (z 0) (z 1) := by
  funext z
  idx_vars z
  pointwise [val_main_v36, val_main_v35, val_main_v34, val_main_v33, val_main_v32, val_main_v31, val_main_v30, val_main_v29, val_main_v28, val_main_v27, val_main_v26, val_main_v25, val_main_v24, val_main_v23, val_main_v22, val_main_v20, val_main_v19, val_main_v13, val_main_cst_5, val_main_cst_6, val_main_cst_7]
  rw [inv_at]
  simp only [Fin.sum_univ_one, Fin.isValue]
  rw [half_at]
  exact (eq_terms (fun k => x (ix2 z0 k)) (fun k => d (ix2 z0 k) * g (ix1 k)) (r (ix2 z0 z1)) z1).symm

theorem ref_gain : val_main_v38 (F := Ideal) x d = fun z : S1x2048.Idx => gain x d (z 1) := by
  funext z
  idx_vars z
  obtain rfl : z0 = 0 := Subsingleton.elim _ _
  pointwise [val_main_v38, val_main_v21, val_main_v18, val_main_v17, val_main_v16, val_main_v12, val_main_v11, val_main_cst_3, val_main_cst_4]
  simp only [inv_at]
  rw [Fin.sum_univ_one]
  exact Finset.sum_congr rfl fun k _ => mul_comm _ _

end Arrays

variable (m : (ℓ : Loc nD τ sig) → Buf (Elt Ideal) ℓ) (c : Dev nD)

abbrev X : FVec Ideal S4096x2048 .f32 := m ((c : Thread nD τ).loc main_arg0)
abbrev G : FVec Ideal S2048 .f32 := m ((c : Thread nD τ).loc main_arg1)
abbrev D : FVec Ideal S4096x2048 .f32 := m ((c : Thread nD τ).loc main_arg2)
abbrev R : FVec Ideal S4096x2048 .f32 := m ((c : Thread nD τ).loc main_arg3)

theorem V1 : V m c main_v0 = shapeCast S1x2048 (G m c) shapeCasts_S2048_S1x2048 := by entry_read; rfl

theorem blk0 (t : Fin cfg0.N) (p : Fin 256) (k : Fin 2048) :
    iblk m c 0 t (ix2 p k) = X m c (ix2 (row (t.val * 256 + p.val)) k) := by
  have : t.val < 16 := t.isLt
  blk_point [iblk, V, idx_val t, row]
theorem blk1 (t : Fin cfg0.N) (k : Fin 2048) : iblk m c 1 t (ix2 0 k) = G m c (ix1 k) := by
  have e : iblk m c 1 t (ix2 0 k) = V m c main_v0 (ix2 0 k) := by blk_point [iblk, idx_val t]
  rw [e, V1]
  pointwise
theorem blk2 (t : Fin cfg0.N) (p : Fin 256) (k : Fin 2048) :
    iblk m c 2 t (ix2 p k) = D m c (ix2 (row (t.val * 256 + p.val)) k) := by
  blk_point [iblk, V, idx_val t, row]
theorem blk3 (t : Fin cfg0.N) (p : Fin 256) (k : Fin 2048) :
    iblk m c 3 t (ix2 p k) = R m c (ix2 (row (t.val * 256 + p.val)) k) := by
  blk_point [iblk, V, idx_val t, row]

theorem rows_at (t : Fin cfg0.N) (p : Fin 256) (q : Fin 2048) :
    byProjection (line (iblk m c 0 t) p) (scaled (iblk m c 2 t) (iblk m c 1 t) p) (iblk m c 3 t (ix2 p q)) q
      = rows (X m c) (D m c) (R m c) (G m c) (row (t.val * 256 + p.val)) q := by
  have e0 : line (iblk m c 0 t) p = fun k => X m c (ix2 (row (t.val * 256 + p.val)) k) := funext fun k => blk0 m c t p k
  have e2 : scaled (iblk m c 2 t) (iblk m c 1 t) p = fun k => D m c (ix2 (row (t.val * 256 + p.val)) k) * G m c (ix1 k) :=
    funext fun k => congrArg₂ (· * ·) (blk2 m c t p k) (blk1 m c t k)
  rw [e0, e2, blk3]
  rfl

theorem part_at (t : Fin cfg0.N) (q : Fin 2048) :
    part (iblk m c 0 t) (iblk m c 2 t) q = ∑ p : Fin 256, D m c (ix2 (row (t.val * 256 + p.val)) q)
      * (X m c (ix2 (row (t.val * 256 + p.val)) q) * Ideal.rsqrt (power fun k => X m c (ix2 (row (t.val * 256 + p.val)) k))) := by
  refine Finset.sum_congr rfl fun p _ => ?_
  have e0 : line (iblk m c 0 t) p = fun k => X m c (ix2 (row (t.val * 256 + p.val)) k) := funext fun k => blk0 m c t p k
  rw [e0, blk0, blk2]

theorem out_rows (t : Fin cfg0.N) (p : Fin 256) (q : Fin 2048) :
    (outsAt0 m c t.val t.isLt).1 (ix2 p q) = rows (X m c) (D m c) (R m c) (G m c) (row (t.val * 256 + p.val)) q := by
  by_cases h : t.val % 16 = 0
  · rw [outsAt0_A m c t h]; dsimp only; rw [firstRows, rows_at]
  · rw [outsAt0_B m c t h]; dsimp only; rw [nextRows, rows_at]

theorem out_narrow (t : Fin cfg0.N) (p : Fin 256) (q : Fin 2048) :
    (outsAt0 m c t.val t.isLt).2.1 (ix2 p q) = rows (X m c) (D m c) (R m c) (G m c) (row (t.val * 256 + p.val)) q := by
  by_cases h : t.val % 16 = 0
  · rw [outsAt0_A m c t h]; dsimp only; rw [firstNarrow, rows_at]
  · rw [outsAt0_B m c t h]; dsimp only; rw [nextNarrow, rows_at]

/-- The last point leaves the gradient in the gain. -/
theorem out_gain (t : Fin cfg0.N) (ht : t.val % 16 = 15) (q : Fin 2048) :
    (outsAt0 m c t.val t.isLt).2.2 (ix2 0 q) = gain (X m c) (D m c) q := by
  have later : ∀ n (h : n < cfg0.N), n % 16 ≠ 0 → (outsAt0 m c n h).2.2 (ix2 0 q)
      = (outsAt0 m c (n - 1) (by omega)).2.2 (ix2 0 q) + ∑ p : Fin 256, D m c (ix2 (row (n % 16 * 256 + p.val)) q)
        * (X m c (ix2 (row (n % 16 * 256 + p.val)) q) * Ideal.rsqrt (power fun k => X m c (ix2 (row (n % 16 * 256 + p.val)) k))) := by
    intro n h h0
    have hn : n % 16 = n := Nat.mod_eq_of_lt h
    refine (congrArg (fun o => o.2.2 (ix2 0 q)) (outsAt0_B m c ⟨n, h⟩ h0)).trans ?_
    dsimp only
    rw [nextGain, part_at, hn]
  refine (Cert.Blocks.last_eq (K := 16) (B := 256) (N := cfg0.N) (by norm_num)
    (fun n h => (outsAt0 m c n h).2.2 (ix2 0 q)) (fun n h => (outsAt0 m c n h).2.2 (ix2 0 q))
    (fun j i => D m c (ix2 (row i) q) * (X m c (ix2 (row i) q) * Ideal.rsqrt (power fun k => X m c (ix2 (row i) k))))
    (fun n h h0 => ?_) (fun n h h0 h1 => later n h h0) (fun n h h1 => later n h (by omega)) t.val t.isLt ht).trans ?_
  · have hn : n = 0 := (Nat.mod_eq_of_lt (show n < 16 from h)).symm.trans h0
    subst hn
    refine (congrArg (fun o => o.2.2 (ix2 0 q)) (outsAt0_A m c ⟨0, h⟩ h0)).trans ?_
    dsimp only
    rw [firstGain, part_at]
    simp only [Nat.zero_mul, Nat.zero_add]
  · refine Finset.sum_congr rfl fun i _ => ?_
    have e : row i.val = i := Fin.ext (Nat.mod_eq_of_lt i.isLt)
    rw [e]

theorem row_eq (t : Fin cfg0.N) (p : Fin 256) (i : Fin 4096) (hi : i.val = t.val * 256 + p.val) : row (t.val * 256 + p.val) = i :=
  Fin.ext ((Nat.mod_eq_of_lt (hi ▸ i.isLt)).trans hi.symm)

theorem final_4 : (dats m 0 c).arrAt 4 (cfgs 0).N = fun z : S4096x2048.Idx => rows (X m c) (D m c) (R m c) (G m c) (z 0) (z 1) := by
  refine (dats m 0 c).arrAt_eq_of_covers 4 _ (by decide +kernel) fun t hf y => ?_
  blk_simp; rw [after0_4]
  idx_vars y
  rw [out_rows m c t y0 y1]
  refine congrArg₂ _ (row_eq t y0 _ ?_) (Fin.ext ?_)
  · blk_simp; simp [idx_val t]
  · blk_simp; simp [idx_val t]

theorem final_5 : (dats m 0 c).arrAt 5 (cfgs 0).N = fun z : S4096x2048.Idx => rows (X m c) (D m c) (R m c) (G m c) (z 0) (z 1) := by
  refine (dats m 0 c).arrAt_eq_of_covers 5 _ (by decide +kernel) fun t hf y => ?_
  blk_simp; rw [after0_5]
  idx_vars y
  rw [out_narrow m c t y0 y1]
  refine congrArg₂ _ (row_eq t y0 _ ?_) (Fin.ext ?_)
  · blk_simp; simp [idx_val t]
  · blk_simp; simp [idx_val t]

theorem final_6 : (dats m 0 c).arrAt 6 (cfgs 0).N = fun z : S1x2048.Idx => gain (X m c) (D m c) (z 1) := by
  refine (dats m 0 c).arrAt_eq_of_covers 6 _ (by decide +kernel) fun t hf y => ?_
  blk_simp; rw [after0_6]
  idx_vars y
  obtain rfl : y0 = 0 := Subsingleton.elim _ _
  rw [out_gain m c t ((flush0_6 t).mp hf) y1]
  refine congrArg _ (Fin.ext ?_)
  blk_simp; simp [idx_val t]

theorem algebraic : Cert.algebraic_Kernel22Ideal_Reference22Ideal := by
  intro m g m' g' _ hargs
  refine ⟨fun c z => rows (X m c) (D m c) (R m c) (G m c) (z 0) (z 1), fun c z => rows (X m c) (D m c) (R m c) (G m c) (z 0) (z 1),
    fun c z => gain (X m c) (D m c) (z 1), ?_, ?_⟩
  · refine (θ_run defs _ _).mono (fun r h c => ?_) (run_blocks (F := Ideal) m g)
    obtain ⟨e4, e5, e6, k⟩ := h c
    exact ⟨e4.trans (final_4 m c), e5.trans (final_5 m c), e6.trans (final_6 m c), k⟩
  · refine (θ_run Cert.Reference22Ideal.defs _ _).mono (fun r h c => ?_) (Cert.Reference22Ideal.Value.run (F := Ideal) m' g')
    obtain ⟨e4, e5, e6, k⟩ := h c
    obtain ⟨a0, a1, a2, a3⟩ := hargs c
    refine ⟨e4.trans ?_, e5.trans ?_, e6.trans ?_, k⟩
    · rw [val_main_v36_eq, a0, a1, a2, a3]; exact ref_rows _ _ _ _
    · rw [val_main_v37_eq, a0, a1, a2, a3]; exact ref_rows _ _ _ _
    · rw [val_main_v38_eq, a0, a2]; exact ref_gain _ _

end Cert.NormBwd

end
-- ==== Proof.NormFwd.lean ====
module

public import proofs.«01_k».proof.Defs
public import proofs.«01_k».proof.Proof.Gen.Reference23Ideal.Run
public import proofs.«01_k».proof.Proof.Gen.Reference23Ideal.Read
public import proofs.«01_k».proof.Proof.Gen.Kernel23Ideal.Value
public import proofs.«01_k».proof.Proof.NormSpec
public import Idealize.ShloMosaic.Lib.Pipeline.ValueKit
public import Idealize.ShloMosaic.Lib.Pointwise
public import Idealize.ShloMosaic.Lib.Claim

/-! The RMS norm: a grid point takes a block of 256 rows, divides them by the roots of their powers and scales them. -/

@[expose] public section

set_option maxRecDepth 16384

noncomputable section

namespace Cert.NormFwd

open Cert.Kernel23Ideal Cert.Kernel23Ideal.Gen Cert.Kernel23Ideal.Value Cert.Reference23Ideal.Read Cert.NormSpec
open Idealize.ShloMosaic Idealize.ShloMosaic.TcCoe Idealize.SL.Sem

/-- A row divided by the root of its power and scaled. -/
def normed (x g : Fin 2048 → EReal) (q : Fin 2048) : EReal := x q * Ideal.rsqrt (power x) * g q

theorem pay1_at (x : Vec Ideal S256x2048 .f32) (g : Vec Ideal S1x2048 .f32) (p : Fin 256) (q : Fin 2048) :
    k0_pay1 (F := Ideal) x g (ix2 p q) = normed (fun k => x (ix2 p k)) (fun k => g (ix2 0 k)) q := by
  pointwise [k0_pay1]
  rfl

theorem idx_val : ∀ t : Fin cfg0.N, win0_0.index t = ![t.val, 0] ∧ win0_1.index t = ![0, 0] ∧ win0_2.index t = ![t.val, 0] :=
  (by decide +kernel : ∀ t : Fin grid0.N, _)

/-- Row `p` of step `t`'s block in the whole array. -/
def row (t : Fin cfg0.N) (p : Fin 256) : Fin 4096 :=
  ⟨t.val * 256 + p.val, by have : t.val < 16 := t.isLt; omega⟩

/-- The norm of every row. -/
def rows (x : FVec Ideal S4096x2048 .f32) (g : FVec Ideal S2048 .f32) : FVec Ideal S4096x2048 .bf16 := fun z =>
  normed (fun k => x (ix2 (z 0) k)) (fun k => g (ix1 k)) (z 1)

theorem ref_rows (x : FVec Ideal S4096x2048 .f32) (g : FVec Ideal S2048 .f32) : val_main_v13 (F := Ideal) x g = rows x g := by
  funext z
  idx_vars z
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

variable (m : (ℓ : Loc nD τ sig) → Buf (Elt Ideal) ℓ) (c : Dev nD)

abbrev X : FVec Ideal S4096x2048 .f32 := m ((c : Thread nD τ).loc main_arg0)
abbrev G : FVec Ideal S2048 .f32 := m ((c : Thread nD τ).loc main_arg1)

theorem V1 : V m c main_v0 = shapeCast S1x2048 (G m c) shapeCasts_S2048_S1x2048 := by entry_read; rfl

theorem blk0 (t : Fin cfg0.N) (p : Fin 256) (k : Fin 2048) : iblk m c 0 t (ix2 p k) = X m c (ix2 (row t p) k) := by
  blk_point [iblk, V, idx_val t, row]
theorem blk1 (t : Fin cfg0.N) (k : Fin 2048) : iblk m c 1 t (ix2 0 k) = G m c (ix1 k) := by
  have e : iblk m c 1 t (ix2 0 k) = V m c main_v0 (ix2 0 k) := by blk_point [iblk, idx_val t]
  rw [e, V1]
  pointwise

theorem out_at (x0 : Vec Ideal S256x2048 .f32) (x1 : Vec Ideal S1x2048 .f32) (p : Fin 256) (q : Fin 2048) :
    out0_2 (F := Ideal) x0 x1 (ix2 p q) = normed (fun k => x0 (ix2 p k)) (fun k => x1 (ix2 0 k)) q := by
  refine Eq.trans (b := k0_pay1 (F := Ideal) x0 x1 (ix2 p q)) ?_ (pay1_at x0 x1 p q)
  frame_out; try exact rfl

theorem final : (dats m 0 c).arrAt 2 (cfgs 0).N = rows (X m c) (G m c) := by
  refine (dats m 0 c).arrAt_eq_of_covers 2 _ (by decide +kernel) fun t hf y => ?_
  blk_simp; rw [after0_2]
  idx_vars y
  refine (out_at (iblk m c 0 t) (iblk m c 1 t) y0 y1).trans ?_
  have hy : (((View.whole main_v1).slice (win0_2.rect t)).emb (ix2 y0 y1)) = ix2 (row t y0) y1 := by
    blk_ext [idx_val t, row]
  rw [hy]
  refine congrArg₂ (fun x g => normed x g y1) (funext fun k => blk0 m c t y0 k) (funext fun k => blk1 m c t k)

theorem algebraic : Cert.algebraic_Kernel23Ideal_Reference23Ideal := by
  intro m g m' g' _ hargs
  refine ⟨fun c => rows (X m c) (G m c), ?_, ?_⟩
  · refine (θ_run defs _ _).mono (fun r h c => ?_) (run_blocks (F := Ideal) m g)
    obtain ⟨e, k⟩ := h c
    exact ⟨e.trans (final m c), k⟩
  · refine (θ_run Cert.Reference23Ideal.defs _ _).mono (fun r h c => ?_) (Cert.Reference23Ideal.Value.run (F := Ideal) m' g')
    obtain ⟨e, k⟩ := h c
    obtain ⟨a0, a1⟩ := hargs c
    refine ⟨e.trans ?_, k⟩
    rw [val_main_v13_eq, a0, a1]; exact ref_rows _ _

end Cert.NormFwd

end
-- ==== Proof.ConvFwd.lean ====
module

public import proofs.«01_k».proof.Defs
public import proofs.«01_k».proof.Proof.Gen.Reference24Ideal.Run
public import proofs.«01_k».proof.Proof.Gen.Reference24Ideal.Read
public import proofs.«01_k».proof.Proof.Gen.Kernel24Ideal.Value
public import proofs.«01_k».proof.Proof.ConvSpec
public import Idealize.ShloMosaic.Lib.Pipeline.ValueKit
public import Idealize.ShloMosaic.Lib.Pointwise
public import Idealize.ShloMosaic.Lib.Claim

/-! The gated convolution going forward: a grid point takes 128 columns of both halves, convolves each column of the two
with its three weights and its bias, and multiplies the value by the gate times its logistic. -/

@[expose] public section

set_option maxRecDepth 16384

noncomputable section

namespace Cert.ConvFwd

open Cert.Kernel24Ideal Cert.Kernel24Ideal.Gen Cert.Kernel24Ideal.Value Cert.Reference24Ideal.Read Cert.ConvAct
open Idealize.ShloMosaic Idealize.ShloMosaic.TcCoe Idealize.SL.Sem

section Body

/-- Column `l` of half `h` of a block, and its weights and bias. -/
def col (x : Vec Ideal S2x4096x128 .f32) (h : Fin 2) (l : Fin 128) (r : Fin 4096) : EReal := x (ix3 h r l)
def wts (w : Vec Ideal S2x3x128 .f32) (h : Fin 2) (l : Fin 128) (k : Fin 3) : EReal := w (ix3 h k l)

/-- The gate's convolution times its logistic times the value's convolution. -/
def gated (w w' : Fin 3 → EReal) (b b' : EReal) (u u' : Fin 4096 → EReal) (r : Fin 4096) : EReal :=
  conv w b u r * Ideal.logistic (conv w b u r) * conv w' b' u' r

variable (v : Vec Ideal S1x4096x128 .f32) (a a' d d' : FVec Ideal S4096x128 .f32) (b b' w w' : Vec Ideal S1x128 .f32)
  (r : Fin 4096) (l : Fin 128)

/-- A block rotated up by one row, at an entry. -/
theorem rot_up (h : S4096x128.Rotates 0 none) :
    dynamicRotate 0 4095#32 none a h (ix2 r l) = a (ix2 ⟨(r.val + 4096 - 4095) % 4096, Nat.mod_lt _ (by decide)⟩ l) := by
  rw [Pointwise.dynamicRotate_apply]
  refine congrArg a (funext fun b => ?_)
  have hb : b.val < 2 := b.isLt
  rcases b with ⟨b, _⟩
  interval_cases b
  · refine Fin.ext ?_
    show (r.val + 4096 - (4095 + 0) % 4096) % 4096 = (r.val + 4096 - 4095) % 4096
    rw [show (4095 + 0) % 4096 = 4095 from rfl]
  · rfl

/-- A column's choice between zero and the row after. -/
theorem up_at (h : S4096x128.Rotates 0 none) (hi) :
    select (cmpi .eq (iota .tc S4096x128 32 [0] hi) (broadcast S4096x128 4095#32))
      (broadcast S4096x128 (Scalar.ofBits (F := Ideal) .f32 0x00000000#32)) (dynamicRotate 0 4095#32 none a h) (ix2 r l)
      = next (fun r => a (ix2 r l)) r := by
  rw [ValueIdx.select_apply, rot_up]
  pointwise
  exact up_eq (fun r => a (ix2 r l)) r _

/-- A block rotated down by one row, at an entry. -/
theorem rot_down (h : S4096x128.Rotates 0 none) :
    dynamicRotate 0 1#32 none a h (ix2 r l) = a (ix2 ⟨(r.val + 4096 - 1) % 4096, Nat.mod_lt _ (by decide)⟩ l) := by
  rw [Pointwise.dynamicRotate_apply]
  refine congrArg a (funext fun b => ?_)
  have hb : b.val < 2 := b.isLt
  rcases b with ⟨b, _⟩
  interval_cases b
  · refine Fin.ext ?_
    show (r.val + 4096 - (1 + 0) % 4096) % 4096 = (r.val + 4096 - 1) % 4096
    rw [show (1 + 0) % 4096 = 1 from rfl]
  · rfl

/-- A column's choice between zero and the row before. -/
theorem down_at (h : S4096x128.Rotates 0 none) (hi) :
    select (cmpi .eq (iota .tc S4096x128 32 [0] hi) (broadcast S4096x128 0#32))
      (broadcast S4096x128 (Scalar.ofBits (F := Ideal) .f32 0x00000000#32)) (dynamicRotate 0 1#32 none a h) (ix2 r l)
      = prev (fun r => a (ix2 r l)) r := by
  rw [ValueIdx.select_apply, rot_down]
  pointwise
  exact down_eq (fun r => a (ix2 r l)) r _

theorem pay4_at : k0_pay4 (F := Ideal) v (ix2 r l) = next (fun r => v (ix3 0 r l)) r := by
  unfold k0_pay4
  refine (up_at _ r l _ _).trans ?_
  pointwise [k0_pay2]

theorem pay6_at : k0_pay6 (F := Ideal) v w w' (ix2 r l)
    = w (ix2 0 l) * prev (fun r => v (ix3 0 r l)) r + w' (ix2 0 l) * v (ix3 0 r l) := by
  unfold k0_pay6
  rw [ValueIdx.addf_apply, ValueIdx.mulf_apply, down_at]
  pointwise [k0_pay2]

theorem pay7_at : k0_pay7 (F := Ideal) a b d w (ix2 r l)
    = d (ix2 r l) + w (ix2 0 l) * a (ix2 r l) + b (ix2 0 l) := by
  pointwise [k0_pay7]

theorem pay9_at : k0_pay9 (F := Ideal) a w w' (ix2 r l)
    = w (ix2 0 l) * prev (fun r => a (ix2 r l)) r + w' (ix2 0 l) * a (ix2 r l) := by
  unfold k0_pay9
  rw [ValueIdx.addf_apply, ValueIdx.mulf_apply, down_at]
  pointwise

theorem pay10_at : k0_pay10 (F := Ideal) a w (ix2 r l) = w (ix2 0 l) * next (fun r => a (ix2 r l)) r := by
  unfold k0_pay10
  rw [ValueIdx.mulf_apply, up_at]
  pointwise

theorem pay1_at : k0_pay1 (F := Ideal) a b d d' (ix2 r l)
    = a (ix2 r l) * Ideal.logistic (a (ix2 r l)) * (d (ix2 r l) + d' (ix2 r l) + b (ix2 0 l)) := by
  pointwise [k0_pay1]

variable (x : Vec Ideal S2x4096x128 .f32) (y : Vec Ideal S2x3x128 .f32) (z : Vec Ideal S2x1x128 .f32)

theorem bias0 : k0_pay5 (F := Ideal) (View.ld z r0_2) (ix2 0 l) = z (ix3 0 0 l) := by pointwise [k0_pay5, r0_2]
theorem bias1 : k0_pay8 (F := Ideal) (View.ld z r0_7) (ix2 0 l) = z (ix3 1 0 l) := by pointwise [k0_pay8, r0_7]
theorem load0 : View.ld x r0_0 (ix3 0 r l) = col x 0 l r := by pointwise [r0_0]; rfl
theorem load1 : k0_pay11 (F := Ideal) x y z (ix2 r l) = col x 1 l r := by pointwise [k0_pay11, k0_pay3, r0_1]; rfl

/-- The three rows of weights of a half. -/
theorem weights0 (s : Vec Ideal S3x128 .f32) : (View.ld s r0_4 : Vec Ideal S1x128 .f32) (ix2 0 l) = s (ix2 0 l) ∧ (View.ld s r0_5 : Vec Ideal S1x128 .f32) (ix2 0 l) = s (ix2 1 l)
    ∧ (View.ld s r0_6 : Vec Ideal S1x128 .f32) (ix2 0 l) = s (ix2 2 l) := by
  refine ⟨?_, ?_, ?_⟩
  · pointwise [r0_4]
  · pointwise [r0_5]
  · pointwise [r0_6]

theorem half0 (k : Fin 3) : shapeCast S3x128 (View.ld y r0_3) squeezes_S1x3x128_S3x128.numel_eq (ix2 k l) = wts y 0 l k := by
  pointwise [r0_3]; rfl
theorem half1 (k : Fin 3) : shapeCast S3x128 (View.ld y r0_8) squeezes_S1x3x128_S3x128.numel_eq (ix2 k l) = wts y 1 l k := by
  pointwise [r0_8]; rfl

/-- What the body leaves in its block of the result. -/
theorem out_at : out0_3 x y z (ix2 r l)
    = gated (wts y 0 l) (wts y 1 l) (z (ix3 0 0 l)) (z (ix3 1 0 l)) (col x 0 l) (col x 1 l) r := by
  refine Eq.trans (b := k0_pay1 (F := Ideal)
    (k0_pay7 (k0_pay4 (View.ld x r0_0)) (k0_pay5 (View.ld z r0_2))
      (k0_pay6 (View.ld x r0_0) (View.ld (shapeCast S3x128 (View.ld y r0_3) squeezes_S1x3x128_S3x128.numel_eq) r0_4)
        (View.ld (shapeCast S3x128 (View.ld y r0_3) squeezes_S1x3x128_S3x128.numel_eq) r0_5))
      (View.ld (shapeCast S3x128 (View.ld y r0_3) squeezes_S1x3x128_S3x128.numel_eq) r0_6))
    (k0_pay8 (View.ld z r0_7))
    (k0_pay9 (k0_pay11 x y z) (View.ld (shapeCast S3x128 (View.ld y r0_8) squeezes_S1x3x128_S3x128.numel_eq) r0_4)
      (View.ld (shapeCast S3x128 (View.ld y r0_8) squeezes_S1x3x128_S3x128.numel_eq) r0_5))
    (k0_pay10 (k0_pay11 x y z) (View.ld (shapeCast S3x128 (View.ld y r0_8) squeezes_S1x3x128_S3x128.numel_eq) r0_6)) (ix2 r l)) ?_ ?_
  · frame_out; try exact rfl
  rw [pay1_at, pay7_at, pay6_at, pay4_at, pay9_at, pay10_at, bias0, bias1, (weights0 l _).1, (weights0 l _).2.1, (weights0 l _).2.2,
    (weights0 l _).1, (weights0 l _).2.1, (weights0 l _).2.2]
  have e : (fun r => View.ld x r0_0 (ix3 0 r l)) = col x 0 l := funext fun r => load0 r l x
  rw [e, load0, half0, half0, half0, half1, half1, half1]
  simp only [load1]
  rfl

end Body

theorem idx_val : ∀ t : Fin cfg0.N, win0_0.index t = ![0, 0, t.val] ∧ win0_1.index t = ![0, 0, t.val]
    ∧ win0_2.index t = ![0, 0, t.val] ∧ win0_3.index t = ![0, t.val] :=
  (by decide +kernel : ∀ t : Fin grid0.N, _)

/-- The whole array's column that column `l` of grid point `t` is. -/
def place (t : Fin cfg0.N) (l : Fin 128) : Fin 5632 :=
  ⟨t.val * 128 + l.val, by have : t.val < 44 := t.isLt; omega⟩

section Arrays

variable (x0 : FVec Ideal S2x4096x5632 .f32) (x1 : FVec Ideal S2x3x5632 .f32) (x2 : FVec Ideal S2x1x5632 .f32)

def result (z : S4096x5632.Idx) : EReal :=
  gated (fun k => x1 (ix3 0 k (z 1))) (fun k => x1 (ix3 1 k (z 1))) (x2 (ix3 0 0 (z 1))) (x2 (ix3 1 0 (z 1)))
    (fun r => x0 (ix3 0 r (z 1))) (fun r => x0 (ix3 1 r (z 1))) (z 0)

/-- The reference's two convolutions. -/
theorem v17_at (h : Fin 2) (r : Fin 4096) (l : Fin 5632) :
    val_main_v17 (F := Ideal) x0 x1 x2 (ix3 h r l)
      = conv (fun k => x1 (ix3 h k l)) (x2 (ix3 h 0 l)) (fun r => x0 (ix3 h r l)) r := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst]
  simp only [conv, prev, next, Nat.lt_one_iff, Nat.add_comm 1]
  rfl

theorem ref_eq : val_main_v24 (F := Ideal) x0 x1 x2 = result x0 x1 x2 := by
  funext z
  idx_vars z
  have h0 := v17_at x0 x1 x2 0 z0 z1
  have h1 := v17_at x0 x1 x2 1 z0 z1
  pointwise [val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24]
  rw [h0, h1]
  rfl

end Arrays

variable (m : (ℓ : Loc nD τ sig) → Buf (Elt Ideal) ℓ) (c : Dev nD)

abbrev U : FVec Ideal S2x4096x5632 .f32 := m ((c : Thread nD τ).loc main_arg0)
abbrev W : FVec Ideal S2x3x5632 .f32 := m ((c : Thread nD τ).loc main_arg1)
abbrev B : FVec Ideal S2x1x5632 .f32 := m ((c : Thread nD τ).loc main_arg2)

theorem blk0 (t : Fin cfg0.N) (h : Fin 2) (l : Fin 128) :
    col (iblk m c 0 t) h l = fun r => U m c (ix3 h r (place t l)) := by
  funext r
  unfold col
  blk_point [iblk, V, idx_val t, place]
theorem blk1 (t : Fin cfg0.N) (h : Fin 2) (l : Fin 128) :
    wts (iblk m c 1 t) h l = fun k => W m c (ix3 h k (place t l)) := by
  funext k
  unfold wts
  blk_point [iblk, V, idx_val t, place]
theorem blk2 (t : Fin cfg0.N) (h : Fin 2) (l : Fin 128) :
    iblk m c 2 t (ix3 h 0 l) = B m c (ix3 h 0 (place t l)) := by
  blk_point [iblk, V, idx_val t, place]

theorem final : (dats m 0 c).arrAt 3 (cfgs 0).N = result (U m c) (W m c) (B m c) := by
  refine (dats m 0 c).arrAt_eq_of_covers 3 _ (by decide +kernel) fun t hf y => ?_
  blk_simp; rw [after0_3]
  idx_vars y
  refine (out_at y0 y1 (iblk m c 0 t) (iblk m c 1 t) (iblk m c 2 t)).trans ?_
  have hy : (((View.whole main_v0).slice (win0_3.rect t)).emb (ix2 y0 y1)) = ix2 y0 (place t y1) := by
    blk_ext [idx_val t, place]
  rw [hy, blk0, blk0, blk1, blk1, blk2, blk2]
  rfl

theorem algebraic : Cert.algebraic_Kernel24Ideal_Reference24Ideal := by
  intro m g m' g' _ hargs
  refine ⟨fun c => result (U m c) (W m c) (B m c), ?_, ?_⟩
  · refine (θ_run defs _ _).mono (fun r h c => ?_) (run_blocks (F := Ideal) m g)
    obtain ⟨e, k⟩ := h c
    exact ⟨e.trans (final m c), k⟩
  · refine (θ_run Cert.Reference24Ideal.defs _ _).mono (fun r h c => ?_) (Cert.Reference24Ideal.Value.run (F := Ideal) m' g')
    obtain ⟨e, k⟩ := h c
    obtain ⟨a0, a1, a2⟩ := hargs c
    refine ⟨e.trans ?_, k⟩
    rw [val_main_v24_eq, a0, a1, a2]; exact ref_eq _ _ _

end Cert.ConvFwd

end
-- ==== Proof.LossHead.lean ====
module

public import proofs.«01_k».proof.Defs
public import proofs.«01_k».proof.Proof.Gen.Reference25Ideal.Run
public import proofs.«01_k».proof.Proof.Gen.Reference25Ideal.Read
public import proofs.«01_k».proof.Proof.Gen.Kernel25Ideal.Value
public import proofs.«01_k».proof.Proof.Blocks
public import proofs.«01_k».proof.Proof.NormSpec
public import Idealize.ShloMosaic.Lib.Pipeline.ValueKit
public import Idealize.ShloMosaic.Lib.Pointwise
public import Idealize.ShloMosaic.Lib.Claim

/-! The loss and its gradient: a grid point takes a block of 256 rows, norms and scales them, and from their differences to
the target writes the gradient in the rows, twice, the second narrowed; the gradient in the gain and the loss are added up
over the 16 points. -/

@[expose] public section

set_option maxRecDepth 16384

noncomputable section

namespace Cert.LossHead

open Cert.Kernel25Ideal Cert.Kernel25Ideal.Gen Cert.Kernel25Ideal.Value Cert.Reference25Ideal.Read Cert.NormSpec
open Idealize.ShloMosaic Idealize.ShloMosaic.TcCoe Idealize.SL.Sem

/-- One half, two and one part in 2048, as the programs write them. -/
abbrev half : EReal := Ideal.ofBits .f32 1056964608#32
abbrev two : EReal := Ideal.ofBits .f32 1073741824#32
abbrev part2048 : EReal := Ideal.ofBits .f32 973078528#32

theorem half_eq : half = ((1 / 2 : ℝ) : EReal) := by
  simp [half, Ideal.ofBits, Ideal.ieee]
  norm_cast; norm_num
theorem two_eq : two = ((2 : ℝ) : EReal) := by
  simp [two, Ideal.ofBits, Ideal.ieee]
  norm_cast; norm_num
theorem part2048_eq : part2048 = ((1 / 2048 : ℝ) : EReal) := by
  simp [part2048, Ideal.ofBits, Ideal.ieee]
  norm_cast; norm_num

/-- The difference of a row, normed and scaled, to its target. -/
def err (x g t : Fin 2048 → EReal) (q : Fin 2048) : EReal := x q * Ideal.rsqrt (power x) * g q - t q
/-- Its part in the gradient, which is the gradient arriving at the norm. -/
def slant (x g t : Fin 2048 → EReal) (q : Fin 2048) : EReal := err x g t q * part2048
/-- The gradient in the row. -/
def dx (x g t : Fin 2048 → EReal) (q : Fin 2048) : EReal := byProjection x (fun k => slant x g t k * g k) 0 q
/-- What the row adds to the gradient in the gain. -/
def dg (x g t : Fin 2048 → EReal) (q : Fin 2048) : EReal := slant x g t q * (x q * Ideal.rsqrt (power x))
/-- The mean of the squares of the differences. -/
def square (x g t : Fin 2048 → EReal) : EReal := Ideal.div (∑ k, err x g t k * err x g t k) width

theorem ref_slant (e : EReal) : Ideal.div half width * (two * e) = e * part2048 := by
  rw [div_width, half_eq, two_eq, part2048_eq, ← mul_assoc, ← EReal.coe_mul, ← EReal.coe_mul, mul_comm e]
  congr 2; norm_num

theorem half_sum {n : ℕ} (f : Fin n → EReal) : half * ∑ i, f i = ∑ i, half * f i := by
  rw [half_eq, mul_comm, ← mul_sum _ (by norm_num)]
  exact Finset.sum_congr rfl fun i _ => mul_comm _ _

section Body

/-- Row `p` of a block, and the row of the gain. -/
def line (x : Vec Ideal S256x2048 .f32) (p : Fin 256) (k : Fin 2048) : EReal := x (ix2 p k)
def scale (g : Vec Ideal S1x2048 .f32) (k : Fin 2048) : EReal := g (ix2 0 k)

theorem pay6_at (x : Vec Ideal S256x2048 .f32) (p : Fin 256) : k0_pay6 (F := Ideal) x (ix2 p 0) = Ideal.rsqrt (power (line x p)) := by
  pointwise [k0_pay6]
  rfl

variable (x t : Vec Ideal S256x2048 .f32) (g : Vec Ideal S1x2048 .f32) (p : Fin 256) (q : Fin 2048)

theorem pay9_at (u : Vec Ideal S1x1 .f32) : k0_pay9 (F := Ideal) x g t u (ix2 0 0)
    = u (ix2 0 0) + ∑ p : Fin 256, half * square (line x p) (scale g) (line t p) := by
  pointwise [k0_pay9, k0_pay8, k0_pay7]
  simp only [pay6_at]
  rw [← half_sum]
  rfl

theorem pay7_at : k0_pay7 (F := Ideal) x (ix2 p q) = x (ix2 p q) * Ideal.rsqrt (power (line x p)) := by
  pointwise [k0_pay7]
  rw [pay6_at]

theorem pay10_at : k0_pay10 (F := Ideal) x g t (ix2 p q) = slant (line x p) (scale g) (line t p) q := by
  pointwise [k0_pay10, k0_pay8, k0_pay7]
  rw [pay6_at]
  rfl

theorem pay1_at : k0_pay1 (F := Ideal) (k0_pay6 x) (k0_pay7 x) (k0_pay10 x g t) g (ix2 p q) = dx (line x p) (scale g) (line t p) q := by
  pointwise [k0_pay1]
  simp only [pay6_at, pay7_at, pay10_at]
  exact (zero_add _).symm

theorem pay3_at (u : Vec Ideal S1x2048 .f32) : k0_pay3 (F := Ideal) (k0_pay7 x) (k0_pay10 x g t) u (ix2 0 q)
    = u (ix2 0 q) + ∑ p : Fin 256, dg (line x p) (scale g) (line t p) q := by
  pointwise [k0_pay3]
  simp only [pay7_at, pay10_at]
  rfl

theorem pay4_at : k0_pay4 (F := Ideal) (ix2 0 q) = 0 := by
  pointwise [k0_pay4]
theorem pay5_at : k0_pay5 (F := Ideal) (ix2 0 0) = 0 := by
  pointwise [k0_pay5]

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S1x1 .f32) (harg7 : arg7.IsWhole)
  (u : Vec Ideal S1x2048 .f32) (l : Vec Ideal S1x1 .f32)

theorem firstRows (hc0 : cond0_0 i) : out0_A_3 c i arg1 harg1 arg2 harg2 arg3 harg3 arg4 harg4 arg5 harg5 arg6 harg6 arg7 harg7 hc0 x g t (ix2 p q) = dx (line x p) (scale g) (line t p) q := by
  refine Eq.trans (b := k0_pay1 (F := Ideal) (k0_pay6 x) (k0_pay7 x) (k0_pay10 x g t) g (ix2 p q)) ?_ (pay1_at x t g p q)
  frame_out; try exact rfl

theorem firstNarrow (hc0 : cond0_0 i) : out0_A_4 c i arg1 harg1 arg2 harg2 arg3 harg3 arg4 harg4 arg5 harg5 arg6 harg6 arg7 harg7 hc0 x g t (ix2 p q) = dx (line x p) (scale g) (line t p) q := by
  refine Eq.trans (b := k0_pay2 (F := Ideal) (k0_pay6 x) (k0_pay7 x) (k0_pay10 x g t) g (ix2 p q)) ?_ (pay1_at x t g p q)
  frame_out; try exact rfl

theorem nextRows (hc0 : ¬cond0_0 i) : out0_B_3 c i arg1 harg1 arg2 harg2 arg3 harg3 arg4 harg4 arg5 harg5 arg6 harg6 arg7 harg7 hc0 x g t u l (ix2 p q) = dx (line x p) (scale g) (line t p) q := by
  refine Eq.trans (b := k0_pay1 (F := Ideal) (k0_pay6 x) (k0_pay7 x) (k0_pay10 x g t) g (ix2 p q)) ?_ (pay1_at x t g p q)
  frame_out; try exact rfl

theorem nextNarrow (hc0 : ¬cond0_0 i) : out0_B_4 c i arg1 harg1 arg2 harg2 arg3 harg3 arg4 harg4 arg5 harg5 arg6 harg6 arg7 harg7 hc0 x g t u l (ix2 p q) = dx (line x p) (scale g) (line t p) q := by
  refine Eq.trans (b := k0_pay2 (F := Ideal) (k0_pay6 x) (k0_pay7 x) (k0_pay10 x g t) g (ix2 p q)) ?_ (pay1_at x t g p q)
  frame_out; try exact rfl

theorem firstGain (hc0 : cond0_0 i) : out0_A_5 c i arg1 harg1 arg2 harg2 arg3 harg3 arg4 harg4 arg5 harg5 arg6 harg6 arg7 harg7 hc0 x g t (ix2 0 q) = ∑ p : Fin 256, dg (line x p) (scale g) (line t p) q := by
  refine Eq.trans (b := k0_pay3 (F := Ideal) (k0_pay7 x) (k0_pay10 x g t) (k0_pay4 (F := Ideal)) (ix2 0 q)) ?_ ?_
  · frame_out; try exact rfl
  · rw [pay3_at, pay4_at, zero_add]

theorem nextGain (hc0 : ¬cond0_0 i) : out0_B_5 c i arg1 harg1 arg2 harg2 arg3 harg3 arg4 harg4 arg5 harg5 arg6 harg6 arg7 harg7 hc0 x g t u l (ix2 0 q) = u (ix2 0 q) + ∑ p : Fin 256, dg (line x p) (scale g) (line t p) q := by
  refine Eq.trans (b := k0_pay3 (F := Ideal) (k0_pay7 x) (k0_pay10 x g t) u (ix2 0 q)) ?_ (pay3_at x t g q u)
  frame_out; try exact rfl

theorem firstLoss (hc0 : cond0_0 i) : out0_A_6 c i arg1 harg1 arg2 harg2 arg3 harg3 arg4 harg4 arg5 harg5 arg6 harg6 arg7 harg7 hc0 x g t (ix2 0 0) = ∑ p : Fin 256, half * square (line x p) (scale g) (line t p) := by
  refine Eq.trans (b := k0_pay9 (F := Ideal) x g t (k0_pay5 (F := Ideal)) (ix2 0 0)) ?_ ?_
  · frame_out; try exact rfl
  · rw [pay9_at, pay5_at, zero_add]

theorem nextLoss (hc0 : ¬cond0_0 i) : out0_B_6 c i arg1 harg1 arg2 harg2 arg3 harg3 arg4 harg4 arg5 harg5 arg6 harg6 arg7 harg7 hc0 x g t u l (ix2 0 0) = l (ix2 0 0) + ∑ p : Fin 256, half * square (line x p) (scale g) (line t p) := by
  refine Eq.trans (b := k0_pay9 (F := Ideal) x g t l (ix2 0 0)) ?_ (pay9_at x t g l)
  frame_out; try exact rfl

end Body

theorem idx_val : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

/-- Row `n` of the whole array. -/
def row (n : ℕ) : Fin 4096 := ⟨n % 4096, Nat.mod_lt _ (by norm_num)⟩

section Arrays

variable (x t : FVec Ideal S4096x2048 .f32) (g : FVec Ideal S2048 .f32)

/-- The gradient in the rows, the gradient in the gain, and the loss. -/
def rows (i : Fin 4096) (q : Fin 2048) : EReal := dx (fun k => x (ix2 i k)) (fun k => g (ix1 k)) (fun k => t (ix2 i k)) q
def gain (q : Fin 2048) : EReal := ∑ i : Fin 4096, dg (fun k => x (ix2 i k)) (fun k => g (ix1 k)) (fun k => t (ix2 i k)) q
def loss : EReal := ∑ i : Fin 4096, half * square (fun k => x (ix2 i k)) (fun k => g (ix1 k)) (fun k => t (ix2 i k))

theorem inv_at (p : Fin 4096) :
    val_main_v7 (F := Ideal) x (ix2 p 0) = Ideal.rsqrt (power fun k => x (ix2 p k)) := by
  pointwise [val_main_v7, val_main_v6, val_main_v5, val_main_v4, val_main_v3, val_main_v2, val_main_v1, val_main_v0, val_main_cst, val_main_cst_0, val_main_cst_1]
  rfl

theorem half_at (p : Fin 4096) : val_main_v10 (F := Ideal) x (ix2 p 0)
    = mhalf * Ideal.div (Ideal.rsqrt (power fun k => x (ix2 p k))) (power fun k => x (ix2 p k)) := by
  pointwise [val_main_v10, val_main_v9, val_main_v8, val_main_v7, val_main_v6, val_main_v5, val_main_v4, val_main_v3, val_main_v2, val_main_v1, val_main_v0, val_main_cst, val_main_cst_0, val_main_cst_1, val_main_cst_2]
  rfl

theorem err_at (p : Fin 4096) (q : Fin 2048) : val_main_v16 (F := Ideal) x g t (ix2 p q)
    = err (fun k => x (ix2 p k)) (fun k => g (ix1 k)) (fun k => t (ix2 p k)) q := by
  pointwise [val_main_v16, val_main_v15, val_main_v14, val_main_v13, val_main_v12, val_main_v11]
  rw [inv_at]
  rfl

theorem slant_at (p : Fin 4096) (q : Fin 2048) : val_main_v30 (F := Ideal) x g t (ix2 p q)
    = slant (fun k => x (ix2 p k)) (fun k => g (ix1 k)) (fun k => t (ix2 p k)) q := by
  pointwise [val_main_v30, val_main_v29, val_main_v28, val_main_v27, val_main_v26, val_main_v25, val_main_v19, val_main_v18, val_main_cst_3, val_main_cst_8, val_main_cst_9, val_main_cst_10]
  rw [err_at]
  exact ref_slant _

theorem ref_rows : val_main_v50 (F := Ideal) x g t = fun z : S4096x2048.Idx => rows x t g (z 0) (z 1) := by
  funext z
  idx_vars z
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_cst_13, val_main_cst_14, val_main_cst_15]
  rw [inv_at]
  simp only [Fin.sum_univ_one, Fin.isValue, slant_at]
  rw [half_at]
  exact (add_zero _).symm.trans (eq_terms (fun k => x (ix2 z0 k)) (fun k => slant (fun k => x (ix2 z0 k)) (fun k => g (ix1 k)) (fun k => t (ix2 z0 k)) k * g (ix1 k)) 0 z1).symm

theorem ref_gain : val_main_v52 (F := Ideal) x g t = fun z : S1x2048.Idx => gain x t g (z 1) := by
  funext z
  idx_vars z
  obtain rfl : z0 = 0 := Subsingleton.elim _ _
  pointwise [val_main_v52, val_main_v36, val_main_v33, val_main_v32, val_main_v31, val_main_v12, val_main_v11, val_main_cst_11, val_main_cst_12]
  simp only [inv_at, slant_at]
  rw [Fin.sum_univ_one]
  exact Finset.sum_congr rfl fun k _ => mul_comm _ _

theorem ref_loss : val_main_v53 (F := Ideal) x g t = fun _ : S1x1.Idx => loss x t g := by
  funext z
  idx_vars z
  obtain rfl : z0 = 0 := Subsingleton.elim _ _
  obtain rfl : z1 = 0 := Subsingleton.elim _ _
  pointwise [val_main_v53, val_main_v24, val_main_v23, val_main_v22, val_main_v21, val_main_v20, val_main_v17, val_main_cst_4, val_main_cst_5, val_main_cst_6, val_main_cst_7]
  simp only [err_at]
  exact half_sum _

end Arrays

variable (m : (ℓ : Loc nD τ sig) → Buf (Elt Ideal) ℓ) (c : Dev nD)

abbrev X : FVec Ideal S4096x2048 .f32 := m ((c : Thread nD τ).loc main_arg0)
abbrev G : FVec Ideal S2048 .f32 := m ((c : Thread nD τ).loc main_arg1)
abbrev T : FVec Ideal S4096x2048 .f32 := m ((c : Thread nD τ).loc main_arg2)

theorem V1 : V m c main_v0 = shapeCast S1x2048 (G m c) shapeCasts_S2048_S1x2048 := by entry_read; rfl

theorem blk0 (t : Fin cfg0.N) (p : Fin 256) : line (iblk m c 0 t) p = fun k => X m c (ix2 (row (t.val * 256 + p.val)) k) := by
  have : t.val < 16 := t.isLt
  funext k
  unfold line
  blk_point [iblk, V, idx_val t, row]
theorem blk1 (t : Fin cfg0.N) : scale (iblk m c 1 t) = fun k => G m c (ix1 k) := by
  funext k
  have e : scale (iblk m c 1 t) k = V m c main_v0 (ix2 0 k) := by unfold scale; blk_point [iblk, idx_val t]
  rw [e, V1]
  pointwise
theorem blk2 (t : Fin cfg0.N) (p : Fin 256) : line (iblk m c 2 t) p = fun k => T m c (ix2 (row (t.val * 256 + p.val)) k) := by
  have : t.val < 16 := t.isLt
  funext k
  unfold line
  blk_point [iblk, V, idx_val t, row]

theorem out_rows (t : Fin cfg0.N) (p : Fin 256) (q : Fin 2048) :
    (outsAt0 m c t.val t.isLt).1 (ix2 p q) = rows (X m c) (T m c) (G m c) (row (t.val * 256 + p.val)) q := by
  by_cases h : t.val % 16 = 0
  · rw [outsAt0_A m c t h]; dsimp only; rw [firstRows, blk0, blk1, blk2]; rfl
  · rw [outsAt0_B m c t h]; dsimp only; rw [nextRows, blk0, blk1, blk2]; rfl

theorem out_narrow (t : Fin cfg0.N) (p : Fin 256) (q : Fin 2048) :
    (outsAt0 m c t.val t.isLt).2.1 (ix2 p q) = rows (X m c) (T m c) (G m c) (row (t.val * 256 + p.val)) q := by
  by_cases h : t.val % 16 = 0
  · rw [outsAt0_A m c t h]; dsimp only; rw [firstNarrow, blk0, blk1, blk2]; rfl
  · rw [outsAt0_B m c t h]; dsimp only; rw [nextNarrow, blk0, blk1, blk2]; rfl

/-- Values that every point adds a block of 256 terms to are at the last point the sum over all rows. -/
theorem total (s : (n : ℕ) → n < cfg0.N → EReal) (f : Fin 4096 → EReal)
    (first : ∀ h, s 0 h = ∑ p : Fin 256, f (row (0 * 256 + p.val)))
    (next : ∀ n h, n % 16 ≠ 0 → s n h = s (n - 1) (by omega) + ∑ p : Fin 256, f (row (n * 256 + p.val)))
    (t : Fin cfg0.N) (ht : t.val % 16 = 15) : s t.val t.isLt = ∑ i, f i := by
  have later : ∀ n (h : n < cfg0.N), n % 16 ≠ 0 → s n h = s (n - 1) (by omega) + ∑ p : Fin 256, f (row (n % 16 * 256 + p.val)) := by
    intro n h h0
    rw [Nat.mod_eq_of_lt (show n < 16 from h)]
    exact next n h h0
  refine (Cert.Blocks.last_eq (K := 16) (B := 256) (N := cfg0.N) (by norm_num) s s (fun _ i => f (row i))
    (fun n h h0 => ?_) (fun n h h0 h1 => later n h h0) (fun n h h1 => later n h (by omega)) t.val t.isLt ht).trans ?_
  · have hn : n = 0 := (Nat.mod_eq_of_lt (show n < 16 from h)).symm.trans h0
    subst hn
    simpa only [Nat.zero_mul, Nat.zero_add] using first h
  · refine Finset.sum_congr rfl fun i _ => ?_
    have e : row i.val = i := Fin.ext (Nat.mod_eq_of_lt i.isLt)
    rw [e]

/-- The last point leaves the gradient in the gain and the loss. -/
theorem out_gain (t : Fin cfg0.N) (ht : t.val % 16 = 15) (q : Fin 2048) :
    (outsAt0 m c t.val t.isLt).2.2.1 (ix2 0 q) = gain (X m c) (T m c) (G m c) q := by
  refine total (fun n h => (outsAt0 m c n h).2.2.1 (ix2 0 q)) _ (fun h => ?_) (fun n h h0 => ?_) t ht
  · refine (congrArg (fun o => o.2.2.1 (ix2 0 q)) (outsAt0_A m c ⟨0, h⟩ rfl)).trans ?_
    dsimp only
    rw [firstGain]
    simp only [blk0, blk1, blk2]
  · refine (congrArg (fun o => o.2.2.1 (ix2 0 q)) (outsAt0_B m c ⟨n, h⟩ h0)).trans ?_
    dsimp only
    rw [nextGain]
    simp only [blk0, blk1, blk2]

theorem out_loss (t : Fin cfg0.N) (ht : t.val % 16 = 15) :
    (outsAt0 m c t.val t.isLt).2.2.2 (ix2 0 0) = loss (X m c) (T m c) (G m c) := by
  refine total (fun n h => (outsAt0 m c n h).2.2.2 (ix2 0 0))
    (fun i => half * square (fun k => X m c (ix2 i k)) (fun k => G m c (ix1 k)) (fun k => T m c (ix2 i k))) (fun h => ?_) (fun n h h0 => ?_) t ht
  · refine (congrArg (fun o => o.2.2.2 (ix2 0 0)) (outsAt0_A m c ⟨0, h⟩ rfl)).trans ?_
    dsimp only
    rw [firstLoss]
    simp only [blk0, blk1, blk2]
  · refine (congrArg (fun o => o.2.2.2 (ix2 0 0)) (outsAt0_B m c ⟨n, h⟩ h0)).trans ?_
    dsimp only
    rw [nextLoss]
    simp only [blk0, blk1, blk2]

theorem row_eq (t : Fin cfg0.N) (p : Fin 256) (i : Fin 4096) (hi : i.val = t.val * 256 + p.val) : row (t.val * 256 + p.val) = i :=
  Fin.ext ((Nat.mod_eq_of_lt (hi ▸ i.isLt)).trans hi.symm)

theorem final_3 : (dats m 0 c).arrAt 3 (cfgs 0).N = fun z : S4096x2048.Idx => rows (X m c) (T m c) (G m c) (z 0) (z 1) := by
  refine (dats m 0 c).arrAt_eq_of_covers 3 _ (by decide +kernel) fun t hf y => ?_
  blk_simp; rw [after0_3]
  idx_vars y
  rw [out_rows m c t y0 y1]
  refine congrArg₂ _ (row_eq t y0 _ ?_) (Fin.ext ?_)
  · blk_simp; simp [idx_val t]
  · blk_simp; simp [idx_val t]

theorem final_4 : (dats m 0 c).arrAt 4 (cfgs 0).N = fun z : S4096x2048.Idx => rows (X m c) (T m c) (G m c) (z 0) (z 1) := by
  refine (dats m 0 c).arrAt_eq_of_covers 4 _ (by decide +kernel) fun t hf y => ?_
  blk_simp; rw [after0_4]
  idx_vars y
  rw [out_narrow m c t y0 y1]
  refine congrArg₂ _ (row_eq t y0 _ ?_) (Fin.ext ?_)
  · blk_simp; simp [idx_val t]
  · blk_simp; simp [idx_val t]

theorem final_5 : (dats m 0 c).arrAt 5 (cfgs 0).N = fun z : S1x2048.Idx => gain (X m c) (T m c) (G m c) (z 1) := by
  refine (dats m 0 c).arrAt_eq_of_covers 5 _ (by decide +kernel) fun t hf y => ?_
  blk_simp; rw [after0_5]
  idx_vars y
  obtain rfl : y0 = 0 := Subsingleton.elim _ _
  rw [out_gain m c t ((flush0_5 t).mp hf) y1]
  refine congrArg _ (Fin.ext ?_)
  blk_simp; simp [idx_val t]

theorem final_6 : (dats m 0 c).arrAt 6 (cfgs 0).N = fun _ : S1x1.Idx => loss (X m c) (T m c) (G m c) := by
  refine (dats m 0 c).arrAt_eq_of_covers 6 _ (by decide +kernel) fun t hf y => ?_
  blk_simp; rw [after0_6]
  idx_vars y
  obtain rfl : y0 = 0 := Subsingleton.elim _ _
  obtain rfl : y1 = 0 := Subsingleton.elim _ _
  exact out_loss m c t ((flush0_6 t).mp hf)

theorem algebraic : Cert.algebraic_Kernel25Ideal_Reference25Ideal := by
  intro m g m' g' _ hargs
  refine ⟨fun c z => rows (X m c) (T m c) (G m c) (z 0) (z 1), fun c z => rows (X m c) (T m c) (G m c) (z 0) (z 1),
    fun c z => gain (X m c) (T m c) (G m c) (z 1), fun c _ => loss (X m c) (T m c) (G m c), ?_, ?_⟩
  · refine (θ_run defs _ _).mono (fun r h c => ?_) (run_blocks (F := Ideal) m g)
    obtain ⟨e3, e4, e5, e6, k⟩ := h c
    exact ⟨e3.trans (final_3 m c), e4.trans (final_4 m c), e5.trans (final_5 m c), e6.trans (final_6 m c), k⟩
  · refine (θ_run Cert.Reference25Ideal.defs _ _).mono (fun r h c => ?_) (Cert.Reference25Ideal.Value.run (F := Ideal) m' g')
    obtain ⟨e3, e4, e5, e6, k⟩ := h c
    obtain ⟨a0, a1, a2⟩ := hargs c
    refine ⟨e3.trans ?_, e4.trans ?_, e5.trans ?_, e6.trans ?_, k⟩
    · rw [val_main_v50_eq, a0, a1, a2]; exact ref_rows _ _ _
    · rw [val_main_v51_eq, a0, a1, a2]; exact ref_rows _ _ _
    · rw [val_main_v52_eq, a0, a1, a2]; exact ref_gain _ _ _
    · rw [val_main_v53_eq, a0, a1, a2]; exact ref_loss _ _ _

end Cert.LossHead

end
-- ==== Proof.FwdTile.lean ====
module

public import proofs.«01_k».proof.Proof.Gen.Kernel26Ideal.Value
public import Idealize.ShloMosaic.Lib.Pipeline.ValueKit
public import Idealize.ShloMosaic.Lib.Pointwise

/-! One grid point of the attention's forward kernel: the running maxima, sums and accumulators of its four heads, formed in
pieces of sixteen rows. -/

@[expose] public section

set_option maxRecDepth 16384

noncomputable section

namespace Cert.Kernel26Ideal.Fwd

open Cert.Kernel26Ideal Cert.Kernel26Ideal.Gen Idealize.ShloMosaic Idealize.ShloMosaic.TcCoe Idealize.SL.Sem

/-- A row's value, held in 128 equal lanes, laid along 2048 lanes. -/
def lanes (v : FVec Ideal S16x128 .f32) : FVec Ideal S16x2048 .f32 :=
  concatenate S16x2048 1 [⟨S16x128, v⟩, ⟨S16x128, v⟩, ⟨S16x128, v⟩, ⟨S16x128, v⟩, ⟨S16x128, v⟩, ⟨S16x128, v⟩, ⟨S16x128, v⟩, ⟨S16x128, v⟩, ⟨S16x128, v⟩, ⟨S16x128, v⟩, ⟨S16x128, v⟩, ⟨S16x128, v⟩, ⟨S16x128, v⟩, ⟨S16x128, v⟩, ⟨S16x128, v⟩, ⟨S16x128, v⟩]
    concatenates_S16x128_S16x128_S16x128_S16x128_S16x128_S16x128_S16x128_S16x128_S16x128_S16x128_S16x128_S16x128_S16x128_S16x128_S16x128_S16x128_S16x2048_d1

theorem slices_piece (n : Fin 64) : S1024x2048.Slices ![16 * n.val, 0] S16x2048 :=
  ⟨rfl, fun a => by fin_cases a <;> simp [S16x2048, S1024x2048] <;> omega⟩

theorem inb_row (h : Fin 4) (n : Fin 64) : ∀ a, (![h.val, 16 * n.val, 0] : Fin 3 → Nat) a + S1x16x128.size a ≤ S4x1024x128.size a :=
  fun a => by fin_cases a <;> simp [S1x16x128, S4x1024x128] <;> omega

theorem inb_head (h : Fin 4) : ∀ a, (![0, 128 * h.val] : Fin 2 → Nat) a + S1024x128.size a ≤ S1024x512.size a :=
  fun a => by fin_cases a <;> simp [S1024x128, S1024x512] <;> omega

theorem inb_acc (h : Fin 4) : ∀ a, (![h.val, 0, 0] : Fin 3 → Nat) a + S1x1024x128.size a ≤ S4x1024x128.size a :=
  fun a => by fin_cases a <;> simp [S1x1024x128, S4x1024x128] <;> omega

/-- Rows `16 n … 16 n + 15` of head `h`, and all the rows of head `h`, in the carried arrays; head `h`'s lanes in a block. -/
abbrev rowRect (h : Fin 4) (n : Fin 64) : Rect S4x1024x128 := Rect.unit ![h.val, 16 * n.val, 0] S1x16x128.size (inb_row h n)
abbrev accRect (h : Fin 4) : Rect S4x1024x128 := Rect.unit ![h.val, 0, 0] S1x1024x128.size (inb_acc h)
abbrev headRect (h : Fin 4) : Rect S1024x512 := Rect.unit ![0, 128 * h.val] S1024x128.size (inb_head h)

/-- The scaled logits of sixteen rows. -/
def zRows (s : FVec Ideal S1024x2048 .f32) (n : Fin 64) : FVec Ideal S16x2048 .f32 :=
  mulf (extractStridedSlice S16x2048 ![16 * n.val, 0] s (slices_piece n)) (broadcast S16x2048 (Scalar.ofBits .f32 0x3DB504F3#32))

/-- The carried maxima of sixteen rows, and the new ones. -/
def prev (M : Vec Ideal S1x16x128 .f32) : FVec Ideal S16x128 .f32 := shapeCast S16x128 M shapeCasts_S1x16x128_S16x128
def newMax (s : FVec Ideal S1024x2048 .f32) (n : Fin 64) (M : Vec Ideal S1x16x128 .f32) : FVec Ideal S16x128 .f32 :=
  maximumf (prev M) (broadcastTo S16x128 (shapeCast S16x1
    (multiReduction .maximumf [1] S16 (zRows s n) 0xFF800000#32 reduces_S16x2048_S16 (.inl rfl) rfl) shapeCasts_S16_S16x1 : FVec Ideal S16x1 .f32)
    broadcasts_S16x1_S16x128)
def topPiece (s : FVec Ideal S1024x2048 .f32) (n : Fin 64) (M : Vec Ideal S1x16x128 .f32) : FVec Ideal S1x16x128 .f32 :=
  shapeCast S1x16x128 (newMax s n M) shapeCasts_S16x128_S1x16x128

/-- The exponentials of sixteen rows, and the factor that brings the carried sums to the new maxima. -/
def pRows (s : FVec Ideal S1024x2048 .f32) (n : Fin 64) (M : Vec Ideal S1x16x128 .f32) : FVec Ideal S16x2048 .bf16 :=
  truncf .bf16 (exp (subf (zRows s n) (lanes (newMax s n M)))) bitsLt_bf16_f32
def aRows (s : FVec Ideal S1024x2048 .f32) (n : Fin 64) (M : Vec Ideal S1x16x128 .f32) : FVec Ideal S16x128 .f32 :=
  exp (subf (prev M) (newMax s n M))

theorem concatenates_rows {e : EltTy} {a b : Shape} {d : Fin b.rank} (h : Shape.Concatenates (List.replicate 64 a) b d) (f : Fin 64 → Vec Ideal a e) :
    Shape.Concatenates ((List.ofFn fun n : Fin 64 => (⟨a, f n⟩ : (s : Shape) × Vec Ideal s e)).map (·.1)) b d := by
  have e : (List.ofFn fun n : Fin 64 => (⟨a, f n⟩ : (s : Shape) × Vec Ideal s e)).map (·.1) = List.replicate 64 a := by
    rw [List.map_ofFn]; exact List.ofFn_const _ _
  rw [e]; exact h

/-- The exponentials and the factors of a head, from its logits and its carried maxima. -/
def pMat (s : FVec Ideal S1024x2048 .f32) (M : Fin 64 → Vec Ideal S1x16x128 .f32) : FVec Ideal S1024x2048 .bf16 :=
  concatenate S1024x2048 0 (List.ofFn fun n : Fin 64 => (⟨S16x2048, pRows s n (M n)⟩ : (s : Shape) × FVec Ideal s .bf16))
    (concatenates_rows (e := .bf16) (by decide +kernel) _)
def aMat (s : FVec Ideal S1024x2048 .f32) (M : Fin 64 → Vec Ideal S1x16x128 .f32) : FVec Ideal S1024x128 .f32 :=
  concatenate S1024x128 0 (List.ofFn fun n : Fin 64 => (⟨S16x128, aRows s n (M n)⟩ : (s : Shape) × FVec Ideal s .f32))
    (concatenates_rows (e := .f32) (by decide +kernel) _)

/-- The exponentials times the values beside ones. -/
def pv (s : FVec Ideal S1024x2048 .f32) (M : Fin 64 → Vec Ideal S1x16x128 .f32) (w : FVec Ideal S2048x256 .bf16) : FVec Ideal S1024x256 .f32 :=
  matmul dot_S1024x2048_S2048x256_S1024x256_1_0_0_1_n_n none (pMat s M) w (constant S1024x256 .f32 0x00000000#32)

/-- A head's new accumulator and its new sums. -/
def accNew (s : FVec Ideal S1024x2048 .f32) (M : Fin 64 → Vec Ideal S1x16x128 .f32) (w : FVec Ideal S2048x256 .bf16)
    (acc : Vec Ideal S1x1024x128 .f32) : FVec Ideal S1x1024x128 .f32 :=
  shapeCast S1x1024x128 (addf (mulf (aMat s M) (shapeCast S1024x128 acc shapeCasts_S1x1024x128_S1024x128))
    (extractStridedSlice S1024x128 ![0, 0] (pv s M w) slices_S1024x256_o0_0_S1024x128)) shapeCasts_S1024x128_S1x1024x128
def sumNew (s : FVec Ideal S1024x2048 .f32) (M : Fin 64 → Vec Ideal S1x16x128 .f32) (w : FVec Ideal S2048x256 .bf16)
    (l : Vec Ideal S1x1024x128 .f32) : FVec Ideal S1x1024x128 .f32 :=
  k0_pay4 (pv s M w) (aMat s M) l

/-- The head and the rows of the `i`-th piece of the maxima. -/
def hd (i : Nat) : Fin 4 := ⟨i / 64 % 4, Nat.mod_lt _ (by decide)⟩
def rb (i : Nat) : Fin 64 := ⟨i % 64, Nat.mod_lt _ (by decide)⟩

variable (S : Fin 4 → FVec Ideal S1024x2048 .f32) (w : FVec Ideal S2048x256 .bf16)

/-- The pieces written on the maxima at a point that begins: the block of `-∞`, then rows after rows, each read, raised and stored. -/
def topsA (v : View sig .tc .vmem S4x1024x128 .f32) : Nat → List (View.Piece (Elt Ideal) S4x1024x128 .f32)
  | 0 => [⟨Rect.unit ![0, 0, 0] S4x1024x128.size inb_S4x1024x128_S4x1024x128_0_0_0, k0_pay1 (F := Ideal)⟩]
  | i + 1 => ⟨rowRect (hd i) (rb i), topPiece (S (hd i)) (rb i) (v.readCov (topsA v i) (rowRect (hd i) (rb i)).toLoadRect)⟩ :: topsA v i

/-- The pieces written on the maxima at a point that goes on from the maxima `M`. -/
def topsB (M : Fin 4 → Fin 64 → Vec Ideal S1x16x128 .f32) : Nat → List (View.Piece (Elt Ideal) S4x1024x128 .f32)
  | 0 => []
  | i + 1 => ⟨rowRect (hd i) (rb i), topPiece (S (hd i)) (rb i) (M (hd i) (rb i))⟩ :: topsB M i

/-- The maxima that the beginning point reads. -/
def readA (v : View sig .tc .vmem S4x1024x128 .f32) (h : Fin 4) (n : Fin 64) : Vec Ideal S1x16x128 .f32 :=
  v.readCov (topsA S v (64 * h.val + n.val)) (rowRect h n).toLoadRect

variable (M : Fin 4 → Fin 64 → Vec Ideal S1x16x128 .f32)

/-- The pieces written on an array of head sums at a point that begins them from the block `Z`, by the heads' new values `f`. -/
def headsA (f : Fin 4 → Vec Ideal S1x1024x128 .f32 → FVec Ideal S1x1024x128 .f32) (Z : FVec Ideal S4x1024x128 .f32)
    (v : View sig .tc .vmem S4x1024x128 .f32) : Nat → List (View.Piece (Elt Ideal) S4x1024x128 .f32)
  | 0 => [⟨Rect.unit ![0, 0, 0] S4x1024x128.size inb_S4x1024x128_S4x1024x128_0_0_0, Z⟩]
  | n + 1 => ⟨accRect (Fin.ofNat 4 n), f (Fin.ofNat 4 n) (v.readCov (headsA f Z v n) (accRect (Fin.ofNat 4 n)).toLoadRect)⟩ :: headsA f Z v n

/-- The pieces at a point that goes on from `u`. -/
def headsB (f : Fin 4 → Vec Ideal S1x1024x128 .f32 → FVec Ideal S1x1024x128 .f32) (u : Fin 4 → Vec Ideal S1x1024x128 .f32) :
    List (View.Piece (Elt Ideal) S4x1024x128 .f32) :=
  [⟨accRect 3, f 3 (u 3)⟩, ⟨accRect 2, f 2 (u 2)⟩, ⟨accRect 1, f 1 (u 1)⟩, ⟨accRect 0, f 0 (u 0)⟩]

/-- The pieces written on an output block, head by head. -/
def outs {e : EltTy} (f : Fin 4 → Vec Ideal S1024x128 e) : List (View.Piece (Elt Ideal) S1024x512 e) :=
  [⟨headRect 3, f 3⟩, ⟨headRect 2, f 2⟩, ⟨headRect 1, f 1⟩, ⟨headRect 0, f 0⟩]

/-- A head's logits before scaling, and the values beside ones. -/
def scores (q : Fin 4 → Vec Ideal S1024x128 .bf16) (k : Vec Ideal S2048x128 .bf16) (h : Fin 4) : FVec Ideal S1024x2048 .f32 :=
  k0_pay7 (q h) k
def vones (v : Vec Ideal S2048x128 .bf16) : FVec Ideal S2048x256 .bf16 := k0_pay6 v

end Cert.Kernel26Ideal.Fwd

end
-- ==== Proof.FwdAt.lean ====
module

public import proofs.«01_k».proof.Proof.FwdTile

/-! The entries of what a grid point of the attention's forward kernel forms. -/

@[expose] public section

set_option maxRecDepth 16384

noncomputable section

namespace Cert.Kernel26Ideal.Fwd

open Cert.Kernel26Ideal Cert.Kernel26Ideal.Gen Idealize.ShloMosaic Idealize.ShloMosaic.TcCoe Idealize.SL.Sem

/-- A column's lane; row `r` of the `n`-th sixteen; lane `d` of head `h`. -/
def lane (j : Fin 2048) : Fin 128 := ⟨j.val % 128, Nat.mod_lt _ (by norm_num)⟩
def rowOf (n : Fin 64) (r : Fin 16) : Fin 1024 := ⟨16 * n.val + r.val, by omega⟩
def headLane (h : Fin 4) (d : Fin 128) : Fin 512 := ⟨128 * h.val + d.val, by omega⟩
def blkOf (r : Fin 1024) : Fin 64 := ⟨r.val / 16, by omega⟩
def inBlk (r : Fin 1024) : Fin 16 := ⟨r.val % 16, Nat.mod_lt _ (by norm_num)⟩

theorem rowOf_eq (r : Fin 1024) : rowOf (blkOf r) (inBlk r) = r := Fin.ext (Nat.div_add_mod r.val 16)

theorem lanes_at (v : FVec Ideal S16x128 .f32) (r : Fin 16) (j : Fin 2048) : lanes v (ix2 r j) = v (ix2 r (lane j)) := by
  refine concatenate_ofFn_apply (N := 16) (t := S16x2048) (s₁ := S16x128) 1 (fun _ => v)
    concatenates_S16x128_S16x128_S16x128_S16x128_S16x128_S16x128_S16x128_S16x128_S16x128_S16x128_S16x128_S16x128_S16x128_S16x128_S16x128_S16x128_S16x2048_d1 rfl 128 rfl (ix2 r j)
    ⟨j.val / 128, by omega⟩ rfl (ix2 r (lane j)) rfl ?_
  intro b hb; fin_cases b
  · rfl
  · exact absurd rfl hb

/-- The greatest scaled logit of a row. -/
def rmax (s : FVec Ideal S1024x2048 .f32) (r : Fin 1024) : EReal :=
  Finset.fold max (Ideal.ofBits .f32 0xFF800000#32) (fun j : Fin 2048 => s (ix2 r j) * Ideal.ofBits .f32 0x3DB504F3#32) Finset.univ

variable (s : FVec Ideal S1024x2048 .f32) (n : Fin 64) (M : Vec Ideal S1x16x128 .f32)

theorem zRows_at (r : Fin 16) (j : Fin 2048) : zRows s n (ix2 r j) = s (ix2 (rowOf n r) j) * Ideal.ofBits .f32 0x3DB504F3#32 := by
  have hs : extractStridedSlice S16x2048 ![16 * n.val, 0] s (slices_piece n) (ix2 r j)
      = s (ix2 (rowOf n r) j) := congrArg s (funext fun a => Fin.ext (by fin_cases a <;> simp [rowOf, ix2]))
  rw [← hs]; rfl

theorem prev_at (r : Fin 16) (l : Fin 128) : prev M (ix2 r l) = M (ix3 0 r l) := by
  pointwise [prev]

theorem max_form_at (z : FVec Ideal S16x2048 .f32) (p : FVec Ideal S16x128 .f32) (r : Fin 16) (l : Fin 128) :
    maximumf p (broadcastTo S16x128 (shapeCast S16x1
      (multiReduction .maximumf [1] S16 z 0xFF800000#32 reduces_S16x2048_S16 (.inl rfl) rfl) shapeCasts_S16_S16x1 : FVec Ideal S16x1 .f32)
      broadcasts_S16x1_S16x128) (ix2 r l)
      = max (p (ix2 r l)) (Finset.fold max (Ideal.ofBits .f32 0xFF800000#32) (fun j : Fin 2048 => z (ix2 r j)) Finset.univ) := by
  pointwise

theorem newMax_at (r : Fin 16) (l : Fin 128) : newMax s n M (ix2 r l) = max (M (ix3 0 r l)) (rmax s (rowOf n r)) := by
  refine (max_form_at _ _ r l).trans ?_
  rw [prev_at, rmax]
  exact congrArg (fun f => max _ (Finset.fold max _ f Finset.univ)) (funext fun j => zRows_at s n r j)

theorem topPiece_at (r : Fin 16) (l : Fin 128) : topPiece s n M (ix3 0 r l) = max (M (ix3 0 r l)) (rmax s (rowOf n r)) := by
  have e : ∀ p : FVec Ideal S16x128 .f32, (shapeCast S1x16x128 p shapeCasts_S16x128_S1x16x128 : FVec Ideal S1x16x128 .f32) (ix3 0 r l) = p (ix2 r l) := by
    intro p; pointwise
  exact (e _).trans (newMax_at s n M r l)

theorem pRows_at (r : Fin 16) (j : Fin 2048) : pRows s n M (ix2 r j)
    = Ideal.exp (s (ix2 (rowOf n r) j) * Ideal.ofBits .f32 0x3DB504F3#32 - max (M (ix3 0 r (lane j))) (rmax s (rowOf n r))) := by
  rw [← newMax_at, ← lanes_at (newMax s n M), ← zRows_at]; rfl

theorem aRows_at (r : Fin 16) (l : Fin 128) : aRows s n M (ix2 r l)
    = Ideal.exp (M (ix3 0 r l) - max (M (ix3 0 r l)) (rmax s (rowOf n r))) := by
  rw [← newMax_at, ← prev_at M]; rfl

variable (Ms : Fin 64 → Vec Ideal S1x16x128 .f32)

/-- The carried maximum of a row, as its sixteen rows hold it in a lane. -/
def mAt (r : Fin 1024) (l : Fin 128) : EReal := Ms (blkOf r) (ix3 0 (inBlk r) l)

theorem pMat_at (r : Fin 1024) (j : Fin 2048) : pMat s Ms (ix2 r j)
    = Ideal.exp (s (ix2 r j) * Ideal.ofBits .f32 0x3DB504F3#32 - max (mAt Ms r (lane j)) (rmax s r)) := by
  have e := concatenate_ofFn_apply (N := 64) (t := S1024x2048) (s₁ := S16x2048) 0
    (fun n => pRows s n (Ms n)) (concatenates_rows (e := .bf16) (by decide +kernel) _) rfl 16 rfl (ix2 r j)
    (blkOf r) rfl (ix2 (inBlk r) j) rfl
    (fun b hb => by
      fin_cases b
      · exact absurd rfl hb
      · rfl)
  refine e.trans ?_
  rw [pRows_at, rowOf_eq]; rfl

theorem aMat_at (r : Fin 1024) (l : Fin 128) : aMat s Ms (ix2 r l) = Ideal.exp (mAt Ms r l - max (mAt Ms r l) (rmax s r)) := by
  have e := concatenate_ofFn_apply (N := 64) (t := S1024x128) (s₁ := S16x128) 0
    (fun n => aRows s n (Ms n)) (concatenates_rows (e := .f32) (by decide +kernel) _) rfl 16 rfl (ix2 r l)
    (blkOf r) rfl (ix2 (inBlk r) l) rfl
    (fun b hb => by
      fin_cases b
      · exact absurd rfl hb
      · rfl)
  refine e.trans ?_
  rw [aRows_at, rowOf_eq]; rfl

/-- The values stand in the first 128 columns, ones in the others. -/
theorem vones_left (v : Vec Ideal S2048x128 .bf16) (j : Fin 2048) (d : Fin 128) : vones v (ix2 j ⟨d.val, by omega⟩) = v (ix2 j d) := by
  have hd := d.isLt
  pointwise [vones, k0_pay6]
theorem vones_right (v : Vec Ideal S2048x128 .bf16) (j : Fin 2048) (d : Fin 128) : vones v (ix2 j ⟨128 + d.val, by omega⟩) = 1 := by
  have hd := d.isLt
  pointwise [vones, k0_pay6]

theorem mm_at (p : FVec Ideal S1024x2048 .bf16) (w : FVec Ideal S2048x256 .bf16) (r : Fin 1024) (d : Fin 256) :
    matmul dot_S1024x2048_S2048x256_S1024x256_1_0_0_1_n_n none p w (constant S1024x256 .f32 0x00000000#32) (ix2 r d)
      = ∑ j : Fin 2048, p (ix2 r j) * w (ix2 j d) := by
  pointwise

/-- A head's new accumulator and its new sums, by the exponentials `p` and the factors `a`. -/
theorem acc_form_at (a : FVec Ideal S1024x128 .f32) (q : FVec Ideal S1024x256 .f32) (acc : Vec Ideal S1x1024x128 .f32) (r : Fin 1024) (d : Fin 128) :
    (shapeCast S1x1024x128 (addf (mulf a (shapeCast S1024x128 acc shapeCasts_S1x1024x128_S1024x128 : FVec Ideal S1024x128 .f32))
      (extractStridedSlice S1024x128 ![0, 0] q slices_S1024x256_o0_0_S1024x128)) shapeCasts_S1024x128_S1x1024x128 : FVec Ideal S1x1024x128 .f32) (ix3 0 r d)
      = a (ix2 r d) * acc (ix3 0 r d) + q (ix2 r ⟨d.val, by omega⟩) := by
  pointwise
theorem sum_form_at (a : FVec Ideal S1024x128 .f32) (q : FVec Ideal S1024x256 .f32) (acc : Vec Ideal S1x1024x128 .f32) (r : Fin 1024) (d : Fin 128) :
    k0_pay4 q a acc (ix3 0 r d) = a (ix2 r d) * acc (ix3 0 r d) + q (ix2 r ⟨128 + d.val, by omega⟩) := by
  pointwise [k0_pay4]

theorem accNew_at (v : Vec Ideal S2048x128 .bf16) (acc : Vec Ideal S1x1024x128 .f32) (r : Fin 1024) (d : Fin 128) :
    accNew s Ms (vones v) acc (ix3 0 r d) = aMat s Ms (ix2 r d) * acc (ix3 0 r d) + ∑ j : Fin 2048, pMat s Ms (ix2 r j) * v (ix2 j d) := by
  refine (acc_form_at _ _ _ _ _).trans (congrArg _ ((mm_at _ _ _ _).trans (Finset.sum_congr rfl fun j _ => ?_)))
  rw [vones_left]
theorem sumNew_at (v : Vec Ideal S2048x128 .bf16) (l : Vec Ideal S1x1024x128 .f32) (r : Fin 1024) (d : Fin 128) :
    sumNew s Ms (vones v) l (ix3 0 r d) = aMat s Ms (ix2 r d) * l (ix3 0 r d) + ∑ j : Fin 2048, pMat s Ms (ix2 r j) := by
  refine (sum_form_at _ _ _ _ _).trans (congrArg _ ((mm_at _ _ _ _).trans (Finset.sum_congr rfl fun j _ => ?_)))
  rw [vones_right, mul_one]

theorem out_at (a l : Vec Ideal S1x1024x128 .f32) (r : Fin 1024) (d : Fin 128) :
    k0_pay1596 a l (ix2 r d) = Ideal.div (a (ix3 0 r d)) (l (ix3 0 r d)) := by
  pointwise [k0_pay1596]
theorem lse_at (m l : Vec Ideal S1x1024x128 .f32) (r : Fin 1024) (d : Fin 128) :
    k0_pay1597 m l (ix2 r d) = m (ix3 0 r d) + Ideal.log (l (ix3 0 r d)) := by
  pointwise [k0_pay1597]

/-- A logit: the product of a query's head with a key. -/
theorem scores_at (q : Fin 4 → Vec Ideal S1024x128 .bf16) (k : Vec Ideal S2048x128 .bf16) (h : Fin 4) (r : Fin 1024) (j : Fin 2048) :
    scores q k h (ix2 r j) = ∑ d : Fin 128, q h (ix2 r d) * k (ix2 j d) := by
  pointwise [scores, k0_pay7]

end Cert.Kernel26Ideal.Fwd

end
-- ==== Proof.FwdOut.lean ====
module

public import proofs.«01_k».proof.Proof.FwdTile
public import Idealize.ShloMosaic.Lib.Pipeline.ValueKit
public import Idealize.ShloMosaic.Lib.Pointwise

/-! The pieces that a grid point of the attention's forward kernel writes on the carried arrays and on its output blocks. -/

@[expose] public section

set_option maxRecDepth 100000

noncomputable section

namespace Cert.Kernel26Ideal.Fwd

open Cert.Kernel26Ideal Cert.Kernel26Ideal.Gen Idealize.ShloMosaic Idealize.ShloMosaic.TcCoe Idealize.SL.Sem

/-- What a whole memref that holds `x` gives at a rectangle. -/
def rd {s : Shape} {e : EltTy} (a : Memref sig .tc .vmem s e) (h : a.IsWhole) (x : Vec Ideal s e) (B : Rect s) : B.shape.Idx → Elt Ideal e :=
  View.readAt (Elt Ideal) a.view B.toLoadRect (h.unread x)

theorem rd_eq {s : Shape} {e : EltTy} (a : Memref sig .tc .vmem s e) (h : a.IsWhole) (x : Vec Ideal s e) (B : Rect s) :
    rd a h x B = View.ld x B := by
  simp only [rd, View.readAt_eq_ld, Memref.IsWhole.read_unread]

abbrev wholeRect : Rect S2048x128 := Rect.unit ![0, 0] S2048x128.size inb_S2048x128_S2048x128_0_0

theorem rd_whole {e : EltTy} (a : Memref sig .tc .vmem S2048x128 e) (h : a.IsWhole) (x : Vec Ideal S2048x128 e) : rd a h x wholeRect = x :=
  (rd_eq a h x wholeRect).trans (View.ld_unit_lit _ _ (by decide))

/-- The logits of the heads of a point, from its blocks of queries and keys. -/
def sc (x0 : Vec Ideal S1024x512 .bf16) (x1 : Vec Ideal S2048x128 .bf16) (h : Fin 4) : FVec Ideal S1024x2048 .f32 :=
  scores (fun h => View.ld x0 (headRect h)) x1 h

section
variable (c : Dev nD) (i : grid0.Coords) (arg3 : Memref sig .tc .vmem S1024x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S4x1024x128 .f32) (harg8 : arg8.IsWhole) (arg9 : Memref sig .tc .vmem S4x1024x128 .f32) (harg9 : arg9.IsWhole) (arg10 : Memref sig .tc .vmem S4x1024x128 .f32) (harg10 : arg10.IsWhole)

theorem sc_eq (x0 : Vec Ideal S1024x512 .bf16) (x1 : Vec Ideal S2048x128 .bf16) :
    sc x0 x1 = scores (fun h => rd arg3 harg3 x0 (headRect h)) (rd arg4 harg4 x1 wholeRect) := by
  funext h; simp only [sc, rd_whole, funext fun h => rd_eq arg3 harg3 x0 (headRect h)]

theorem vones_eq (x2 : Vec Ideal S2048x128 .bf16) : vones x2 = vones (rd arg5 harg5 x2 wholeRect) := by
  rw [rd_whole]

/-- The carried maxima of the rows of a head, and the carried sums of a head. -/
def rowsOf (u : Vec Ideal S4x1024x128 .f32) (h : Fin 4) (n : Fin 64) : Vec Ideal S1x16x128 .f32 := View.ld u (rowRect h n)
def headOf (u : Vec Ideal S4x1024x128 .f32) (h : Fin 4) : Vec Ideal S1x1024x128 .f32 := View.ld u (accRect h)

theorem rowsOf_eq (u : Vec Ideal S4x1024x128 .f32) : rowsOf u = fun h n => rd arg8 harg8 u (rowRect h n) := by
  funext h n; rw [rd_eq]; rfl
theorem headOf_eq (a : Memref sig .tc .vmem S4x1024x128 .f32) (ha : a.IsWhole) (u : Vec Ideal S4x1024x128 .f32) :
    headOf u = fun h => rd a ha u (accRect h) := by
  funext h; rw [rd_eq]; rfl

/-- The new sums and the new accumulators of the heads. -/
def sums (S : Fin 4 → FVec Ideal S1024x2048 .f32) (w : FVec Ideal S2048x256 .bf16) (M : Fin 4 → Fin 64 → Vec Ideal S1x16x128 .f32) (h : Fin 4) :
    Vec Ideal S1x1024x128 .f32 → FVec Ideal S1x1024x128 .f32 := sumNew (S h) (M h) w
def accs (S : Fin 4 → FVec Ideal S1024x2048 .f32) (w : FVec Ideal S2048x256 .bf16) (M : Fin 4 → Fin 64 → Vec Ideal S1x16x128 .f32) (h : Fin 4) :
    Vec Ideal S1x1024x128 .f32 → FVec Ideal S1x1024x128 .f32 := accNew (S h) (M h) w

variable (hc0 : cond0_0 i) (nc0 : ¬cond0_0 i) (hc1 : cond0_1 i) (hc2 : cond0_2 i) (nc2 : ¬cond0_2 i)
  (x0 : Vec Ideal S1024x512 .bf16) (x1 : Vec Ideal S2048x128 .bf16) (x2 : Vec Ideal S2048x128 .bf16)
  (xs0 xs1 xs2 : Vec Ideal S4x1024x128 .f32)

set_option maxHeartbeats 8000000 in
/-- The maxima that a beginning point leaves. -/
theorem soutA0 : sout0_A_0 c i arg3 harg3 arg4 harg4 arg5 harg5 arg6 harg6 arg7 harg7 arg8 harg8 arg9 harg9 arg10 harg10 hc0 hc1 nc2 x0 x1 x2 = View.canon (topsA (sc x0 x1) arg8.view 256) := by
  unfold sout0_A_0; rw [View.read_writes_junk_eq_canon, sc_eq (harg3 := harg3) (harg4 := harg4)]
  exact rfl

set_option maxHeartbeats 8000000 in
/-- The sums that it leaves. -/
theorem soutA1 : sout0_A_1 c i arg3 harg3 arg4 harg4 arg5 harg5 arg6 harg6 arg7 harg7 arg8 harg8 arg9 harg9 arg10 harg10 hc0 hc1 nc2 x0 x1 x2 = View.canon (headsA (sums (sc x0 x1) (vones x2) (readA (sc x0 x1) arg8.view)) (k0_pay2 (F := Ideal)) arg9.view 4) := by
  unfold sout0_A_1; rw [View.read_writes_junk_eq_canon, sc_eq (harg3 := harg3) (harg4 := harg4), vones_eq (harg5 := harg5)]
  exact rfl

set_option maxHeartbeats 8000000 in
/-- The accumulators that it leaves. -/
theorem soutA2 : sout0_A_2 c i arg3 harg3 arg4 harg4 arg5 harg5 arg6 harg6 arg7 harg7 arg8 harg8 arg9 harg9 arg10 harg10 hc0 hc1 nc2 x0 x1 x2 = View.canon (headsA (accs (sc x0 x1) (vones x2) (readA (sc x0 x1) arg8.view)) (k0_pay3 (F := Ideal)) arg10.view 4) := by
  unfold sout0_A_2; rw [View.read_writes_junk_eq_canon, sc_eq (harg3 := harg3) (harg4 := harg4), vones_eq (harg5 := harg5)]
  exact rfl

set_option maxHeartbeats 8000000 in
/-- What an ending point writes of the attention. -/
theorem outB3 : out0_B_3 c i arg3 harg3 arg4 harg4 arg5 harg5 arg6 harg6 arg7 harg7 arg8 harg8 arg9 harg9 arg10 harg10 nc0 hc1 hc2 x0 x1 x2 xs0 xs1 xs2 = View.canon (outs (e := .bf16) fun h => k0_pay1596 (arg10.view.readCov (headsB (accs (sc x0 x1) (vones x2) (rowsOf xs0)) (headOf xs2)) (accRect h).toLoadRect) (arg9.view.readCov (headsB (sums (sc x0 x1) (vones x2) (rowsOf xs0)) (headOf xs1)) (accRect h).toLoadRect)) := by
  unfold out0_B_3; rw [View.read_writes_junk_eq_canon, sc_eq (harg3 := harg3) (harg4 := harg4), vones_eq (harg5 := harg5), rowsOf_eq (harg8 := harg8), headOf_eq arg9 harg9 xs1, headOf_eq arg10 harg10 xs2]
  exact rfl

set_option maxHeartbeats 8000000 in
/-- What it writes of the log-sums. -/
theorem outB4 : out0_B_4 c i arg3 harg3 arg4 harg4 arg5 harg5 arg6 harg6 arg7 harg7 arg8 harg8 arg9 harg9 arg10 harg10 nc0 hc1 hc2 x0 x1 x2 xs0 xs1 xs2 = View.canon (outs (e := .f32) fun h => k0_pay1597 (arg8.view.readCov (topsB (sc x0 x1) (rowsOf xs0) 256) (accRect h).toLoadRect) (arg9.view.readCov (headsB (sums (sc x0 x1) (vones x2) (rowsOf xs0)) (headOf xs1)) (accRect h).toLoadRect)) := by
  unfold out0_B_4; rw [View.read_writes_junk_eq_canon, sc_eq (harg3 := harg3) (harg4 := harg4), vones_eq (harg5 := harg5), rowsOf_eq (harg8 := harg8), headOf_eq arg9 harg9 xs1]
  exact rfl

end

end Cert.Kernel26Ideal.Fwd

end
-- ==== Proof.FwdAcc.lean ====
module

public import proofs.«01_k».proof.Proof.FwdAt
public import proofs.«01_k».proof.Proof.FwdOut

/-! What the pieces written on the carried arrays and on the output blocks leave in each entry. -/

@[expose] public section

set_option maxRecDepth 16384

noncomputable section

namespace Cert.Kernel26Ideal.Fwd

open Cert.Kernel26Ideal Cert.Kernel26Ideal.Gen Idealize.ShloMosaic Idealize.ShloMosaic.TcCoe Idealize.SL.Sem

theorem acc_emb (h : Fin 4) (r : Fin 1024) (d : Fin 128) : (accRect h).emb (ix3 0 r d) = ix3 h r d := by
  funext a; apply Fin.ext; rw [Rect.emb_apply]; fin_cases a <;> simp [ix3]

theorem acc_not_mem {h h' : Fin 4} (hh : h ≠ h') (r : Fin 1024) (d : Fin 128) : (ix3 h r d : S4x1024x128.Idx) ∉ (accRect h').set := by
  rw [Rect.mem_set_unit]; intro H
  have := H 0
  simp [ix3, S1x1024x128] at this
  exact hh (Fin.ext (by omega))

theorem row_emb (h : Fin 4) (n : Fin 64) (r : Fin 16) (d : Fin 128) : (rowRect h n).emb (ix3 0 r d) = ix3 h (rowOf n r) d := by
  funext a; apply Fin.ext; rw [Rect.emb_apply]; fin_cases a <;> simp [ix3, rowOf]

theorem row_not_mem {h h' : Fin 4} {n n' : Fin 64} (hh : ¬(h = h' ∧ n = n')) (r : Fin 16) (d : Fin 128) :
    (ix3 h (rowOf n r) d : S4x1024x128.Idx) ∉ (rowRect h' n').set := by
  rw [Rect.mem_set_unit]; intro H
  have h0 := H 0
  have h1 := H 1
  simp [ix3, S1x16x128, rowOf] at h0 h1
  exact hh ⟨Fin.ext (by omega), Fin.ext (by omega)⟩

theorem whole_emb (h : Fin 4) (r : Fin 1024) (d : Fin 128) :
    (Rect.unit ![0, 0, 0] S4x1024x128.size inb_S4x1024x128_S4x1024x128_0_0_0).emb (ix3 h r d) = ix3 h r d := by
  funext a; apply Fin.ext; rw [Rect.emb_apply]; fin_cases a <;> simp [ix3]

theorem head_emb (h : Fin 4) (r : Fin 1024) (d : Fin 128) : (headRect h).emb (ix2 r d) = ix2 r (headLane h d) := by
  funext a; apply Fin.ext; rw [Rect.emb_apply]; fin_cases a <;> simp [ix2, headLane]

theorem head_not_mem {h h' : Fin 4} (hh : h ≠ h') (r : Fin 1024) (d : Fin 128) :
    (ix2 r (headLane h d) : S1024x512.Idx) ∉ (headRect h').set := by
  rw [Rect.mem_set_unit]; intro H
  have := H 1
  simp [ix2, headLane] at this
  exact hh (Fin.ext (by omega))

/-- Four pieces read back where one of them, and no other, holds the entry. -/
theorem canon_four {S : Shape} {e : EltTy} (R : Fin 4 → Rect S) (P : (k : Fin 4) → (R k).shape.Idx → Elt Ideal e) (k : Fin 4)
    (x : (R k).shape.Idx) (hd : ∀ k', k ≠ k' → (R k).emb x ∉ (R k').set) :
    View.canon [(⟨R 3, P 3⟩ : View.Piece (Elt Ideal) S e), ⟨R 2, P 2⟩, ⟨R 1, P 1⟩, ⟨R 0, P 0⟩] ((R k).emb x) = P k x := by
  refine View.canon_eq_of_allAt _ _ _ ⟨⟨R k, P k⟩, ?_, ?_⟩ ?_
  · fin_cases k <;> simp
  · exact (Rect.map_emb_univ (R k)) ▸ Finset.mem_map_of_mem _ (Finset.mem_univ x)
  · intro p hp
    obtain ⟨k', rfl⟩ : ∃ k', p = ⟨R k', P k'⟩ := by
      simp only [List.mem_cons, List.not_mem_nil, or_false] at hp
      rcases hp with h | h | h | h
      exacts [⟨3, h⟩, ⟨2, h⟩, ⟨1, h⟩, ⟨0, h⟩]
    intro x' hx'
    by_cases hk : k = k'
    · subst hk
      rw [(R k).emb.injective hx']
    · refine absurd ?_ (hd k' hk)
      rw [← hx']
      exact (Rect.map_emb_univ (R k')) ▸ Finset.mem_map_of_mem _ (Finset.mem_univ x')

variable (S : Fin 4 → FVec Ideal S1024x2048 .f32) (v : View sig .tc .vmem S4x1024x128 .f32)
  (M : Fin 4 → Fin 64 → Vec Ideal S1x16x128 .f32)

theorem piece_index {i : Nat} (hi : i < 256) (h : Fin 4) (n : Fin 64) : (h = hd i ∧ n = rb i) ↔ 64 * h.val + n.val = i := by
  rw [Fin.ext_iff, Fin.ext_iff]; simp only [hd, rb]; omega

/-- The maxima after `i` pieces of a point that begins. -/
theorem canon_topsA (h : Fin 4) (n : Fin 64) (r : Fin 16) (d : Fin 128) : ∀ i : Nat, i ≤ 256 →
    View.canon (topsA S v i) (ix3 h (rowOf n r) d) = if 64 * h.val + n.val < i then
      max (Ideal.ofBits .f32 0xFF800000#32) (rmax (S h) (rowOf n r)) else Ideal.ofBits .f32 0xFF800000#32
  | 0, _ => by
    rw [if_neg (by omega), topsA, ← whole_emb, View.canon_cons_emb]
    pointwise [k0_pay1]
  | i + 1, hi => by
    have IH := canon_topsA h n r d i (by omega)
    rw [topsA]
    by_cases e : h = hd i ∧ n = rb i
    · have e' := (piece_index (by omega) h n).1 e
      obtain ⟨e0, e1⟩ := e
      rw [← e0, ← e1, ← row_emb, View.canon_cons_emb, if_pos (by omega), topPiece_at, View.readCov_eq_canon']
      rw [if_neg (by omega)] at IH
      exact congrArg (fun a => max a _) ((congrArg _ (row_emb h n r d)).trans IH)
    · have e' : ¬64 * h.val + n.val = i := fun E => e ((piece_index (by omega) h n).2 E)
      rw [View.canon_cons_of_not_mem, IH]
      · by_cases q : 64 * h.val + n.val < i
        · rw [if_pos q, if_pos (by omega)]
        · rw [if_neg q, if_neg (by omega)]
      · exact row_not_mem e r d

/-- The maxima that the point reads are `-∞`. -/
theorem readA_at (h : Fin 4) (n : Fin 64) (r : Fin 16) (d : Fin 128) : readA S v h n (ix3 0 r d) = Ideal.ofBits .f32 0xFF800000#32 := by
  rw [readA, View.readCov_eq_canon']
  have e := canon_topsA S v h n r d (64 * h.val + n.val) (by omega)
  rw [if_neg (by omega)] at e
  exact (congrArg _ (row_emb h n r d)).trans e

/-- The maxima after `i` pieces of a point that goes on. -/
theorem canon_topsB (h : Fin 4) (n : Fin 64) (r : Fin 16) (d : Fin 128) : ∀ i : Nat, i ≤ 256 → 64 * h.val + n.val < i →
    View.canon (topsB S M i) (ix3 h (rowOf n r) d) = max (M h n (ix3 0 r d)) (rmax (S h) (rowOf n r))
  | 0, _, hh => by omega
  | i + 1, hi, hh => by
    rw [topsB]
    by_cases e : h = hd i ∧ n = rb i
    · obtain ⟨e0, e1⟩ := e
      rw [← e0, ← e1, ← row_emb, View.canon_cons_emb, topPiece_at]
    · have e' : ¬64 * h.val + n.val = i := fun E => e ((piece_index (by omega) h n).2 E)
      rw [View.canon_cons_of_not_mem]
      · exact canon_topsB h n r d i (by omega) (by omega)
      · exact row_not_mem e r d

variable (f : Fin 4 → Vec Ideal S1x1024x128 .f32 → FVec Ideal S1x1024x128 .f32)

/-- The head sums that a beginning point leaves: the new values over the block `Z`, where these depend on the entry alone. -/
theorem canon_headsA (Z : FVec Ideal S4x1024x128 .f32) (F : Fin 4 → Fin 1024 → Fin 128 → EReal → EReal)
    (hF : ∀ h acc r d, f h acc (ix3 0 r d) = F h r d (acc (ix3 0 r d))) (h : Fin 4) (r : Fin 1024) (d : Fin 128) : ∀ n : Nat, n ≤ 4 →
    View.canon (headsA f Z v n) (ix3 h r d) = if h.val < n then F h r d (Z (ix3 h r d)) else Z (ix3 h r d)
  | 0, _ => by
    rw [if_neg (by omega), headsA]
    exact (congrArg _ (whole_emb h r d).symm).trans (View.canon_cons_emb _ _ _ _)
  | n + 1, hn => by
    have IH := canon_headsA Z F hF h r d n (by omega)
    have hv : (Fin.ofNat 4 n).val = n := Nat.mod_eq_of_lt (by omega)
    rw [headsA]
    by_cases e : h.val = n
    · have e' : Fin.ofNat 4 n = h := Fin.ext (hv.trans e.symm)
      rw [e', ← acc_emb h r d, View.canon_cons_emb, if_pos (by omega), hF, View.readCov_eq_canon']
      rw [if_neg (by omega)] at IH
      rw [acc_emb]
      exact congrArg _ ((congrArg _ (acc_emb h r d)).trans IH)
    · rw [View.canon_cons_of_not_mem, IH]
      · by_cases q : h.val < n
        · rw [if_pos q, if_pos (by omega)]
        · rw [if_neg q, if_neg (by omega)]
      · exact acc_not_mem (fun E => e (by rw [E, hv])) r d

theorem canon_headsB (u : Fin 4 → Vec Ideal S1x1024x128 .f32) (h : Fin 4) (r : Fin 1024) (d : Fin 128) :
    View.canon (headsB f u) (ix3 h r d) = f h (u h) (ix3 0 r d) := by
  have e := canon_four (e := .f32) accRect (fun h => f h (u h)) h (ix3 0 r d)
    (fun k hk => by rw [acc_emb]; exact acc_not_mem hk r d)
  rw [acc_emb] at e
  exact e

theorem canon_outs {e : EltTy} (g : Fin 4 → Vec Ideal S1024x128 e) (h : Fin 4) (r : Fin 1024) (d : Fin 128) :
    View.canon (outs g) (ix2 r (headLane h d)) = g h (ix2 r d) := by
  have E := canon_four (e := e) headRect g h (ix2 r d) (fun k hk => by rw [head_emb]; exact head_not_mem hk r d)
  rw [head_emb] at E
  exact E

/-- A head's rows read back from pieces. -/
theorem readCov_at (L : List (View.Piece (Elt Ideal) S4x1024x128 .f32)) (h : Fin 4) (r : Fin 1024) (d : Fin 128) :
    v.readCov L (accRect h).toLoadRect (ix3 0 r d) = View.canon L (ix3 h r d) := by
  rw [View.readCov_eq_canon']; exact congrArg _ (acc_emb h r d)

theorem rowsOf_at (u : Vec Ideal S4x1024x128 .f32) (h : Fin 4) (n : Fin 64) (r : Fin 16) (d : Fin 128) :
    rowsOf u h n (ix3 0 r d) = u (ix3 h (rowOf n r) d) := congrArg u (row_emb h n r d)
theorem headOf_at (u : Vec Ideal S4x1024x128 .f32) (h : Fin 4) (r : Fin 1024) (d : Fin 128) :
    headOf u h (ix3 0 r d) = u (ix3 h r d) := congrArg u (acc_emb h r d)

/-- A point's logits, from its blocks. -/
theorem sc_at (x0 : Vec Ideal S1024x512 .bf16) (x1 : Vec Ideal S2048x128 .bf16) (h : Fin 4) (r : Fin 1024) (j : Fin 2048) :
    sc x0 x1 h (ix2 r j) = ∑ d : Fin 128, x0 (ix2 r (headLane h d)) * x1 (ix2 j d) := by
  refine (scores_at _ _ _ _ _).trans (Finset.sum_congr rfl fun d _ => congrArg (· * _) ?_)
  exact congrArg x0 (head_emb h r d)

end Cert.Kernel26Ideal.Fwd

end
-- ==== Proof.FwdSpec.lean ====
module

public import proofs.«01_k».proof.Proof.AttnSpec

/-! The softmax's sums taken over the keys half by half: a half raises the greatest logit and rescales what is summed so far. -/

@[expose] public section

set_option maxRecDepth 16384

noncomputable section

namespace Cert.Attn

open Idealize.ShloMosaic Cert.Finite
open scoped BigOperators

/-- The greatest logit of half the keys; the greatest so far after it; a sum after it. -/
def halfMax (z : Fin 2048 → EReal) : EReal := Finset.fold max (Ideal.ofBits .f32 0xFF800000#32) z Finset.univ
def stepM (m : EReal) (z : Fin 2048 → EReal) : EReal := max m (halfMax z)
def stepA (m a : EReal) (z w : Fin 2048 → EReal) : EReal :=
  Ideal.exp (m - stepM m z) * a + ∑ j, Ideal.exp (z j - stepM m z) * w j

/-- The two halves of a function of the keys. -/
def lo (f : Fin 4096 → EReal) (j : Fin 2048) : EReal := f ⟨j.val, by omega⟩
def hi (f : Fin 4096 → EReal) (j : Fin 2048) : EReal := f ⟨2048 + j.val, by omega⟩

/-- The greatest logit after both halves, from `-∞`. -/
def lastM (z : Fin 4096 → EReal) : EReal := stepM (stepM (Ideal.ofBits .f32 0xFF800000#32) (lo z)) (hi z)
/-- A sum after both halves, from zero. -/
def lastA (z w : Fin 4096 → EReal) : EReal :=
  stepA (stepM (Ideal.ofBits .f32 0xFF800000#32) (lo z)) (stepA (Ideal.ofBits .f32 0xFF800000#32) 0 (lo z) (lo w)) (hi z) (hi w)

theorem lastM_eq (z : Fin 4096 → EReal) : lastM z = Finset.fold max (Ideal.ofBits .f32 0xFF800000#32) z Finset.univ := by
  refine eq_of_forall_ge_iff fun c => ?_
  simp only [lastM, stepM, halfMax, max_le_iff, Finset.fold_max_le, Finset.mem_univ, true_implies, lo, hi]
  constructor
  · rintro ⟨⟨b, -, h0⟩, -, h1⟩
    refine ⟨b, fun j => ?_⟩
    by_cases hj : j.val < 2048
    · exact h0 ⟨j.val, hj⟩
    · have e : (⟨2048 + (j.val - 2048), by omega⟩ : Fin 4096) = j := Fin.ext (by simp only; omega)
      exact e ▸ h1 ⟨j.val - 2048, by omega⟩
  · rintro ⟨b, h⟩
    exact ⟨⟨b, b, fun j => h _⟩, b, fun j => h _⟩

/-- Over reals the two steps leave the sum of the exponentials below the greatest logit. -/
theorem lastA_eq (z w : Fin 4096 → EReal) (hz : ∀ j, IsReal (z j)) (hw : ∀ j, IsReal (w j)) :
    lastA z w = ∑ j, Ideal.exp (z j - Finset.fold max (Ideal.ofBits .f32 0xFF800000#32) z Finset.univ) * w j := by
  obtain ⟨a, ha⟩ : IsReal (stepM (Ideal.ofBits .f32 0xFF800000#32) (lo z)) := by
    rw [stepM, halfMax, bot_eq, max_eq_right bot_le]; exact isReal_max _ fun j => hz _
  obtain ⟨b, hb⟩ : IsReal (lastM z) := by
    rw [lastM_eq, bot_eq]; exact isReal_max _ hz
  rw [← lastM_eq, hb]
  rw [lastM, ha] at hb
  choose z' hz using hz
  choose w' hw using hw
  have first : stepA (Ideal.ofBits .f32 0xFF800000#32) 0 (lo z) (lo w)
      = ((∑ j : Fin 2048, Real.exp (z' ⟨j.val, by omega⟩ - a) * w' ⟨j.val, by omega⟩ : ℝ) : EReal) := by
    rw [stepA, ha, mul_zero, zero_add, coe_sum]
    exact Finset.sum_congr rfl fun j _ => by rw [lo, lo, hz, hw, ← EReal.coe_sub, Ideal.exp_coe, EReal.coe_mul]
  have all : ∀ j, Ideal.exp (z j - (b : EReal)) * w j = ((Real.exp (z' j - b) * w' j : ℝ) : EReal) := fun j => by
    rw [hz, hw, ← EReal.coe_sub, Ideal.exp_coe, EReal.coe_mul]
  rw [lastA, first, stepA, ha, hb, ← EReal.coe_sub, Ideal.exp_coe, ← EReal.coe_mul, Finset.mul_sum]
  refine Eq.trans ?_ (Fin.sum_univ_add (a := 2048) (b := 2048) (fun j => Ideal.exp (z j - (b : EReal)) * w j)).symm
  refine congrArg₂ (· + ·) ?_ (Finset.sum_congr rfl fun j _ => rfl)
  rw [coe_sum]
  refine Finset.sum_congr rfl fun j _ => ((all _).trans (congrArg _ ?_)).symm
  have e : ∀ t : ℝ, t - b = a - b + (t - a) := fun t => by ring
  rw [e, Real.exp_add, mul_assoc]
  rfl

section
variable {X : Fin 4096 → Fin 3072 → EReal} {x : Fin 4096 → Fin 3072 → ℝ} (hX : ∀ i j, X i j = (x i j : EReal))
include hX

theorem lastA_one (b g : Fin 4) (i : Fin 4096) : lastA (Z X b g i) (fun _ => 1) = L X b g i := by
  rw [lastA_eq _ (fun _ => 1) (isReal_Z hX b g i) fun _ => ⟨1, EReal.coe_one.symm⟩]
  exact Finset.sum_congr rfl fun j _ => mul_one _

/-- The attention and the log-sum that the kernel leaves. -/
theorem last_out (b g : Fin 4) (i : Fin 4096) (d : Fin 128) :
    Ideal.div (lastA (Z X b g i) fun j => X j (vi b d)) (lastA (Z X b g i) fun _ => 1) = O X b g i d := by
  obtain ⟨R, hz, hM, hE, hL, hP⟩ := exists_row hX b g i
  have hl : R.l ≠ 0 := R.l_pos.ne'
  have e : lastA (Z X b g i) (fun j => X j (vi b d)) = ((∑ j, R.e j * x j (vi b d) : ℝ) : EReal) := by
    rw [lastA_eq _ _ (isReal_Z hX b g i) fun j => ⟨_, hX _ _⟩, coe_sum]
    exact Finset.sum_congr rfl fun j _ => by rw [EReal.coe_mul, ← hE, ← hX]; rfl
  rw [lastA_one hX, hL, e, div_real _ hl, O, Finset.sum_div, coe_sum]
  exact Finset.sum_congr rfl fun j _ => by rw [hX, hE, hL, div_real _ hl, ← EReal.coe_mul, mul_comm (R.e j), mul_div_assoc]

theorem last_lse (b g : Fin 4) (i : Fin 4096) : lastM (Z X b g i) + Ideal.log (lastA (Z X b g i) fun _ => 1) = LSE X b g i := by
  rw [lastA_one hX, lastM_eq]; rfl

end

end Cert.Attn

end
-- ==== Proof.FwdPoint.lean ====
module

public import proofs.«01_k».proof.Proof.FwdAcc
public import proofs.«01_k».proof.Proof.FwdSpec

/-! What a grid point of the attention's forward kernel leaves in each entry, from its logits and from what the point before left. -/

@[expose] public section

set_option maxRecDepth 16384

noncomputable section

namespace Cert.Kernel26Ideal.Fwd

open Cert.Kernel26Ideal Cert.Kernel26Ideal.Gen Idealize.ShloMosaic Idealize.ShloMosaic.TcCoe Idealize.SL.Sem
open Cert.Attn

variable (S : Fin 4 → FVec Ideal S1024x2048 .f32) (x2 : Vec Ideal S2048x128 .bf16)
  (v v9 v10 : View sig .tc .vmem S4x1024x128 .f32) (h : Fin 4) (r : Fin 1024) (d : Fin 128)
  (z w : Fin 2048 → EReal) (hz : ∀ j, S h (ix2 r j) * Ideal.ofBits .f32 0x3DB504F3#32 = z j) (hw : ∀ j, x2 (ix2 j d) = w j)

/-- The literal `-∞`. -/
abbrev botB : EReal := Ideal.ofBits .f32 0xFF800000#32

include hz

theorem rmax_eq : rmax (S h) r = halfMax z := congrArg (fun f => Finset.fold max _ f Finset.univ) (funext hz)

theorem sumNew_eq (Ms : Fin 64 → Vec Ideal S1x16x128 .f32) (l : Vec Ideal S1x1024x128 .f32) (m a : EReal) (hm : ∀ l, mAt Ms r l = m)
    (ha : l (ix3 0 r d) = a) : sumNew (S h) Ms (vones x2) l (ix3 0 r d) = stepA m a z (fun _ => 1) := by
  rw [sumNew_at, aMat_at, rmax_eq S h r z hz, hm, ha]
  refine congrArg (_ + ·) (Finset.sum_congr rfl fun j _ => ?_)
  rw [pMat_at, rmax_eq S h r z hz, hm, hz, mul_one]; rfl

include hw in
theorem accNew_eq (Ms : Fin 64 → Vec Ideal S1x16x128 .f32) (acc : Vec Ideal S1x1024x128 .f32) (m a : EReal) (hm : ∀ l, mAt Ms r l = m)
    (ha : acc (ix3 0 r d) = a) : accNew (S h) Ms (vones x2) acc (ix3 0 r d) = stepA m a z w := by
  rw [accNew_at, aMat_at, rmax_eq S h r z hz, hm, ha]
  refine congrArg (_ + ·) (Finset.sum_congr rfl fun j _ => ?_)
  rw [pMat_at, rmax_eq S h r z hz, hm, hz, hw]; rfl

theorem top_A : View.canon (topsA S v 256) (ix3 h r d) = stepM botB z := by
  have e := canon_topsA S v h (blkOf r) (inBlk r) d 256 (le_refl _)
  rw [rowOf_eq, if_pos (by omega), rmax_eq S h r z hz] at e
  exact e

omit hz in
theorem mAt_A (l : Fin 128) : mAt (readA S v h) r l = botB := readA_at S v h (blkOf r) (inBlk r) l

omit hz in
theorem zeros_at : k0_pay2 (F := Ideal) (ix3 h r d) = 0 ∧ k0_pay3 (F := Ideal) (ix3 h r d) = 0 := by
  constructor
  · pointwise [k0_pay2]
  · pointwise [k0_pay3]

theorem sum_A : View.canon (headsA (sums S (vones x2) (readA S v)) (k0_pay2 (F := Ideal)) v9 4) (ix3 h r d) = stepA botB 0 z (fun _ => 1) := by
  refine (canon_headsA v9 (sums S (vones x2) (readA S v)) (k0_pay2 (F := Ideal)) (fun h r d a => aMat (S h) (readA S v h) (ix2 r d) * a + ∑ j : Fin 2048, pMat (S h) (readA S v h) (ix2 r j))
    (fun h acc r d => sumNew_at (S h) (readA S v h) x2 acc r d) h r d 4 (le_refl 4)).trans ?_
  rw [if_pos h.isLt, (zeros_at h r d).1]
  refine (sumNew_at (S h) (readA S v h) x2 (fun _ => (0 : EReal)) r d).symm.trans ?_
  exact sumNew_eq S x2 h r d z hz _ _ _ _ (mAt_A S v h r) rfl

include hw in
theorem acc_A : View.canon (headsA (accs S (vones x2) (readA S v)) (k0_pay3 (F := Ideal)) v10 4) (ix3 h r d) = stepA botB 0 z w := by
  refine (canon_headsA v10 (accs S (vones x2) (readA S v)) (k0_pay3 (F := Ideal)) (fun h r d a => aMat (S h) (readA S v h) (ix2 r d) * a + ∑ j : Fin 2048, pMat (S h) (readA S v h) (ix2 r j) * x2 (ix2 j d))
    (fun h acc r d => accNew_at (S h) (readA S v h) x2 acc r d) h r d 4 (le_refl 4)).trans ?_
  rw [if_pos h.isLt, (zeros_at h r d).2]
  refine (accNew_at (S h) (readA S v h) x2 (fun _ => (0 : EReal)) r d).symm.trans ?_
  exact accNew_eq S x2 h r d z w hz hw _ _ _ _ (mAt_A S v h r) rfl

variable (u0 u1 u2 : Vec Ideal S4x1024x128 .f32) (m l a : EReal) (h0 : ∀ d, u0 (ix3 h r d) = m) (h1 : u1 (ix3 h r d) = l) (h2 : u2 (ix3 h r d) = a)

omit hz in
include h0 in
theorem mAt_B (l : Fin 128) : mAt (rowsOf u0 h) r l = m := by
  rw [mAt, rowsOf_at, rowOf_eq]; exact h0 l

include h0

theorem top_B : View.canon (topsB S (rowsOf u0) 256) (ix3 h r d) = stepM m z := by
  have e := canon_topsB S (rowsOf u0) h (blkOf r) (inBlk r) d 256 (le_refl _) (by omega)
  rw [rowOf_eq, rmax_eq S h r z hz] at e
  exact e.trans (congrArg (max · _) (mAt_B h r u0 m h0 d))

include h1 in
theorem sum_B : View.canon (headsB (sums S (vones x2) (rowsOf u0)) (headOf u1)) (ix3 h r d) = stepA m l z (fun _ => 1) := by
  rw [canon_headsB]
  exact sumNew_eq S x2 h r d z hz _ _ _ _ (mAt_B h r u0 m h0) ((headOf_at u1 h r d).trans h1)

include hw h2 in
theorem acc_B : View.canon (headsB (accs S (vones x2) (rowsOf u0)) (headOf u2)) (ix3 h r d) = stepA m a z w := by
  rw [canon_headsB]
  exact accNew_eq S x2 h r d z w hz hw _ _ _ _ (mAt_B h r u0 m h0) ((headOf_at u2 h r d).trans h2)

end Cert.Kernel26Ideal.Fwd

end
-- ==== Proof.FwdValue.lean ====
module

public import proofs.«01_k».proof.Proof.DqHost
public import proofs.«01_k».proof.Proof.FwdPoint
public import Idealize.ShloMosaic.Lib.Pipeline.ValueKit
public import Idealize.ShloMosaic.Lib.Pointwise
public import proofs.«01_k».proof.Proof.Gen.Kernel26Ideal.Value

/-! The forward kernel's two results: at each grid point the blocks are those of the packed projection, and two points make up an output block. -/

@[expose] public section

set_option maxRecDepth 16384

noncomputable section

namespace Cert.Kernel26Ideal.Fwd

open Cert.Kernel26Ideal Cert.Kernel26Ideal.Gen Idealize.ShloMosaic Idealize.ShloMosaic.TcCoe Idealize.SL.Sem
open Cert.Attn
open Cert.KernelIdeal.Dq (XM)

variable (m : (ℓ : Loc nD τ sig) → Buf (Elt Ideal) ℓ)

theorem idx_val : ∀ t : Fin cfg0.N, win0_0.index t = ![t.val / 2 % 4, t.val / 8] ∧ win0_1.index t = ![t.val % 2, 16 + t.val / 8]
    ∧ win0_2.index t = ![t.val % 2, 20 + t.val / 8] ∧ win0_3.index t = ![t.val / 2 % 4, t.val / 8]
    ∧ win0_4.index t = ![t.val / 2 % 4, t.val / 8] :=
  (by decide +kernel : ∀ t : Fin grid0.N, _)

/-- The query row, the key row and the group of a grid point. -/
def qrow (t : Fin cfg0.N) (r : Fin 1024) : Fin 4096 := ⟨t.val / 2 % 4 * 1024 + r.val, by omega⟩
def krow (t : Fin cfg0.N) (j : Fin 2048) : Fin 4096 := ⟨t.val % 2 * 2048 + j.val, by omega⟩
def grp (t : Fin cfg0.N) : Fin 4 := ⟨t.val / 8, by have : t.val < 32 := t.isLt; omega⟩

theorem rd0 (A : FVec Ideal S4096x3072 .bf16) (t : Fin cfg0.N) (r : Fin 1024) (h : Fin 4) (d : Fin 128) :
    ((cfg0.win 0).blk t).view.read (Elt Ideal) A (ix2 r (headLane h d)) = A (ix2 (qrow t r) (qi (grp t) h d)) := by
  blk_point [idx_val t, qrow, grp, qi, headLane]

theorem rd1 (A : FVec Ideal S4096x3072 .bf16) (t : Fin cfg0.N) (j : Fin 2048) (d : Fin 128) :
    ((cfg0.win 1).blk t).view.read (Elt Ideal) A (ix2 j d) = A (ix2 (krow t j) (ki (grp t) d)) := by
  blk_point [idx_val t, krow, grp, ki]

theorem rd2 (A : FVec Ideal S4096x3072 .bf16) (t : Fin cfg0.N) (j : Fin 2048) (d : Fin 128) :
    ((cfg0.win 2).blk t).view.read (Elt Ideal) A (ix2 j d) = A (ix2 (krow t j) (vi (grp t) d)) := by
  blk_point [idx_val t, krow, grp, vi]

/-- The packed projection of a device. -/
abbrev Xm (c : Dev nD) : Fin 4096 → Fin 3072 → EReal := XM (m ((c : Thread nD τ).loc main_arg0))

theorem V0 (c : Dev nD) : V m c main_v0 = m ((c : Thread nD τ).loc main_arg0) := by entry_read; rfl

/-- The scaled logits, from what the blocks hold. -/
theorem logit_of (x0 : FVec Ideal S1024x512 .bf16) (x1 : FVec Ideal S2048x128 .bf16) (X : Fin 4096 → Fin 3072 → EReal) (b : Fin 4)
    (q : Fin 1024 → Fin 4096) (k : Fin 2048 → Fin 4096) (e0 : ∀ r h d, x0 (ix2 r (headLane h d)) = X (q r) (qi b h d))
    (e1 : ∀ j d, x1 (ix2 j d) = X (k j) (ki b d)) (h : Fin 4) (r : Fin 1024) (j : Fin 2048) :
    sc x0 x1 h (ix2 r j) * Ideal.ofBits .f32 0x3DB504F3#32 = Z X b h (q r) (k j) := by
  refine congrArg (· * _) ((sc_at _ _ h r j).trans (Finset.sum_congr rfl fun d _ => ?_))
  exact (congrArg₂ (· * ·) (e0 r h d) (e1 j d)).trans (mul_comm _ _)

/-- A point's scaled logits and its values. -/
theorem logit_at (c : Dev nD) (t : Fin cfg0.N) (h : Fin 4) (r : Fin 1024) (j : Fin 2048) :
    sc (iblk m c 0 t) (iblk m c 1 t) h (ix2 r j) * Ideal.ofBits .f32 0x3DB504F3#32 = Z (Xm m c) (grp t) h (qrow t r) (krow t j) :=
  logit_of _ _ (Xm m c) (grp t) (qrow t) (krow t) (fun r h d => (rd0 (V m c main_v0) t r h d).trans (congrFun (V0 m c) _))
    (fun j d => (rd1 (V m c main_v0) t j d).trans (congrFun (V0 m c) _)) h r j
theorem value_at (c : Dev nD) (t : Fin cfg0.N) (j : Fin 2048) (d : Fin 128) : iblk m c 2 t (ix2 j d) = Xm m c (krow t j) (vi (grp t) d) :=
  (rd2 (V m c main_v0) t j d).trans (congrFun (V0 m c) _)

/-- The three carried arrays after the first of the two points of an output block. -/
theorem carried_at (c : Dev nD) (t : Fin cfg0.N) (ht : t.val % 2 = 0) (h : Fin 4) (r : Fin 1024) (d : Fin 128) :
    (outsAt0 m c t.val t.isLt).2.2.1 (ix3 h r d) = stepM botB (fun j => Z (Xm m c) (grp t) h (qrow t r) (krow t j))
    ∧ (outsAt0 m c t.val t.isLt).2.2.2.1 (ix3 h r d) = stepA botB 0 (fun j => Z (Xm m c) (grp t) h (qrow t r) (krow t j)) (fun _ => 1)
    ∧ (outsAt0 m c t.val t.isLt).2.2.2.2 (ix3 h r d)
      = stepA botB 0 (fun j => Z (Xm m c) (grp t) h (qrow t r) (krow t j)) (fun j => Xm m c (krow t j) (vi (grp t) d)) := by
  rw [outsAt0_A m c t ht (by omega)]
  dsimp only
  rw [soutA0, soutA1, soutA2]
  exact ⟨top_A _ _ h r d _ (logit_at m c t h r), sum_A _ _ _ _ h r d _ (logit_at m c t h r),
    acc_A _ _ _ _ h r d _ _ (logit_at m c t h r) (fun j => value_at m c t j d)⟩

/-- What the second of the two points of an output block writes. -/
theorem written_at (c : Dev nD) (t t' : Fin cfg0.N) (ht : t.val % 2 = 1) (ht' : t'.val = t.val - 1) (h : Fin 4) (r : Fin 1024) (d : Fin 128) :
    (outsAt0 m c t.val t.isLt).1 (ix2 r (headLane h d))
      = Ideal.div (lastA (Z (Xm m c) (grp t) h (qrow t r)) fun j => Xm m c j (vi (grp t) d)) (lastA (Z (Xm m c) (grp t) h (qrow t r)) fun _ => 1)
    ∧ (outsAt0 m c t.val t.isLt).2.1 (ix2 r (headLane h d))
      = lastM (Z (Xm m c) (grp t) h (qrow t r)) + Ideal.log (lastA (Z (Xm m c) (grp t) h (qrow t r)) fun _ => 1) := by
  have e := carried_at m c t' (by omega) h r
  have hN : t.val < 32 := t.isLt
  have g : grp t' = grp t := Fin.ext (by simp only [grp]; omega)
  have q : qrow t' r = qrow t r := Fin.ext (by simp only [qrow]; omega)
  have k0 : krow t' = fun j => ⟨j.val, by omega⟩ := funext fun j => Fin.ext (by simp only [krow]; omega)
  have k1 : krow t = fun j => ⟨2048 + j.val, by omega⟩ := funext fun j => Fin.ext (by simp only [krow]; omega)
  have hz := logit_at m c t h r
  have hw := fun j => value_at m c t j d
  rw [g, q, k0] at e
  rw [k1] at hz hw
  obtain rfl : t' = ⟨t.val - 1, Nat.lt_of_le_of_lt (Nat.sub_le _ _) t.isLt⟩ := Fin.ext ht'
  rw [outsAt0_B m c t (by omega) ht]
  dsimp only
  rw [outB3, outB4, canon_outs, canon_outs, out_at, lse_at, readCov_at, readCov_at, readCov_at]
  rw [top_B _ h r d _ hz _ _ (fun d => (e d).1), sum_B _ _ h r d _ hz _ _ _ _ (fun d => (e d).1) (e d).2.1,
    acc_B _ _ h r d _ _ hz hw _ _ _ _ (fun d => (e d).1) (e d).2.2]
  exact ⟨rfl, rfl⟩

/-- The kernel's results as arrays. -/
def OUT (X : Fin 4096 → Fin 3072 → EReal) (b g : Fin 4) (i : Fin 4096) (d : Fin 128) : EReal :=
  Ideal.div (lastA (Z X b g i) fun j => X j (vi b d)) (lastA (Z X b g i) fun _ => 1)
def SUMS (X : Fin 4096 → Fin 3072 → EReal) (b g : Fin 4) (i : Fin 4096) (_ : Fin 128) : EReal :=
  lastM (Z X b g i) + Ideal.log (lastA (Z X b g i) fun _ => 1)
def wide (f : Fin 4 → Fin 4 → Fin 4096 → Fin 128 → EReal) (i : Fin 4096) (l : Fin 2048) : EReal :=
  f ⟨l.val / 512, by omega⟩ ⟨l.val / 128 % 4, by omega⟩ i ⟨l.val % 128, by omega⟩

theorem wide_at (f : Fin 4 → Fin 4 → Fin 4096 → Fin 128 → EReal) (b g : Fin 4) (i : Fin 4096) (d : Fin 128) (l : Fin 2048)
    (hl : l.val = (oi b g d).val) : wide f i l = f b g i d := by
  have e0 : (⟨l.val / 512, by omega⟩ : Fin 4) = b := Fin.ext (by simp only [oi] at hl; simp only; omega)
  have e1 : (⟨l.val / 128 % 4, by omega⟩ : Fin 4) = g := Fin.ext (by simp only [oi] at hl; simp only; omega)
  have e2 : (⟨l.val % 128, by omega⟩ : Fin 128) = d := Fin.ext (by simp only [oi] at hl; simp only; omega)
  rw [wide, e0, e1, e2]

theorem block_at (c : Dev nD) (t : Fin cfg0.N) (ht : t.val % 2 = 1) (y : S1024x512.Idx) (i : Fin 4096) (l : Fin 2048)
    (hi : i.val = t.val / 2 % 4 * 1024 + (y 0).val) (hl : l.val = t.val / 8 * 512 + (y 1).val) :
    (outsAt0 m c t.val t.isLt).1 y = wide (OUT (Xm m c)) i l ∧ (outsAt0 m c t.val t.isLt).2.1 y = wide (SUMS (Xm m c)) i l := by
  have y0 : (y 0).val < 1024 := (y 0).isLt
  have y1 : (y 1).val < 512 := (y 1).isLt
  have hN : t.val < 32 := t.isLt
  obtain ⟨r, hr⟩ : ∃ r : Fin 1024, r.val = (y 0).val := ⟨⟨_, y0⟩, rfl⟩
  obtain ⟨h, hh⟩ : ∃ h : Fin 4, h.val = (y 1).val / 128 := ⟨⟨(y 1).val / 128, by omega⟩, rfl⟩
  obtain ⟨d, hd⟩ : ∃ d : Fin 128, d.val = (y 1).val % 128 := ⟨⟨(y 1).val % 128, by omega⟩, rfl⟩
  have hy : y = ix2 r (headLane h d) := by
    funext a; apply Fin.ext; fin_cases a
    · exact hr.symm
    · simp only [headLane]; show (y 1).val = _; simp only [ix2]; show _ = 128 * h.val + d.val; omega
  have hi' : i = qrow t r := Fin.ext (by simp only [qrow]; omega)
  have e := written_at m c t ⟨t.val - 1, by have := t.isLt; omega⟩ ht rfl h r d
  have hl' : l.val = (oi (grp t) h d).val := by simp only [oi, grp]; omega
  rw [hy, wide_at _ (grp t) h i d l hl', wide_at _ (grp t) h i d l hl', hi']
  exact e

theorem final_3 (c : Dev nD) : (dats m 0 c).arrAt 3 (cfgs 0).N = fun y : S4096x2048.Idx => wide (OUT (Xm m c)) (y 0) (y 1) := by
  refine (dats m 0 c).arrAt_eq_of_covers 3 _ (by decide +kernel) fun t hf y => ?_
  have e := (idx_val t).2.2.2.1
  blk_simp; rw [after0_3]
  exact (block_at m c t ((flush0_3 t).mp hf) y _ _ (by blk_simp; rw [e]; rfl) (by blk_simp; rw [e]; rfl)).1

theorem final_4 (c : Dev nD) : (dats m 0 c).arrAt 4 (cfgs 0).N = fun y : S4096x2048.Idx => wide (SUMS (Xm m c)) (y 0) (y 1) := by
  refine (dats m 0 c).arrAt_eq_of_covers 4 _ (by decide +kernel) fun t hf y => ?_
  have e := (idx_val t).2.2.2.2
  blk_simp; rw [after0_4]
  exact (block_at m c t ((flush0_4 t).mp hf) y _ _ (by blk_simp; rw [e]; rfl) (by blk_simp; rw [e]; rfl)).2

end Cert.Kernel26Ideal.Fwd

end
-- ==== Proof.AttnFwd.lean ====
module

public import proofs.«01_k».proof.Defs
public import proofs.«01_k».proof.Proof.Gen.Reference26Ideal.Run
public import proofs.«01_k».proof.Proof.Gen.Reference26Ideal.Read
public import proofs.«01_k».proof.Proof.Gen.Kernel26Ideal.Value
public import proofs.«01_k».proof.Proof.Gen.Pre_finite_qkv
public import proofs.«01_k».proof.Proof.FwdValue
public import proofs.«01_k».proof.Proof.DqHost
public import proofs.«01_k».proof.Proof.Finite
public import Idealize.ShloMosaic.Lib.Claim

/-! The value claim of the attention's forward kernel: on a finite argument the kernel's attention and log-sums are the reference's. -/

@[expose] public section

set_option maxRecDepth 16384

noncomputable section

namespace Cert.AttnFwd

open Cert.Kernel26Ideal Cert.Finite Cert.Attn Idealize.ShloMosaic Idealize.ShloMosaic.TcCoe Idealize.SL.Sem
open Cert.Kernel26Ideal.Fwd Cert.Reference26Ideal.Read
open Cert.KernelIdeal.Dq (XM hout hout_at hlse hlse_at hwide hwide_at)

section Arrays

variable (x : FVec Ideal S4096x3072 .f32)

/-- The precondition says that every entry of the argument is a real number. -/
theorem real_of_pre (h : Cert.Pre_finite_qkv.fn (F := Ideal) x = fun _ => 1#1) : ∀ i, IsReal (x i) := by
  have e := congrFun h ix0
  unfold Cert.Pre_finite_qkv.fn at e
  have hs : Subsingleton Cert.Pre_finite_qkv.S_.Idx := ⟨fun a b => funext fun i => i.elim0⟩
  refine all_real x _ _ _ _ _ ?_ e
  exact fun _ => rfl

theorem v38_eq : val_main_v38 (F := Ideal) x = hout x := rfl
theorem v21_eq : val_main_v21 (F := Ideal) x = hwide (hlse x) := rfl

/-- The attention's groups, heads and lanes side by side. -/
theorem flat_at (o : FVec Ideal Cert.Reference26Ideal.S4096x4x4x128 .f32) (i : Fin 4096) (b g : Fin 4) (d : Fin 128) :
    (shapeCast S4096x2048 o Cert.Reference26Ideal.Gen.shapeCasts_S4096x4x4x128_S4096x2048 : FVec Ideal S4096x2048 .f32) (ix2 i (oi b g d)) = o (ix4 i b g d) := by
  pointwise
  have e1 : (⟨(oi b g d).val / 512, by omega⟩ : Fin 4) = b := Fin.ext (by simp only [oi]; omega)
  have e2 : (⟨(oi b g d).val / 128 % 4, by omega⟩ : Fin 4) = g := Fin.ext (by simp only [oi]; omega)
  have e3 : (⟨(oi b g d).val % 128, by omega⟩ : Fin 128) = d := Fin.ext (by simp only [oi]; omega)
  exact (congrArg (fun b' => o (ix4 i b' _ _)) e1).trans (congrArg₂ (fun u w => o (ix4 i b u w)) e2 e3)

theorem results_eq (h0 : ∀ i, IsReal (x i)) :
    (fun y : S4096x2048.Idx => wide (OUT (XM x)) (y 0) (y 1)) = val_main_v40 (F := Ideal) x
    ∧ (fun y : S4096x2048.Idx => wide (SUMS (XM x)) (y 0) (y 1)) = val_main_v21 (F := Ideal) x := by
  choose x' hx using fun i j => h0 (ix2 i j)
  have key : ∀ y : S4096x2048.Idx, wide (OUT (XM x)) (y 0) (y 1) = val_main_v40 (F := Ideal) x y
      ∧ wide (SUMS (XM x)) (y 0) (y 1) = val_main_v21 (F := Ideal) x y := by
    intro y
    idx_vars y
    obtain ⟨b, hb⟩ : ∃ b : Fin 4, b.val = y1.val / 512 := ⟨⟨y1.val / 512, by omega⟩, rfl⟩
    obtain ⟨g, hg⟩ : ∃ b : Fin 4, b.val = y1.val / 128 % 4 := ⟨⟨y1.val / 128 % 4, by omega⟩, rfl⟩
    obtain ⟨d, hd⟩ : ∃ b : Fin 128, b.val = y1.val % 128 := ⟨⟨y1.val % 128, by omega⟩, rfl⟩
    obtain rfl : y1 = oi b g d := Fin.ext (by simp only [oi]; omega)
    refine ⟨(wide_at _ b g y0 d _ rfl).trans ?_, (wide_at _ b g y0 d _ rfl).trans ?_⟩
    · refine (last_out (X := XM x) hx b g y0 d).trans ?_
      refine Eq.symm ((flat_at (val_main_v38 (F := Ideal) x) y0 b g d).trans ?_)
      rw [v38_eq, hout_at]
    · refine (last_lse (X := XM x) hx b g y0).trans ?_
      rw [v21_eq]
      exact ((hwide_at _ _ _ _ _).trans (hlse_at _ _ _ _)).symm
  exact ⟨funext fun y => (key y).1, funext fun y => (key y).2⟩

end Arrays

theorem algebraic : Cert.algebraic_Kernel26Ideal_Reference26Ideal_pre_finite_qkv := by
  intro m g m' g' hpre hargs
  have hu := fun c : Dev nD => results_eq _ (real_of_pre _ (hpre c))
  refine ⟨fun c y => wide (OUT (Xm m c)) (y 0) (y 1), fun c y => wide (SUMS (Xm m c)) (y 0) (y 1), ?_, ?_⟩
  · refine (θ_run defs _ _).mono (fun r h c => ?_) (Cert.Kernel26Ideal.Value.run_blocks (F := Ideal) m g)
    obtain ⟨e, e', k⟩ := h c
    exact ⟨e.trans (final_3 m c), e'.trans (final_4 m c), k⟩
  · refine (θ_run Cert.Reference26Ideal.defs _ _).mono (fun r h c => ?_) (Cert.Reference26Ideal.Value.run (F := Ideal) m' g')
    obtain ⟨e, e', k⟩ := h c
    refine ⟨e.trans ?_, e'.trans ?_, k⟩
    · rw [val_main_v40_eq, hargs c]; exact (hu c).1.symm
    · rw [val_main_v21_eq, hargs c]; exact (hu c).2.symm

end Cert.AttnFwd

end
-- ==== Proof.Pieces.lean ====
module

public import Idealize.ShloMosaic.Lib.Pipeline.ValueKit
public import Idealize.ShloMosaic.Lib.Pointwise

/-! A block written in pieces: where every piece holds one array's entries and the pieces cover the block, the block is that array. -/

@[expose] public section

noncomputable section

namespace Cert.Pieces

open Idealize.ShloMosaic

theorem canon_eq {S : Shape} {e : EltTy} (L : List (View.Piece (Elt Ideal) S e)) (T : S.Idx → Elt Ideal e)
    (hc : ∀ y, ∃ pc ∈ L, y ∈ pc.1.set) (h : ∀ pc ∈ L, ∀ x, pc.2 x = T (pc.1.emb x)) : View.canon L = T := by
  funext y
  refine View.canon_eq_of_allAt _ _ _ (hc y) ?_
  intro p hp x hx
  rw [h p hp x, hx]

end Cert.Pieces

end
-- ==== Proof.RowDelta.lean ====
module

public import proofs.«01_k».proof.Defs
public import proofs.«01_k».proof.Proof.Gen.Reference27Ideal.Run
public import proofs.«01_k».proof.Proof.Gen.Reference27Ideal.Read
public import proofs.«01_k».proof.Proof.Gen.Kernel27Ideal.Value
public import proofs.«01_k».proof.Proof.Pieces
public import Idealize.ShloMosaic.Lib.Pipeline.ValueKit
public import Idealize.ShloMosaic.Lib.Pointwise
public import Idealize.ShloMosaic.Lib.Claim

/-! The row sums of the attention's backward: every head's product of gradient and output, summed over the head's lanes. -/

@[expose] public section

set_option maxRecDepth 16384

noncomputable section

namespace Cert.RowDelta

open Cert.Kernel27Ideal Cert.Kernel27Ideal.Gen Cert.Kernel27Ideal.Value Cert.Reference27Ideal.Read
open Idealize.ShloMosaic Idealize.ShloMosaic.TcCoe Idealize.SL.Sem

/-- Lane `d` of the head that column `q` belongs to. -/
def mate (q : Fin 2048) (d : Fin 128) : Fin 2048 := ⟨q.val / 128 * 128 + d.val, by omega⟩

/-- The sum over the lanes of the column's head. -/
def delta (a b : Fin 2048 → EReal) (q : Fin 2048) : EReal := ∑ d : Fin 128, a (mate q d) * b (mate q d)

/-- The part of a block that head `n` takes. -/
abbrev part (n : Nat) (h : ∀ i, (![0, 128 * n] : Fin 2 → Nat) i + S256x128.size i ≤ S256x2048.size i) : Rect S256x2048 :=
  Rect.unit (s := S256x2048) ![0, 128 * n] S256x128.size h

/-- One head's sums, whatever rows and lanes it reads. -/
theorem pay2_at (a : Vec Ideal S256x128 .f32) (b : Vec Ideal S256x128 .bf16) (p : Fin 256) (d : Fin 128) :
    k0_pay2 (F := Ideal) a b (ix2 p d) = ∑ k, a (ix2 p k) * b (ix2 p k) := by
  pointwise [k0_pay2]

theorem part_emb (n : Nat) (hn : n < 16) (h) (p : Fin 256) (d : Fin 128) :
    (part n h).emb (ix2 p d) = ix2 p (⟨128 * n + d.val, by omega⟩ : Fin 2048) := by
  refine funext fun i => Fin.ext ?_
  rw [Rect.emb_apply]
  fin_cases i <;> simp [ix2, part]

theorem mate_part (n : Nat) (hn : n < 16) (d k : Fin 128) :
    mate (⟨128 * n + d.val, by omega⟩ : Fin 2048) k = ⟨128 * n + k.val, by omega⟩ := Fin.ext (by simp only [mate]; omega)

/-- One head's sums, from the whole blocks. -/
theorem part_sums (a : Vec Ideal S256x2048 .f32) (b : Vec Ideal S256x2048 .bf16) (n : Nat) (hn : n < 16) (h) (x : S256x128.Idx) :
    k0_pay2 (F := Ideal) (View.ld a (part n h)) (View.ld b (part n h)) x
      = (fun z : S256x2048.Idx => delta (fun k => a (ix2 (z 0) k)) (fun k => b (ix2 (z 0) k)) (z 1)) ((part n h).emb x) := by
  idx_vars x
  rw [pay2_at, part_emb n hn]
  refine Finset.sum_congr rfl fun k _ => ?_
  show a ((part n h).emb (ix2 x0 k)) * b ((part n h).emb (ix2 x0 k)) = a (ix2 x0 (mate (⟨128 * n + x1.val, by omega⟩ : Fin 2048) k)) * b (ix2 x0 (mate (⟨128 * n + x1.val, by omega⟩ : Fin 2048) k))
  rw [part_emb n hn, mate_part n hn]

theorem out2 (x0 : Vec Ideal S256x2048 .f32) (x1 : Vec Ideal S256x2048 .bf16) :
    out0_2 (F := Ideal) x0 x1 = fun z => delta (fun k => x0 (ix2 (z 0) k)) (fun k => x1 (ix2 (z 0) k)) (z 1) := by
  refine Cert.Pieces.canon_eq _ _ (cover0_2 _ _ _ _ _ _ _ _ _ _ _ _ _ _ _ _) ?_
  simp only [List.forall_mem_cons]
  refine ⟨part_sums x0 x1 15 (by omega) _, part_sums x0 x1 14 (by omega) _, part_sums x0 x1 13 (by omega) _, part_sums x0 x1 12 (by omega) _,
    part_sums x0 x1 11 (by omega) _, part_sums x0 x1 10 (by omega) _, part_sums x0 x1 9 (by omega) _, part_sums x0 x1 8 (by omega) _,
    part_sums x0 x1 7 (by omega) _, part_sums x0 x1 6 (by omega) _, part_sums x0 x1 5 (by omega) _, part_sums x0 x1 4 (by omega) _,
    part_sums x0 x1 3 (by omega) _, part_sums x0 x1 2 (by omega) _, part_sums x0 x1 1 (by omega) _, part_sums x0 x1 0 (by omega) _, ?_⟩
  exact fun p hp => absurd hp List.not_mem_nil

/-- The other result is the gradient itself. -/
theorem out3 (x0 : Vec Ideal S256x2048 .f32) (x1 : Vec Ideal S256x2048 .bf16) : out0_3 (F := Ideal) x0 x1 = x0 := by
  refine Cert.Pieces.canon_eq _ _ (cover0_3 _ _ _ _ _ _ _ _ _ _ _ _ _ _ _ _) ?_
  simp only [List.forall_mem_cons]
  refine ⟨fun _ => rfl, fun _ => rfl, fun _ => rfl, fun _ => rfl, fun _ => rfl, fun _ => rfl, fun _ => rfl, fun _ => rfl, fun _ => rfl, fun _ => rfl,
    fun _ => rfl, fun _ => rfl, fun _ => rfl, fun _ => rfl, fun _ => rfl, fun _ => rfl, ?_⟩
  exact fun p hp => absurd hp List.not_mem_nil

theorem idx_val : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- Row `p` of step `t`'s block in the whole array. -/
def row (t : Fin cfg0.N) (p : Fin 256) : Fin 4096 :=
  ⟨t.val * 256 + p.val, by have : t.val < 16 := t.isLt; omega⟩

/-- The sums of every row. -/
def deltas (a o : FVec Ideal S4096x2048 .f32) : FVec Ideal S4096x2048 .f32 := fun z =>
  delta (fun k => a (ix2 (z 0) k)) (fun k => o (ix2 (z 0) k)) (z 1)

theorem ref_deltas (a o : FVec Ideal S4096x2048 .f32) : val_main_v5 (F := Ideal) a o = deltas a o := by
  funext z
  idx_vars z
  pointwise [val_main_v5, val_main_v4, val_main_v3, val_main_v2, val_main_v1, val_main_v0, val_main_cst]
  rfl

variable (m : (ℓ : Loc nD τ sig) → Buf (Elt Ideal) ℓ) (c : Dev nD)

abbrev D : FVec Ideal S4096x2048 .f32 := m ((c : Thread nD τ).loc main_arg0)
abbrev O : FVec Ideal S4096x2048 .f32 := m ((c : Thread nD τ).loc main_arg1)

theorem V1 : V m c main_v0 = O m c := by entry_read; rfl

theorem blk0 (t : Fin cfg0.N) (p : Fin 256) (k : Fin 2048) : iblk m c 0 t (ix2 p k) = D m c (ix2 (row t p) k) := by
  blk_point [iblk, V, idx_val t, row]
theorem blk1 (t : Fin cfg0.N) (p : Fin 256) (k : Fin 2048) : iblk m c 1 t (ix2 p k) = O m c (ix2 (row t p) k) := by
  have e : iblk m c 1 t (ix2 p k) = V m c main_v0 (ix2 (row t p) k) := by blk_point [iblk, idx_val t, row]
  rw [e, V1]

theorem final_2 : (dats m 0 c).arrAt 2 (cfgs 0).N = deltas (D m c) (O m c) := by
  refine (dats m 0 c).arrAt_eq_of_covers 2 _ (by decide +kernel) fun t hf y => ?_
  blk_simp; rw [after0_2]
  idx_vars y
  refine (congrFun (out2 (iblk m c 0 t) (iblk m c 1 t)) (ix2 y0 y1)).trans ?_
  have hy : (((View.whole main_v1_0).slice (win0_2.rect t)).emb (ix2 y0 y1)) = ix2 (row t y0) y1 := by
    blk_ext [idx_val t, row]
  rw [hy]
  exact congrArg₂ (fun a b => delta a b y1) (funext fun k => blk0 m c t y0 k) (funext fun k => blk1 m c t y0 k)

theorem final_3 : (dats m 0 c).arrAt 3 (cfgs 0).N = D m c := by
  refine (dats m 0 c).arrAt_eq_of_covers 3 _ (by decide +kernel) fun t hf y => ?_
  blk_simp; rw [after0_3]
  idx_vars y
  refine (congrFun (out3 (iblk m c 0 t) (iblk m c 1 t)) (ix2 y0 y1)).trans ?_
  have hy : (((View.whole main_v1_1).slice (win0_3.rect t)).emb (ix2 y0 y1)) = ix2 (row t y0) y1 := by
    blk_ext [idx_val t, row]
  rw [hy]
  exact blk0 m c t y0 y1

theorem algebraic : Cert.algebraic_Kernel27Ideal_Reference27Ideal := by
  intro m g m' g' _ hargs
  refine ⟨fun c => deltas (D m c) (O m c), fun c => D m c, ?_, ?_⟩
  · refine (θ_run defs _ _).mono (fun r h c => ?_) (run_blocks (F := Ideal) m g)
    obtain ⟨e, e', k⟩ := h c
    exact ⟨e.trans (final_2 m c), e'.trans (final_3 m c), k⟩
  · refine (θ_run Cert.Reference27Ideal.defs _ _).mono (fun r h c => ?_) (Cert.Reference27Ideal.Value.run (F := Ideal) m' g')
    obtain ⟨e, e', k⟩ := h c
    obtain ⟨a0, a1⟩ := hargs c
    refine ⟨e.trans ?_, e'.trans ?_, k⟩
    · rw [val_main_v5_eq, a0, a1]; exact ref_deltas _ _
    · rw [val_main_v6_eq, a0]; rfl

end Cert.RowDelta

end
-- ==== Proof.MixFwd.lean ====
module

public import proofs.«01_k».proof.Defs
public import proofs.«01_k».proof.Proof.Gen.Reference28Ideal.Run
public import proofs.«01_k».proof.Proof.Gen.Reference28Ideal.Read
public import proofs.«01_k».proof.Proof.Gen.Kernel28Ideal.Value
public import proofs.«01_k».proof.Proof.AttnSpec
public import proofs.«01_k».proof.Proof.Pieces
public import Idealize.ShloMosaic.Lib.Pipeline.ValueKit
public import Idealize.ShloMosaic.Lib.Pointwise
public import Idealize.ShloMosaic.Lib.Claim

/-! Mixer B's mixing of its three groups: every group's output is scaled by the group's share of the weight,
    the softmax of the three logarithms of the sums, and the groups are laid side by side. -/

@[expose] public section

set_option maxRecDepth 16384

noncomputable section

namespace Cert.MixFwd

open Cert.Kernel28Ideal Cert.Kernel28Ideal.Gen Cert.Kernel28Ideal.Value Cert.Reference28Ideal.Read
open Idealize.ShloMosaic Idealize.ShloMosaic.TcCoe Idealize.SL.Sem

/-- The largest of three. -/
def top (z : Fin 3 → EReal) : EReal := max (max (z 0) (z 1)) (z 2)
/-- A group's weight against the largest. -/
def weight (z : Fin 3 → EReal) (g : Fin 3) : EReal := Ideal.exp (z g - top z)
/-- A group's share of the weight. -/
def share (z : Fin 3 → EReal) (g : Fin 3) : EReal := Ideal.div (weight z g) (weight z 0 + weight z 1 + weight z 2)

/-- The group that a column belongs to, and its column there. -/
def group (q : Fin 3072) : Fin 3 := ⟨q.val / 1024, by omega⟩
def inner (q : Fin 3072) : Fin 1024 := ⟨q.val % 1024, by omega⟩

theorem pay9_at (a b c o : Vec Ideal S256x1024 .f32) (p : Fin 256) (q : Fin 1024) :
    k0_pay9 (F := Ideal) a b c o (ix2 p q) = share ![a (ix2 p q), b (ix2 p q), c (ix2 p q)] 0 * o (ix2 p q) := by
  pointwise [k0_pay9, k0_pay8, k0_pay7, k0_pay6, k0_pay5, k0_pay4, k0_pay3, k0_pay2, k0_pay1]
  rfl
theorem pay10_at (a b c o : Vec Ideal S256x1024 .f32) (p : Fin 256) (q : Fin 1024) :
    k0_pay10 (F := Ideal) a b c o (ix2 p q) = share ![a (ix2 p q), b (ix2 p q), c (ix2 p q)] 1 * o (ix2 p q) := by
  pointwise [k0_pay10, k0_pay8, k0_pay7, k0_pay6, k0_pay5, k0_pay4, k0_pay3, k0_pay2, k0_pay1]
  rfl
theorem pay11_at (a b c o : Vec Ideal S256x1024 .f32) (p : Fin 256) (q : Fin 1024) :
    k0_pay11 (F := Ideal) a b c o (ix2 p q) = share ![a (ix2 p q), b (ix2 p q), c (ix2 p q)] 2 * o (ix2 p q) := by
  pointwise [k0_pay11, k0_pay8, k0_pay7, k0_pay6, k0_pay5, k0_pay4, k0_pay3, k0_pay2, k0_pay1]
  rfl

/-- Head of a column of one group. -/
def head (k : Fin 1024) : Fin 8 := ⟨k.val / 128, by omega⟩

/-- The column of the whole that a group's column is. -/
def col (g : Fin 3) (k : Fin 1024) : Fin 3072 := ⟨1024 * g.val + k.val, by omega⟩

theorem group_col (g : Fin 3) (k : Fin 1024) : group (col g k) = g := Fin.ext (by simp only [group, col]; omega)
theorem inner_col (g : Fin 3) (k : Fin 1024) : inner (col g k) = k := Fin.ext (by simp only [inner, col]; omega)
theorem col_all (q : Fin 3072) : q = col (group q) (inner q) := Fin.ext (by simp only [group, inner, col]; omega)

/-- Rows of three groups mixed: `s` are the logarithms of the sums, column by column. -/
def mix {n : Nat} (s o : Fin 3 → Fin n → Fin 1024 → EReal) (p : Fin n) (q : Fin 3072) : EReal :=
  share (fun g => s g p (inner q)) (group q) * o (group q) p (inner q)

theorem mix_col {n : Nat} (s o : Fin 3 → Fin n → Fin 1024 → EReal) (p : Fin n) (g : Fin 3) (k : Fin 1024) :
    mix s o p (col g k) = share (fun g => s g p k) g * o g p k := by
  rw [mix, group_col, inner_col]

/-- The whole result. -/
def mixed (o : Fin 3 → FVec Ideal S4096x1024 .f32) (z : Fin 3 → FVec Ideal S4096x8 .f32) : FVec Ideal S4096x3072 .bf16 := fun y =>
  mix (fun g i k => z g (ix2 i (head k))) (fun g i k => o g (ix2 i k)) (y 0) (y 1)

theorem fold_three (z : Fin 3 → EReal) : Finset.fold max (⊥ : EReal) z Finset.univ = top z := by
  have e : (Finset.univ : Finset (Fin 3)) = insert 0 (insert 1 (insert 2 ∅)) := by decide
  rw [e, Finset.fold_insert (by decide), Finset.fold_insert (by decide), Finset.fold_insert (by decide), Finset.fold_empty, max_bot_right, top, max_assoc]

theorem ref_share (z0 z1 z2 : FVec Ideal S4096x8 .f32) (g : Fin 3) (i : Fin 4096) (h : Fin 8) :
    val_main_v14 (F := Ideal) z0 z1 z2 (ix3 g i h) = share ![z0 (ix2 i h), z1 (ix2 i h), z2 (ix2 i h)] g := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have hz : ∀ x : Fin 3, (if _ : x.val < 1 then z0 (ix2 i h) else if _ : x.val - 1 < 1 then z1 (ix2 i h) else z2 (ix2 i h))
      = (![z0 (ix2 i h), z1 (ix2 i h), z2 (ix2 i h)] : Fin 3 → EReal) x := by
    intro x; fin_cases x <;> rfl
  simp only [hz]
  generalize (![z0 (ix2 i h), z1 (ix2 i h), z2 (ix2 i h)] : Fin 3 → EReal) = z
  rw [show Ideal.ofBits FTy.f32 4286578688#32 = ⊥ from Cert.Attn.bot_eq, max_bot_left, fold_three, Fin.sum_univ_three]
  rfl

theorem ref_mixed (o0 o1 o2 : FVec Ideal S4096x1024 .f32) (z0 z1 z2 : FVec Ideal S4096x8 .f32) :
    val_main_v35 (F := Ideal) o0 o1 o2 z0 z1 z2 = mixed ![o0, o1, o2] ![z0, z1, z2] := by
  funext y
  idx_vars y
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15]
  have hv : ∀ (g : Fin 3) (o : FVec Ideal S4096x1024 .f32) (a : Fin 8) (b k : Fin 1024), a = head k → b = k →
      val_main_v14 (F := Ideal) z0 z1 z2 (ix3 g y0 a) * o (ix2 y0 b) = share (fun g => (![z0, z1, z2] : Fin 3 → FVec Ideal S4096x8 .f32) g (ix2 y0 (head k))) g * o (ix2 y0 k) := by
    intro g o a b k ha hb
    rw [ha, hb, ref_share]
    refine congrArg (fun z => share z g * _) (funext fun x => ?_)
    fin_cases x <;> rfl
  obtain ⟨g, k, rfl⟩ : ∃ g k, y1 = col g k := ⟨_, _, col_all y1⟩
  refine Eq.trans ?_ (mix_col _ _ y0 g k).symm
  fin_cases g
  · rw [dif_pos (by simp only [col]; omega)]
    exact hv 0 o0 _ _ k (Fin.ext (by simp only [col, head]; omega)) (Fin.ext (by simp only [col]; omega))
  · rw [dif_neg (by simp only [col]; omega), dif_pos (by simp only [col]; omega)]
    exact hv 1 o1 _ _ k (Fin.ext (by simp only [col, head]; omega)) (Fin.ext (by simp only [col]; omega))
  · rw [dif_neg (by simp only [col]; omega), dif_neg (by simp only [col]; omega)]
    exact hv 2 o2 _ _ k (Fin.ext (by simp only [col, head]; omega)) (Fin.ext (by simp only [col]; omega))

theorem ld_whole (x : Vec Ideal S256x1024 .f32) : View.ld x r0_0 = x := by
  funext y
  have e : r0_0.emb y = y := by
    refine funext fun i => Fin.ext ?_
    rw [Rect.emb_apply]
    fin_cases i <;> simp
  exact congrArg x e

theorem emb1 (p : Fin 256) (k : Fin 1024) : r0_1.emb (ix2 p k) = ix2 p (col 0 k) := by
  refine funext fun i => Fin.ext ?_
  rw [Rect.emb_apply]
  fin_cases i <;> simp [ix2, col]
theorem emb2 (p : Fin 256) (k : Fin 1024) : r0_2.emb (ix2 p k) = ix2 p (col 1 k) := by
  refine funext fun i => Fin.ext ?_
  rw [Rect.emb_apply]
  fin_cases i <;> simp [ix2, col]
theorem emb3 (p : Fin 256) (k : Fin 1024) : r0_3.emb (ix2 p k) = ix2 p (col 2 k) := by
  refine funext fun i => Fin.ext ?_
  rw [Rect.emb_apply]
  fin_cases i <;> simp [ix2, col]

/-- A block of the result. -/
def block (o s : Fin 3 → Vec Ideal S256x1024 .f32) : Vec Ideal S256x3072 .bf16 := fun y =>
  mix (fun g i k => s g (ix2 i k)) (fun g i k => o g (ix2 i k)) (y 0) (y 1)

theorem block_col (o s : Fin 3 → Vec Ideal S256x1024 .f32) (p : Fin 256) (g : Fin 3) (k : Fin 1024) :
    block o s (ix2 p (col g k)) = share (fun g => s g (ix2 p k)) g * o g (ix2 p k) := mix_col _ _ p g k

theorem three (s0 s1 s2 : Vec Ideal S256x1024 .f32) (y : S256x1024.Idx) :
    (fun g => (![s0, s1, s2] : Fin 3 → Vec Ideal S256x1024 .f32) g y) = (![s0 y, s1 y, s2 y] : Fin 3 → EReal) := by
  funext g; fin_cases g <;> rfl

theorem out6 (o0 o1 o2 s0 s1 s2 : Vec Ideal S256x1024 .f32) :
    out0_6 (F := Ideal) o0 o1 o2 s0 s1 s2 = block ![o0, o1, o2] ![s0, s1, s2] := by
  refine Cert.Pieces.canon_eq _ _ (cover0_6 _ _ _) ?_
  simp only [List.forall_mem_cons, ld_whole]
  refine ⟨fun x => ?_, fun x => ?_, fun x => ?_, fun p hp => absurd hp List.not_mem_nil⟩
  · idx_vars x
    refine (pay11_at s0 s1 s2 o2 _ _).trans (Eq.symm ?_)
    rw [emb3, block_col, three]; rfl
  · idx_vars x
    refine (pay10_at s0 s1 s2 o1 _ _).trans (Eq.symm ?_)
    rw [emb2, block_col, three]; rfl
  · idx_vars x
    refine (pay9_at s0 s1 s2 o0 _ _).trans (Eq.symm ?_)
    rw [emb1, block_col, three]; rfl

theorem idx_val : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- Row `p` of step `t`'s block in the whole array. -/
def row (t : Fin cfg0.N) (p : Fin 256) : Fin 4096 :=
  ⟨t.val * 256 + p.val, by have : t.val < 16 := t.isLt; omega⟩

/-- One number by head, repeated over the head's lanes. -/
def lanes (z : FVec Ideal S4096x8 .f32) : FVec Ideal S4096x1024 .f32 :=
  shapeCast S4096x1024 (broadcastInDim S4096x8x128 ![0, 1, 2] bcast_S4096x8x1_S4096x8x128_0_1_2 (broadcastInDim S4096x8x1 ![0, 1] bcast_S4096x8_S4096x8x1_0_1 z)) shapeCasts_S4096x8x128_S4096x1024

theorem lanes_at (z : FVec Ideal S4096x8 .f32) (i : Fin 4096) (k : Fin 1024) : lanes z (ix2 i k) = z (ix2 i (head k)) := by
  pointwise [lanes]
  rfl

variable (m : (ℓ : Loc nD τ sig) → Buf (Elt Ideal) ℓ) (c : Dev nD)

abbrev O0 : FVec Ideal S4096x1024 .f32 := m ((c : Thread nD τ).loc main_arg0)
abbrev O1 : FVec Ideal S4096x1024 .f32 := m ((c : Thread nD τ).loc main_arg1)
abbrev O2 : FVec Ideal S4096x1024 .f32 := m ((c : Thread nD τ).loc main_arg2)
abbrev Z0 : FVec Ideal S4096x8 .f32 := m ((c : Thread nD τ).loc main_arg3)
abbrev Z1 : FVec Ideal S4096x8 .f32 := m ((c : Thread nD τ).loc main_arg4)
abbrev Z2 : FVec Ideal S4096x8 .f32 := m ((c : Thread nD τ).loc main_arg5)

theorem V2 : V m c main_v2 = lanes (Z0 m c) := by entry_read; rfl
theorem V5 : V m c main_v5 = lanes (Z1 m c) := by entry_read; rfl
theorem V8 : V m c main_v8 = lanes (Z2 m c) := by entry_read; rfl

theorem blk0 (t : Fin cfg0.N) (p : Fin 256) (k : Fin 1024) : iblk m c 0 t (ix2 p k) = O0 m c (ix2 (row t p) k) := by
  have e : iblk m c 0 t (ix2 p k) = V m c main_arg0 (ix2 (row t p) k) := by blk_point [iblk, idx_val t, row]
  rw [e, V_main_arg0]
theorem blk1 (t : Fin cfg0.N) (p : Fin 256) (k : Fin 1024) : iblk m c 1 t (ix2 p k) = O1 m c (ix2 (row t p) k) := by
  have e : iblk m c 1 t (ix2 p k) = V m c main_arg1 (ix2 (row t p) k) := by blk_point [iblk, idx_val t, row]
  rw [e, V_main_arg1]
theorem blk2 (t : Fin cfg0.N) (p : Fin 256) (k : Fin 1024) : iblk m c 2 t (ix2 p k) = O2 m c (ix2 (row t p) k) := by
  have e : iblk m c 2 t (ix2 p k) = V m c main_arg2 (ix2 (row t p) k) := by blk_point [iblk, idx_val t, row]
  rw [e, V_main_arg2]
theorem blk3 (t : Fin cfg0.N) (p : Fin 256) (k : Fin 1024) : iblk m c 3 t (ix2 p k) = Z0 m c (ix2 (row t p) (head k)) := by
  have e : iblk m c 3 t (ix2 p k) = V m c main_v2 (ix2 (row t p) k) := by blk_point [iblk, idx_val t, row]
  rw [e, V2, lanes_at]
theorem blk4 (t : Fin cfg0.N) (p : Fin 256) (k : Fin 1024) : iblk m c 4 t (ix2 p k) = Z1 m c (ix2 (row t p) (head k)) := by
  have e : iblk m c 4 t (ix2 p k) = V m c main_v5 (ix2 (row t p) k) := by blk_point [iblk, idx_val t, row]
  rw [e, V5, lanes_at]
theorem blk5 (t : Fin cfg0.N) (p : Fin 256) (k : Fin 1024) : iblk m c 5 t (ix2 p k) = Z2 m c (ix2 (row t p) (head k)) := by
  have e : iblk m c 5 t (ix2 p k) = V m c main_v8 (ix2 (row t p) k) := by blk_point [iblk, idx_val t, row]
  rw [e, V8, lanes_at]

/-- A step's block of the result, from the whole arguments. -/
theorem block_rows (t : Fin cfg0.N) (p : Fin 256) (q : Fin 3072) :
    block ![iblk m c 0 t, iblk m c 1 t, iblk m c 2 t] ![iblk m c 3 t, iblk m c 4 t, iblk m c 5 t] (ix2 p q)
      = mixed ![O0 m c, O1 m c, O2 m c] ![Z0 m c, Z1 m c, Z2 m c] (ix2 (row t p) q) := by
  obtain ⟨g, k, rfl⟩ : ∃ g k, q = col g k := ⟨_, _, col_all q⟩
  refine (block_col _ _ p g k).trans (Eq.trans ?_ (mix_col _ _ (row t p) g k).symm)
  refine congrArg₂ (fun z o => share z g * o) (funext fun x => ?_) ?_
  · fin_cases x
    exacts [blk3 m c t p k, blk4 m c t p k, blk5 m c t p k]
  · fin_cases g
    exacts [blk0 m c t p k, blk1 m c t p k, blk2 m c t p k]

theorem final : (dats m 0 c).arrAt 6 (cfgs 0).N = mixed ![O0 m c, O1 m c, O2 m c] ![Z0 m c, Z1 m c, Z2 m c] := by
  refine (dats m 0 c).arrAt_eq_of_covers 6 _ (by decide +kernel) fun t hf y => ?_
  blk_simp; rw [after0_6]
  idx_vars y
  refine (congrFun (out6 (iblk m c 0 t) (iblk m c 1 t) (iblk m c 2 t) (iblk m c 3 t) (iblk m c 4 t) (iblk m c 5 t)) (ix2 y0 y1)).trans ?_
  have hy : (((View.whole main_v9).slice (win0_6.rect t)).emb (ix2 y0 y1)) = ix2 (row t y0) y1 := by
    blk_ext [idx_val t, row]
  rw [hy]
  exact block_rows m c t y0 y1

theorem algebraic : Cert.algebraic_Kernel28Ideal_Reference28Ideal := by
  intro m g m' g' _ hargs
  refine ⟨fun c => mixed ![O0 m c, O1 m c, O2 m c] ![Z0 m c, Z1 m c, Z2 m c], ?_, ?_⟩
  · refine (θ_run defs _ _).mono (fun r h c => ?_) (run_blocks (F := Ideal) m g)
    obtain ⟨e, k⟩ := h c
    exact ⟨e.trans (final m c), k⟩
  · refine (θ_run Cert.Reference28Ideal.defs _ _).mono (fun r h c => ?_) (Cert.Reference28Ideal.Value.run (F := Ideal) m' g')
    obtain ⟨e, k⟩ := h c
    obtain ⟨a0, a1, a2, a3, a4, a5⟩ := hargs c
    refine ⟨e.trans ?_, k⟩
    rw [val_main_v35_eq, a0, a1, a2, a3, a4, a5]; exact ref_mixed _ _ _ _ _ _

end Cert.MixFwd

end
-- ==== Proof.MixRef.lean ====
module

public import proofs.«01_k».proof.Defs
public import proofs.«01_k».proof.Proof.Gen.Reference29Ideal.Run
public import proofs.«01_k».proof.Proof.Gen.Reference29Ideal.Read
public import proofs.«01_k».proof.Proof.MixFwd
public import Idealize.ShloMosaic.Lib.Pointwise

/-! What the derivative of mixer B's mixing of its groups computes, entry by entry. -/

@[expose] public section

set_option maxRecDepth 16384

noncomputable section

namespace Cert.MixRef

open Cert.Reference29Ideal Cert.Reference29Ideal.Read Cert.Finite Cert.Attn
open Cert.MixFwd (top weight share head col fold_three)
open Idealize.ShloMosaic

/-- Lane `d` of head `h` among a group's columns. -/
def lane (h : Fin 8) (d : Fin 128) : Fin 1024 := ⟨h.val * 128 + d.val, by omega⟩

/-- The sum of the three weights. -/
def total (z : Fin 3 → EReal) : EReal := weight z 0 + weight z 1 + weight z 2

variable (dy : FVec Ideal S4096x3072 .f32) (o0 o1 o2 : FVec Ideal S4096x1024 .f32) (z0 z1 z2 : FVec Ideal S4096x8 .f32)

/-- The three log-sums of a head's row. -/
def logs (i : Fin 4096) (h : Fin 8) : Fin 3 → EReal := ![z0 (ix2 i h), z1 (ix2 i h), z2 (ix2 i h)]

/-- The gradient of a group's share: the product of gradient and output over the lanes of the head. -/
def pull (g : Fin 3) (o : FVec Ideal S4096x1024 .f32) (i : Fin 4096) (h : Fin 8) : EReal :=
  ∑ d : Fin 128, dy (ix2 i (col g (lane h d))) * o (ix2 i (lane h d))
def pulls (i : Fin 4096) (h : Fin 8) : Fin 3 → EReal := ![pull dy 0 o0 i h, pull dy 1 o1 i h, pull dy 2 o2 i h]

theorem ref_log (g : Fin 3) (i : Fin 4096) (h : Fin 8) : val_main_v3 (F := Ideal) z0 z1 z2 (ix3 g i h) = logs z0 z1 z2 i h g := by
  pointwise [val_main_v3, val_main_v2, val_main_v1, val_main_v0]
  fin_cases g <;> rfl

theorem ref_weight (g : Fin 3) (i : Fin 4096) (h : Fin 8) : val_main_v24 (F := Ideal) z0 z1 z2 (ix3 g i h) = weight (logs z0 z1 z2 i h) g := by
  pointwise [val_main_v24, val_main_v23, val_main_v22, val_main_v21, val_main_v11, val_main_v10, val_main_v4, val_main_cst, val_main_cst_1]
  simp only [ref_log]
  rw [show Ideal.ofBits FTy.f32 4286578688#32 = ⊥ from Cert.Attn.bot_eq, max_bot_left, fold_three]
  rfl

theorem ref_total (i : Fin 4096) (h : Fin 8) : val_main_v25 (F := Ideal) z0 z1 z2 (ix2 i h) = total (logs z0 z1 z2 i h) := by
  pointwise [val_main_v25, val_main_cst_7]
  simp only [ref_weight, Fin.sum_univ_three]
  rfl

theorem ref_share (g : Fin 3) (i : Fin 4096) (h : Fin 8) : val_main_v28 (F := Ideal) z0 z1 z2 (ix3 g i h) = share (logs z0 z1 z2 i h) g := by
  pointwise [val_main_v28, val_main_v27, val_main_v26]
  rw [ref_weight, ref_total]
  rfl

theorem ref_pulls (g : Fin 3) (i : Fin 4096) (h : Fin 8) : val_main_v81 (F := Ideal) dy o0 o1 o2 (ix3 g i h) = pulls dy o0 o1 o2 i h g := by
  pointwise [val_main_v81, val_main_v80, val_main_v79, val_main_v78, val_main_v77, val_main_v76, val_main_v75, val_main_v72, val_main_v71, val_main_v70, val_main_v69, val_main_v68, val_main_v67, val_main_v66, val_main_v63, val_main_v62, val_main_v61, val_main_v60, val_main_v59, val_main_v58, val_main_v55, val_main_v54, val_main_v53, val_main_v52, val_main_v34, val_main_v33, val_main_v32, val_main_cst_9, val_main_cst_10, val_main_cst_11, val_main_cst_12, val_main_cst_13, val_main_cst_14, val_main_cst_15, val_main_cst_16, val_main_cst_17]
  have e0 : ∀ x : Fin 128, (⟨h.val * 128 + x.val, by omega⟩ : Fin 3072) = col 0 (lane h x) := fun x => Fin.ext (by simp only [col, lane]; omega)
  have e1 : ∀ x : Fin 128, (⟨(8 + h.val) * 128 + x.val, by omega⟩ : Fin 3072) = col 1 (lane h x) := fun x => Fin.ext (by simp only [col, lane]; omega)
  have e2 : ∀ x : Fin 128, (⟨(16 + h.val) * 128 + x.val, by omega⟩ : Fin 3072) = col 2 (lane h x) := fun x => Fin.ext (by simp only [col, lane]; omega)
  simp only [Finset.univ_unique, Finset.sum_singleton, e0, e1, e2]
  fin_cases g <;> simp [pulls, pull, lane]

theorem ref_slope (g : Fin 3) (i : Fin 4096) (h : Fin 8) : val_main_v96 (F := Ideal) dy o0 o1 o2 z0 z1 z2 (ix3 g i h)
    = (Ideal.div (pulls dy o0 o1 o2 i h g) (total (logs z0 z1 z2 i h)) + -(∑ x : Fin 3, pulls dy o0 o1 o2 i h x
        * Ideal.div 1 (total (logs z0 z1 z2 i h) * total (logs z0 z1 z2 i h)) * weight (logs z0 z1 z2 i h) x)) * weight (logs z0 z1 z2 i h) g := by
  pointwise [val_main_v96, val_main_v95, val_main_v94, val_main_v93, val_main_v92, val_main_v91, val_main_v90, val_main_v89, val_main_v88, val_main_v87, val_main_v86, val_main_v85, val_main_v31, val_main_v30, val_main_v29, val_main_v26, val_main_cst_8, val_main_cst_18, val_main_cst_19]
  simp only [ref_weight, ref_total, ref_pulls, Finset.univ_unique, Finset.sum_singleton]

theorem ref_d0 (i : Fin 4096) (k : Fin 1024) : val_main_v84 (F := Ideal) dy z0 z1 z2 (ix2 i k) = share (logs z0 z1 z2 i (head k)) 0 * dy (ix2 i (col 0 k)) := by
  pointwise [val_main_v84, val_main_v74, val_main_v73, val_main_v53, val_main_v52, val_main_v37, val_main_v36, val_main_v35]
  rw [ref_share]
  exact congrArg (fun q => share (logs z0 z1 z2 i (head k)) 0 * dy (ix2 i q)) (Fin.ext (by simp only [col]; omega))
theorem ref_d1 (i : Fin 4096) (k : Fin 1024) : val_main_v83 (F := Ideal) dy z0 z1 z2 (ix2 i k) = share (logs z0 z1 z2 i (head k)) 1 * dy (ix2 i (col 1 k)) := by
  pointwise [val_main_v83, val_main_v65, val_main_v64, val_main_v54, val_main_v52, val_main_v42, val_main_v41, val_main_v40]
  rw [ref_share]
  exact congrArg (fun q => share (logs z0 z1 z2 i (head k)) 1 * dy (ix2 i q)) (Fin.ext (by simp only [col]; omega))
theorem ref_d2 (i : Fin 4096) (k : Fin 1024) : val_main_v82 (F := Ideal) dy z0 z1 z2 (ix2 i k) = share (logs z0 z1 z2 i (head k)) 2 * dy (ix2 i (col 2 k)) := by
  pointwise [val_main_v82, val_main_v57, val_main_v56, val_main_v55, val_main_v52, val_main_v47, val_main_v46, val_main_v45]
  rw [ref_share]
  exact congrArg (fun q => share (logs z0 z1 z2 i (head k)) 2 * dy (ix2 i q)) (Fin.ext (by simp only [col]; omega))

theorem ref_s0 (i : Fin 4096) (k : Fin 1024) : val_main_v117 (F := Ideal) dy o0 o1 o2 z0 z1 z2 (ix2 i k)
    = (∑ d : Fin 128, val_main_v84 (F := Ideal) dy z0 z1 z2 (ix2 i (lane (head k) d)) * o0 (ix2 i (lane (head k) d))) - val_main_v96 (F := Ideal) dy o0 o1 o2 z0 z1 z2 (ix3 0 i (head k)) := by
  pointwise [val_main_v117, val_main_v116, val_main_v115, val_main_v106, val_main_v105, val_main_v104, val_main_v103, val_main_v98, val_main_v97, val_main_cst_20]
  rfl
theorem ref_s1 (i : Fin 4096) (k : Fin 1024) : val_main_v120 (F := Ideal) dy o0 o1 o2 z0 z1 z2 (ix2 i k)
    = (∑ d : Fin 128, val_main_v83 (F := Ideal) dy z0 z1 z2 (ix2 i (lane (head k) d)) * o1 (ix2 i (lane (head k) d))) - val_main_v96 (F := Ideal) dy o0 o1 o2 z0 z1 z2 (ix3 1 i (head k)) := by
  pointwise [val_main_v120, val_main_v119, val_main_v118, val_main_v110, val_main_v109, val_main_v108, val_main_v107, val_main_v100, val_main_v99, val_main_cst_21]
  rfl
theorem ref_s2 (i : Fin 4096) (k : Fin 1024) : val_main_v123 (F := Ideal) dy o0 o1 o2 z0 z1 z2 (ix2 i k)
    = (∑ d : Fin 128, val_main_v82 (F := Ideal) dy z0 z1 z2 (ix2 i (lane (head k) d)) * o2 (ix2 i (lane (head k) d))) - val_main_v96 (F := Ideal) dy o0 o1 o2 z0 z1 z2 (ix3 2 i (head k)) := by
  pointwise [val_main_v123, val_main_v122, val_main_v121, val_main_v114, val_main_v113, val_main_v112, val_main_v111, val_main_v102, val_main_v101, val_main_cst_22]
  rfl

/-! ### The two forms of the derivative -/

theorem isReal_max' {x y : EReal} (hx : IsReal x) (hy : IsReal y) : IsReal (max x y) := by
  rcases max_choice x y with h | h <;> rw [h] <;> assumption

theorem weights_real (z : Fin 3 → EReal) (hz : ∀ x, IsReal (z x)) : ∃ w : Fin 3 → ℝ, (∀ x, 0 < w x) ∧ ∀ x, weight z x = (w x : EReal) := by
  obtain ⟨t, ht⟩ : IsReal (top z) := isReal_max' (isReal_max' (hz 0) (hz 1)) (hz 2)
  choose z' hz' using hz
  exact ⟨fun x => Real.exp (z' x - t), fun x => Real.exp_pos _, fun x => by rw [weight, ht, hz' x, ← EReal.coe_sub, Ideal.exp_coe]⟩

/-- The gradient as the kernel forms it. -/
def slope (z u : Fin 3 → EReal) (g : Fin 3) : EReal := share z g * (((0 + share z 0 * u 0) + share z 1 * u 1) + share z 2 * u 2)

/-- A real factor that is not negative may be drawn out of a sum. -/
theorem mul_sum_real {ι : Type} (s : Finset ι) (f : ι → EReal) {r : ℝ} (hr : 0 ≤ r) : (∑ i ∈ s, (r : EReal) * f i) = r * ∑ i ∈ s, f i := by
  classical
  induction s using Finset.induction_on with
  | empty => simp
  | insert i s hi ih =>
    rw [Finset.sum_insert hi, Finset.sum_insert hi, ih, EReal.left_distrib_of_nonneg_of_ne_top (by exact_mod_cast hr) (EReal.coe_ne_top r)]

/-- A sum is minus infinity where a summand is. -/
theorem sum_bot (v : Fin 3 → EReal) (g : Fin 3) (h : v g = ⊥) : ∑ x, v x = ⊥ := by
  rw [Fin.sum_univ_three]
  fin_cases g
  · have e : v 0 = ⊥ := h
    rw [e, EReal.bot_add, EReal.bot_add]
  · have e : v 1 = ⊥ := h
    rw [e, EReal.add_bot, EReal.bot_add]
  · have e : v 2 = ⊥ := h
    rw [e, EReal.add_bot]

/-- A sum is infinite where a summand is plus infinity. -/
theorem sum_top (v : Fin 3 → EReal) (g : Fin 3) (h : v g = ⊤) : ∑ x, v x = ⊤ ∨ ∑ x, v x = ⊥ := by
  by_cases k : ∃ x, v x = ⊥
  · obtain ⟨x, hx⟩ := k
    exact Or.inr (sum_bot v x hx)
  · have n : ∀ x, v x ≠ ⊥ := fun x hx => k ⟨x, hx⟩
    left
    rw [Fin.sum_univ_three]
    fin_cases g
    · have e : v 0 = ⊤ := h
      rw [e, EReal.top_add_of_ne_bot (n 1), EReal.top_add_of_ne_bot (n 2)]
    · have e : v 1 = ⊤ := h
      rw [e, EReal.add_top_of_ne_bot (n 0), EReal.top_add_of_ne_bot (n 2)]
    · have e : v 2 = ⊤ := h
      rw [e, EReal.add_top_of_ne_bot]
      exact fun q => (EReal.add_eq_bot_iff.1 q).elim (n 0) (n 1)

/-- Taking away all but a part leaves the part, if the part is infinite where the whole is. -/
theorem sub_sub_part (a k : EReal) {s : ℝ} (hs : 0 < s) (h0 : a = ⊥ → k = ⊥) (h1 : a = ⊤ → k = ⊤ ∨ k = ⊥) : a - (a - s * k) = s * k := by
  induction a with
  | bot => rw [h0 rfl, EReal.coe_mul_bot_of_pos hs]; rfl
  | top =>
    rcases h1 rfl with h | h
    · rw [h, EReal.coe_mul_top_of_pos hs]; rfl
    · rw [h, EReal.coe_mul_bot_of_pos hs]; rfl
  | coe a =>
    induction k with
    | bot => rw [EReal.coe_mul_bot_of_pos hs]; rfl
    | top => rw [EReal.coe_mul_top_of_pos hs]; rfl
    | coe k => rw [← EReal.coe_mul, ← EReal.coe_sub, ← EReal.coe_sub, sub_sub_cancel]

/-- The reference takes the row sums and subtracts the gradient of the log-sum from them; what is left is the weighted mean of the pulls.
    This needs real log-sums only. -/
theorem slope_eq (z u : Fin 3 → EReal) (a b : Fin 128 → EReal) (g : Fin 3) (hz : ∀ x, IsReal (z x)) (hg : u g = ∑ d, a d * b d) :
    (∑ d, share z g * a d * b d) - (Ideal.div (u g) (total z) + -(∑ x, u x * Ideal.div 1 (total z * total z) * weight z x)) * weight z g = slope z u g := by
  obtain ⟨w, hp, hw⟩ := weights_real z hz
  have hS : (0 : ℝ) < w 0 + w 1 + w 2 := add_pos (add_pos (hp 0) (hp 1)) (hp 2)
  have ht : total z = ((w 0 + w 1 + w 2 : ℝ) : EReal) := by rw [total, hw, hw, hw, EReal.coe_add, EReal.coe_add]
  generalize w 0 + w 1 + w 2 = S at hS ht
  have hs : ∀ x, share z x = ((w x / S : ℝ) : EReal) := fun x => by
    rw [← div_real _ hS.ne', ← hw x, ← ht]; rfl
  have hq : 0 < w g / S := div_pos (hp g) hS
  have e1 : ∑ d, share z g * a d * b d = ((w g / S : ℝ) : EReal) * u g := by
    rw [hg, ← mul_sum_real _ _ hq.le]
    exact Finset.sum_congr rfl fun d _ => by rw [hs, mul_assoc]
  have e2 : ∑ x, u x * Ideal.div 1 (total z * total z) * weight z x = ((1 / S : ℝ) : EReal) * ∑ x, ((w x / S : ℝ) : EReal) * u x := by
    rw [← mul_sum_real _ _ (one_div_pos.2 hS).le]
    refine Finset.sum_congr rfl fun x _ => ?_
    rw [ht, hw, ← EReal.coe_mul, ← EReal.coe_one, div_real _ (mul_pos hS hS).ne', mul_assoc, ← EReal.coe_mul, mul_comm (u x), ← mul_assoc, ← EReal.coe_mul]
    exact congrArg (fun r : ℝ => (r : EReal) * u x) (by field_simp)
  have e3 : slope z u g = ((w g / S : ℝ) : EReal) * ∑ x, ((w x / S : ℝ) : EReal) * u x := by
    rw [slope, Fin.sum_univ_three, zero_add]
    simp only [hs]
  rw [e1, e2, e3, ht, hw, Ideal.div_coe hS.ne', EReal.right_distrib_of_nonneg_of_ne_top (by exact_mod_cast (hp g).le) (EReal.coe_ne_top _), neg_mul]
  have e4 : u g * ((1 / S : ℝ) : EReal) * (w g : EReal) = ((w g / S : ℝ) : EReal) * u g := by
    rw [mul_assoc, ← EReal.coe_mul, mul_comm]
    exact congrArg (fun r : ℝ => (r : EReal) * u g) (by field_simp)
  have e5 : ∀ k : EReal, ((1 / S : ℝ) : EReal) * k * (w g : EReal) = ((w g / S : ℝ) : EReal) * k := fun k => by
    rw [mul_comm, ← mul_assoc, ← EReal.coe_mul]
    exact congrArg (fun r : ℝ => (r : EReal) * k) (by field_simp)
  rw [e4, e5]
  exact sub_sub_part _ _ hq (sum_bot (fun x => ((w x / S : ℝ) : EReal) * u x) g) (sum_top (fun x => ((w x / S : ℝ) : EReal) * u x) g)

end Cert.MixRef

end
-- ==== Proof.MixGrad.lean ====
module

public import proofs.«01_k».proof.Defs
public import proofs.«01_k».proof.Proof.Gen.Kernel29Ideal.Value
public import proofs.«01_k».proof.Proof.MixRef
public import proofs.«01_k».proof.Proof.Pieces
public import Idealize.ShloMosaic.Lib.Pipeline.ValueKit
public import Idealize.ShloMosaic.Lib.Pointwise

/-! The kernel of the derivative of mixer B's mixing: what one step leaves in its six blocks. -/

@[expose] public section

set_option maxRecDepth 16384

noncomputable section

namespace Cert.MixGrad

open Cert.Kernel29Ideal Cert.Kernel29Ideal.Gen
open Cert.MixFwd (top weight share head col)
open Cert.MixRef (lane slope)
open Idealize.ShloMosaic

/-- A head's sums over its lanes, repeated over them. -/
def rep (a b : Vec Ideal S256x128 .f32) : FVec Ideal S256x128 .f32 :=
  broadcastTo S256x128 (shapeCast S256x1 (shapeCast S256x1
    (multiReduction .add [1] S256 (mulf a b : FVec Ideal S256x128 .f32) 0x00000000#32 reduces_S256x128_S256 (.inl rfl) rfl) shapeCasts_S256_S256x1) shapeCasts_S256x1_S256x1) broadcasts_S256x1_S256x128

theorem rep_at (a b : Vec Ideal S256x128 .f32) (p : Fin 256) (d : Fin 128) : rep a b (ix2 p d) = ∑ k, a (ix2 p k) * b (ix2 p k) := by
  pointwise [rep]

/-- The columns of one head in a group's block. -/
abbrev cut (n : Nat) (h : S256x1024.Slices ![0, 128 * n] S256x128) (w : FVec Ideal S256x1024 .f32) : FVec Ideal S256x128 .f32 :=
  extractStridedSlice S256x128 ![0, 128 * n] w h

theorem cut_at (n : Nat) (hn : n < 8) (h) (w : FVec Ideal S256x1024 .f32) (p : Fin 256) (d : Fin 128) :
    cut n h w (ix2 p d) = w (ix2 p (lane ⟨n, hn⟩ d)) := by
  refine congrArg w (funext fun i => Fin.ext ?_)
  fin_cases i <;> simp [ix2, lane, Nat.mul_comm]

/-- One head's part of the gradient of a log-sum; `w` is the group's share, `w0`, `w1`, `w2` are the three. -/
def slopes (n : Nat) (h : S256x1024.Slices ![0, 128 * n] S256x128) (w w0 w1 w2 : FVec Ideal S256x1024 .f32) (a0 b0 a1 b1 a2 b2 : Vec Ideal S256x128 .f32) :
    FVec Ideal S256x128 .f32 :=
  mulf (cut n h w) (addf (addf (addf (broadcast S256x128 (Scalar.ofBits (F := Ideal) .f32 0x00000000#32)) (mulf (cut n h w0) (rep a0 b0))) (mulf (cut n h w1) (rep a1 b1))) (mulf (cut n h w2) (rep a2 b2)))

/-- Head `n`'s columns of a group's block, and of group `g` in the block of all. -/
abbrev part (n : Nat) (h : ∀ i, (![0, 128 * n] : Fin 2 → Nat) i + S256x128.size i ≤ S256x1024.size i) : Rect S256x1024 :=
  Rect.unit (s := S256x1024) ![0, 128 * n] S256x128.size h
abbrev wide (g n : Nat) (h : ∀ i, (![0, 1024 * g + 128 * n] : Fin 2 → Nat) i + S256x128.size i ≤ S256x3072.size i) : Rect S256x3072 :=
  Rect.unit (s := S256x3072) ![0, 1024 * g + 128 * n] S256x128.size h

theorem part_emb (n : Nat) (hn : n < 8) (h) (p : Fin 256) (d : Fin 128) : (part n h).emb (ix2 p d) = ix2 p (lane ⟨n, hn⟩ d) := by
  refine funext fun i => Fin.ext ?_
  rw [Rect.emb_apply]
  fin_cases i <;> simp [ix2, part, lane, Nat.mul_comm]
theorem wide_emb (g : Fin 3) (n : Nat) (hn : n < 8) (h) (p : Fin 256) (d : Fin 128) : (wide g.val n h).emb (ix2 p d) = ix2 p (col g (lane ⟨n, hn⟩ d)) := by
  refine funext fun i => Fin.ext ?_
  rw [Rect.emb_apply]
  fin_cases i
  · simp [ix2, wide]
  · simp [ix2, wide, col, lane]; omega

theorem head_lane (h : Fin 8) (d : Fin 128) : head (lane h d) = h := Fin.ext (by simp only [head, lane]; omega)

/-- The product of gradient and output over a head's lanes, in a block. -/
def pullB (x : Vec Ideal S256x3072 .f32) (g : Fin 3) (o : Vec Ideal S256x1024 .f32) (p : Fin 256) (h : Fin 8) : EReal :=
  ∑ d : Fin 128, x (ix2 p (col g (lane h d))) * o (ix2 p (lane h d))

variable (x : Vec Ideal S256x3072 .f32) (o0 o1 o2 s0 s1 s2 : Vec Ideal S256x1024 .f32)

def pullsB (p : Fin 256) (h : Fin 8) : Fin 3 → EReal := ![pullB x 0 o0 p h, pullB x 1 o1 p h, pullB x 2 o2 p h]
def logsB (p : Fin 256) (k : Fin 1024) : Fin 3 → EReal := ![s0 (ix2 p k), s1 (ix2 p k), s2 (ix2 p k)]

/-- The gradient of group `g`'s log-sums, in a block. -/
def slopeB (g : Fin 3) : Vec Ideal S256x1024 .f32 := fun y =>
  slope (logsB s0 s1 s2 (y 0) (y 1)) (pullsB x o0 o1 o2 (y 0) (head (y 1))) g

theorem ld_whole (o : Vec Ideal S256x1024 .f32) : View.ld o r0_0 = o := by
  funext y
  have e : r0_0.emb y = y := by
    refine funext fun i => Fin.ext ?_
    rw [Rect.emb_apply]
    fin_cases i <;> simp
  exact congrArg o e

theorem share0_at (p : Fin 256) (q : Fin 1024) : k0_pay13 (F := Ideal) s0 s1 s2 (ix2 p q) = share (logsB s0 s1 s2 p q) 0 := by
  pointwise [k0_pay13, k0_pay12, k0_pay11, k0_pay10, k0_pay9, k0_pay8, k0_pay7, k0_pay6, k0_pay5]
  rfl
theorem share1_at (p : Fin 256) (q : Fin 1024) : k0_pay14 (F := Ideal) s0 s1 s2 (ix2 p q) = share (logsB s0 s1 s2 p q) 1 := by
  pointwise [k0_pay14, k0_pay12, k0_pay11, k0_pay10, k0_pay9, k0_pay8, k0_pay7, k0_pay6, k0_pay5]
  rfl
theorem share2_at (p : Fin 256) (q : Fin 1024) : k0_pay15 (F := Ideal) s0 s1 s2 (ix2 p q) = share (logsB s0 s1 s2 p q) 2 := by
  pointwise [k0_pay15, k0_pay12, k0_pay11, k0_pay10, k0_pay9, k0_pay8, k0_pay7, k0_pay6, k0_pay5]
  rfl

/-- One head's part is the gradient there, where `w` holds the shares of group `g`. -/
theorem slopes_at (g : Fin 3) (w : FVec Ideal S256x1024 .f32) (hw : ∀ p q, w (ix2 p q) = share (logsB s0 s1 s2 p q) g)
    (n : Nat) (hn : n < 8) (hc) (h) (h0) (h1) (h2) (y : S256x128.Idx) :
    slopes n hc w (k0_pay13 (F := Ideal) (View.ld s0 r0_0) (View.ld s1 r0_0) (View.ld s2 r0_0)) (k0_pay14 (F := Ideal) (View.ld s0 r0_0) (View.ld s1 r0_0) (View.ld s2 r0_0))
      (k0_pay15 (F := Ideal) (View.ld s0 r0_0) (View.ld s1 r0_0) (View.ld s2 r0_0))
      (View.ld x (wide 0 n h0)) (View.ld o0 (part n h)) (View.ld x (wide 1 n h1)) (View.ld o1 (part n h)) (View.ld x (wide 2 n h2)) (View.ld o2 (part n h)) y
      = slopeB x o0 o1 o2 s0 s1 s2 g ((part n h).emb y) := by
  idx_vars y
  rw [part_emb n hn, ld_whole, ld_whole, ld_whole]
  have hp : ∀ (f : Fin 3) (o : Vec Ideal S256x1024 .f32) (hf), rep (View.ld x (wide f.val n hf)) (View.ld o (part n h)) (ix2 y0 y1) = pullB x f o y0 ⟨n, hn⟩ := by
    intro f o hf
    refine (rep_at _ _ _ _).trans (Finset.sum_congr rfl fun k _ => ?_)
    exact congrArg₂ (fun a b => x a * o b) (wide_emb f n hn hf y0 k) (part_emb n hn h y0 k)
  show cut n hc w (ix2 y0 y1) * (((Ideal.ofBits .f32 0x00000000#32 + cut n hc _ (ix2 y0 y1) * rep _ _ (ix2 y0 y1)) + cut n hc _ (ix2 y0 y1) * rep _ _ (ix2 y0 y1))
    + cut n hc _ (ix2 y0 y1) * rep _ _ (ix2 y0 y1)) = slope (logsB s0 s1 s2 y0 (lane ⟨n, hn⟩ y1)) (pullsB x o0 o1 o2 y0 (head (lane ⟨n, hn⟩ y1))) g
  have q0 : rep (View.ld x (wide 0 n h0)) (View.ld o0 (part n h)) (ix2 y0 y1) = _ := hp 0 o0 h0
  have q1 : rep (View.ld x (wide 1 n h1)) (View.ld o1 (part n h)) (ix2 y0 y1) = _ := hp 1 o1 h1
  have q2 : rep (View.ld x (wide 2 n h2)) (View.ld o2 (part n h)) (ix2 y0 y1) = _ := hp 2 o2 h2
  rw [head_lane, q0, q1, q2, cut_at n hn, cut_at n hn, cut_at n hn, cut_at n hn, hw, share0_at, share1_at, share2_at, Ideal.ofBits_zero_f32]
  rfl

/-- The gradient of group `g`'s output, in a block. -/
def shareB (g : Fin 3) : Vec Ideal S256x1024 .bf16 := fun y => share (logsB s0 s1 s2 (y 0) (y 1)) g * x (ix2 (y 0) (col g (y 1)))

theorem whole_emb (g : Fin 3) (h : ∀ i, (![0, 1024 * g.val] : Fin 2 → Nat) i + S256x1024.size i ≤ S256x3072.size i) (p : Fin 256) (k : Fin 1024) :
    (Rect.unit (s := S256x3072) ![0, 1024 * g.val] S256x1024.size h).emb (ix2 p k) = ix2 p (col g k) := by
  refine funext fun i => Fin.ext ?_
  rw [Rect.emb_apply]
  fin_cases i <;> simp [ix2, col]

theorem group_emb (p : Fin 256) (k : Fin 1024) : r0_0.emb (ix2 p k) = ix2 p k := by
  refine funext fun i => Fin.ext ?_
  rw [Rect.emb_apply]
  fin_cases i <;> simp [ix2]

theorem out7 : out0_7 (F := Ideal) x o0 o1 o2 s0 s1 s2 = shareB x s0 s1 s2 0 := by
  refine Cert.Pieces.canon_eq _ _ (cover0_7 _) ?_
  simp only [List.forall_mem_cons, ld_whole]
  refine ⟨fun y => ?_, fun p hp => absurd hp List.not_mem_nil⟩
  idx_vars y
  rw [group_emb]
  exact congrArg₂ (fun a b : EReal => a * b) (share0_at s0 s1 s2 y0 y1) (congrArg x (whole_emb 0 _ y0 y1))
theorem out8 : out0_8 (F := Ideal) x o0 o1 o2 s0 s1 s2 = shareB x s0 s1 s2 1 := by
  refine Cert.Pieces.canon_eq _ _ (cover0_8 _) ?_
  simp only [List.forall_mem_cons, ld_whole]
  refine ⟨fun y => ?_, fun p hp => absurd hp List.not_mem_nil⟩
  idx_vars y
  rw [group_emb]
  exact congrArg₂ (fun a b : EReal => a * b) (share1_at s0 s1 s2 y0 y1) (congrArg x (whole_emb 1 _ y0 y1))
theorem out9 : out0_9 (F := Ideal) x o0 o1 o2 s0 s1 s2 = shareB x s0 s1 s2 2 := by
  refine Cert.Pieces.canon_eq _ _ (cover0_9 _) ?_
  simp only [List.forall_mem_cons, ld_whole]
  refine ⟨fun y => ?_, fun p hp => absurd hp List.not_mem_nil⟩
  idx_vars y
  rw [group_emb]
  exact congrArg₂ (fun a b : EReal => a * b) (share2_at s0 s1 s2 y0 y1) (congrArg x (whole_emb 2 _ y0 y1))

theorem out10 : out0_10 (F := Ideal) x o0 o1 o2 s0 s1 s2 = slopeB x o0 o1 o2 s0 s1 s2 0 := by
  have hw : ∀ p q, k0_pay13 (F := Ideal) (View.ld s0 r0_0) (View.ld s1 r0_0) (View.ld s2 r0_0) (ix2 p q) = share (logsB s0 s1 s2 p q) 0 := by
    intro p q; rw [ld_whole, ld_whole, ld_whole]; exact share0_at s0 s1 s2 p q
  refine Cert.Pieces.canon_eq _ _ (cover0_10 _ _ _ _ _ _ _ _) ?_
  simp only [List.forall_mem_cons]
  exact ⟨slopes_at x o0 o1 o2 s0 s1 s2 0 _ hw 7 (by omega) _ _ _ _ _, slopes_at x o0 o1 o2 s0 s1 s2 0 _ hw 6 (by omega) _ _ _ _ _,
    slopes_at x o0 o1 o2 s0 s1 s2 0 _ hw 5 (by omega) _ _ _ _ _, slopes_at x o0 o1 o2 s0 s1 s2 0 _ hw 4 (by omega) _ _ _ _ _,
    slopes_at x o0 o1 o2 s0 s1 s2 0 _ hw 3 (by omega) _ _ _ _ _, slopes_at x o0 o1 o2 s0 s1 s2 0 _ hw 2 (by omega) _ _ _ _ _,
    slopes_at x o0 o1 o2 s0 s1 s2 0 _ hw 1 (by omega) _ _ _ _ _, slopes_at x o0 o1 o2 s0 s1 s2 0 _ hw 0 (by omega) _ _ _ _ _,
    fun p hp => absurd hp List.not_mem_nil⟩
theorem out11 : out0_11 (F := Ideal) x o0 o1 o2 s0 s1 s2 = slopeB x o0 o1 o2 s0 s1 s2 1 := by
  have hw : ∀ p q, k0_pay14 (F := Ideal) (View.ld s0 r0_0) (View.ld s1 r0_0) (View.ld s2 r0_0) (ix2 p q) = share (logsB s0 s1 s2 p q) 1 := by
    intro p q; rw [ld_whole, ld_whole, ld_whole]; exact share1_at s0 s1 s2 p q
  refine Cert.Pieces.canon_eq _ _ (cover0_11 _ _ _ _ _ _ _ _) ?_
  simp only [List.forall_mem_cons]
  exact ⟨slopes_at x o0 o1 o2 s0 s1 s2 1 _ hw 7 (by omega) _ _ _ _ _, slopes_at x o0 o1 o2 s0 s1 s2 1 _ hw 6 (by omega) _ _ _ _ _,
    slopes_at x o0 o1 o2 s0 s1 s2 1 _ hw 5 (by omega) _ _ _ _ _, slopes_at x o0 o1 o2 s0 s1 s2 1 _ hw 4 (by omega) _ _ _ _ _,
    slopes_at x o0 o1 o2 s0 s1 s2 1 _ hw 3 (by omega) _ _ _ _ _, slopes_at x o0 o1 o2 s0 s1 s2 1 _ hw 2 (by omega) _ _ _ _ _,
    slopes_at x o0 o1 o2 s0 s1 s2 1 _ hw 1 (by omega) _ _ _ _ _, slopes_at x o0 o1 o2 s0 s1 s2 1 _ hw 0 (by omega) _ _ _ _ _,
    fun p hp => absurd hp List.not_mem_nil⟩
theorem out12 : out0_12 (F := Ideal) x o0 o1 o2 s0 s1 s2 = slopeB x o0 o1 o2 s0 s1 s2 2 := by
  have hw : ∀ p q, k0_pay15 (F := Ideal) (View.ld s0 r0_0) (View.ld s1 r0_0) (View.ld s2 r0_0) (ix2 p q) = share (logsB s0 s1 s2 p q) 2 := by
    intro p q; rw [ld_whole, ld_whole, ld_whole]; exact share2_at s0 s1 s2 p q
  refine Cert.Pieces.canon_eq _ _ (cover0_12 _ _ _ _ _ _ _ _) ?_
  simp only [List.forall_mem_cons]
  exact ⟨slopes_at x o0 o1 o2 s0 s1 s2 2 _ hw 7 (by omega) _ _ _ _ _, slopes_at x o0 o1 o2 s0 s1 s2 2 _ hw 6 (by omega) _ _ _ _ _,
    slopes_at x o0 o1 o2 s0 s1 s2 2 _ hw 5 (by omega) _ _ _ _ _, slopes_at x o0 o1 o2 s0 s1 s2 2 _ hw 4 (by omega) _ _ _ _ _,
    slopes_at x o0 o1 o2 s0 s1 s2 2 _ hw 3 (by omega) _ _ _ _ _, slopes_at x o0 o1 o2 s0 s1 s2 2 _ hw 2 (by omega) _ _ _ _ _,
    slopes_at x o0 o1 o2 s0 s1 s2 2 _ hw 1 (by omega) _ _ _ _ _, slopes_at x o0 o1 o2 s0 s1 s2 2 _ hw 0 (by omega) _ _ _ _ _,
    fun p hp => absurd hp List.not_mem_nil⟩

end Cert.MixGrad

end
-- ==== Proof.MixBwd.lean ====
module

public import proofs.«01_k».proof.Defs
public import proofs.«01_k».proof.Proof.Gen.Pre_finite_logs
public import proofs.«01_k».proof.Proof.Gen.Reference29Ideal.Run
public import proofs.«01_k».proof.Proof.Gen.Reference29Ideal.Read
public import proofs.«01_k».proof.Proof.Gen.Kernel29Ideal.Value
public import proofs.«01_k».proof.Proof.MixGrad
public import Idealize.ShloMosaic.Lib.Pipeline.ValueKit
public import Idealize.ShloMosaic.Lib.Pointwise
public import Idealize.ShloMosaic.Lib.Claim

/-! The derivative of mixer B's mixing of its groups: every step's blocks, and the equality with the reference. -/

@[expose] public section

set_option maxRecDepth 16384

noncomputable section

namespace Cert.MixBwd

open Cert.Kernel29Ideal Cert.Kernel29Ideal.Gen Cert.Kernel29Ideal.Value Cert.Reference29Ideal.Read Cert.Finite
open Cert.MixFwd (share head col)
open Cert.MixRef (lane slope slope_eq logs pull pulls)
open Cert.MixGrad
open Idealize.ShloMosaic Idealize.ShloMosaic.TcCoe Idealize.SL.Sem

section Arrays

variable (dy : FVec Ideal S4096x3072 .f32) (o0 o1 o2 : FVec Ideal S4096x1024 .f32) (z0 z1 z2 : FVec Ideal S4096x8 .f32)

/-- The gradient of group `g`'s output. -/
def dout (g : Fin 3) : FVec Ideal S4096x1024 .bf16 := fun y => share (logs z0 z1 z2 (y 0) (head (y 1))) g * dy (ix2 (y 0) (col g (y 1)))
/-- The row sums of group `g` less the gradient of its log-sums. -/
def dsum (g : Fin 3) : FVec Ideal S4096x1024 .f32 := fun y =>
  slope (logs z0 z1 z2 (y 0) (head (y 1))) (pulls dy o0 o1 o2 (y 0) (head (y 1))) g

theorem ref_dout0 : val_main_v124 (F := Ideal) dy z0 z1 z2 = dout dy z0 z1 z2 0 := by
  funext y; idx_vars y; exact Cert.MixRef.ref_d0 dy z0 z1 z2 y0 y1
theorem ref_dout1 : val_main_v125 (F := Ideal) dy z0 z1 z2 = dout dy z0 z1 z2 1 := by
  funext y; idx_vars y; exact Cert.MixRef.ref_d1 dy z0 z1 z2 y0 y1
theorem ref_dout2 : val_main_v126 (F := Ideal) dy z0 z1 z2 = dout dy z0 z1 z2 2 := by
  funext y; idx_vars y; exact Cert.MixRef.ref_d2 dy z0 z1 z2 y0 y1

variable (k0 : ∀ i, IsReal (z0 i)) (k1 : ∀ i, IsReal (z1 i)) (k2 : ∀ i, IsReal (z2 i))

include k0 k1 k2 in
theorem logs_real (i : Fin 4096) (h : Fin 8) (x : Fin 3) : IsReal (logs z0 z1 z2 i h x) := by
  fin_cases x
  exacts [k0 _, k1 _, k2 _]

include k0 k1 k2 in
theorem ref_dsum0 : val_main_v117 (F := Ideal) dy o0 o1 o2 z0 z1 z2 = dsum dy o0 o1 o2 z0 z1 z2 0 := by
  funext y
  idx_vars y
  rw [Cert.MixRef.ref_s0, Cert.MixRef.ref_slope]
  simp only [Cert.MixRef.ref_d0, head_lane]
  exact slope_eq _ _ (fun d => dy (ix2 y0 (col 0 (lane (head y1) d)))) (fun d => o0 (ix2 y0 (lane (head y1) d))) 0
    (logs_real z0 z1 z2 k0 k1 k2 _ _) rfl

include k0 k1 k2 in
theorem ref_dsum1 : val_main_v120 (F := Ideal) dy o0 o1 o2 z0 z1 z2 = dsum dy o0 o1 o2 z0 z1 z2 1 := by
  funext y
  idx_vars y
  rw [Cert.MixRef.ref_s1, Cert.MixRef.ref_slope]
  simp only [Cert.MixRef.ref_d1, head_lane]
  exact slope_eq _ _ (fun d => dy (ix2 y0 (col 1 (lane (head y1) d)))) (fun d => o1 (ix2 y0 (lane (head y1) d))) 1
    (logs_real z0 z1 z2 k0 k1 k2 _ _) rfl

include k0 k1 k2 in
theorem ref_dsum2 : val_main_v123 (F := Ideal) dy o0 o1 o2 z0 z1 z2 = dsum dy o0 o1 o2 z0 z1 z2 2 := by
  funext y
  idx_vars y
  rw [Cert.MixRef.ref_s2, Cert.MixRef.ref_slope]
  simp only [Cert.MixRef.ref_d2, head_lane]
  exact slope_eq _ _ (fun d => dy (ix2 y0 (col 2 (lane (head y1) d)))) (fun d => o2 (ix2 y0 (lane (head y1) d))) 2
    (logs_real z0 z1 z2 k0 k1 k2 _ _) rfl

/-- The precondition says that every log-sum is a real number. -/
theorem real_of_pre (h : Cert.Pre_finite_logs.fn (F := Ideal) dy o0 o1 o2 z0 z1 z2 = fun _ => 1#1) :
    (∀ i, IsReal (z0 i)) ∧ (∀ i, IsReal (z1 i)) ∧ ∀ i, IsReal (z2 i) := by
  have e := congrFun h ix0
  unfold Cert.Pre_finite_logs.fn at e
  have hs : Subsingleton Cert.Pre_finite_logs.S_.Idx := ⟨fun a b => funext fun i => i.elim0⟩
  obtain ⟨e, e2⟩ := IntOp.andi_eq_one.1 e
  obtain ⟨e0, e1⟩ := IntOp.andi_eq_one.1 e
  refine ⟨all_real z0 _ _ _ _ _ ?_ e0, all_real z1 _ _ _ _ _ ?_ e1, all_real z2 _ _ _ _ _ ?_ e2⟩
  all_goals exact fun _ => rfl

end Arrays

theorem idx_val : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] :=
  (by decide +kernel : ∀ t : Fin grid0.N, _)

/-- Row `p` of step `t`'s block in the whole array. -/
def row (t : Fin cfg0.N) (p : Fin 256) : Fin 4096 :=
  ⟨t.val * 256 + p.val, by have : t.val < 16 := t.isLt; omega⟩

/-- One number by head, repeated over the head's lanes. -/
def lanes (z : FVec Ideal S4096x8 .f32) : FVec Ideal S4096x1024 .f32 :=
  shapeCast S4096x1024 (broadcastInDim S4096x8x128 ![0, 1, 2] bcast_S4096x8x1_S4096x8x128_0_1_2 (broadcastInDim S4096x8x1 ![0, 1] bcast_S4096x8_S4096x8x1_0_1 z)) shapeCasts_S4096x8x128_S4096x1024

theorem lanes_at (z : FVec Ideal S4096x8 .f32) (i : Fin 4096) (k : Fin 1024) : lanes z (ix2 i k) = z (ix2 i (head k)) := by
  pointwise [lanes]
  rfl

variable (m : (ℓ : Loc nD τ sig) → Buf (Elt Ideal) ℓ) (c : Dev nD)

abbrev DY : FVec Ideal S4096x3072 .f32 := m ((c : Thread nD τ).loc main_arg0)
abbrev O0 : FVec Ideal S4096x1024 .f32 := m ((c : Thread nD τ).loc main_arg1)
abbrev O1 : FVec Ideal S4096x1024 .f32 := m ((c : Thread nD τ).loc main_arg2)
abbrev O2 : FVec Ideal S4096x1024 .f32 := m ((c : Thread nD τ).loc main_arg3)
abbrev Z0 : FVec Ideal S4096x8 .f32 := m ((c : Thread nD τ).loc main_arg4)
abbrev Z1 : FVec Ideal S4096x8 .f32 := m ((c : Thread nD τ).loc main_arg5)
abbrev Z2 : FVec Ideal S4096x8 .f32 := m ((c : Thread nD τ).loc main_arg6)

theorem V2 : V m c main_v2 = lanes (Z0 m c) := by entry_read; rfl
theorem V5 : V m c main_v5 = lanes (Z1 m c) := by entry_read; rfl
theorem V8 : V m c main_v8 = lanes (Z2 m c) := by entry_read; rfl

theorem blk0 (t : Fin cfg0.N) (p : Fin 256) (k : Fin 3072) : iblk m c 0 t (ix2 p k) = DY m c (ix2 (row t p) k) := by
  have e : iblk m c 0 t (ix2 p k) = V m c main_arg0 (ix2 (row t p) k) := by blk_point [iblk, idx_val t, row]
  rw [e, V_main_arg0]
theorem blk1 (t : Fin cfg0.N) (p : Fin 256) (k : Fin 1024) : iblk m c 1 t (ix2 p k) = O0 m c (ix2 (row t p) k) := by
  have e : iblk m c 1 t (ix2 p k) = V m c main_arg1 (ix2 (row t p) k) := by blk_point [iblk, idx_val t, row]
  rw [e, V_main_arg1]
theorem blk2 (t : Fin cfg0.N) (p : Fin 256) (k : Fin 1024) : iblk m c 2 t (ix2 p k) = O1 m c (ix2 (row t p) k) := by
  have e : iblk m c 2 t (ix2 p k) = V m c main_arg2 (ix2 (row t p) k) := by blk_point [iblk, idx_val t, row]
  rw [e, V_main_arg2]
theorem blk3 (t : Fin cfg0.N) (p : Fin 256) (k : Fin 1024) : iblk m c 3 t (ix2 p k) = O2 m c (ix2 (row t p) k) := by
  have e : iblk m c 3 t (ix2 p k) = V m c main_arg3 (ix2 (row t p) k) := by blk_point [iblk, idx_val t, row]
  rw [e, V_main_arg3]
theorem blk4 (t : Fin cfg0.N) (p : Fin 256) (k : Fin 1024) : iblk m c 4 t (ix2 p k) = Z0 m c (ix2 (row t p) (head k)) := by
  have e : iblk m c 4 t (ix2 p k) = V m c main_v2 (ix2 (row t p) k) := by blk_point [iblk, idx_val t, row]
  rw [e, V2, lanes_at]
theorem blk5 (t : Fin cfg0.N) (p : Fin 256) (k : Fin 1024) : iblk m c 5 t (ix2 p k) = Z1 m c (ix2 (row t p) (head k)) := by
  have e : iblk m c 5 t (ix2 p k) = V m c main_v5 (ix2 (row t p) k) := by blk_point [iblk, idx_val t, row]
  rw [e, V5, lanes_at]
theorem blk6 (t : Fin cfg0.N) (p : Fin 256) (k : Fin 1024) : iblk m c 6 t (ix2 p k) = Z2 m c (ix2 (row t p) (head k)) := by
  have e : iblk m c 6 t (ix2 p k) = V m c main_v8 (ix2 (row t p) k) := by blk_point [iblk, idx_val t, row]
  rw [e, V8, lanes_at]

abbrev D (g : Fin 3) := dout (DY m c) (Z0 m c) (Z1 m c) (Z2 m c) g
abbrev S (g : Fin 3) := dsum (DY m c) (O0 m c) (O1 m c) (O2 m c) (Z0 m c) (Z1 m c) (Z2 m c) g

theorem logs_blk (t : Fin cfg0.N) (p : Fin 256) (k : Fin 1024) :
    logsB (iblk m c 4 t) (iblk m c 5 t) (iblk m c 6 t) p k = logs (Z0 m c) (Z1 m c) (Z2 m c) (row t p) (head k) := by
  funext x
  fin_cases x
  exacts [blk4 m c t p k, blk5 m c t p k, blk6 m c t p k]

theorem pull_blk (g : Fin 3) (o : FVec Ideal S4096x1024 .f32) (t : Fin cfg0.N) (p : Fin 256) (b : Vec Ideal S256x1024 .f32)
    (hb : ∀ k, b (ix2 p k) = o (ix2 (row t p) k)) (h : Fin 8) : pullB (iblk m c 0 t) g b p h = pull (DY m c) g o (row t p) h :=
  Finset.sum_congr rfl fun d _ => congrArg₂ (fun a b : EReal => a * b) (blk0 m c t p (col g (lane h d))) (hb (lane h d))

theorem pulls_blk (t : Fin cfg0.N) (p : Fin 256) (h : Fin 8) :
    pullsB (iblk m c 0 t) (iblk m c 1 t) (iblk m c 2 t) (iblk m c 3 t) p h = pulls (DY m c) (O0 m c) (O1 m c) (O2 m c) (row t p) h := by
  funext x
  fin_cases x
  exacts [pull_blk m c 0 (O0 m c) t p (iblk m c 1 t) (blk1 m c t p) h, pull_blk m c 1 (O1 m c) t p (iblk m c 2 t) (blk2 m c t p) h,
    pull_blk m c 2 (O2 m c) t p (iblk m c 3 t) (blk3 m c t p) h]

theorem share_blk (g : Fin 3) (t : Fin cfg0.N) (p : Fin 256) (k : Fin 1024) :
    shareB (iblk m c 0 t) (iblk m c 4 t) (iblk m c 5 t) (iblk m c 6 t) g (ix2 p k) = D m c g (ix2 (row t p) k) :=
  congrArg₂ (fun z y => share z g * y) (logs_blk m c t p k) (blk0 m c t p (col g k))

theorem slope_blk (g : Fin 3) (t : Fin cfg0.N) (p : Fin 256) (k : Fin 1024) :
    slopeB (iblk m c 0 t) (iblk m c 1 t) (iblk m c 2 t) (iblk m c 3 t) (iblk m c 4 t) (iblk m c 5 t) (iblk m c 6 t) g (ix2 p k) = S m c g (ix2 (row t p) k) :=
  congrArg₂ (fun z u => slope z u g) (logs_blk m c t p k) (pulls_blk m c t p (head k))

theorem final_7 : (dats m 0 c).arrAt 7 (cfgs 0).N = D m c 0 := by
  refine (dats m 0 c).arrAt_eq_of_covers 7 _ (by decide +kernel) fun t hf y => ?_
  blk_simp; rw [after0_7]
  idx_vars y
  refine (congrFun (out7 (iblk m c 0 t) (iblk m c 1 t) (iblk m c 2 t) (iblk m c 3 t) (iblk m c 4 t) (iblk m c 5 t) (iblk m c 6 t)) (ix2 y0 y1)).trans ?_
  have hy : (((View.whole main_v9_0).slice (win0_7.rect t)).emb (ix2 y0 y1)) = ix2 (row t y0) y1 := by
    blk_ext [idx_val t, row]
  rw [hy]
  exact share_blk m c 0 t y0 y1
theorem final_8 : (dats m 0 c).arrAt 8 (cfgs 0).N = D m c 1 := by
  refine (dats m 0 c).arrAt_eq_of_covers 8 _ (by decide +kernel) fun t hf y => ?_
  blk_simp; rw [after0_8]
  idx_vars y
  refine (congrFun (out8 (iblk m c 0 t) (iblk m c 1 t) (iblk m c 2 t) (iblk m c 3 t) (iblk m c 4 t) (iblk m c 5 t) (iblk m c 6 t)) (ix2 y0 y1)).trans ?_
  have hy : (((View.whole main_v9_1).slice (win0_8.rect t)).emb (ix2 y0 y1)) = ix2 (row t y0) y1 := by
    blk_ext [idx_val t, row]
  rw [hy]
  exact share_blk m c 1 t y0 y1
theorem final_9 : (dats m 0 c).arrAt 9 (cfgs 0).N = D m c 2 := by
  refine (dats m 0 c).arrAt_eq_of_covers 9 _ (by decide +kernel) fun t hf y => ?_
  blk_simp; rw [after0_9]
  idx_vars y
  refine (congrFun (out9 (iblk m c 0 t) (iblk m c 1 t) (iblk m c 2 t) (iblk m c 3 t) (iblk m c 4 t) (iblk m c 5 t) (iblk m c 6 t)) (ix2 y0 y1)).trans ?_
  have hy : (((View.whole main_v9_2).slice (win0_9.rect t)).emb (ix2 y0 y1)) = ix2 (row t y0) y1 := by
    blk_ext [idx_val t, row]
  rw [hy]
  exact share_blk m c 2 t y0 y1
theorem final_10 : (dats m 0 c).arrAt 10 (cfgs 0).N = S m c 0 := by
  refine (dats m 0 c).arrAt_eq_of_covers 10 _ (by decide +kernel) fun t hf y => ?_
  blk_simp; rw [after0_10]
  idx_vars y
  refine (congrFun (out10 (iblk m c 0 t) (iblk m c 1 t) (iblk m c 2 t) (iblk m c 3 t) (iblk m c 4 t) (iblk m c 5 t) (iblk m c 6 t)) (ix2 y0 y1)).trans ?_
  have hy : (((View.whole main_v9_3).slice (win0_10.rect t)).emb (ix2 y0 y1)) = ix2 (row t y0) y1 := by
    blk_ext [idx_val t, row]
  rw [hy]
  exact slope_blk m c 0 t y0 y1
theorem final_11 : (dats m 0 c).arrAt 11 (cfgs 0).N = S m c 1 := by
  refine (dats m 0 c).arrAt_eq_of_covers 11 _ (by decide +kernel) fun t hf y => ?_
  blk_simp; rw [after0_11]
  idx_vars y
  refine (congrFun (out11 (iblk m c 0 t) (iblk m c 1 t) (iblk m c 2 t) (iblk m c 3 t) (iblk m c 4 t) (iblk m c 5 t) (iblk m c 6 t)) (ix2 y0 y1)).trans ?_
  have hy : (((View.whole main_v9_4).slice (win0_11.rect t)).emb (ix2 y0 y1)) = ix2 (row t y0) y1 := by
    blk_ext [idx_val t, row]
  rw [hy]
  exact slope_blk m c 1 t y0 y1
theorem final_12 : (dats m 0 c).arrAt 12 (cfgs 0).N = S m c 2 := by
  refine (dats m 0 c).arrAt_eq_of_covers 12 _ (by decide +kernel) fun t hf y => ?_
  blk_simp; rw [after0_12]
  idx_vars y
  refine (congrFun (out12 (iblk m c 0 t) (iblk m c 1 t) (iblk m c 2 t) (iblk m c 3 t) (iblk m c 4 t) (iblk m c 5 t) (iblk m c 6 t)) (ix2 y0 y1)).trans ?_
  have hy : (((View.whole main_v9_5).slice (win0_12.rect t)).emb (ix2 y0 y1)) = ix2 (row t y0) y1 := by
    blk_ext [idx_val t, row]
  rw [hy]
  exact slope_blk m c 2 t y0 y1

theorem algebraic : Cert.algebraic_Kernel29Ideal_Reference29Ideal_pre_finite_logs := by
  intro m g m' g' hpre hargs
  refine ⟨fun c => D m c 0, fun c => D m c 1, fun c => D m c 2, fun c => S m c 0, fun c => S m c 1, fun c => S m c 2, ?_, ?_⟩
  · refine (θ_run defs _ _).mono (fun r h c => ?_) (run_blocks (F := Ideal) m g)
    obtain ⟨e0, e1, e2, e3, e4, e5, k⟩ := h c
    exact ⟨e0.trans (final_7 m c), e1.trans (final_8 m c), e2.trans (final_9 m c), e3.trans (final_10 m c), e4.trans (final_11 m c), e5.trans (final_12 m c), k⟩
  · refine (θ_run Cert.Reference29Ideal.defs _ _).mono (fun r h c => ?_) (Cert.Reference29Ideal.Value.run (F := Ideal) m' g')
    obtain ⟨e0, e1, e2, e3, e4, e5, k⟩ := h c
    obtain ⟨a0, a1, a2, a3, a4, a5, a6⟩ := hargs c
    obtain ⟨k0, k1, k2⟩ := real_of_pre _ _ _ _ _ _ _ (hpre c)
    refine ⟨e0.trans ?_, e1.trans ?_, e2.trans ?_, e3.trans ?_, e4.trans ?_, e5.trans ?_, k⟩
    · rw [val_main_v124_eq, a0, a4, a5, a6]; exact ref_dout0 _ _ _ _
    · rw [val_main_v125_eq, a0, a4, a5, a6]; exact ref_dout1 _ _ _ _
    · rw [val_main_v126_eq, a0, a4, a5, a6]; exact ref_dout2 _ _ _ _
    · rw [val_main_v117_eq, a0, a1, a2, a3, a4, a5, a6]; exact ref_dsum0 _ _ _ _ _ _ _ k0 k1 k2
    · rw [val_main_v120_eq, a0, a1, a2, a3, a4, a5, a6]; exact ref_dsum1 _ _ _ _ _ _ _ k0 k1 k2
    · rw [val_main_v123_eq, a0, a1, a2, a3, a4, a5, a6]; exact ref_dsum2 _ _ _ _ _ _ _ k0 k1 k2

end Cert.MixBwd

end
-- ==== Proof.lean ====
/- The claims about the step's products, its norms, its gated convolution, its loss and the gradients of its attention:
   the frames, and the equality with the references over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Pre_finite
public import proofs.«01_k».proof.Proof.Gen.Pre_finite_conv
public import proofs.«01_k».proof.Proof.Gen.Pre_finite_qkv
public import proofs.«01_k».proof.Proof.Gen.Pre_finite_logs
public import proofs.«01_k».proof.Proof.DqAlg
public import proofs.«01_k».proof.Proof.DkvAlg
public import proofs.«01_k».proof.Proof.ConvAlg
public import proofs.«01_k».proof.Proof.FfnDownDx
public import proofs.«01_k».proof.Proof.FfnDownDw
public import proofs.«01_k».proof.Proof.FfnUpDx
public import proofs.«01_k».proof.Proof.FfnUpDw
public import proofs.«01_k».proof.Proof.FfnUpFwd
public import proofs.«01_k».proof.Proof.FfnDownFwd
public import proofs.«01_k».proof.Proof.BQkvDx
public import proofs.«01_k».proof.Proof.BQkvDw
public import proofs.«01_k».proof.Proof.BQkvFwd
public import proofs.«01_k».proof.Proof.BOutDx
public import proofs.«01_k».proof.Proof.BOutDw
public import proofs.«01_k».proof.Proof.BOutFwd
public import proofs.«01_k».proof.Proof.AQkvDx
public import proofs.«01_k».proof.Proof.AQkvDw
public import proofs.«01_k».proof.Proof.AQkvFwd
public import proofs.«01_k».proof.Proof.AOutDx
public import proofs.«01_k».proof.Proof.AOutDw
public import proofs.«01_k».proof.Proof.AOutFwd
public import proofs.«01_k».proof.Proof.NormBwd
public import proofs.«01_k».proof.Proof.NormFwd
public import proofs.«01_k».proof.Proof.ConvFwd
public import proofs.«01_k».proof.Proof.LossHead
public import proofs.«01_k».proof.Proof.AttnFwd
public import proofs.«01_k».proof.Proof.RowDelta
public import proofs.«01_k».proof.Proof.MixFwd
public import proofs.«01_k».proof.Proof.MixBwd
public import Idealize.ShloMosaic.Adequacy
public import Idealize.ShloMosaic.Init

@[expose] public section

noncomputable section

namespace Cert.Proof

open Idealize.ShloMosaic Idealize.SL.Sem

/-- The reference of the attention's gradient in the queries leaves its arguments and every counter as they are. -/
theorem reference_frame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The reference of the attention's gradients in the keys and values leaves its arguments and every counter as they are. -/
theorem reference2_frame : Cert.quiescent_Reference2Ideal := by
  intro m g _
  exact (θ_run Cert.Reference2Ideal.defs _ _).mono (fun r h => ⟨fun c => (h c).2.2, sem_eq_zero_of_no_sems (by decide) r.2⟩)
    (Cert.Reference2Ideal.Value.run (F := Ideal) m g)

/-- The reference of the convolution's gradient leaves its arguments and every counter as they are. -/
theorem reference3_frame : Cert.quiescent_Reference3Ideal := by
  intro m g _
  exact (θ_run Cert.Reference3Ideal.defs _ _).mono (fun r h => ⟨fun c => (h c).2.2, sem_eq_zero_of_no_sems (by decide) r.2⟩)
    (Cert.Reference3Ideal.Value.run (F := Ideal) m g)

/-- The reference of the down projection's gradient in its input leaves its arguments and every counter as they are. -/
theorem reference4_frame : Cert.quiescent_Reference4Ideal := by
  intro m g _
  exact (θ_run Cert.Reference4Ideal.defs _ _).mono (fun r h => ⟨fun c => (h c).2, sem_eq_zero_of_no_sems (by decide) r.2⟩)
    (Cert.Reference4Ideal.Value.run (F := Ideal) m g)

/-- The reference of the down projection's gradient in its weight leaves its arguments and every counter as they are. -/
theorem reference5_frame : Cert.quiescent_Reference5Ideal := by
  intro m g _
  exact (θ_run Cert.Reference5Ideal.defs _ _).mono (fun r h => ⟨fun c => (h c).2, sem_eq_zero_of_no_sems (by decide) r.2⟩)
    (Cert.Reference5Ideal.Value.run (F := Ideal) m g)

/-- The reference of the up projection's gradient in its input leaves its arguments and every counter as they are. -/
theorem reference6_frame : Cert.quiescent_Reference6Ideal := by
  intro m g _
  exact (θ_run Cert.Reference6Ideal.defs _ _).mono (fun r h => ⟨fun c => (h c).2, sem_eq_zero_of_no_sems (by decide) r.2⟩)
    (Cert.Reference6Ideal.Value.run (F := Ideal) m g)

/-- The reference of the up projection's gradient in its weight leaves its arguments and every counter as they are. -/
theorem reference7_frame : Cert.quiescent_Reference7Ideal := by
  intro m g _
  exact (θ_run Cert.Reference7Ideal.defs _ _).mono (fun r h => ⟨fun c => (h c).2, sem_eq_zero_of_no_sems (by decide) r.2⟩)
    (Cert.Reference7Ideal.Value.run (F := Ideal) m g)

/-- The reference of the up projection leaves its arguments and every counter as they are. -/
theorem reference8_frame : Cert.quiescent_Reference8Ideal := by
  intro m g _
  exact (θ_run Cert.Reference8Ideal.defs _ _).mono (fun r h => ⟨fun c => (h c).2, sem_eq_zero_of_no_sems (by decide) r.2⟩)
    (Cert.Reference8Ideal.Value.run (F := Ideal) m g)

/-- The reference of the down projection leaves its arguments and every counter as they are. -/
theorem reference9_frame : Cert.quiescent_Reference9Ideal := by
  intro m g _
  exact (θ_run Cert.Reference9Ideal.defs _ _).mono (fun r h => ⟨fun c => (h c).2, sem_eq_zero_of_no_sems (by decide) r.2⟩)
    (Cert.Reference9Ideal.Value.run (F := Ideal) m g)

/-- The reference of the mixer B's input projection's gradient in its input leaves its arguments and every counter as they are. -/
theorem reference10_frame : Cert.quiescent_Reference10Ideal := by
  intro m g _
  exact (θ_run Cert.Reference10Ideal.defs _ _).mono (fun r h => ⟨fun c => (h c).2, sem_eq_zero_of_no_sems (by decide) r.2⟩)
    (Cert.Reference10Ideal.Value.run (F := Ideal) m g)

/-- The reference of the mixer B's input projection's gradient in its weight leaves its arguments and every counter as they are. -/
theorem reference11_frame : Cert.quiescent_Reference11Ideal := by
  intro m g _
  exact (θ_run Cert.Reference11Ideal.defs _ _).mono (fun r h => ⟨fun c => (h c).2, sem_eq_zero_of_no_sems (by decide) r.2⟩)
    (Cert.Reference11Ideal.Value.run (F := Ideal) m g)

/-- The reference of the mixer B's input projection leaves its arguments and every counter as they are. -/
theorem reference12_frame : Cert.quiescent_Reference12Ideal := by
  intro m g _
  exact (θ_run Cert.Reference12Ideal.defs _ _).mono (fun r h => ⟨fun c => (h c).2, sem_eq_zero_of_no_sems (by decide) r.2⟩)
    (Cert.Reference12Ideal.Value.run (F := Ideal) m g)

/-- The reference of the mixer B's output projection's gradient in its input leaves its arguments and every counter as they are. -/
theorem reference13_frame : Cert.quiescent_Reference13Ideal := by
  intro m g _
  exact (θ_run Cert.Reference13Ideal.defs _ _).mono (fun r h => ⟨fun c => (h c).2, sem_eq_zero_of_no_sems (by decide) r.2⟩)
    (Cert.Reference13Ideal.Value.run (F := Ideal) m g)

/-- The reference of the mixer B's output projection's gradient in its weight leaves its arguments and every counter as they are. -/
theorem reference14_frame : Cert.quiescent_Reference14Ideal := by
  intro m g _
  exact (θ_run Cert.Reference14Ideal.defs _ _).mono (fun r h => ⟨fun c => (h c).2, sem_eq_zero_of_no_sems (by decide) r.2⟩)
    (Cert.Reference14Ideal.Value.run (F := Ideal) m g)

/-- The reference of the mixer B's output projection leaves its arguments and every counter as they are. -/
theorem reference15_frame : Cert.quiescent_Reference15Ideal := by
  intro m g _
  exact (θ_run Cert.Reference15Ideal.defs _ _).mono (fun r h => ⟨fun c => (h c).2, sem_eq_zero_of_no_sems (by decide) r.2⟩)
    (Cert.Reference15Ideal.Value.run (F := Ideal) m g)

/-- The reference of the mixer A's input projection's gradient in its input leaves its arguments and every counter as they are. -/
theorem reference16_frame : Cert.quiescent_Reference16Ideal := by
  intro m g _
  exact (θ_run Cert.Reference16Ideal.defs _ _).mono (fun r h => ⟨fun c => (h c).2, sem_eq_zero_of_no_sems (by decide) r.2⟩)
    (Cert.Reference16Ideal.Value.run (F := Ideal) m g)

/-- The reference of the mixer A's input projection's gradient in its weight leaves its arguments and every counter as they are. -/
theorem reference17_frame : Cert.quiescent_Reference17Ideal := by
  intro m g _
  exact (θ_run Cert.Reference17Ideal.defs _ _).mono (fun r h => ⟨fun c => (h c).2, sem_eq_zero_of_no_sems (by decide) r.2⟩)
    (Cert.Reference17Ideal.Value.run (F := Ideal) m g)

/-- The reference of the mixer A's input projection leaves its arguments and every counter as they are. -/
theorem reference18_frame : Cert.quiescent_Reference18Ideal := by
  intro m g _
  exact (θ_run Cert.Reference18Ideal.defs _ _).mono (fun r h => ⟨fun c => (h c).2, sem_eq_zero_of_no_sems (by decide) r.2⟩)
    (Cert.Reference18Ideal.Value.run (F := Ideal) m g)

/-- The reference of the mixer A's output projection's gradient in its input leaves its arguments and every counter as they are. -/
theorem reference19_frame : Cert.quiescent_Reference19Ideal := by
  intro m g _
  exact (θ_run Cert.Reference19Ideal.defs _ _).mono (fun r h => ⟨fun c => (h c).2, sem_eq_zero_of_no_sems (by decide) r.2⟩)
    (Cert.Reference19Ideal.Value.run (F := Ideal) m g)

/-- The reference of the mixer A's output projection's gradient in its weight leaves its arguments and every counter as they are. -/
theorem reference20_frame : Cert.quiescent_Reference20Ideal := by
  intro m g _
  exact (θ_run Cert.Reference20Ideal.defs _ _).mono (fun r h => ⟨fun c => (h c).2, sem_eq_zero_of_no_sems (by decide) r.2⟩)
    (Cert.Reference20Ideal.Value.run (F := Ideal) m g)

/-- The reference of the mixer A's output projection leaves its arguments and every counter as they are. -/
theorem reference21_frame : Cert.quiescent_Reference21Ideal := by
  intro m g _
  exact (θ_run Cert.Reference21Ideal.defs _ _).mono (fun r h => ⟨fun c => (h c).2, sem_eq_zero_of_no_sems (by decide) r.2⟩)
    (Cert.Reference21Ideal.Value.run (F := Ideal) m g)

/-- The reference of the norm's gradient leaves its arguments and every counter as they are. -/
theorem reference22_frame : Cert.quiescent_Reference22Ideal := by
  intro m g _
  exact (θ_run Cert.Reference22Ideal.defs _ _).mono (fun r h => ⟨fun c => (h c).2.2.2, sem_eq_zero_of_no_sems (by decide) r.2⟩)
    (Cert.Reference22Ideal.Value.run (F := Ideal) m g)

/-- The reference of the norm leaves its arguments and every counter as they are. -/
theorem reference23_frame : Cert.quiescent_Reference23Ideal := by
  intro m g _
  exact (θ_run Cert.Reference23Ideal.defs _ _).mono (fun r h => ⟨fun c => (h c).2, sem_eq_zero_of_no_sems (by decide) r.2⟩)
    (Cert.Reference23Ideal.Value.run (F := Ideal) m g)

/-- The reference of the convolution and gate leaves its arguments and every counter as they are. -/
theorem reference24_frame : Cert.quiescent_Reference24Ideal := by
  intro m g _
  exact (θ_run Cert.Reference24Ideal.defs _ _).mono (fun r h => ⟨fun c => (h c).2, sem_eq_zero_of_no_sems (by decide) r.2⟩)
    (Cert.Reference24Ideal.Value.run (F := Ideal) m g)

/-- The reference of the loss and its gradient leaves its arguments and every counter as they are. -/
theorem reference25_frame : Cert.quiescent_Reference25Ideal := by
  intro m g _
  exact (θ_run Cert.Reference25Ideal.defs _ _).mono (fun r h => ⟨fun c => (h c).2.2.2.2, sem_eq_zero_of_no_sems (by decide) r.2⟩)
    (Cert.Reference25Ideal.Value.run (F := Ideal) m g)

/-- The reference of the attention leaves its arguments and every counter as they are. -/
theorem reference26_frame : Cert.quiescent_Reference26Ideal := by
  intro m g _
  exact (θ_run Cert.Reference26Ideal.defs _ _).mono (fun r h => ⟨fun c => (h c).2.2, sem_eq_zero_of_no_sems (by decide) r.2⟩)
    (Cert.Reference26Ideal.Value.run (F := Ideal) m g)

/-- The reference of the row sums `do . o` leaves its arguments and every counter as they are. -/
theorem reference27_frame : Cert.quiescent_Reference27Ideal := by
  intro m g _
  exact (θ_run Cert.Reference27Ideal.defs _ _).mono (fun r h => ⟨fun c => (h c).2.2, sem_eq_zero_of_no_sems (by decide) r.2⟩)
    (Cert.Reference27Ideal.Value.run (F := Ideal) m g)

/-- The reference of the mixing of the groups leaves its arguments and every counter as they are. -/
theorem reference28_frame : Cert.quiescent_Reference28Ideal := by
  intro m g _
  exact (θ_run Cert.Reference28Ideal.defs _ _).mono (fun r h => ⟨fun c => (h c).2, sem_eq_zero_of_no_sems (by decide) r.2⟩)
    (Cert.Reference28Ideal.Value.run (F := Ideal) m g)

/-- The reference of the mixing's gradients leaves its arguments and every counter as they are. -/
theorem reference29_frame : Cert.quiescent_Reference29Ideal := by
  intro m g _
  exact (θ_run Cert.Reference29Ideal.defs _ _).mono (fun r h => ⟨fun c => (h c).2.2.2.2.2.2, sem_eq_zero_of_no_sems (by decide) r.2⟩)
    (Cert.Reference29Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Pre_finite.Gen.facts, Cert.Pre_finite_conv.Gen.facts, Cert.Pre_finite_qkv.Gen.facts, Cert.Pre_finite_logs.Gen.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  fun m ρ _ => reference2_frame m ρ trivial, fun m ρ _ => reference2_frame m ρ trivial,
  fun m ρ _ => Cert.Kernel3.Gen.frame m ρ, fun m ρ _ => Cert.Kernel3Ideal.Gen.frame m ρ, fun m ρ _ => Cert.Kernel3Ideal.Gen.frame m ρ,
  fun m ρ _ => reference3_frame m ρ trivial, fun m ρ _ => reference3_frame m ρ trivial,
  fun m ρ _ => Cert.Kernel4.Gen.frame m ρ, fun m ρ _ => Cert.Kernel4Ideal.Gen.frame m ρ, fun m ρ _ => reference4_frame m ρ trivial,
  fun m ρ _ => Cert.Kernel5.Gen.frame m ρ, fun m ρ _ => Cert.Kernel5Ideal.Gen.frame m ρ, fun m ρ _ => reference5_frame m ρ trivial,
  fun m ρ _ => Cert.Kernel6.Gen.frame m ρ, fun m ρ _ => Cert.Kernel6Ideal.Gen.frame m ρ, fun m ρ _ => reference6_frame m ρ trivial,
  fun m ρ _ => Cert.Kernel7.Gen.frame m ρ, fun m ρ _ => Cert.Kernel7Ideal.Gen.frame m ρ, fun m ρ _ => reference7_frame m ρ trivial,
  fun m ρ _ => Cert.Kernel8.Gen.frame m ρ, fun m ρ _ => Cert.Kernel8Ideal.Gen.frame m ρ, fun m ρ _ => reference8_frame m ρ trivial,
  fun m ρ _ => Cert.Kernel9.Gen.frame m ρ, fun m ρ _ => Cert.Kernel9Ideal.Gen.frame m ρ, fun m ρ _ => reference9_frame m ρ trivial,
  fun m ρ _ => Cert.Kernel10.Gen.frame m ρ, fun m ρ _ => Cert.Kernel10Ideal.Gen.frame m ρ, fun m ρ _ => reference10_frame m ρ trivial,
  fun m ρ _ => Cert.Kernel11.Gen.frame m ρ, fun m ρ _ => Cert.Kernel11Ideal.Gen.frame m ρ, fun m ρ _ => reference11_frame m ρ trivial,
  fun m ρ _ => Cert.Kernel12.Gen.frame m ρ, fun m ρ _ => Cert.Kernel12Ideal.Gen.frame m ρ, fun m ρ _ => reference12_frame m ρ trivial,
  fun m ρ _ => Cert.Kernel13.Gen.frame m ρ, fun m ρ _ => Cert.Kernel13Ideal.Gen.frame m ρ, fun m ρ _ => reference13_frame m ρ trivial,
  fun m ρ _ => Cert.Kernel14.Gen.frame m ρ, fun m ρ _ => Cert.Kernel14Ideal.Gen.frame m ρ, fun m ρ _ => reference14_frame m ρ trivial,
  fun m ρ _ => Cert.Kernel15.Gen.frame m ρ, fun m ρ _ => Cert.Kernel15Ideal.Gen.frame m ρ, fun m ρ _ => reference15_frame m ρ trivial,
  fun m ρ _ => Cert.Kernel16.Gen.frame m ρ, fun m ρ _ => Cert.Kernel16Ideal.Gen.frame m ρ, fun m ρ _ => reference16_frame m ρ trivial,
  fun m ρ _ => Cert.Kernel17.Gen.frame m ρ, fun m ρ _ => Cert.Kernel17Ideal.Gen.frame m ρ, fun m ρ _ => reference17_frame m ρ trivial,
  fun m ρ _ => Cert.Kernel18.Gen.frame m ρ, fun m ρ _ => Cert.Kernel18Ideal.Gen.frame m ρ, fun m ρ _ => reference18_frame m ρ trivial,
  fun m ρ _ => Cert.Kernel19.Gen.frame m ρ, fun m ρ _ => Cert.Kernel19Ideal.Gen.frame m ρ, fun m ρ _ => reference19_frame m ρ trivial,
  fun m ρ _ => Cert.Kernel20.Gen.frame m ρ, fun m ρ _ => Cert.Kernel20Ideal.Gen.frame m ρ, fun m ρ _ => reference20_frame m ρ trivial,
  fun m ρ _ => Cert.Kernel21.Gen.frame m ρ, fun m ρ _ => Cert.Kernel21Ideal.Gen.frame m ρ, fun m ρ _ => reference21_frame m ρ trivial,
  fun m ρ _ => Cert.Kernel22.Gen.frame m ρ, fun m ρ _ => Cert.Kernel22Ideal.Gen.frame m ρ, fun m ρ _ => reference22_frame m ρ trivial,
  fun m ρ _ => Cert.Kernel23.Gen.frame m ρ, fun m ρ _ => Cert.Kernel23Ideal.Gen.frame m ρ, fun m ρ _ => reference23_frame m ρ trivial,
  fun m ρ _ => Cert.Kernel24.Gen.frame m ρ, fun m ρ _ => Cert.Kernel24Ideal.Gen.frame m ρ, fun m ρ _ => reference24_frame m ρ trivial,
  fun m ρ _ => Cert.Kernel25.Gen.frame m ρ, fun m ρ _ => Cert.Kernel25Ideal.Gen.frame m ρ, fun m ρ _ => reference25_frame m ρ trivial,
  fun m ρ _ => Cert.Kernel26.Gen.frame m ρ, fun m ρ _ => Cert.Kernel26Ideal.Gen.frame m ρ, fun m ρ _ => Cert.Kernel26Ideal.Gen.frame m ρ,
  fun m ρ _ => reference26_frame m ρ trivial, fun m ρ _ => reference26_frame m ρ trivial,
  fun m ρ _ => Cert.Kernel27.Gen.frame m ρ, fun m ρ _ => Cert.Kernel27Ideal.Gen.frame m ρ, fun m ρ _ => reference27_frame m ρ trivial,
  fun m ρ _ => Cert.Kernel28.Gen.frame m ρ, fun m ρ _ => Cert.Kernel28Ideal.Gen.frame m ρ, fun m ρ _ => reference28_frame m ρ trivial,
  fun m ρ _ => Cert.Kernel29.Gen.frame m ρ, fun m ρ _ => Cert.Kernel29Ideal.Gen.frame m ρ, fun m ρ _ => Cert.Kernel29Ideal.Gen.frame m ρ,
  fun m ρ _ => reference29_frame m ρ trivial, fun m ρ _ => reference29_frame m ρ trivial,
  trivial, Cert.AttnDq.algebraic, trivial, Cert.AttnDkv.algebraic, trivial, Cert.ConvAct.algebraic, trivial, Cert.FfnDownDx.algebraic, trivial, Cert.FfnDownDw.algebraic, trivial, Cert.FfnUpDx.algebraic, trivial, Cert.FfnUpDw.algebraic, trivial, Cert.FfnUpFwd.algebraic, trivial, Cert.FfnDownFwd.algebraic, trivial, Cert.BQkvDx.algebraic, trivial, Cert.BQkvDw.algebraic, trivial, Cert.BQkvFwd.algebraic, trivial, Cert.BOutDx.algebraic, trivial, Cert.BOutDw.algebraic, trivial, Cert.BOutFwd.algebraic, trivial, Cert.AQkvDx.algebraic, trivial, Cert.AQkvDw.algebraic, trivial, Cert.AQkvFwd.algebraic, trivial, Cert.AOutDx.algebraic, trivial, Cert.AOutDw.algebraic, trivial, Cert.AOutFwd.algebraic, trivial, Cert.NormBwd.algebraic, trivial, Cert.NormFwd.algebraic, trivial, Cert.ConvFwd.algebraic, trivial, Cert.LossHead.algebraic, trivial, Cert.AttnFwd.algebraic, trivial, Cert.RowDelta.algebraic, trivial, Cert.MixFwd.algebraic, trivial, Cert.MixBwd.algebraic⟩

end Cert.Proof

end
